-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ffn [hPre_finite_ffn : Cert.Pre_finite_ffn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ffn [hPre_finite_ffn : Cert.Pre_finite_ffn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gate [hPre_finite_gate : Cert.Pre_finite_gate.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gate [hPre_finite_gate : Cert.Pre_finite_gate.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_ffn [hKernelIdeal : Cert.KernelIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ffn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ffn [hReferenceIdeal : Cert.ReferenceIdeal.Facts] [hPre_finite_ffn : Cert.Pre_finite_ffn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ffn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_gate [hKernel4Ideal : Cert.Kernel4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gate m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_gate [hReference4Ideal : Cert.Reference4Ideal.Facts] [hPre_finite_gate : Cert.Pre_finite_gate.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gate m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16)
      ∧ r.2.mem ((c.tc : Thread Cert.Kernel14.nD Cert.Kernel14.τ).loc Cert.Kernel14.main_arg17) = m ((c.tc : Thread Cert.Kernel14.nD Cert.Kernel14.τ).loc Cert.Kernel14.main_arg17)
      ∧ r.2.mem ((c.tc : Thread Cert.Kernel14.nD Cert.Kernel14.τ).loc Cert.Kernel14.main_arg18) = m ((c.tc : Thread Cert.Kernel14.nD Cert.Kernel14.τ).loc Cert.Kernel14.main_arg18)
      ∧ r.2.mem ((c.tc : Thread Cert.Kernel14.nD Cert.Kernel14.τ).loc Cert.Kernel14.main_arg19) = m ((c.tc : Thread Cert.Kernel14.nD Cert.Kernel14.τ).loc Cert.Kernel14.main_arg19)
      ∧ r.2.mem ((c.tc : Thread Cert.Kernel14.nD Cert.Kernel14.τ).loc Cert.Kernel14.main_arg20) = m ((c.tc : Thread Cert.Kernel14.nD Cert.Kernel14.τ).loc Cert.Kernel14.main_arg20)
      ∧ r.2.mem ((c.tc : Thread Cert.Kernel14.nD Cert.Kernel14.τ).loc Cert.Kernel14.main_arg21) = m ((c.tc : Thread Cert.Kernel14.nD Cert.Kernel14.τ).loc Cert.Kernel14.main_arg21)
      ∧ r.2.mem ((c.tc : Thread Cert.Kernel14.nD Cert.Kernel14.τ).loc Cert.Kernel14.main_arg22) = m ((c.tc : Thread Cert.Kernel14.nD Cert.Kernel14.τ).loc Cert.Kernel14.main_arg22)
      ∧ r.2.mem ((c.tc : Thread Cert.Kernel14.nD Cert.Kernel14.τ).loc Cert.Kernel14.main_arg23) = m ((c.tc : Thread Cert.Kernel14.nD Cert.Kernel14.τ).loc Cert.Kernel14.main_arg23)
      ∧ r.2.mem ((c.tc : Thread Cert.Kernel14.nD Cert.Kernel14.τ).loc Cert.Kernel14.main_arg24) = m ((c.tc : Thread Cert.Kernel14.nD Cert.Kernel14.τ).loc Cert.Kernel14.main_arg24))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
      ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
      ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
      ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
      ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
      ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
      ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
      ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17)
      ∧ r.2.mem ((c.tc : Thread Cert.Reference14Ideal.nD Cert.Reference14Ideal.τ).loc Cert.Reference14Ideal.main_arg18) = m ((c.tc : Thread Cert.Reference14Ideal.nD Cert.Reference14Ideal.τ).loc Cert.Reference14Ideal.main_arg18)
      ∧ r.2.mem ((c.tc : Thread Cert.Reference14Ideal.nD Cert.Reference14Ideal.τ).loc Cert.Reference14Ideal.main_arg19) = m ((c.tc : Thread Cert.Reference14Ideal.nD Cert.Reference14Ideal.τ).loc Cert.Reference14Ideal.main_arg19)
      ∧ r.2.mem ((c.tc : Thread Cert.Reference14Ideal.nD Cert.Reference14Ideal.τ).loc Cert.Reference14Ideal.main_arg20) = m ((c.tc : Thread Cert.Reference14Ideal.nD Cert.Reference14Ideal.τ).loc Cert.Reference14Ideal.main_arg20)
      ∧ r.2.mem ((c.tc : Thread Cert.Reference14Ideal.nD Cert.Reference14Ideal.τ).loc Cert.Reference14Ideal.main_arg21) = m ((c.tc : Thread Cert.Reference14Ideal.nD Cert.Reference14Ideal.τ).loc Cert.Reference14Ideal.main_arg21)
      ∧ r.2.mem ((c.tc : Thread Cert.Reference14Ideal.nD Cert.Reference14Ideal.τ).loc Cert.Reference14Ideal.main_arg22) = m ((c.tc : Thread Cert.Reference14Ideal.nD Cert.Reference14Ideal.τ).loc Cert.Reference14Ideal.main_arg22)
      ∧ r.2.mem ((c.tc : Thread Cert.Reference14Ideal.nD Cert.Reference14Ideal.τ).loc Cert.Reference14Ideal.main_arg23) = m ((c.tc : Thread Cert.Reference14Ideal.nD Cert.Reference14Ideal.τ).loc Cert.Reference14Ideal.main_arg23)
      ∧ r.2.mem ((c.tc : Thread Cert.Reference14Ideal.nD Cert.Reference14Ideal.τ).loc Cert.Reference14Ideal.main_arg24) = m ((c.tc : Thread Cert.Reference14Ideal.nD Cert.Reference14Ideal.τ).loc Cert.Reference14Ideal.main_arg24))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite_ffn [hKernelIdeal : Cert.KernelIdeal.Facts] [hReferenceIdeal : Cert.ReferenceIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ffn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v280) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v6)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v6) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel4_Kernel4Ideal : Prop :=
  True

def algebraic_Kernel4Ideal_Reference4Ideal_pre_finite_gate [hKernel4Ideal : Cert.Kernel4Ideal.Facts] [hReference4Ideal : Cert.Reference4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gate m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v207) = v0 c
          ∧ r.2.mem ((c.tc : Thread Cert.Reference7Ideal.nD Cert.Reference7Ideal.τ).loc Cert.Reference7Ideal.main_v209) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)
      ∧ m' ((c.tc : Thread Cert.Reference14Ideal.nD Cert.Reference14Ideal.τ).loc Cert.Reference14Ideal.main_arg17) = m ((c.tc : Thread Cert.Kernel14Ideal.nD Cert.Kernel14Ideal.τ).loc Cert.Kernel14Ideal.main_arg17)
      ∧ m' ((c.tc : Thread Cert.Reference14Ideal.nD Cert.Reference14Ideal.τ).loc Cert.Reference14Ideal.main_arg18) = m ((c.tc : Thread Cert.Kernel14Ideal.nD Cert.Kernel14Ideal.τ).loc Cert.Kernel14Ideal.main_arg18)
      ∧ m' ((c.tc : Thread Cert.Reference14Ideal.nD Cert.Reference14Ideal.τ).loc Cert.Reference14Ideal.main_arg19) = m ((c.tc : Thread Cert.Kernel14Ideal.nD Cert.Kernel14Ideal.τ).loc Cert.Kernel14Ideal.main_arg19)
      ∧ m' ((c.tc : Thread Cert.Reference14Ideal.nD Cert.Reference14Ideal.τ).loc Cert.Reference14Ideal.main_arg20) = m ((c.tc : Thread Cert.Kernel14Ideal.nD Cert.Kernel14Ideal.τ).loc Cert.Kernel14Ideal.main_arg20)
      ∧ m' ((c.tc : Thread Cert.Reference14Ideal.nD Cert.Reference14Ideal.τ).loc Cert.Reference14Ideal.main_arg21) = m ((c.tc : Thread Cert.Kernel14Ideal.nD Cert.Kernel14Ideal.τ).loc Cert.Kernel14Ideal.main_arg21)
      ∧ m' ((c.tc : Thread Cert.Reference14Ideal.nD Cert.Reference14Ideal.τ).loc Cert.Reference14Ideal.main_arg22) = m ((c.tc : Thread Cert.Kernel14Ideal.nD Cert.Kernel14Ideal.τ).loc Cert.Kernel14Ideal.main_arg22)
      ∧ m' ((c.tc : Thread Cert.Reference14Ideal.nD Cert.Reference14Ideal.τ).loc Cert.Reference14Ideal.main_arg23) = m ((c.tc : Thread Cert.Kernel14Ideal.nD Cert.Kernel14Ideal.τ).loc Cert.Kernel14Ideal.main_arg23)
      ∧ m' ((c.tc : Thread Cert.Reference14Ideal.nD Cert.Reference14Ideal.τ).loc Cert.Reference14Ideal.main_arg24) = m ((c.tc : Thread Cert.Kernel14Ideal.nD Cert.Kernel14Ideal.τ).loc Cert.Kernel14Ideal.main_arg24)) →
    ∃ (v0 : (c : Dev Cert.Kernel14Ideal.nD) → Buf (Elt Ideal) ((c.tc : Thread Cert.Kernel14Ideal.nD Cert.Kernel14Ideal.τ).loc Cert.Kernel14Ideal.main_v34_0)) (v1 : (c : Dev Cert.Kernel14Ideal.nD) → Buf (Elt Ideal) ((c.tc : Thread Cert.Kernel14Ideal.nD Cert.Kernel14Ideal.τ).loc Cert.Kernel14Ideal.main_v34_1)) (v2 : (c : Dev Cert.Kernel14Ideal.nD) → Buf (Elt Ideal) ((c.tc : Thread Cert.Kernel14Ideal.nD Cert.Kernel14Ideal.τ).loc Cert.Kernel14Ideal.main_v34_2)) (v3 : (c : Dev Cert.Kernel14Ideal.nD) → Buf (Elt Ideal) ((c.tc : Thread Cert.Kernel14Ideal.nD Cert.Kernel14Ideal.τ).loc Cert.Kernel14Ideal.main_v34_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v34_0) = v0 c
          ∧ r.2.mem ((c.tc : Thread Cert.Kernel14Ideal.nD Cert.Kernel14Ideal.τ).loc Cert.Kernel14Ideal.main_v34_1) = v1 c
          ∧ r.2.mem ((c.tc : Thread Cert.Kernel14Ideal.nD Cert.Kernel14Ideal.τ).loc Cert.Kernel14Ideal.main_v34_2) = v2 c
          ∧ r.2.mem ((c.tc : Thread Cert.Kernel14Ideal.nD Cert.Kernel14Ideal.τ).loc Cert.Kernel14Ideal.main_v34_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
          ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
          ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
          ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
          ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
          ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
          ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
          ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
          ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v64) = v1 c
          ∧ r.2.mem ((c.tc : Thread Cert.Reference14Ideal.nD Cert.Reference14Ideal.τ).loc Cert.Reference14Ideal.main_v45) = v2 c
          ∧ r.2.mem ((c.tc : Thread Cert.Reference14Ideal.nD Cert.Reference14Ideal.τ).loc Cert.Reference14Ideal.main_v51) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16)
          ∧ r.2.mem ((c.tc : Thread Cert.Reference14Ideal.nD Cert.Reference14Ideal.τ).loc Cert.Reference14Ideal.main_arg17) = m' ((c.tc : Thread Cert.Reference14Ideal.nD Cert.Reference14Ideal.τ).loc Cert.Reference14Ideal.main_arg17)
          ∧ r.2.mem ((c.tc : Thread Cert.Reference14Ideal.nD Cert.Reference14Ideal.τ).loc Cert.Reference14Ideal.main_arg18) = m' ((c.tc : Thread Cert.Reference14Ideal.nD Cert.Reference14Ideal.τ).loc Cert.Reference14Ideal.main_arg18)
          ∧ r.2.mem ((c.tc : Thread Cert.Reference14Ideal.nD Cert.Reference14Ideal.τ).loc Cert.Reference14Ideal.main_arg19) = m' ((c.tc : Thread Cert.Reference14Ideal.nD Cert.Reference14Ideal.τ).loc Cert.Reference14Ideal.main_arg19)
          ∧ r.2.mem ((c.tc : Thread Cert.Reference14Ideal.nD Cert.Reference14Ideal.τ).loc Cert.Reference14Ideal.main_arg20) = m' ((c.tc : Thread Cert.Reference14Ideal.nD Cert.Reference14Ideal.τ).loc Cert.Reference14Ideal.main_arg20)
          ∧ r.2.mem ((c.tc : Thread Cert.Reference14Ideal.nD Cert.Reference14Ideal.τ).loc Cert.Reference14Ideal.main_arg21) = m' ((c.tc : Thread Cert.Reference14Ideal.nD Cert.Reference14Ideal.τ).loc Cert.Reference14Ideal.main_arg21)
          ∧ r.2.mem ((c.tc : Thread Cert.Reference14Ideal.nD Cert.Reference14Ideal.τ).loc Cert.Reference14Ideal.main_arg22) = m' ((c.tc : Thread Cert.Reference14Ideal.nD Cert.Reference14Ideal.τ).loc Cert.Reference14Ideal.main_arg22)
          ∧ r.2.mem ((c.tc : Thread Cert.Reference14Ideal.nD Cert.Reference14Ideal.τ).loc Cert.Reference14Ideal.main_arg23) = m' ((c.tc : Thread Cert.Reference14Ideal.nD Cert.Reference14Ideal.τ).loc Cert.Reference14Ideal.main_arg23)
          ∧ r.2.mem ((c.tc : Thread Cert.Reference14Ideal.nD Cert.Reference14Ideal.τ).loc Cert.Reference14Ideal.main_arg24) = m' ((c.tc : Thread Cert.Reference14Ideal.nD Cert.Reference14Ideal.τ).loc Cert.Reference14Ideal.main_arg24))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel7 : Cert.Kernel7.Facts) (hKernel7Ideal : Cert.Kernel7Ideal.Facts) (hReference7Ideal : Cert.Reference7Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_ffn : Cert.Pre_finite_ffn.Facts) (hPre_finite_gate : Cert.Pre_finite_gate.Facts),
    quiescent_Kernel (hKernel := hKernel)
    ∧ quiescent_KernelIdeal (hKernelIdeal := hKernelIdeal)
    ∧ quiescent_KernelIdeal_pre_finite_ffn (hKernelIdeal := hKernelIdeal) (hPre_finite_ffn := hPre_finite_ffn)
    ∧ quiescent_ReferenceIdeal (hReferenceIdeal := hReferenceIdeal)
    ∧ quiescent_ReferenceIdeal_pre_finite_ffn (hReferenceIdeal := hReferenceIdeal) (hPre_finite_ffn := hPre_finite_ffn)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Kernel4Ideal_pre_finite_gate (hKernel4Ideal := hKernel4Ideal) (hPre_finite_gate := hPre_finite_gate)
    ∧ quiescent_Reference4Ideal (hReference4Ideal := hReference4Ideal)
    ∧ quiescent_Reference4Ideal_pre_finite_gate (hReference4Ideal := hReference4Ideal) (hPre_finite_gate := hPre_finite_gate)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_ffn (hKernelIdeal := hKernelIdeal) (hReferenceIdeal := hReferenceIdeal) (hPre_finite_ffn := hPre_finite_ffn)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal_pre_finite_gate (hKernel4Ideal := hKernel4Ideal) (hReference4Ideal := hReference4Ideal) (hPre_finite_gate := hPre_finite_gate)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel7_Kernel7Ideal
    ∧ algebraic_Kernel7Ideal_Reference7Ideal (hKernel7Ideal := hKernel7Ideal) (hReference7Ideal := hReference7Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_ffn.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Pre_finite_gate.lean ====
abbrev S4096x7168 : Shape := ⟨2, ![4096, 7168]⟩
abbrev S4096x1024 : Shape := ⟨2, ![4096, 1024]⟩
abbrev S4096x2048 : Shape := ⟨2, ![4096, 2048]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  bcast_S_S1x1024 : S_.BroadcastsInDim S1x1024 (![] : Fin 0 → Fin S1x1024.rank)

variable [Facts]

def fn {F : FTy → Type} [FloatOps F] (main_arg0 : FVec F S4096x7168 .f32) (main_arg1 : FVec F S4096x1024 .f32) (main_arg2 : FVec F S4096x2048 .f32) (main_arg3 : FVec F S1x1024 .f32) (main_arg4 : FVec F S4096x7168 .bf16) : IVec S4096x2048 1 × IVec S1x1024 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Kernel.lean ====
abbrev S4096x2048 : Shape := ⟨2, ![4096, 2048]⟩
abbrev S5632x2048 : Shape := ⟨2, ![5632, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S1024x2048 : Shape := ⟨2, ![1024, 2048]⟩
abbrev S704x2048 : Shape := ⟨2, ![704, 2048]⟩
abbrev S1x1024x704 : Shape := ⟨3, ![1, 1024, 704]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x8x704, .bf16⟩
  | .hbm, ⟨5, _⟩ => ⟨S8x4096x704, .bf16⟩
  | .hbm, ⟨6, _⟩ => ⟨S4096x8x704, .bf16⟩
  | .hbm, ⟨7, _⟩ => ⟨S8x4096x704, .bf16⟩
  | .hbm, ⟨8, _⟩ => ⟨S8x4096x704, .bf16⟩
  | .hbm, ⟨9, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S704x2048, .bf16⟩
  | .local _ .vmem, ⟨3, _⟩ => ⟨S704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x8x704, .f32⟩
  | .hbm, ⟨31, _⟩ => ⟨S8x4096x704, .f32⟩
  | .hbm, ⟨32, _⟩ => ⟨S8x4096x704, .bf16⟩
  | .hbm, ⟨33, _⟩ => ⟨S4096x8x704, .f32⟩
  | .hbm, ⟨34, _⟩ => ⟨S8x4096x704, .f32⟩
  | .hbm, ⟨35, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel2.lean ====
abbrev S4096x7168 : Shape := ⟨2, ![4096, 7168]⟩
abbrev S2048x7168 : Shape := ⟨2, ![2048, 7168]⟩
abbrev S4096x2048 : Shape := ⟨2, ![4096, 2048]⟩
abbrev S1x2048 : Shape := ⟨2, ![1, 2048]⟩
abbrev S2048x8x896 : Shape := ⟨3, ![2048, 8, 896]⟩
abbrev S8x2048x896 : Shape := ⟨3, ![8, 2048, 896]⟩
abbrev S256x7168 : Shape := ⟨2, ![256, 7168]⟩
abbrev S256x2048 : Shape := ⟨2, ![256, 2048]⟩
abbrev S256x896 : Shape := ⟨2, ![256, 896]⟩
abbrev S1x2048x896 : Shape := ⟨3, ![1, 2048, 896]⟩
abbrev S2048x896 : Shape := ⟨2, ![2048, 896]⟩
abbrev S256 : Shape := ⟨1, ![256]⟩
abbrev S256x1 : Shape := ⟨2, ![256, 1]⟩
abbrev S2048 : Shape := ⟨1, ![2048]⟩

abbrev nBuf : Space → Nat
  | .hbm => 9
  | .vmem => 11
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x8x896, .bf16⟩
  | .hbm, ⟨6, _⟩ => ⟨S8x2048x896, .bf16⟩
  | .hbm, ⟨7, _⟩ => ⟨S4096x2048, .f32⟩
  | .hbm, ⟨8, _⟩ => ⟨S1x2048, .f32⟩
  | .local _ .vmem, ⟨0, _⟩ => ⟨S256x7168, .bf16⟩
  | .local _ .vmem, ⟨1, _⟩ => ⟨S256x7168, .bf16⟩
  | .local _ .vmem, ⟨2, _⟩ => ⟨S8x2048x896, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x7168 : Shape := ⟨2, ![4096, 7168]⟩
abbrev S2048x7168 : Shape := ⟨2, ![2048, 7168]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x7168, .f32⟩
  | .hbm, ⟨27, _⟩ => ⟨S4096x7168, .f32⟩
  | .hbm, ⟨28, _⟩ => ⟨S4096x7168, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S5632x2048 : Shape := ⟨2, ![5632, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S704x2048 : Shape := ⟨2, ![704, 2048]⟩
abbrev S256 : Shape := ⟨1, ![256]⟩
abbrev S256x1 : Shape := ⟨2, ![256, 1]⟩
abbrev S2048 : Shape := ⟨1, ![2048]⟩

abbrev nBuf : Space → Nat
  | .hbm => 19
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x5632, .f32⟩
  | .hbm, ⟨8, _⟩ => ⟨S2048x5632, .f32⟩
  | .hbm, ⟨9, _⟩ => ⟨S5632x2048, .f32⟩
  | .hbm, ⟨10, _⟩ => ⟨S4096x2048, .f32⟩
  | .hbm, ⟨11, _⟩ => ⟨S4096x8x704, .bf16⟩
  | .hbm, ⟨12, _⟩ => ⟨S8x4096x704, .bf16⟩
  | .hbm, ⟨13, _⟩ => ⟨S5632x2048, .bf16⟩
  | .hbm, ⟨14, _⟩ => ⟨S8x704x2048, .bf16⟩
  | .hbm, ⟨15, _⟩ => ⟨S5632x2048, .bf16⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S2048x5632, .f32⟩
  | .hbm, ⟨29, _⟩ => ⟨S4096x5632, .f32⟩
  | .hbm, ⟨30, _⟩ => ⟨S2048x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S1x2048, .f32⟩
  | .hbm, ⟨64, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel6.lean ====
abbrev S4096x7168 : Shape := ⟨2, ![4096, 7168]⟩
abbrev S4096x1024 : Shape := ⟨2, ![4096, 1024]⟩
abbrev S1x8 : Shape := ⟨2, ![1, 8]⟩
abbrev S8x8x128 : Shape := ⟨3, ![8, 8, 128]⟩
abbrev S4096x128 : Shape := ⟨2, ![4096, 128]⟩
abbrev S1x8x128 : Shape := ⟨3, ![1, 8, 128]⟩
abbrev S2x32x128x128 : Shape := ⟨4, ![2, 32, 128, 128]⟩
abbrev S3x4096x128 : Shape := ⟨3, ![3, 4096, 128]⟩
abbrev S3 : Shape := ⟨1, ![3]⟩
abbrev S1x1 : Shape := ⟨2, ![1, 1]⟩
abbrev S128x128 : Shape := ⟨2, ![128, 128]⟩
abbrev S128x1 : Shape := ⟨2, ![128, 1]⟩
abbrev S2048x128 : Shape := ⟨2, ![2048, 128]⟩
abbrev S16x128x128 : Shape := ⟨3, ![16, 128, 128]⟩
abbrev S1x128x1 : Shape := ⟨3, ![1, 128, 1]⟩
abbrev S1x16x128x128 : Shape := ⟨4, ![1, 16, 128, 128]⟩
abbrev S1x1x128x128 : Shape := ⟨4, ![1, 1, 128, 128]⟩
abbrev S1x128 : Shape := ⟨2, ![1, 128]⟩
abbrev S1x128x128 : Shape := ⟨3, ![1, 128, 128]⟩
abbrev S128 : Shape := ⟨1, ![128]⟩
abbrev S1x2048x128 : Shape := ⟨3, ![1, 2048, 128]⟩
abbrev S1 : Shape := ⟨1, ![1]⟩
abbrev S1x1x128 : Shape := ⟨3, ![1, 1, 128]⟩
abbrev S6x128 : Shape := ⟨2, ![6, 128]⟩
abbrev S1x6x128 : Shape := ⟨3, ![1, 6, 128]⟩
abbrev S_ : Shape := ⟨0, ![]⟩
abbrev S1x4096x128 : Shape := ⟨3, ![1, 4096, 128]⟩

abbrev nBuf : Space → Nat
  | .hbm => 7
  | .vmem => 13
  | .smem => 2
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S1x8, .f32⟩
  | .hbm, ⟨3, _⟩ => ⟨S1x8, .f32⟩
  | .hbm, ⟨4, _⟩ => ⟨S4096x7168, .bf16⟩
  | .hbm, ⟨5, _⟩ => ⟨S8x8x128, .f32⟩
  | .hbm, ⟨6, _⟩ => ⟨S4096x7168, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x8x128, .f32⟩
  | .local _ .vmem, ⟨9, _⟩ => ⟨S1x8x128, .f32⟩
  | .local _ .vmem, ⟨10, _⟩ => ⟨S2x32x128x128, .f32⟩
  | .local _ .vmem, ⟨11, _⟩ => ⟨S2x32x128x128, .f32⟩
  | .local _ .vmem, ⟨12, _⟩ => ⟨S3x4096x128, .bf16⟩
  | .local _ .smem, ⟨0, _⟩ => ⟨S1x8, .f32⟩
  | .local _ .smem, ⟨1, _⟩ => ⟨S1x8, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v0 : Index := Scalar.indexCast arg0
  ![0, v0.toNat]
@[reducible] def k0_t1_loop : Scf.Loop 32 :=
  let c0_i32_12 : BitVec 32 := 0#32
  let c2_i32 : BitVec 32 := 2#32
  let v66 : BitVec 32 := Scalar.addi c0_i32_12 c2_i32
  let c1_i32 : BitVec 32 := 1#32
  ⟨c0_i32_12, v66, c1_i32⟩
def k0_mult1 (k0_t1 : Fin k0_t1_loop.trips) : BitVec 32 :=
  let c0_i32_12 : BitVec 32 := 0#32
  let c1_i32 : BitVec 32 := 1#32
  let arg14 : BitVec 32 := Scf.iv c0_i32_12 c1_i32 k0_t1
  let c2048_i32 : BitVec 32 := 2048#32
  let v135 : BitVec 32 := Scalar.muli arg14 c2048_i32
  v135
def k0_mult2 (k0_t1 : Fin k0_t1_loop.trips) : BitVec 32 :=
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  v137
def k0_off2 (k0_t1 : Fin k0_t1_loop.trips) : Fin 2 → Nat :=
  let c0_i32_12 : BitVec 32 := 0#32
  let c1_i32 : BitVec 32 := 1#32
  let arg14 : BitVec 32 := Scf.iv c0_i32_12 c1_i32 k0_t1
  let c2048_i32 : BitVec 32 := 2048#32
  let v135 : BitVec 32 := Scalar.muli arg14 c2048_i32
  let v136 : BitVec 32 := v135
  let v139 : Index := Scalar.indexCast v136
  let c0_71 : Index := 0#32
  ![v139.toNat, 0]
def k0_off3 (k0_t1 : Fin k0_t1_loop.trips) : Fin 4 → Nat :=
  let c0_77 : Index := 0#32
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  let v138 : BitVec 32 := v137
  let v160 : Index := Scalar.indexCast v138
  let c0_78 : Index := 0#32
  let c0_79 : Index := 0#32
  ![0, v160.toNat, 0, 0]
def k0_off4 (k0_t1 : Fin k0_t1_loop.trips) : Fin 4 → Nat :=
  let c1_85 : Index := 1#32
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  let v138 : BitVec 32 := v137
  let v178 : Index := Scalar.indexCast v138
  let c0_86 : Index := 0#32
  let c0_87 : Index := 0#32
  ![1, v178.toNat, 0, 0]
@[reducible] def k0_t2_loop : Scf.Loop 32 :=
  let c0_i32_15 : BitVec 32 := 0#32
  let c32_i32 : BitVec 32 := 32#32
  let v68 : BitVec 32 := Scalar.addi c0_i32_15 c32_i32
  let c1_i32_16 : BitVec 32 := 1#32
  ⟨c0_i32_15, v68, c1_i32_16⟩
def k0_off5 (k0_t2 : Fin k0_t2_loop.trips) : Fin 4 → Nat :=
  let c0_71 : Index := 0#32
  let c0_i32_15 : BitVec 32 := 0#32
  let c1_i32_16 : BitVec 32 := 1#32
  let arg14 : BitVec 32 := Scf.iv c0_i32_15 c1_i32_16 k0_t2
  let v135 : Index := Scalar.indexCast arg14
  let c0_72 : Index := 0#32
  let c0_73 : Index := 0#32
  ![0, v135.toNat, 0, 0]
def k0_off6 (k0_t2 : Fin k0_t2_loop.trips) : Fin 4 → Nat :=
  let c1_77 : Index := 1#32
  let c31_i32 : BitVec 32 := 31#32
  let c0_i32_15 : BitVec 32 := 0#32
  let c1_i32_16 : BitVec 32 := 1#32
  let arg14 : BitVec 32 := Scf.iv c0_i32_15 c1_i32_16 k0_t2
  let v145 : BitVec 32 := Scalar.subi c31_i32 arg14
  let v146 : Index := Scalar.indexCast v145
  let c0_78 : Index := 0#32
  let c0_79 : Index := 0#32
  ![1, v146.toNat, 0, 0]
@[reducible] def k0_t3_loop : Scf.Loop 32 :=
  let c0_i32_19 : BitVec 32 := 0#32
  let c32_i32_20 : BitVec 32 := 32#32
  let v71 : BitVec 32 := Scalar.addi c0_i32_19 c32_i32_20
  let c1_i32_21 : BitVec 32 := 1#32
  ⟨c0_i32_19, v71, c1_i32_21⟩
def k0_off7 (k0_t3 : Fin k0_t3_loop.trips) : Fin 4 → Nat :=
  let c0_71 : Index := 0#32
  let c31_i32 : BitVec 32 := 31#32
  let c0_i32_19 : BitVec 32 := 0#32
  let c1_i32_21 : BitVec 32 := 1#32
  let arg14 : BitVec 32 := Scf.iv c0_i32_19 c1_i32_21 k0_t3
  let v135 : BitVec 32 := Scalar.subi c31_i32 arg14
  let v136 : Index := Scalar.indexCast v135
  let c0_72 : Index := 0#32
  let c0_73 : Index := 0#32
  ![0, v136.toNat, 0, 0]
def k0_off8 (k0_t3 : Fin k0_t3_loop.trips) : Fin 4 → Nat :=
  let c1_77 : Index := 1#32
  let c0_i32_19 : BitVec 32 := 0#32
  let c1_i32_21 : BitVec 32 := 1#32
  let arg14 : BitVec 32 := Scf.iv c0_i32_19 c1_i32_21 k0_t3
  let v146 : Index := Scalar.indexCast arg14
  let c0_78 : Index := 0#32
  let c0_79 : Index := 0#32
  ![1, v146.toNat, 0, 0]
@[reducible] def k0_t4_loop : Scf.Loop 32 :=
  let c0_i32_24 : BitVec 32 := 0#32
  let c2_i32_25 : BitVec 32 := 2#32
  let v74 : BitVec 32 := Scalar.addi c0_i32_24 c2_i32_25
  let c1_i32_26 : BitVec 32 := 1#32
  ⟨c0_i32_24, v74, c1_i32_26⟩
def k0_mult3 (k0_t4 : Fin k0_t4_loop.trips) : BitVec 32 :=
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  v135
def k0_mult4 (k0_t4 : Fin k0_t4_loop.trips) : BitVec 32 :=
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  v137
def k0_off9 (k0_t4 : Fin k0_t4_loop.trips) : Fin 2 → Nat :=
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v139 : Index := Scalar.indexCast v136
  let c0_71 : Index := 0#32
  ![v139.toNat, 0]
def k0_off10 (k0_t4 : Fin k0_t4_loop.trips) : Fin 4 → Nat :=
  let c0_78 : Index := 0#32
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  let v138 : BitVec 32 := v137
  let v159 : Index := Scalar.indexCast v138
  let c0_79 : Index := 0#32
  let c0_80 : Index := 0#32
  ![0, v159.toNat, 0, 0]
def k0_off11 (k0_t4 : Fin k0_t4_loop.trips) : Fin 4 → Nat :=
  let c1_97 : Index := 1#32
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  let v138 : BitVec 32 := v137
  let v227 : Index := Scalar.indexCast v138
  let c0_98 : Index := 0#32
  let c0_99 : Index := 0#32
  ![1, v227.toNat, 0, 0]
def k0_off12 (k0_t4 : Fin k0_t4_loop.trips) : Fin 3 → Nat :=
  let c0_117 : Index := 0#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v302 : Index := Scalar.indexCast v136
  let c0_118 : Index := 0#32
  ![0, v302.toNat, 0]
def k0_off13 (k0_t4 : Fin k0_t4_loop.trips) : Fin 3 → Nat :=
  let c1_119 : Index := 1#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v308 : Index := Scalar.indexCast v136
  let c0_120 : Index := 0#32
  ![1, v308.toNat, 0]
def k0_off14 (k0_t4 : Fin k0_t4_loop.trips) : Fin 3 → Nat :=
  let c2_121 : Index := 2#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v314 : Index := Scalar.indexCast v136
  let c0_122 : Index := 0#32
  ![2, v314.toNat, 0]
def k0_mult5 (i : grid0.Coords) : BitVec 32 :=
  let c24_i32 : BitVec 32 := 24#32
  let arg0 : BitVec 32 := BitVec.ofNat 32 (i 0).val
  let v96 : BitVec 32 := Scalar.addi c24_i32 arg0
  let c128_i32 : BitVec 32 := 128#32
  let v97 : BitVec 32 := Scalar.muli v96 c128_i32
  v97
def k0_mult6 (i : grid0.Coords) : BitVec 32 :=
  let c32_i32_38 : BitVec 32 := 32#32
  let arg0 : BitVec 32 := BitVec.ofNat 32 (i 0).val
  let v99 : BitVec 32 := Scalar.addi c32_i32_38 arg0
  let c128_i32_39 : BitVec 32 := 128#32
  let v100 : BitVec 32 := Scalar.muli v99 c128_i32_39
  v100
def k0_mult7 (i : grid0.Coords) : BitVec 32 :=
  let c40_i32 : BitVec 32 := 40#32
  let arg0 : BitVec 32 := BitVec.ofNat 32 (i 0).val
  let v102 : BitVec 32 := Scalar.addi c40_i32 arg0
  let c128_i32_40 : BitVec 32 := 128#32
  let v103 : BitVec 32 := Scalar.muli v102 c128_i32_40
  v103
def k0_off15 (i : grid0.Coords) (c24_i32 : BitVec 32) : Fin 2 → Nat :=
  let c0_i32_43 : BitVec 32 := 0#32
  let arg0 : BitVec 32 := BitVec.ofNat 32 (i 0).val
  let v96 : BitVec 32 := Scalar.addi c24_i32 arg0
  let c128_i32 : BitVec 32 := 128#32
  let v97 : BitVec 32 := Scalar.muli v96 c128_i32
  let v98 : BitVec 32 := v97
  ![0, v98.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x7168 : Shape := ⟨2, ![4096, 7168]⟩
abbrev S4096x1024 : Shape := ⟨2, ![4096, 1024]⟩
abbrev S1x8 : Shape := ⟨2, ![1, 8]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S8x32x32 : Shape := ⟨3, ![8, 32, 32]⟩
abbrev S1x8x32x128x128 : Shape := ⟨5, ![1, 8, 32, 128, 128]⟩
abbrev S32x1x8x128x128 : Shape := ⟨5, ![32, 1, 8, 128, 128]⟩
abbrev S1x1x8x128x128 : Shape := ⟨5, ![1, 1, 8, 128, 128]⟩
abbrev S1x1x8x128x1 : Shape := ⟨5, ![1, 1, 8, 128, 1]⟩
abbrev S8x1x128x128x32 : Shape := ⟨5, ![8, 1, 128, 128, 32]⟩
abbrev S4096x3072 : Shape := ⟨2, ![4096, 3072]⟩

abbrev nBuf : Space → Nat
  | .hbm => 323
  | .vmem => 0
  | .smem => 0
  | _ => 0

abbrev hbmTy0_0 (i : Nat) : BufTy := match i % 128 with
  | 0 => ⟨S4096x7168, .f32⟩
  | 1 => ⟨S4096x1024, .f32⟩
  | 2 => ⟨S1x8, .f32⟩
  | 3 => ⟨S1x8, .f32⟩
  | 4 => ⟨S4096x7168, .bf16⟩
  | 5 => ⟨S4096x1024, .f32⟩
  | 6 => ⟨S4096x1024, .f32⟩
  | 7 => ⟨S4096x1024, .f32⟩
  | 8 => ⟨S1x4096x1024, .f32⟩
  | 9 => ⟨S1x4096x8x128, .f32⟩
  | 10 => ⟨S1x8x4096x128, .f32⟩
  | 11 => ⟨S1x4096x1024, .f32⟩
  | 12 => ⟨S1x4096x8x128, .f32⟩
  | 13 => ⟨S1x8x4096x128, .f32⟩
  | 14 => ⟨S1x4096x1024, .f32⟩
  | 15 => ⟨S1x4096x8x128, .f32⟩
  | 16 => ⟨S1x8x4096x128, .f32⟩
  | 17 => ⟨S8, .f32⟩
  | 18 => ⟨S8, .f32⟩
  | 19 => ⟨S_, .f32⟩
  | 20 => ⟨S1x8x4096x128, .f32⟩
  | 21 => ⟨S1x8x4096x128, .f32⟩
  | 22 => ⟨S8, .f32⟩
  | 23 => ⟨S8, .f32⟩
  | 24 => ⟨S8, .f32⟩
  | 25 => ⟨S8, .f32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .i1⟩
  | 35 => ⟨S8x1x1, .f32⟩
  | 36 => ⟨S_, .f32⟩
  | 37 => ⟨S128x128, .f32⟩
  | 38 => ⟨S128x128, .f32⟩
  | 39 => ⟨S1x128x128, .f32⟩
  | 40 => ⟨S8x128x128, .f32⟩
  | 41 => ⟨S8x128x128, .f32⟩
  | 42 => ⟨S8x128x128, .f32⟩
  | 43 => ⟨S8x128x128, .f32⟩
  | 44 => ⟨S_, .f32⟩
  | 45 => ⟨S_, .f32⟩
  | 46 => ⟨S8x128x128, .i1⟩
  | 47 => ⟨S8x128x128, .f32⟩
  | 48 => ⟨S8x128x128, .f32⟩
  | 49 => ⟨S8x1, .f32⟩
  | 50 => ⟨S_, .f32⟩
  | 51 => ⟨S128, .f32⟩
  | 52 => ⟨S128, .f32⟩
  | 53 => ⟨S1x128, .f32⟩
  | 54 => ⟨S8x128, .f32⟩
  | 55 => ⟨S8x128, .f32⟩
  | 56 => ⟨S8x128, .f32⟩
  | 57 => ⟨S8x128, .f32⟩
  | 58 => ⟨S8x128x1, .f32⟩
  | 59 => ⟨S8x1, .f32⟩
  | 60 => ⟨S_, .f32⟩
  | 61 => ⟨S128, .f32⟩
  | 62 => ⟨S128, .f32⟩
  | 63 => ⟨S1x128, .f32⟩
  | 64 => ⟨S8x128, .f32⟩
  | 65 => ⟨S8x128, .f32⟩
  | 66 => ⟨S8x128, .f32⟩
  | 67 => ⟨S8x128, .f32⟩
  | 68 => ⟨S8x128x1, .f32⟩
  | 69 => ⟨S32, .i32⟩
  | 70 => ⟨S32x1, .i32⟩
  | 71 => ⟨S32, .i32⟩
  | 72 => ⟨S1x32, .i32⟩
  | 73 => ⟨S32x32, .i32⟩
  | 74 => ⟨S32x32, .i32⟩
  | 75 => ⟨S32x32, .i32⟩
  | 76 => ⟨S_, .i32⟩
  | 77 => ⟨S32x32, .i32⟩
  | 78 => ⟨S32x32, .i32⟩
  | 79 => ⟨S_, .i32⟩
  | 80 => ⟨S32x32, .i32⟩
  | 81 => ⟨S32x32, .i1⟩
  | 82 => ⟨S8x1x1, .f32⟩
  | 83 => ⟨S_, .f32⟩
  | 84 => ⟨S8x1x1, .f32⟩
  | 85 => ⟨S8x1x1, .f32⟩
  | 86 => ⟨S_, .i32⟩
  | 87 => ⟨S32x32, .i32⟩
  | 88 => ⟨S32x32, .i32⟩
  | 89 => ⟨S32x32, .f32⟩
  | 90 => ⟨S1x32x32, .f32⟩
  | 91 => ⟨S8x32x32, .f32⟩
  | 92 => ⟨S8x32x32, .f32⟩
  | 93 => ⟨S8x32x32, .f32⟩
  | 94 => ⟨S8x32x32, .f32⟩
  | 95 => ⟨S_, .f32⟩
  | 96 => ⟨S_, .f32⟩
  | 97 => ⟨S8x32x32, .i1⟩
  | 98 => ⟨S8x32x32, .f32⟩
  | 99 => ⟨S8x32x32, .f32⟩
  | 100 => ⟨S1x8x32x128x128, .f32⟩
  | 101 => ⟨S32x1x8x128x128, .f32⟩
  | 102 => ⟨S1x8x32x128x128, .f32⟩
  | 103 => ⟨S32x1x8x128x128, .f32⟩
  | 104 => ⟨S1x8x32x128x128, .f32⟩
  | 105 => ⟨S32x1x8x128x128, .f32⟩
  | 106 => ⟨S32x1x8x128x128, .f32⟩
  | 107 => ⟨S1x1x8x128x128, .f32⟩
  | 108 => ⟨S32x1x8x128x128, .f32⟩
  | 109 => ⟨S32x1x8x128x128, .f32⟩
  | 110 => ⟨S1x1x8x128x1, .f32⟩
  | 111 => ⟨S32x1x8x128x128, .f32⟩
  | 112 => ⟨S32x1x8x128x128, .f32⟩
  | 113 => ⟨S32x1x8x128x128, .f32⟩
  | 114 => ⟨S8x1x128x128x32, .f32⟩
  | 115 => ⟨S32x1x8x128x128, .f32⟩
  | 116 => ⟨S32x1x8x128x128, .f32⟩
  | 117 => ⟨S1x1x8x128x1, .f32⟩
  | 118 => ⟨S32x1x8x128x128, .f32⟩
  | 119 => ⟨S32x1x8x128x128, .f32⟩
  | 120 => ⟨S32x1x8x128x128, .f32⟩
  | 121 => ⟨S32x1x8x128x128, .f32⟩
  | 122 => ⟨S1x8x32x128x128, .f32⟩
  | 123 => ⟨S1x8x4096x128, .f32⟩
  | 124 => ⟨S1x8x4096x128, .f32⟩
  | 125 => ⟨S1x8x4096x128, .f32⟩
  | 126 => ⟨S1x8x4096x128, .f32⟩
  | 127 => ⟨S128, .f32⟩
  | _ => ⟨S4096x7168, .f32⟩

abbrev hbmTy0_1 (i : Nat) : BufTy := match i % 128 with
  | 0 => ⟨S128x1, .f32⟩
  | 1 => ⟨S1x128, .f32⟩
  | 2 => ⟨S128x128, .f32⟩
  | 3 => ⟨S128x128, .f32⟩
  | 4 => ⟨S128x128, .f32⟩
  | 5 => ⟨S_, .f32⟩
  | 6 => ⟨S128x128, .f32⟩
  | 7 => ⟨S128x128, .i1⟩
  | 8 => ⟨S8x1x1, .f32⟩
  | 9 => ⟨S_, .f32⟩
  | 10 => ⟨S128x128, .f32⟩
  | 11 => ⟨S128x128, .f32⟩
  | 12 => ⟨S1x128x128, .f32⟩
  | 13 => ⟨S8x128x128, .f32⟩
  | 14 => ⟨S8x128x128, .f32⟩
  | 15 => ⟨S8x128x128, .f32⟩
  | 16 => ⟨S8x128x128, .f32⟩
  | 17 => ⟨S_, .f32⟩
  | 18 => ⟨S_, .f32⟩
  | 19 => ⟨S8x128x128, .i1⟩
  | 20 => ⟨S8x128x128, .f32⟩
  | 21 => ⟨S8x128x128, .f32⟩
  | 22 => ⟨S8x1, .f32⟩
  | 23 => ⟨S_, .f32⟩
  | 24 => ⟨S128, .f32⟩
  | 25 => ⟨S128, .f32⟩
  | 26 => ⟨S1x128, .f32⟩
  | 27 => ⟨S8x128, .f32⟩
  | 28 => ⟨S8x128, .f32⟩
  | 29 => ⟨S8x128, .f32⟩
  | 30 => ⟨S8x128, .f32⟩
  | 31 => ⟨S8x128x1, .f32⟩
  | 32 => ⟨S8x1, .f32⟩
  | 33 => ⟨S_, .f32⟩
  | 34 => ⟨S128, .f32⟩
  | 35 => ⟨S128, .f32⟩
  | 36 => ⟨S1x128, .f32⟩
  | 37 => ⟨S8x128, .f32⟩
  | 38 => ⟨S8x128, .f32⟩
  | 39 => ⟨S8x128, .f32⟩
  | 40 => ⟨S8x128, .f32⟩
  | 41 => ⟨S8x128x1, .f32⟩
  | 42 => ⟨S32, .i32⟩
  | 43 => ⟨S32x1, .i32⟩
  | 44 => ⟨S32, .i32⟩
  | 45 => ⟨S1x32, .i32⟩
  | 46 => ⟨S32x32, .i32⟩
  | 47 => ⟨S32x32, .i32⟩
  | 48 => ⟨S32x32, .i32⟩
  | 49 => ⟨S_, .i32⟩
  | 50 => ⟨S32x32, .i32⟩
  | 51 => ⟨S32x32, .i32⟩
  | 52 => ⟨S_, .i32⟩
  | 53 => ⟨S32x32, .i32⟩
  | 54 => ⟨S32x32, .i1⟩
  | 55 => ⟨S8x1x1, .f32⟩
  | 56 => ⟨S_, .f32⟩
  | 57 => ⟨S8x1x1, .f32⟩
  | 58 => ⟨S8x1x1, .f32⟩
  | 59 => ⟨S_, .i32⟩
  | 60 => ⟨S32x32, .i32⟩
  | 61 => ⟨S32x32, .i32⟩
  | 62 => ⟨S32x32, .f32⟩
  | 63 => ⟨S1x32x32, .f32⟩
  | 64 => ⟨S8x32x32, .f32⟩
  | 65 => ⟨S8x32x32, .f32⟩
  | 66 => ⟨S8x32x32, .f32⟩
  | 67 => ⟨S8x32x32, .f32⟩
  | 68 => ⟨S_, .f32⟩
  | 69 => ⟨S_, .f32⟩
  | 70 => ⟨S8x32x32, .i1⟩
  | 71 => ⟨S8x32x32, .f32⟩
  | 72 => ⟨S8x32x32, .f32⟩
  | 73 => ⟨S1x8x32x128x128, .f32⟩
  | 74 => ⟨S32x1x8x128x128, .f32⟩
  | 75 => ⟨S1x8x32x128x128, .f32⟩
  | 76 => ⟨S32x1x8x128x128, .f32⟩
  | 77 => ⟨S1x8x32x128x128, .f32⟩
  | 78 => ⟨S32x1x8x128x128, .f32⟩
  | 79 => ⟨S32x1x8x128x128, .f32⟩
  | 80 => ⟨S1x1x8x128x128, .f32⟩
  | 81 => ⟨S32x1x8x128x128, .f32⟩
  | 82 => ⟨S32x1x8x128x128, .f32⟩
  | 83 => ⟨S1x1x8x128x1, .f32⟩
  | 84 => ⟨S32x1x8x128x128, .f32⟩
  | 85 => ⟨S32x1x8x128x128, .f32⟩
  | 86 => ⟨S32x1x8x128x128, .f32⟩
  | 87 => ⟨S8x1x128x128x32, .f32⟩
  | 88 => ⟨S32x1x8x128x128, .f32⟩
  | 89 => ⟨S32x1x8x128x128, .f32⟩
  | 90 => ⟨S1x1x8x128x1, .f32⟩
  | 91 => ⟨S32x1x8x128x128, .f32⟩
  | 92 => ⟨S32x1x8x128x128, .f32⟩
  | 93 => ⟨S32x1x8x128x128, .f32⟩
  | 94 => ⟨S32x1x8x128x128, .f32⟩
  | 95 => ⟨S1x8x32x128x128, .f32⟩
  | 96 => ⟨S1x8x4096x128, .f32⟩
  | 97 => ⟨S1x8x4096x128, .f32⟩
  | 98 => ⟨S1x8x4096x128, .f32⟩
  | 99 => ⟨S1x4096x8x128, .f32⟩
  | 100 => ⟨S4096x1024, .f32⟩
  | 101 => ⟨S1x4096x8x128, .f32⟩
  | 102 => ⟨S1x8x4096x128, .f32⟩
  | 103 => ⟨S1x8x4096x128, .f32⟩
  | 104 => ⟨S1x8x32x128x128, .f32⟩
  | 105 => ⟨S32x1x8x128x128, .f32⟩
  | 106 => ⟨S32x1x8x128x128, .f32⟩
  | 107 => ⟨S32x1x8x128x128, .f32⟩
  | 108 => ⟨S32x1x8x128x128, .f32⟩
  | 109 => ⟨S32x1x8x128x128, .f32⟩
  | 110 => ⟨S32x1x8x128x128, .f32⟩
  | 111 => ⟨S32x1x8x128x128, .f32⟩
  | 112 => ⟨S32x1x8x128x128, .f32⟩
  | 113 => ⟨S32x1x8x128x128, .f32⟩
  | 114 => ⟨S8x1x128x128x32, .f32⟩
  | 115 => ⟨S8x1x128x128x32, .f32⟩
  | 116 => ⟨S32x1x8x128x128, .f32⟩
  | 117 => ⟨S32x1x8x128x128, .f32⟩
  | 118 => ⟨S32x1x8x128x128, .f32⟩
  | 119 => ⟨S32x1x8x128x128, .f32⟩
  | 120 => ⟨S32x1x8x128x128, .f32⟩
  | 121 => ⟨S32x1x8x128x128, .f32⟩
  | 122 => ⟨S32x1x8x128x128, .f32⟩
  | 123 => ⟨S32x1x8x128x128, .f32⟩
  | 124 => ⟨S32x1x8x128x128, .f32⟩
  | 125 => ⟨S32x1x8x128x128, .f32⟩
  | 126 => ⟨S32x1x8x128x128, .f32⟩
  | 127 => ⟨S32x1x8x128x128, .f32⟩
  | _ => ⟨S4096x7168, .f32⟩

abbrev hbmTy0_2 (i : Nat) : BufTy := match i % 128 with
  | 0 => ⟨S32x1x8x128x128, .f32⟩
  | 1 => ⟨S32x1x8x128x128, .f32⟩
  | 2 => ⟨S1x8x32x128x128, .f32⟩
  | 3 => ⟨S1x8x4096x128, .f32⟩
  | 4 => ⟨S1x8x32x128x128, .f32⟩
  | 5 => ⟨S1x8x4096x128, .f32⟩
  | 6 => ⟨S1x8x32x128x128, .f32⟩
  | 7 => ⟨S1x8x4096x128, .f32⟩
  | 8 => ⟨S1x8x4096x128, .f32⟩
  | 9 => ⟨S1x8x4096x128, .f32⟩
  | 10 => ⟨S1x8x4096x128, .f32⟩
  | 11 => ⟨S1x8x32x128x128, .f32⟩
  | 12 => ⟨S32x1x8x128x128, .f32⟩
  | 13 => ⟨S32x1x8x128x128, .f32⟩
  | 14 => ⟨S32x1x8x128x128, .f32⟩
  | 15 => ⟨S32x1x8x128x128, .f32⟩
  | 16 => ⟨S32x1x8x128x128, .f32⟩
  | 17 => ⟨S32x1x8x128x128, .f32⟩
  | 18 => ⟨S32x1x8x128x128, .f32⟩
  | 19 => ⟨S32x1x8x128x128, .f32⟩
  | 20 => ⟨S32x1x8x128x128, .f32⟩
  | 21 => ⟨S8x1x128x128x32, .f32⟩
  | 22 => ⟨S8x1x128x128x32, .f32⟩
  | 23 => ⟨S32x1x8x128x128, .f32⟩
  | 24 => ⟨S32x1x8x128x128, .f32⟩
  | 25 => ⟨S32x1x8x128x128, .f32⟩
  | 26 => ⟨S32x1x8x128x128, .f32⟩
  | 27 => ⟨S32x1x8x128x128, .f32⟩
  | 28 => ⟨S32x1x8x128x128, .f32⟩
  | 29 => ⟨S32x1x8x128x128, .f32⟩
  | 30 => ⟨S32x1x8x128x128, .f32⟩
  | 31 => ⟨S32x1x8x128x128, .f32⟩
  | 32 => ⟨S32x1x8x128x128, .f32⟩
  | 33 => ⟨S32x1x8x128x128, .f32⟩
  | 34 => ⟨S32x1x8x128x128, .f32⟩
  | 35 => ⟨S32x1x8x128x128, .f32⟩
  | 36 => ⟨S32x1x8x128x128, .f32⟩
  | 37 => ⟨S1x8x32x128x128, .f32⟩
  | 38 => ⟨S1x8x4096x128, .f32⟩
  | 39 => ⟨S1x8x4096x128, .f32⟩
  | 40 => ⟨S1x8x32x128x128, .f32⟩
  | 41 => ⟨S1x8x4096x128, .f32⟩
  | 42 => ⟨S1x8x4096x128, .f32⟩
  | 43 => ⟨S1x8x32x128x128, .f32⟩
  | 44 => ⟨S1x8x4096x128, .f32⟩
  | 45 => ⟨S1x8x4096x128, .f32⟩
  | 46 => ⟨S_, .f32⟩
  | 47 => ⟨S1x8x4096x128, .f32⟩
  | 48 => ⟨S1x8x4096x128, .f32⟩
  | 49 => ⟨S1x4096x8x128, .f32⟩
  | 50 => ⟨S1x4096x1024, .f32⟩
  | 51 => ⟨S_, .f32⟩
  | 52 => ⟨S4096x1024, .f32⟩
  | 53 => ⟨S1x4096x8x128, .f32⟩
  | 54 => ⟨S1x4096x1024, .f32⟩
  | 55 => ⟨S_, .f32⟩
  | 56 => ⟨S4096x1024, .f32⟩
  | 57 => ⟨S1x4096x8x128, .f32⟩
  | 58 => ⟨S1x4096x1024, .f32⟩
  | 59 => ⟨S_, .f32⟩
  | 60 => ⟨S4096x1024, .f32⟩
  | 61 => ⟨S4096x3072, .bf16⟩
  | 62 => ⟨S4096x1024, .bf16⟩
  | 63 => ⟨S4096x1024, .bf16⟩
  | 64 => ⟨S4096x1024, .bf16⟩
  | 65 => ⟨S4096x1024, .bf16⟩
  | 66 => ⟨S4096x7168, .bf16⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_v62 : Ref sig .tc := ⟨.hbm, 77, rfl⟩
abbrev main_v63 : Ref sig .tc := ⟨.hbm, 78, rfl⟩
abbrev main_c_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_c_7 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_9 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_10 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_11 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v121 : Ref sig .tc := ⟨.hbm, 149, rfl⟩
abbrev main_v122 : Ref sig .tc := ⟨.hbm, 150, rfl⟩
abbrev main_cst_12 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_13 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_c_14 : Ref sig .tc := ⟨.hbm, 177, rfl⟩
abbrev main_v147 : Ref sig .tc := ⟨.hbm, 178, rfl⟩
abbrev main_v148 : Ref sig .tc := ⟨.hbm, 179, rfl⟩
abbrev main_c_15 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_16 : Ref sig .tc := ⟨.hbm, 184, rfl⟩
abbrev main_v152 : Ref sig .tc := ⟨.hbm, 185, rfl⟩
abbrev main_v153 : Ref sig .tc := ⟨.hbm, 186, rfl⟩
abbrev main_c_17 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_18 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_cst_19 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_cst_20 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_cst_21 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_cst_22 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S4096x8x704 : Shape := ⟨3, ![4096, 8, 704]⟩
abbrev S8x4096x704 : Shape := ⟨3, ![8, 4096, 704]⟩
abbrev S1x2048 : Shape := ⟨2, ![1, 2048]⟩
abbrev S128x128 : Shape := ⟨2, ![128, 128]⟩
abbrev S8x256x704 : Shape := ⟨3, ![8, 256, 704]⟩
abbrev S256x2048 : Shape := ⟨2, ![256, 2048]⟩
abbrev S8x128 : Shape := ⟨2, ![8, 128]⟩
abbrev S1x256x704 : Shape := ⟨3, ![1, 256, 704]⟩
abbrev S256x704 : Shape := ⟨2, ![256, 704]⟩
abbrev S704x2048 : Shape := ⟨2, ![704, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S16x1 : Shape := ⟨2, ![16, 1]⟩
abbrev S16 : Shape := ⟨1, ![16]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x8x704, .bf16⟩
  | .hbm, ⟨6, _⟩ => ⟨S8x4096x704, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S128x128, .f32⟩
  | .hbm, ⟨11, _⟩ => ⟨S1x2048, .f32⟩
  | .hbm, ⟨12, _⟩ => ⟨S16x1, .f32⟩
  | .hbm, ⟨13, _⟩ => ⟨S16, .f32⟩
  | .hbm, ⟨14, _⟩ => ⟨S_, .f32⟩
  | .hbm, ⟨15, _⟩ => ⟨S_, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S8x128, .f32⟩
  | .local _ .vmem, ⟨14, _⟩ => ⟨S1x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x5632, .f32⟩
  | .hbm, ⟨6, _⟩ => ⟨S5632x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .bf16⟩
  | .hbm, ⟨78, _⟩ => ⟨S1x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel4.lean ====
abbrev S4096x7168 : Shape := ⟨2, ![4096, 7168]⟩
abbrev S4096x1024 : Shape := ⟨2, ![4096, 1024]⟩
abbrev S4096x2048 : Shape := ⟨2, ![4096, 2048]⟩
abbrev S1x1024 : Shape := ⟨2, ![1, 1024]⟩
abbrev S8x8x128 : Shape := ⟨3, ![8, 8, 128]⟩
abbrev S4096x128 : Shape := ⟨2, ![4096, 128]⟩
abbrev S1x128 : Shape := ⟨2, ![1, 128]⟩
abbrev S1x8x128 : Shape := ⟨3, ![1, 8, 128]⟩
abbrev S1x4096x128 : Shape := ⟨3, ![1, 4096, 128]⟩
abbrev S1 : Shape := ⟨1, ![1]⟩
abbrev S4096 : Shape := ⟨1, ![4096]⟩
abbrev S4096x1 : Shape := ⟨2, ![4096, 1]⟩
abbrev S128 : Shape := ⟨1, ![128]⟩
abbrev S8x128 : Shape := ⟨2, ![8, 128]⟩
abbrev S_ : Shape := ⟨0, ![]⟩

abbrev nBuf : Space → Nat
  | .hbm => 8
  | .vmem => 13
  | .smem => 0
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S4096x2048, .f32⟩
  | .hbm, ⟨3, _⟩ => ⟨S1x1024, .f32⟩
  | .hbm, ⟨4, _⟩ => ⟨S4096x7168, .bf16⟩
  | .hbm, ⟨5, _⟩ => ⟨S4096x1024, .f32⟩
  | .hbm, ⟨6, _⟩ => ⟨S8x8x128, .f32⟩
  | .hbm, ⟨7, _⟩ => ⟨S4096x7168, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S1x8x128, .f32⟩
  | .local _ .vmem, ⟨11, _⟩ => ⟨S1x8x128, .f32⟩
  | .local _ .vmem, ⟨12, _⟩ => ⟨S1x4096x128, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c48_i32 : BitVec 32 := 48#32
  let arg0 : BitVec 32 := BitVec.ofNat 32 (i 0).val
  let v63 : BitVec 32 := Scalar.addi c48_i32 arg0
  let c128_i32 : BitVec 32 := 128#32
  let v64 : BitVec 32 := Scalar.muli v63 c128_i32
  v64
def k0_off1 (i : grid0.Coords) : Fin 2 → Nat :=
  let c0_i32_26 : BitVec 32 := 0#32
  let c48_i32 : BitVec 32 := 48#32
  let arg0 : BitVec 32 := BitVec.ofNat 32 (i 0).val
  let v63 : BitVec 32 := Scalar.addi c48_i32 arg0
  let c128_i32 : BitVec 32 := 128#32
  let v64 : BitVec 32 := Scalar.muli v63 c128_i32
  let v65 : BitVec 32 := v64
  ![0, v65.toNat]
def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x7168 : Shape := ⟨2, ![4096, 7168]⟩
abbrev S4096x1024 : Shape := ⟨2, ![4096, 1024]⟩
abbrev S4096x2048 : Shape := ⟨2, ![4096, 2048]⟩
abbrev S1x1024 : Shape := ⟨2, ![1, 1024]⟩
abbrev S4096x8x128 : Shape := ⟨3, ![4096, 8, 128]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S8x1x128 : Shape := ⟨3, ![8, 1, 128]⟩
abbrev S8x8x128 : Shape := ⟨3, ![8, 8, 128]⟩
abbrev S4096x6144 : Shape := ⟨2, ![4096, 6144]⟩

abbrev nBuf : Space → Nat
  | .hbm => 87
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S4096x2048, .f32⟩
  | .hbm, ⟨3, _⟩ => ⟨S1x1024, .f32⟩
  | .hbm, ⟨4, _⟩ => ⟨S4096x7168, .bf16⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S8x4096x128, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x128, .f32⟩
  | .hbm, ⟨24, _⟩ => ⟨S8x4096x128, .f32⟩
  | .hbm, ⟨25, _⟩ => ⟨S4096x8x128, .f32⟩
  | .hbm, ⟨26, _⟩ => ⟨S4096x1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x8x128, .f32⟩
  | .hbm, ⟨62, _⟩ => ⟨S8x4096x128, .f32⟩
  | .hbm, ⟨63, _⟩ => ⟨S8x4096x128, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x128, .f32⟩
  | .hbm, ⟨68, _⟩ => ⟨S8x4096x128, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096, .f32⟩
  | .hbm, ⟨75, _⟩ => ⟨S8x4096x128, .f32⟩
  | .hbm, ⟨76, _⟩ => ⟨S8x4096x128, .f32⟩
  | .hbm, ⟨77, _⟩ => ⟨S8x4096x128, .f32⟩
  | .hbm, ⟨78, _⟩ => ⟨S8x4096x128, .f32⟩
  | .hbm, ⟨79, _⟩ => ⟨S8x4096x128, .f32⟩
  | .hbm, ⟨80, _⟩ => ⟨S4096x8x128, .f32⟩
  | .hbm, ⟨81, _⟩ => ⟨S4096x1024, .f32⟩
  | .hbm, ⟨82, _⟩ => ⟨S8x1x128, .f32⟩
  | .hbm, ⟨83, _⟩ => ⟨S8x8x128, .f32⟩
  | .hbm, ⟨84, _⟩ => ⟨S4096x6144, .bf16⟩
  | .hbm, ⟨85, _⟩ => ⟨S4096x1024, .bf16⟩
  | .hbm, ⟨86, _⟩ => ⟨S4096x7168, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048x2048, .bf16⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x2048 : Shape := ⟨2, ![4096, 2048]⟩
abbrev S4096x1024 : Shape := ⟨2, ![4096, 1024]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048x2048, .bf16⟩
  | .hbm, ⟨4, _⟩ => ⟨S1x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8x704x2048, .bf16⟩
  | .hbm, ⟨5, _⟩ => ⟨S5632x2048, .bf16⟩
  | .hbm, ⟨6, _⟩ => ⟨S8x704x2048, .bf16⟩
  | .hbm, ⟨7, _⟩ => ⟨S8x4096x704, .bf16⟩
  | .hbm, ⟨8, _⟩ => ⟨S8x4096x704, .bf16⟩
  | .hbm, ⟨9, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x8x704, .f32⟩
  | .hbm, ⟨10, _⟩ => ⟨S8x4096x704, .f32⟩
  | .hbm, ⟨11, _⟩ => ⟨S8x4096x704, .bf16⟩
  | .hbm, ⟨12, _⟩ => ⟨S4096x8x704, .f32⟩
  | .hbm, ⟨13, _⟩ => ⟨S8x4096x704, .f32⟩
  | .hbm, ⟨14, _⟩ => ⟨S8x4096x704, .bf16⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x8x704, .f32⟩
  | .hbm, ⟨26, _⟩ => ⟨S8x4096x704, .f32⟩
  | .hbm, ⟨27, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel11.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S8x704x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x7168 : Shape := ⟨2, ![4096, 7168]⟩
abbrev S1x8 : Shape := ⟨2, ![1, 8]⟩
abbrev S1x1024 : Shape := ⟨2, ![1, 1024]⟩
abbrev S4096x1024 : Shape := ⟨2, ![4096, 1024]⟩
abbrev S4096x128 : Shape := ⟨2, ![4096, 128]⟩
abbrev S1x128 : Shape := ⟨2, ![1, 128]⟩
abbrev S2x32x128x128 : Shape := ⟨4, ![2, 32, 128, 128]⟩
abbrev S1x1 : Shape := ⟨2, ![1, 1]⟩
abbrev S128x128 : Shape := ⟨2, ![128, 128]⟩
abbrev S128x1 : Shape := ⟨2, ![128, 1]⟩
abbrev S2048x128 : Shape := ⟨2, ![2048, 128]⟩
abbrev S16x128x128 : Shape := ⟨3, ![16, 128, 128]⟩
abbrev S1x128x1 : Shape := ⟨3, ![1, 128, 1]⟩
abbrev S1x16x128x128 : Shape := ⟨4, ![1, 16, 128, 128]⟩
abbrev S1x1x128x128 : Shape := ⟨4, ![1, 1, 128, 128]⟩
abbrev S1x128x128 : Shape := ⟨3, ![1, 128, 128]⟩
abbrev S4096 : Shape := ⟨1, ![4096]⟩
abbrev S4096x1 : Shape := ⟨2, ![4096, 1]⟩

abbrev nBuf : Space → Nat
  | .hbm => 6
  | .vmem => 15
  | .smem => 2
  | _ => 0

abbrev bufTy : (tb : Table) → Fin (tcTables nBuf tb) → BufTy
  | .hbm, ⟨0, _⟩ => ⟨S4096x7168, .f32⟩
  | .hbm, ⟨1, _⟩ => ⟨S1x8, .f32⟩
  | .hbm, ⟨2, _⟩ => ⟨S1x8, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S2x32x128x128, .f32⟩
  | .local _ .smem, ⟨0, _⟩ => ⟨S1x8, .f32⟩
  | .local _ .smem, ⟨1, _⟩ => ⟨S1x8, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v0 : Index := Scalar.indexCast arg0
  ![0, v0.toNat]
@[reducible] def k0_t1_loop : Scf.Loop 32 :=
  let c0_i32_12 : BitVec 32 := 0#32
  let c2_i32 : BitVec 32 := 2#32
  let v66 : BitVec 32 := Scalar.addi c0_i32_12 c2_i32
  let c1_i32 : BitVec 32 := 1#32
  ⟨c0_i32_12, v66, c1_i32⟩
def k0_mult1 (k0_t1 : Fin k0_t1_loop.trips) : BitVec 32 :=
  let c0_i32_12 : BitVec 32 := 0#32
  let c1_i32 : BitVec 32 := 1#32
  let arg11 : BitVec 32 := Scf.iv c0_i32_12 c1_i32 k0_t1
  let c2048_i32 : BitVec 32 := 2048#32
  let v97 : BitVec 32 := Scalar.muli arg11 c2048_i32
  v97
def k0_mult2 (k0_t1 : Fin k0_t1_loop.trips) : BitVec 32 :=
  let c0_i32_12 : BitVec 32 := 0#32
  let c1_i32 : BitVec 32 := 1#32
  let arg11 : BitVec 32 := Scf.iv c0_i32_12 c1_i32 k0_t1
  let c16_i32 : BitVec 32 := 16#32
  let v99 : BitVec 32 := Scalar.muli arg11 c16_i32
  v99
def k0_off2 (k0_t1 : Fin k0_t1_loop.trips) : Fin 2 → Nat :=
  let c0_i32_12 : BitVec 32 := 0#32
  let c1_i32 : BitVec 32 := 1#32
  let arg11 : BitVec 32 := Scf.iv c0_i32_12 c1_i32 k0_t1
  let c2048_i32 : BitVec 32 := 2048#32
  let v97 : BitVec 32 := Scalar.muli arg11 c2048_i32
  let v98 : BitVec 32 := v97
  let v101 : Index := Scalar.indexCast v98
  let c0_36 : Index := 0#32
  ![v101.toNat, 0]
def k0_off3 (k0_t1 : Fin k0_t1_loop.trips) : Fin 4 → Nat :=
  let c0_39 : Index := 0#32
  let c0_i32_12 : BitVec 32 := 0#32
  let c1_i32 : BitVec 32 := 1#32
  let arg11 : BitVec 32 := Scf.iv c0_i32_12 c1_i32 k0_t1
  let c16_i32 : BitVec 32 := 16#32
  let v99 : BitVec 32 := Scalar.muli arg11 c16_i32
  let v100 : BitVec 32 := v99
  let v113 : Index := Scalar.indexCast v100
  let c0_40 : Index := 0#32
  let c0_41 : Index := 0#32
  ![0, v113.toNat, 0, 0]
def k0_off4 (k0_t1 : Fin k0_t1_loop.trips) : Fin 4 → Nat :=
  let c1 : Index := 1#32
  let c0_i32_12 : BitVec 32 := 0#32
  let c1_i32 : BitVec 32 := 1#32
  let arg11 : BitVec 32 := Scf.iv c0_i32_12 c1_i32 k0_t1
  let c16_i32 : BitVec 32 := 16#32
  let v99 : BitVec 32 := Scalar.muli arg11 c16_i32
  let v100 : BitVec 32 := v99
  let v122 : Index := Scalar.indexCast v100
  let c0_43 : Index := 0#32
  let c0_44 : Index := 0#32
  ![1, v122.toNat, 0, 0]
@[reducible] def k0_t2_loop : Scf.Loop 32 :=
  let c0_i32_15 : BitVec 32 := 0#32
  let c32_i32 : BitVec 32 := 32#32
  let v68 : BitVec 32 := Scalar.addi c0_i32_15 c32_i32
  let c1_i32_16 : BitVec 32 := 1#32
  ⟨c0_i32_15, v68, c1_i32_16⟩
def k0_off5 (k0_t2 : Fin k0_t2_loop.trips) : Fin 4 → Nat :=
  let c0_36 : Index := 0#32
  let c0_i32_15 : BitVec 32 := 0#32
  let c1_i32_16 : BitVec 32 := 1#32
  let arg11 : BitVec 32 := Scf.iv c0_i32_15 c1_i32_16 k0_t2
  let v97 : Index := Scalar.indexCast arg11
  let c0_37 : Index := 0#32
  let c0_38 : Index := 0#32
  ![0, v97.toNat, 0, 0]
def k0_off6 (k0_t2 : Fin k0_t2_loop.trips) : Fin 4 → Nat :=
  let c1 : Index := 1#32
  let c31_i32 : BitVec 32 := 31#32
  let c0_i32_15 : BitVec 32 := 0#32
  let c1_i32_16 : BitVec 32 := 1#32
  let arg11 : BitVec 32 := Scf.iv c0_i32_15 c1_i32_16 k0_t2
  let v107 : BitVec 32 := Scalar.subi c31_i32 arg11
  let v108 : Index := Scalar.indexCast v107
  let c0_42 : Index := 0#32
  let c0_43 : Index := 0#32
  ![1, v108.toNat, 0, 0]
@[reducible] def k0_t3_loop : Scf.Loop 32 :=
  let c0_i32_18 : BitVec 32 := 0#32
  let c2_i32_19 : BitVec 32 := 2#32
  let v70 : BitVec 32 := Scalar.addi c0_i32_18 c2_i32_19
  let c1_i32_20 : BitVec 32 := 1#32
  ⟨c0_i32_18, v70, c1_i32_20⟩
def k0_mult3 (k0_t3 : Fin k0_t3_loop.trips) : BitVec 32 :=
  let c0_i32_18 : BitVec 32 := 0#32
  let c1_i32_20 : BitVec 32 := 1#32
  let arg11 : BitVec 32 := Scf.iv c0_i32_18 c1_i32_20 k0_t3
  let c2048_i32 : BitVec 32 := 2048#32
  let v97 : BitVec 32 := Scalar.muli arg11 c2048_i32
  v97
def k0_mult4 (k0_t3 : Fin k0_t3_loop.trips) : BitVec 32 :=
  let c0_i32_18 : BitVec 32 := 0#32
  let c1_i32_20 : BitVec 32 := 1#32
  let arg11 : BitVec 32 := Scf.iv c0_i32_18 c1_i32_20 k0_t3
  let c16_i32 : BitVec 32 := 16#32
  let v99 : BitVec 32 := Scalar.muli arg11 c16_i32
  v99
def k0_off7 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let c2048_i32 : BitVec 32 := 2048#32
  let v97 : BitVec 32 := Scalar.muli arg11 c2048_i32
  let v98 : BitVec 32 := v97
  let v101 : Index := Scalar.indexCast v98
  let c0_36 : Index := 0#32
  ![v101.toNat, 0]
def k0_off8 (k0_t3 : Fin k0_t3_loop.trips) : Fin 4 → Nat :=
  let c0_42 : Index := 0#32
  let c0_i32_18 : BitVec 32 := 0#32
  let c1_i32_20 : BitVec 32 := 1#32
  let arg11 : BitVec 32 := Scf.iv c0_i32_18 c1_i32_20 k0_t3
  let c16_i32 : BitVec 32 := 16#32
  let v99 : BitVec 32 := Scalar.muli arg11 c16_i32
  let v100 : BitVec 32 := v99
  let v125 : Index := Scalar.indexCast v100
  let c0_43 : Index := 0#32
  let c0_44 : Index := 0#32
  ![0, v125.toNat, 0, 0]
def k0_off9 (k0_t3 : Fin k0_t3_loop.trips) : Fin 4 → Nat :=
  let c1 : Index := 1#32
  let c0_i32_18 : BitVec 32 := 0#32
  let c1_i32_20 : BitVec 32 := 1#32
  let arg11 : BitVec 32 := Scf.iv c0_i32_18 c1_i32_20 k0_t3
  let c16_i32 : BitVec 32 := 16#32
  let v99 : BitVec 32 := Scalar.muli arg11 c16_i32
  let v100 : BitVec 32 := v99
  let v140 : Index := Scalar.indexCast v100
  let c0_47 : Index := 0#32
  let c0_48 : Index := 0#32
  ![1, v140.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x7168 : Shape := ⟨2, ![4096, 7168]⟩
abbrev S1x8 : Shape := ⟨2, ![1, 8]⟩
abbrev S1x1024 : Shape := ⟨2, ![1, 1024]⟩
abbrev S4096x1024 : Shape := ⟨2, ![4096, 1024]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S8x32x32 : Shape := ⟨3, ![8, 32, 32]⟩
abbrev S1x8x32x128x128 : Shape := ⟨5, ![1, 8, 32, 128, 128]⟩
abbrev S32x1x8x128x128 : Shape := ⟨5, ![32, 1, 8, 128, 128]⟩
abbrev S1x1x8x128x128 : Shape := ⟨5, ![1, 1, 8, 128, 128]⟩
abbrev S1x1x8x128x1 : Shape := ⟨5, ![1, 1, 8, 128, 1]⟩
abbrev S8x1x128x128x32 : Shape := ⟨5, ![8, 1, 128, 128, 32]⟩
abbrev S1x8x4096 : Shape := ⟨3, ![1, 8, 4096]⟩
abbrev S1x8x4096x1 : Shape := ⟨4, ![1, 8, 4096, 1]⟩
abbrev S1024 : Shape := ⟨1, ![1024]⟩

abbrev nBuf : Space → Nat
  | .hbm => 258
  | .vmem => 0
  | .smem => 0
  | _ => 0

abbrev hbmTy0_0 (i : Nat) : BufTy := match i % 128 with
  | 0 => ⟨S4096x7168, .f32⟩
  | 1 => ⟨S1x8, .f32⟩
  | 2 => ⟨S1x8, .f32⟩
  | 3 => ⟨S1x1024, .f32⟩
  | 4 => ⟨S4096x1024, .f32⟩
  | 5 => ⟨S4096x1024, .f32⟩
  | 6 => ⟨S4096x1024, .f32⟩
  | 7 => ⟨S4096x1024, .f32⟩
  | 8 => ⟨S1x4096x1024, .f32⟩
  | 9 => ⟨S1x4096x8x128, .f32⟩
  | 10 => ⟨S1x8x4096x128, .f32⟩
  | 11 => ⟨S1x4096x1024, .f32⟩
  | 12 => ⟨S1x4096x8x128, .f32⟩
  | 13 => ⟨S1x8x4096x128, .f32⟩
  | 14 => ⟨S1x4096x1024, .f32⟩
  | 15 => ⟨S1x4096x8x128, .f32⟩
  | 16 => ⟨S1x8x4096x128, .f32⟩
  | 17 => ⟨S8, .f32⟩
  | 18 => ⟨S8, .f32⟩
  | 19 => ⟨S_, .f32⟩
  | 20 => ⟨S1x8x4096x128, .f32⟩
  | 21 => ⟨S1x8x4096x128, .f32⟩
  | 22 => ⟨S8, .f32⟩
  | 23 => ⟨S8, .f32⟩
  | 24 => ⟨S8, .f32⟩
  | 25 => ⟨S8, .f32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .i1⟩
  | 35 => ⟨S8x1x1, .f32⟩
  | 36 => ⟨S_, .f32⟩
  | 37 => ⟨S128x128, .f32⟩
  | 38 => ⟨S128x128, .f32⟩
  | 39 => ⟨S1x128x128, .f32⟩
  | 40 => ⟨S8x128x128, .f32⟩
  | 41 => ⟨S8x128x128, .f32⟩
  | 42 => ⟨S8x128x128, .f32⟩
  | 43 => ⟨S8x128x128, .f32⟩
  | 44 => ⟨S_, .f32⟩
  | 45 => ⟨S_, .f32⟩
  | 46 => ⟨S8x128x128, .i1⟩
  | 47 => ⟨S8x128x128, .f32⟩
  | 48 => ⟨S8x128x128, .f32⟩
  | 49 => ⟨S8x1, .f32⟩
  | 50 => ⟨S_, .f32⟩
  | 51 => ⟨S128, .f32⟩
  | 52 => ⟨S128, .f32⟩
  | 53 => ⟨S1x128, .f32⟩
  | 54 => ⟨S8x128, .f32⟩
  | 55 => ⟨S8x128, .f32⟩
  | 56 => ⟨S8x128, .f32⟩
  | 57 => ⟨S8x128, .f32⟩
  | 58 => ⟨S8x128x1, .f32⟩
  | 59 => ⟨S8x1, .f32⟩
  | 60 => ⟨S_, .f32⟩
  | 61 => ⟨S128, .f32⟩
  | 62 => ⟨S128, .f32⟩
  | 63 => ⟨S1x128, .f32⟩
  | 64 => ⟨S8x128, .f32⟩
  | 65 => ⟨S8x128, .f32⟩
  | 66 => ⟨S8x128, .f32⟩
  | 67 => ⟨S8x128, .f32⟩
  | 68 => ⟨S8x128x1, .f32⟩
  | 69 => ⟨S32, .i32⟩
  | 70 => ⟨S32x1, .i32⟩
  | 71 => ⟨S32, .i32⟩
  | 72 => ⟨S1x32, .i32⟩
  | 73 => ⟨S32x32, .i32⟩
  | 74 => ⟨S32x32, .i32⟩
  | 75 => ⟨S32x32, .i32⟩
  | 76 => ⟨S_, .i32⟩
  | 77 => ⟨S32x32, .i32⟩
  | 78 => ⟨S32x32, .i32⟩
  | 79 => ⟨S_, .i32⟩
  | 80 => ⟨S32x32, .i32⟩
  | 81 => ⟨S32x32, .i1⟩
  | 82 => ⟨S8x1x1, .f32⟩
  | 83 => ⟨S_, .f32⟩
  | 84 => ⟨S8x1x1, .f32⟩
  | 85 => ⟨S8x1x1, .f32⟩
  | 86 => ⟨S_, .i32⟩
  | 87 => ⟨S32x32, .i32⟩
  | 88 => ⟨S32x32, .i32⟩
  | 89 => ⟨S32x32, .f32⟩
  | 90 => ⟨S1x32x32, .f32⟩
  | 91 => ⟨S8x32x32, .f32⟩
  | 92 => ⟨S8x32x32, .f32⟩
  | 93 => ⟨S8x32x32, .f32⟩
  | 94 => ⟨S8x32x32, .f32⟩
  | 95 => ⟨S_, .f32⟩
  | 96 => ⟨S_, .f32⟩
  | 97 => ⟨S8x32x32, .i1⟩
  | 98 => ⟨S8x32x32, .f32⟩
  | 99 => ⟨S8x32x32, .f32⟩
  | 100 => ⟨S1x8x32x128x128, .f32⟩
  | 101 => ⟨S32x1x8x128x128, .f32⟩
  | 102 => ⟨S1x8x32x128x128, .f32⟩
  | 103 => ⟨S32x1x8x128x128, .f32⟩
  | 104 => ⟨S1x8x32x128x128, .f32⟩
  | 105 => ⟨S32x1x8x128x128, .f32⟩
  | 106 => ⟨S32x1x8x128x128, .f32⟩
  | 107 => ⟨S1x1x8x128x128, .f32⟩
  | 108 => ⟨S32x1x8x128x128, .f32⟩
  | 109 => ⟨S32x1x8x128x128, .f32⟩
  | 110 => ⟨S1x1x8x128x1, .f32⟩
  | 111 => ⟨S32x1x8x128x128, .f32⟩
  | 112 => ⟨S32x1x8x128x128, .f32⟩
  | 113 => ⟨S32x1x8x128x128, .f32⟩
  | 114 => ⟨S8x1x128x128x32, .f32⟩
  | 115 => ⟨S32x1x8x128x128, .f32⟩
  | 116 => ⟨S32x1x8x128x128, .f32⟩
  | 117 => ⟨S1x1x8x128x1, .f32⟩
  | 118 => ⟨S32x1x8x128x128, .f32⟩
  | 119 => ⟨S32x1x8x128x128, .f32⟩
  | 120 => ⟨S32x1x8x128x128, .f32⟩
  | 121 => ⟨S32x1x8x128x128, .f32⟩
  | 122 => ⟨S1x8x32x128x128, .f32⟩
  | 123 => ⟨S1x8x4096x128, .f32⟩
  | 124 => ⟨S1x8x4096x128, .f32⟩
  | 125 => ⟨S1x8x4096x128, .f32⟩
  | 126 => ⟨S1x8x4096x128, .f32⟩
  | 127 => ⟨S128, .f32⟩
  | _ => ⟨S4096x7168, .f32⟩

abbrev hbmTy0_1 (i : Nat) : BufTy := match i % 128 with
  | 0 => ⟨S128x1, .f32⟩
  | 1 => ⟨S1x128, .f32⟩
  | 2 => ⟨S128x128, .f32⟩
  | 3 => ⟨S128x128, .f32⟩
  | 4 => ⟨S128x128, .f32⟩
  | 5 => ⟨S_, .f32⟩
  | 6 => ⟨S128x128, .f32⟩
  | 7 => ⟨S128x128, .i1⟩
  | 8 => ⟨S8x1x1, .f32⟩
  | 9 => ⟨S_, .f32⟩
  | 10 => ⟨S128x128, .f32⟩
  | 11 => ⟨S128x128, .f32⟩
  | 12 => ⟨S1x128x128, .f32⟩
  | 13 => ⟨S8x128x128, .f32⟩
  | 14 => ⟨S8x128x128, .f32⟩
  | 15 => ⟨S8x128x128, .f32⟩
  | 16 => ⟨S8x128x128, .f32⟩
  | 17 => ⟨S_, .f32⟩
  | 18 => ⟨S_, .f32⟩
  | 19 => ⟨S8x128x128, .i1⟩
  | 20 => ⟨S8x128x128, .f32⟩
  | 21 => ⟨S8x128x128, .f32⟩
  | 22 => ⟨S8x1, .f32⟩
  | 23 => ⟨S_, .f32⟩
  | 24 => ⟨S128, .f32⟩
  | 25 => ⟨S128, .f32⟩
  | 26 => ⟨S1x128, .f32⟩
  | 27 => ⟨S8x128, .f32⟩
  | 28 => ⟨S8x128, .f32⟩
  | 29 => ⟨S8x128, .f32⟩
  | 30 => ⟨S8x128, .f32⟩
  | 31 => ⟨S8x128x1, .f32⟩
  | 32 => ⟨S8x1, .f32⟩
  | 33 => ⟨S_, .f32⟩
  | 34 => ⟨S128, .f32⟩
  | 35 => ⟨S128, .f32⟩
  | 36 => ⟨S1x128, .f32⟩
  | 37 => ⟨S8x128, .f32⟩
  | 38 => ⟨S8x128, .f32⟩
  | 39 => ⟨S8x128, .f32⟩
  | 40 => ⟨S8x128, .f32⟩
  | 41 => ⟨S8x128x1, .f32⟩
  | 42 => ⟨S32, .i32⟩
  | 43 => ⟨S32x1, .i32⟩
  | 44 => ⟨S32, .i32⟩
  | 45 => ⟨S1x32, .i32⟩
  | 46 => ⟨S32x32, .i32⟩
  | 47 => ⟨S32x32, .i32⟩
  | 48 => ⟨S32x32, .i32⟩
  | 49 => ⟨S_, .i32⟩
  | 50 => ⟨S32x32, .i32⟩
  | 51 => ⟨S32x32, .i32⟩
  | 52 => ⟨S_, .i32⟩
  | 53 => ⟨S32x32, .i32⟩
  | 54 => ⟨S32x32, .i1⟩
  | 55 => ⟨S8x1x1, .f32⟩
  | 56 => ⟨S_, .f32⟩
  | 57 => ⟨S8x1x1, .f32⟩
  | 58 => ⟨S8x1x1, .f32⟩
  | 59 => ⟨S_, .i32⟩
  | 60 => ⟨S32x32, .i32⟩
  | 61 => ⟨S32x32, .i32⟩
  | 62 => ⟨S32x32, .f32⟩
  | 63 => ⟨S1x32x32, .f32⟩
  | 64 => ⟨S8x32x32, .f32⟩
  | 65 => ⟨S8x32x32, .f32⟩
  | 66 => ⟨S8x32x32, .f32⟩
  | 67 => ⟨S8x32x32, .f32⟩
  | 68 => ⟨S_, .f32⟩
  | 69 => ⟨S_, .f32⟩
  | 70 => ⟨S8x32x32, .i1⟩
  | 71 => ⟨S8x32x32, .f32⟩
  | 72 => ⟨S8x32x32, .f32⟩
  | 73 => ⟨S1x8x32x128x128, .f32⟩
  | 74 => ⟨S32x1x8x128x128, .f32⟩
  | 75 => ⟨S1x8x32x128x128, .f32⟩
  | 76 => ⟨S32x1x8x128x128, .f32⟩
  | 77 => ⟨S1x8x32x128x128, .f32⟩
  | 78 => ⟨S32x1x8x128x128, .f32⟩
  | 79 => ⟨S32x1x8x128x128, .f32⟩
  | 80 => ⟨S1x1x8x128x128, .f32⟩
  | 81 => ⟨S32x1x8x128x128, .f32⟩
  | 82 => ⟨S32x1x8x128x128, .f32⟩
  | 83 => ⟨S1x1x8x128x1, .f32⟩
  | 84 => ⟨S32x1x8x128x128, .f32⟩
  | 85 => ⟨S32x1x8x128x128, .f32⟩
  | 86 => ⟨S32x1x8x128x128, .f32⟩
  | 87 => ⟨S8x1x128x128x32, .f32⟩
  | 88 => ⟨S32x1x8x128x128, .f32⟩
  | 89 => ⟨S32x1x8x128x128, .f32⟩
  | 90 => ⟨S1x1x8x128x1, .f32⟩
  | 91 => ⟨S32x1x8x128x128, .f32⟩
  | 92 => ⟨S32x1x8x128x128, .f32⟩
  | 93 => ⟨S32x1x8x128x128, .f32⟩
  | 94 => ⟨S32x1x8x128x128, .f32⟩
  | 95 => ⟨S1x8x32x128x128, .f32⟩
  | 96 => ⟨S1x8x4096x128, .f32⟩
  | 97 => ⟨S1x8x4096x128, .f32⟩
  | 98 => ⟨S1x8x4096x128, .f32⟩
  | 99 => ⟨S1x8x4096x128, .f32⟩
  | 100 => ⟨S_, .f32⟩
  | 101 => ⟨S1x8x4096, .f32⟩
  | 102 => ⟨S1x8x4096x1, .f32⟩
  | 103 => ⟨S_, .f32⟩
  | 104 => ⟨S1x8x4096x1, .f32⟩
  | 105 => ⟨S1x8x4096x1, .f32⟩
  | 106 => ⟨S_, .f32⟩
  | 107 => ⟨S1x8x4096x1, .f32⟩
  | 108 => ⟨S1x8x4096x1, .f32⟩
  | 109 => ⟨S1x8x4096x1, .f32⟩
  | 110 => ⟨S1x8x4096x128, .f32⟩
  | 111 => ⟨S1x8x4096x128, .f32⟩
  | 112 => ⟨S1x4096x8x128, .f32⟩
  | 113 => ⟨S4096x1024, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x1024, .f32⟩
  | 127 => ⟨S4096x1024, .f32⟩
  | _ => ⟨S4096x7168, .f32⟩

abbrev hbmTy0_2 (i : Nat) : BufTy := match i % 128 with
  | 0 => ⟨S1x4096x8x128, .f32⟩
  | 1 => ⟨S4096x1024, .f32⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c : Ref sig .tc := ⟨.hbm, 76, rfl⟩
abbrev main_v63 : Ref sig .tc := ⟨.hbm, 77, rfl⟩
abbrev main_v64 : Ref sig .tc := ⟨.hbm, 78, rfl⟩
abbrev main_c_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_c_7 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_9 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_10 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_11 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v122 : Ref sig .tc := ⟨.hbm, 149, rfl⟩
abbrev main_v123 : Ref sig .tc := ⟨.hbm, 150, rfl⟩
abbrev main_cst_12 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_13 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_c_14 : Ref sig .tc := ⟨.hbm, 177, rfl⟩
abbrev main_v148 : Ref sig .tc := ⟨.hbm, 178, rfl⟩
abbrev main_v149 : Ref sig .tc := ⟨.hbm, 179, rfl⟩
abbrev main_c_15 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_16 : Ref sig .tc := ⟨.hbm, 184, rfl⟩
abbrev main_v153 : Ref sig .tc := ⟨.hbm, 185, rfl⟩
abbrev main_v154 : Ref sig .tc := ⟨.hbm, 186, rfl⟩
abbrev main_c_17 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_18 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_cst_19 : Ref sig .tc := ⟨.hbm, 228, rfl⟩
abbrev main_v191 : Ref sig .tc := ⟨.hbm, 229, rfl⟩
abbrev main_v192 : Ref sig .tc := ⟨.hbm, 230, rfl⟩
abbrev main_cst_20 : Ref sig .tc := ⟨.hbm, 231, rfl⟩
abbrev main_v193 : Ref sig .tc := ⟨.hbm, 232, rfl⟩
abbrev main_v194 : Ref sig .tc := ⟨.hbm, 233, rfl⟩
abbrev main_cst_21 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_call8_v0 : Ref sig .tc := ⟨.hbm, 246, rfl⟩
abbrev main_call8_v1 : Ref sig .tc := ⟨.hbm, 247, rfl⟩
abbrev main_call8_cst : Ref sig .tc := ⟨.hbm, 248, rfl⟩
abbrev main_call8_v2 : Ref sig .tc := ⟨.hbm, 249, rfl⟩
abbrev main_call8_v3 : Ref sig .tc := ⟨.hbm, 250, rfl⟩
abbrev main_call8_cst_0 : Ref sig .tc := ⟨.hbm, 251, rfl⟩
abbrev main_call8_v4 : Ref sig .tc := ⟨.hbm, 252, rfl⟩
abbrev main_call8_v5 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩

abbrev nD : Nat := 1
abbrev τ : Topo := Topo.v7x

variable {F : FTy → Type} [FloatOps F]
-- ==== Kernel14.lean ====
abbrev S8x1x2048 : Shape := ⟨3, ![8, 1, 2048]⟩
abbrev S8x2048 : Shape := ⟨2, ![8, 2048]⟩
abbrev S8x1x1024 : Shape := ⟨3, ![8, 1, 1024]⟩
abbrev S8x1x8 : Shape := ⟨3, ![8, 1, 8]⟩
abbrev S8 : Shape := ⟨1, ![8]⟩
abbrev S1x2048 : Shape := ⟨2, ![1, 2048]⟩
abbrev S2048 : Shape := ⟨1, ![2048]⟩
abbrev S1x1024 : Shape := ⟨2, ![1, 1024]⟩
abbrev S1x8 : Shape := ⟨2, ![1, 8]⟩
abbrev S_ : Shape := ⟨0, ![]⟩
abbrev S1 : Shape := ⟨1, ![1]⟩
abbrev S8x1024 : Shape := ⟨2, ![8, 1024]⟩
abbrev S8x8 : Shape := ⟨2, ![8, 8]⟩
abbrev S8x1 : Shape := ⟨2, ![8, 1]⟩
abbrev S8x7185 : Shape := ⟨2, ![8, 7185]⟩
abbrev S8x8192 : Shape := ⟨2, ![8, 8192]⟩
abbrev S8x64x128 : Shape := ⟨3, ![8, 64, 128]⟩
abbrev S1024 : Shape := ⟨1, ![1024]⟩
abbrev S7185 : Shape := ⟨1, ![7185]⟩
abbrev S8192 : Shape := ⟨1, ![8192]⟩
abbrev S64x128 : Shape := ⟨2, ![64, 128]⟩
abbrev S1x64x128 : Shape := ⟨3, ![1, 64, 128]⟩

abbrev nBuf : Space → Nat
  | .hbm => 72
  | .vmem => 8
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x2048, .f32⟩
  | .hbm, ⟨3, _⟩ => ⟨S8x1x1024, .f32⟩
  | .hbm, ⟨4, _⟩ => ⟨S8x1x8, .f32⟩
  | .hbm, ⟨5, _⟩ => ⟨S8x1x8, .f32⟩
  | .hbm, ⟨6, _⟩ => ⟨S8, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S1x1024, .f32⟩
  | .hbm, ⟨11, _⟩ => ⟨S1x8, .f32⟩
  | .hbm, ⟨12, _⟩ => ⟨S1x8, .f32⟩
  | .hbm, ⟨13, _⟩ => ⟨S1x2048, .f32⟩
  | .hbm, ⟨14, _⟩ => ⟨S1x2048, .f32⟩
  | .hbm, ⟨15, _⟩ => ⟨S2048, .f32⟩
  | .hbm, ⟨16, _⟩ => ⟨S1x1024, .f32⟩
  | .hbm, ⟨17, _⟩ => ⟨S1x8, .f32⟩
  | .hbm, ⟨18, _⟩ => ⟨S1x8, .f32⟩
  | .hbm, ⟨19, _⟩ => ⟨S1x2048, .f32⟩
  | .hbm, ⟨20, _⟩ => ⟨S1x2048, .f32⟩
  | .hbm, ⟨21, _⟩ => ⟨S2048, .f32⟩
  | .hbm, ⟨22, _⟩ => ⟨S1x1024, .f32⟩
  | .hbm, ⟨23, _⟩ => ⟨S1x8, .f32⟩
  | .hbm, ⟨24, _⟩ => ⟨S1x8, .f32⟩
  | .hbm, ⟨25, _⟩ => ⟨S_, .f32⟩
  | .hbm, ⟨26, _⟩ => ⟨S1, .f32⟩
  | .hbm, ⟨27, _⟩ => ⟨S8x2048, .f32⟩
  | .hbm, ⟨28, _⟩ => ⟨S8x2048, .f32⟩
  | .hbm, ⟨29, _⟩ => ⟨S8x1024, .f32⟩
  | .hbm, ⟨30, _⟩ => ⟨S8x8, .f32⟩
  | .hbm, ⟨31, _⟩ => ⟨S8x8, .f32⟩
  | .hbm, ⟨32, _⟩ => ⟨S8x1, .f32⟩
  | .hbm, ⟨33, _⟩ => ⟨S8x7185, .f32⟩
  | .hbm, ⟨34, _⟩ => ⟨S_, .i32⟩
  | .hbm, ⟨35, _⟩ => ⟨S_, .f32⟩
  | .hbm, ⟨36, _⟩ => ⟨S8x8192, .f32⟩
  | .hbm, ⟨37, _⟩ => ⟨S8x64x128, .f32⟩
  | .hbm, ⟨38, _⟩ => ⟨S2048, .f32⟩
  | .hbm, ⟨39, _⟩ => ⟨S2048, .f32⟩
  | .hbm, ⟨40, _⟩ => ⟨S1024, .f32⟩
  | .hbm, ⟨41, _⟩ => ⟨S8, .f32⟩
  | .hbm, ⟨42, _⟩ => ⟨S8, .f32⟩
  | .hbm, ⟨43, _⟩ => ⟨S7185, .f32⟩
  | .hbm, ⟨44, _⟩ => ⟨S_, .i32⟩
  | .hbm, ⟨45, _⟩ => ⟨S_, .f32⟩
  | .hbm, ⟨46, _⟩ => ⟨S8192, .f32⟩
  | .hbm, ⟨47, _⟩ => ⟨S64x128, .f32⟩
  | .hbm, ⟨48, _⟩ => ⟨S2048, .f32⟩
  | .hbm, ⟨49, _⟩ => ⟨S2048, .f32⟩
  | .hbm, ⟨50, _⟩ => ⟨S1024, .f32⟩
  | .hbm, ⟨51, _⟩ => ⟨S8, .f32⟩
  | .hbm, ⟨52, _⟩ => ⟨S8, .f32⟩
  | .hbm, ⟨53, _⟩ => ⟨S7185, .f32⟩
  | .hbm, ⟨54, _⟩ => ⟨S_, .i32⟩
  | .hbm, ⟨55, _⟩ => ⟨S_, .f32⟩
  | .hbm, ⟨56, _⟩ => ⟨S8192, .f32⟩
  | .hbm, ⟨57, _⟩ => ⟨S64x128, .f32⟩
  | .hbm, ⟨58, _⟩ => ⟨S2048, .f32⟩
  | .hbm, ⟨59, _⟩ => ⟨S2048, .f32⟩
  | .hbm, ⟨60, _⟩ => ⟨S1024, .f32⟩
  | .hbm, ⟨61, _⟩ => ⟨S8, .f32⟩
  | .hbm, ⟨62, _⟩ => ⟨S8, .f32⟩
  | .hbm, ⟨63, _⟩ => ⟨S7185, .f32⟩
  | .hbm, ⟨64, _⟩ => ⟨S_, .i32⟩
  | .hbm, ⟨65, _⟩ => ⟨S_, .f32⟩
  | .hbm, ⟨66, _⟩ => ⟨S8192, .f32⟩
  | .hbm, ⟨67, _⟩ => ⟨S64x128, .f32⟩
  | .hbm, ⟨68, _⟩ => ⟨S64x128, .f32⟩
  | .hbm, ⟨69, _⟩ => ⟨S64x128, .f32⟩
  | .hbm, ⟨70, _⟩ => ⟨S64x128, .f32⟩
  | .hbm, ⟨71, _⟩ => ⟨S64x128, .f32⟩
  | .local _ .vmem, ⟨0, _⟩ => ⟨S8x64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_0 : Ref sig .tc := ⟨.hbm, 44, rfl⟩
abbrev main_call1_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_1 : Ref sig .tc := ⟨.hbm, 54, rfl⟩
abbrev main_call2_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_2 : Ref sig .tc := ⟨.hbm, 64, rfl⟩
abbrev main_call3_v0 : Ref sig .tc := ⟨.hbm, 65, rfl⟩
abbrev main_v32 : Ref sig .tc := ⟨.hbm, 66, rfl⟩
abbrev main_v33 : Ref sig .tc := ⟨.hbm, 67, rfl⟩
abbrev main_v34_0 : Ref sig .tc := ⟨.hbm, 68, rfl⟩
abbrev main_v34_1 : Ref sig .tc := ⟨.hbm, 69, rfl⟩
abbrev main_v34_2 : Ref sig .tc := ⟨.hbm, 70, rfl⟩
abbrev main_v34_3 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference14Ideal.lean ====
abbrev S8x1x2048 : Shape := ⟨3, ![8, 1, 2048]⟩
abbrev S8x2048 : Shape := ⟨2, ![8, 2048]⟩
abbrev S8x1x1024 : Shape := ⟨3, ![8, 1, 1024]⟩
abbrev S8x1x8 : Shape := ⟨3, ![8, 1, 8]⟩
abbrev S8 : Shape := ⟨1, ![8]⟩
abbrev S1x2048 : Shape := ⟨2, ![1, 2048]⟩
abbrev S2048 : Shape := ⟨1, ![2048]⟩
abbrev S1x1024 : Shape := ⟨2, ![1, 1024]⟩
abbrev S1x8 : Shape := ⟨2, ![1, 8]⟩
abbrev S_ : Shape := ⟨0, ![]⟩
abbrev S1 : Shape := ⟨1, ![1]⟩
abbrev S1024 : Shape := ⟨1, ![1024]⟩
abbrev S7185 : Shape := ⟨1, ![7185]⟩
abbrev S8192 : Shape := ⟨1, ![8192]⟩
abbrev S64x128 : Shape := ⟨2, ![64, 128]⟩

abbrev nBuf : Space → Nat
  | .hbm => 115
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x2048, .f32⟩
  | .hbm, ⟨3, _⟩ => ⟨S8x1x1024, .f32⟩
  | .hbm, ⟨4, _⟩ => ⟨S8x1x8, .f32⟩
  | .hbm, ⟨5, _⟩ => ⟨S8x1x8, .f32⟩
  | .hbm, ⟨6, _⟩ => ⟨S8, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S1x1024, .f32⟩
  | .hbm, ⟨11, _⟩ => ⟨S1x8, .f32⟩
  | .hbm, ⟨12, _⟩ => ⟨S1x8, .f32⟩
  | .hbm, ⟨13, _⟩ => ⟨S1x2048, .f32⟩
  | .hbm, ⟨14, _⟩ => ⟨S1x2048, .f32⟩
  | .hbm, ⟨15, _⟩ => ⟨S2048, .f32⟩
  | .hbm, ⟨16, _⟩ => ⟨S1x1024, .f32⟩
  | .hbm, ⟨17, _⟩ => ⟨S1x8, .f32⟩
  | .hbm, ⟨18, _⟩ => ⟨S1x8, .f32⟩
  | .hbm, ⟨19, _⟩ => ⟨S1x2048, .f32⟩
  | .hbm, ⟨20, _⟩ => ⟨S1x2048, .f32⟩
  | .hbm, ⟨21, _⟩ => ⟨S2048, .f32⟩
  | .hbm, ⟨22, _⟩ => ⟨S1x1024, .f32⟩
  | .hbm, ⟨23, _⟩ => ⟨S1x8, .f32⟩
  | .hbm, ⟨24, _⟩ => ⟨S1x8, .f32⟩
  | .hbm, ⟨25, _⟩ => ⟨S_, .f32⟩
  | .hbm, ⟨26, _⟩ => ⟨S1, .f32⟩
  | .hbm, ⟨27, _⟩ => ⟨S2048, .f32⟩
  | .hbm, ⟨28, _⟩ => ⟨S2048, .f32⟩
  | .hbm, ⟨29, _⟩ => ⟨S1024, .f32⟩
  | .hbm, ⟨30, _⟩ => ⟨S8, .f32⟩
  | .hbm, ⟨31, _⟩ => ⟨S8, .f32⟩
  | .hbm, ⟨32, _⟩ => ⟨S7185, .f32⟩
  | .hbm, ⟨33, _⟩ => ⟨S_, .i32⟩
  | .hbm, ⟨34, _⟩ => ⟨S_, .f32⟩
  | .hbm, ⟨35, _⟩ => ⟨S8192, .f32⟩
  | .hbm, ⟨36, _⟩ => ⟨S64x128, .f32⟩
  | .hbm, ⟨37, _⟩ => ⟨S2048, .f32⟩
  | .hbm, ⟨38, _⟩ => ⟨S2048, .f32⟩
  | .hbm, ⟨39, _⟩ => ⟨S1024, .f32⟩
  | .hbm, ⟨40, _⟩ => ⟨S8, .f32⟩
  | .hbm, ⟨41, _⟩ => ⟨S8, .f32⟩
  | .hbm, ⟨42, _⟩ => ⟨S7185, .f32⟩
  | .hbm, ⟨43, _⟩ => ⟨S_, .i32⟩
  | .hbm, ⟨44, _⟩ => ⟨S_, .f32⟩
  | .hbm, ⟨45, _⟩ => ⟨S8192, .f32⟩
  | .hbm, ⟨46, _⟩ => ⟨S64x128, .f32⟩
  | .hbm, ⟨47, _⟩ => ⟨S2048, .f32⟩
  | .hbm, ⟨48, _⟩ => ⟨S2048, .f32⟩
  | .hbm, ⟨49, _⟩ => ⟨S1024, .f32⟩
  | .hbm, ⟨50, _⟩ => ⟨S8, .f32⟩
  | .hbm, ⟨51, _⟩ => ⟨S8, .f32⟩
  | .hbm, ⟨52, _⟩ => ⟨S7185, .f32⟩
  | .hbm, ⟨53, _⟩ => ⟨S_, .i32⟩
  | .hbm, ⟨54, _⟩ => ⟨S_, .f32⟩
  | .hbm, ⟨55, _⟩ => ⟨S8192, .f32⟩
  | .hbm, ⟨56, _⟩ => ⟨S64x128, .f32⟩
  | .hbm, ⟨57, _⟩ => ⟨S_, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S1x1024, .f32⟩
  | .hbm, ⟨65, _⟩ => ⟨S_, .f32⟩
  | .hbm, ⟨66, _⟩ => ⟨S1x8, .f32⟩
  | .hbm, ⟨67, _⟩ => ⟨S_, .f32⟩
  | .hbm, ⟨68, _⟩ => ⟨S1x8, .f32⟩
  | .hbm, ⟨69, _⟩ => ⟨S_, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1024, .f32⟩
  | .hbm, ⟨74, _⟩ => ⟨S8, .f32⟩
  | .hbm, ⟨75, _⟩ => ⟨S8, .f32⟩
  | .hbm, ⟨76, _⟩ => ⟨S1, .f32⟩
  | .hbm, ⟨77, _⟩ => ⟨S7185, .f32⟩
  | .hbm, ⟨78, _⟩ => ⟨S_, .i32⟩
  | .hbm, ⟨79, _⟩ => ⟨S_, .f32⟩
  | .hbm, ⟨80, _⟩ => ⟨S8192, .f32⟩
  | .hbm, ⟨81, _⟩ => ⟨S64x128, .f32⟩
  | .hbm, ⟨82, _⟩ => ⟨S_, .f32⟩
  | .hbm, ⟨83, _⟩ => ⟨S64x128, .f32⟩
  | .hbm, ⟨84, _⟩ => ⟨S64x128, .f32⟩
  | .hbm, ⟨85, _⟩ => ⟨S_, .f32⟩
  | .hbm, ⟨86, _⟩ => ⟨S64x128, .f32⟩
  | .hbm, ⟨87, _⟩ => ⟨S64x128, .f32⟩
  | .hbm, ⟨88, _⟩ => ⟨S64x128, .f32⟩
  | .hbm, ⟨89, _⟩ => ⟨S_, .f32⟩
  | .hbm, ⟨90, _⟩ => ⟨S64x128, .f32⟩
  | .hbm, ⟨91, _⟩ => ⟨S64x128, .f32⟩
  | .hbm, ⟨92, _⟩ => ⟨S64x128, .f32⟩
  | .hbm, ⟨93, _⟩ => ⟨S_, .f32⟩
  | .hbm, ⟨94, _⟩ => ⟨S64x128, .f32⟩
  | .hbm, ⟨95, _⟩ => ⟨S64x128, .f32⟩
  | .hbm, ⟨96, _⟩ => ⟨S64x128, .f32⟩
  | .hbm, ⟨97, _⟩ => ⟨S_, .f32⟩
  | .hbm, ⟨98, _⟩ => ⟨S64x128, .f32⟩
  | .hbm, ⟨99, _⟩ => ⟨S64x128, .f32⟩
  | .hbm, ⟨100, _⟩ => ⟨S_, .f32⟩
  | .hbm, ⟨101, _⟩ => ⟨S64x128, .f32⟩
  | .hbm, ⟨102, _⟩ => ⟨S64x128, .f32⟩
  | .hbm, ⟨103, _⟩ => ⟨S64x128, .f32⟩
  | .hbm, ⟨104, _⟩ => ⟨S_, .f32⟩
  | .hbm, ⟨105, _⟩ => ⟨S64x128, .f32⟩
  | .hbm, ⟨106, _⟩ => ⟨S64x128, .f32⟩
  | .hbm, ⟨107, _⟩ => ⟨S64x128, .f32⟩
  | .hbm, ⟨108, _⟩ => ⟨S_, .f32⟩
  | .hbm, ⟨109, _⟩ => ⟨S64x128, .f32⟩
  | .hbm, ⟨110, _⟩ => ⟨S64x128, .f32⟩
  | .hbm, ⟨111, _⟩ => ⟨S64x128, .f32⟩
  | .hbm, ⟨112, _⟩ => ⟨S_, .f32⟩
  | .hbm, ⟨113, _⟩ => ⟨S64x128, .f32⟩
  | .hbm, ⟨114, _⟩ => ⟨S64x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_0 : Ref sig .tc := ⟨.hbm, 43, rfl⟩
abbrev main_call1_v0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_1 : Ref sig .tc := ⟨.hbm, 53, rfl⟩
abbrev main_call2_v0 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_cst_8 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_9 : Ref sig .tc := ⟨.hbm, 78, rfl⟩
abbrev main_call3_v0 : Ref sig .tc := ⟨.hbm, 79, rfl⟩
abbrev main_v39 : Ref sig .tc := ⟨.hbm, 80, rfl⟩
abbrev main_v40 : Ref sig .tc := ⟨.hbm, 81, rfl⟩
abbrev main_cst_10 : Ref sig .tc := ⟨.hbm, 82, rfl⟩
abbrev main_v41 : Ref sig .tc := ⟨.hbm, 83, rfl⟩
abbrev main_v42 : Ref sig .tc := ⟨.hbm, 84, rfl⟩
abbrev main_cst_11 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_13 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_cst_15 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_16 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_17 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_18 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Kernel15.lean ====
abbrev S4096x5632 : Shape := ⟨2, ![4096, 5632]⟩
abbrev S2048x5632 : Shape := ⟨2, ![2048, 5632]⟩
abbrev S4096x8x704 : Shape := ⟨3, ![4096, 8, 704]⟩
abbrev S8x4096x704 : Shape := ⟨3, ![8, 4096, 704]⟩
abbrev S5632x2048 : Shape := ⟨2, ![5632, 2048]⟩
abbrev S8x704x2048 : Shape := ⟨3, ![8, 704, 2048]⟩
abbrev S4096x2048 : Shape := ⟨2, ![4096, 2048]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S704x2048 : Shape := ⟨2, ![704, 2048]⟩

abbrev nBuf : Space → Nat
  | .hbm => 8
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x8x704, .bf16⟩
  | .hbm, ⟨3, _⟩ => ⟨S8x4096x704, .bf16⟩
  | .hbm, ⟨4, _⟩ => ⟨S5632x2048, .bf16⟩
  | .hbm, ⟨5, _⟩ => ⟨S8x704x2048, .bf16⟩
  | .hbm, ⟨6, _⟩ => ⟨S5632x2048, .bf16⟩
  | .hbm, ⟨7, _⟩ => ⟨S4096x2048, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S4x2048x896 : Shape := ⟨3, ![4, 2048, 896]⟩
abbrev S4096x7168 : Shape := ⟨2, ![4096, 7168]⟩
abbrev S4 : Shape := ⟨1, ![4]⟩
abbrev S1024x2048 : Shape := ⟨2, ![1024, 2048]⟩
abbrev S1x2048x896 : Shape := ⟨3, ![1, 2048, 896]⟩
abbrev S1 : Shape := ⟨1, ![1]⟩
abbrev S1024x896 : Shape := ⟨2, ![1024, 896]⟩
abbrev S2048x896 : Shape := ⟨2, ![2048, 896]⟩

abbrev nBuf : Space → Nat
  | .hbm => 4
  | .vmem => 6
  | .smem => 2
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .smem, ⟨0, _⟩ => ⟨S4, .i32⟩
  | .local _ .smem, ⟨1, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S4) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2048 : Shape := ⟨2, ![4096, 2048]⟩
abbrev S4x2048x896 : Shape := ⟨3, ![4, 2048, 896]⟩
abbrev S4096x7168 : Shape := ⟨2, ![4096, 7168]⟩
abbrev S1x2048x896 : Shape := ⟨3, ![1, 2048, 896]⟩
abbrev S2048x896 : Shape := ⟨2, ![2048, 896]⟩
abbrev S2048x3584 : Shape := ⟨2, ![2048, 3584]⟩
abbrev S4096x1792 : Shape := ⟨2, ![4096, 1792]⟩
abbrev S4096x3584 : Shape := ⟨2, ![4096, 3584]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S1x2048x896, .bf16⟩
  | .hbm, ⟨4, _⟩ => ⟨S2048x896, .bf16⟩
  | .hbm, ⟨5, _⟩ => ⟨S1x2048x896, .bf16⟩
  | .hbm, ⟨6, _⟩ => ⟨S2048x896, .bf16⟩
  | .hbm, ⟨7, _⟩ => ⟨S1x2048x896, .bf16⟩
  | .hbm, ⟨8, _⟩ => ⟨S2048x896, .bf16⟩
  | .hbm, ⟨9, _⟩ => ⟨S1x2048x896, .bf16⟩
  | .hbm, ⟨10, _⟩ => ⟨S2048x896, .bf16⟩
  | .hbm, ⟨11, _⟩ => ⟨S2048x3584, .bf16⟩
  | .hbm, ⟨12, _⟩ => ⟨S4096x1792, .f32⟩
  | .hbm, ⟨13, _⟩ => ⟨S4096x2048, .f32⟩
  | .hbm, ⟨14, _⟩ => ⟨S2048x3584, .f32⟩
  | .hbm, ⟨15, _⟩ => ⟨S4096x3584, .f32⟩
  | .hbm, ⟨16, _⟩ => ⟨S4096x1792, .f32⟩
  | .hbm, ⟨17, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Reals.lean ====
/- Hand-written, untrusted: THE SCALAR FACTS. The ideal instance's floats are extended reals; here are the few equations of
   extended reals that the value claims rest on, with no array in sight. -/
module

public import Idealize.ShloMosaic.PureOps.Ideal.Laws

@[expose] public section

noncomputable section

namespace Cert.Proof.Reals

open Idealize.ShloMosaic

/-- An extended real that is a real number. -/
def IsReal (x : EReal) : Prop := ∃ r : ℝ, x = r

theorem isReal_coe (r : ℝ) : IsReal r := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The word of the float one. -/
theorem ofBits_one : Ideal.ofBits .f32 0x3F800000#32 = 1 := by
  simp [Ideal.ofBits, Ideal.ieee]
  rw [← EReal.coe_mul, ← EReal.coe_one]
  norm_num

/-- The word of positive infinity. -/
theorem ofBits_inf : Ideal.ofBits .f32 0x7F800000#32 = ⊤ := by
  simp [Ideal.ofBits, Ideal.ieee]

/-- Taking from zero is negating. -/
theorem zero_sub_eq (x : EReal) : 0 - x = -x := by rw [sub_eq_add_neg, zero_add]

/-- A value whose magnitude is below infinity is a real number. -/
theorem isReal_of_abs_lt {x : EReal} (h : Ideal.cmp .olt (max x (-x)) ⊤ = 1#1) : IsReal x := by
  induction x using EReal.rec with
  | bot => simp [Ideal.cmp] at h
  | coe r => exact ⟨r, rfl⟩
  | top => simp [Ideal.cmp] at h

/-- The printed test of an array for finiteness, read at an element: the element is a real number. -/
theorem isReal_of_test {s t : Shape} {dims : Fin s.rank → Fin t.rank} (h : s.BroadcastsInDim t dims) (x : FVec Ideal t .f32)
    (e : cmpf .olt (Host.absf x) (broadcastInDim t dims h (constant (F := Ideal) s .f32 0x7F800000#32)) = fun _ => 1#1) (i : t.Idx) :
    IsReal (x i) :=
  isReal_of_abs_lt (by
    have e := congrFun e i
    rw [← ofBits_inf]
    exact e)

/-- The logistic function, written as the programs write it. -/
def gate (x : EReal) : EReal := Ideal.div 1 (1 + Ideal.exp (-x))

theorem gate_coe (r : ℝ) : gate r = (((1 + Real.exp (-r))⁻¹ : ℝ) : EReal) := Ideal.logistic_coe r
theorem gate_top : gate ⊤ = 1 := Ideal.logistic_top
theorem gate_bot : gate ⊥ = 0 := Ideal.logistic_bot

theorem isReal_gate (x : EReal) : IsReal (gate x) := by
  induction x using EReal.rec with
  | bot => exact ⟨0, by rw [gate_bot]; rfl⟩
  | coe r => exact ⟨_, gate_coe r⟩
  | top => exact ⟨1, by rw [gate_top]; rfl⟩

/-- The gate's derivative: the factored form the kernel multiplies by and the sum that differentiating
    `x · gate x` gives are the same product with a real cotangent, at every gate input, infinite ones too. -/
theorem silu_grad {d : EReal} (hd : IsReal d) (g : EReal) :
    d * (gate g * (1 + g * (1 - gate g))) = d * gate g + (g * d) * (gate g * (1 - gate g)) := by
  obtain ⟨e, rfl⟩ := hd
  induction g using EReal.rec with
  | bot => simp [gate_bot]
  | coe r =>
    rw [gate_coe]
    generalize (1 + Real.exp (-r))⁻¹ = s
    norm_cast
    ring
  | top =>
    have h1 : (1 : EReal) - 1 = 0 := by rw [← EReal.coe_one, ← EReal.coe_sub, sub_self, EReal.coe_zero]
    simp [gate_top, h1]

end Cert.Proof.Reals

end
-- ==== Proof.FfnAct.lean ====
/- Hand-written, untrusted: THE GATE'S GRADIENT, the two results as functions of the argument arrays (`dgVal`, `duVal`). -/
module

public import proofs.«01_k».proof.Proof.Gen.KernelIdeal
public import proofs.«01_k».proof.Proof.Reals
public import Idealize.ShloMosaic.Lib.Pipeline.ValueKit.Point

@[expose] public section

set_option maxRecDepth 16384

noncomputable section

namespace Cert.Proof.FfnAct

open Cert.KernelIdeal Idealize.ShloMosaic Idealize.ShloMosaic.TcCoe Idealize.SL.Sem Idealize.ShloMosaic.StableHlo
open Cert.Proof.Reals

/-! ## The two results as functions of the arguments -/

/-- The cotangent that reaches the gated product, at a row and a column. -/
def dot (a : FVec Ideal S4096x2048 .bf16) (b : FVec Ideal S5632x2048 .bf16) (r : Fin 4096) (q : Fin 5632) : EReal :=
  ∑ k : Fin 2048, a (ix2 r k) * b (ix2 q k)

/-- The column of the flat array that place `j` of block `b` holds. -/
def col (b : Fin 8) (j : Fin 704) : Fin 5632 := ⟨b.val * 704 + j.val, by omega⟩

/-- The gradient with respect to the gate's input. -/
def dgVal (a : FVec Ideal S4096x2048 .bf16) (b : FVec Ideal S5632x2048 .bf16) (g u : FVec Ideal S4096x5632 .bf16) :
    FVec Ideal S8x4096x704 .bf16 := fun i =>
  let d := dot a b (i 1) (col (i 0) (i 2)) * u (ix2 (i 1) (col (i 0) (i 2)))
  let x := g (ix2 (i 1) (col (i 0) (i 2)))
  d * (gate x * (1 + x * (1 - gate x)))

/-- The gradient with respect to the gated factor. -/
def duVal (a : FVec Ideal S4096x2048 .bf16) (b : FVec Ideal S5632x2048 .bf16) (g : FVec Ideal S4096x5632 .bf16) :
    FVec Ideal S8x4096x704 .bf16 := fun i =>
  let x := g (ix2 (i 1) (col (i 0) (i 2)))
  dot a b (i 1) (col (i 0) (i 2)) * (x * gate x)

end Cert.Proof.FfnAct

end
-- ==== Proof.FfnActKernel.lean ====
/- Hand-written, untrusted: THE GATE'S GRADIENT, THE KERNEL. What each grid point leaves in its two blocks is the two
   functions' values there, and the blocks cover the two arrays. -/
module

public import proofs.«01_k».proof.Proof.Gen.KernelIdeal.Value
public import proofs.«01_k».proof.Proof.FfnAct

@[expose] public section

set_option maxRecDepth 16384

noncomputable section

namespace Cert.Proof.FfnAct

open Cert.KernelIdeal Cert.KernelIdeal.Gen Cert.KernelIdeal.Value Idealize.ShloMosaic Idealize.ShloMosaic.TcCoe Idealize.SL.Sem Idealize.ShloMosaic.StableHlo
open Cert.Proof.Reals

variable (m : (ℓ : Loc nD τ sig) → Buf (Elt Ideal) ℓ)

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)
theorem idx4 : ∀ t : Fin cfg0.N, win0_4.index t = ![(grid0.coords t 0).val, (grid0.coords t 1).val, 0] :=
  (by decide +kernel : ∀ t : Fin grid0.N, _)
theorem idx5 : ∀ t : Fin cfg0.N, win0_5.index t = ![(grid0.coords t 0).val, (grid0.coords t 1).val, 0] :=
  (by decide +kernel : ∀ t : Fin grid0.N, _)

theorem final4 (c : Dev nD) : (dats m 0 c).arrAt 4 cfg0.N
    = dgVal (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay4, k0_pay3, k0_pay2, k0_pay1, dgVal, dot, gate]
  simp only [zero_sub_eq]
  blk_point [iblk, V, idx0 t, idx1 t, idx2 t, idx3 t, idx4 t, col]

theorem final5 (c : Dev nD) : (dats m 0 c).arrAt 5 cfg0.N
    = duVal (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]; frame_out
  pointwise [k0_pay5, k0_pay3, k0_pay2, k0_pay1, duVal, dot, gate]
  simp only [zero_sub_eq]
  blk_point [iblk, V, idx0 t, idx1 t, idx2 t, idx5 t, col]

end Cert.Proof.FfnAct

end
-- ==== Proof.FfnActRef.lean ====
/- Hand-written, untrusted: THE GATE'S GRADIENT, THE REFERENCE. -/
module

public import proofs.«01_k».proof.Proof.Gen.ReferenceIdeal.Read
public import proofs.«01_k».proof.Proof.FfnAct

@[expose] public section

set_option maxRecDepth 16384

noncomputable section

namespace Cert.Proof.FfnAct

open Cert.KernelIdeal Cert.ReferenceIdeal.Read Idealize.ShloMosaic Idealize.ShloMosaic.TcCoe Idealize.SL.Sem Idealize.ShloMosaic.StableHlo
open Cert.Proof.Reals

variable (a : FVec Ideal S4096x2048 .bf16) (b : FVec Ideal S5632x2048 .bf16) (g u : FVec Ideal S4096x5632 .bf16)

theorem isReal_dot (ha : ∀ i, IsReal (a i)) (hb : ∀ i, IsReal (b i)) (r : Fin 4096) (q : Fin 5632) : IsReal (dot a b r q) :=
  IsReal.sum _ fun _ => (ha _).mul (hb _)

/-- The reference's second result. -/
theorem ref_v16 : val_main_v16 (F := Ideal) a b g = duVal a b g := by
  funext i
  pointwise [val_main_v16, val_main_v15, val_main_v14, val_main_v8, val_main_v7, val_main_v6, val_main_v4, val_main_v2_0,
    val_main_v2_2, val_main_call0_v4, val_main_call0_cst_0, val_main_call0_v3, val_main_call0_v2, val_main_call0_cst,
    val_main_call0_v1, val_main_call0_v0, val_main_v0, duVal, dot, gate]
  exact mul_comm _ _

/-- With real cotangents the reference's sum is the kernel's product. -/
theorem ref_v13 (ha : ∀ i, IsReal (a i)) (hb : ∀ i, IsReal (b i)) (hu : ∀ i, IsReal (u i)) :
    val_main_v13 (F := Ideal) a b g u = dgVal a b g u := by
  funext i
  refine Eq.trans ?_ (silu_grad ((isReal_dot a b ha hb _ _).mul (hu _)) _).symm
  pointwise [val_main_v13, val_main_v12, val_main_v11, val_main_v10, val_main_call1_v2, val_main_call1_v1, val_main_call1_v0,
    val_main_v9, val_main_v7, val_main_v6, val_main_v4, val_main_v2_1, val_main_call0_v7, val_main_call0_v6, val_main_call0_cst_1,
    val_main_v2_2, val_main_call0_v4, val_main_call0_cst_0, val_main_call0_v3, val_main_call0_v2, val_main_call0_cst,
    val_main_call0_v1, val_main_call0_v0, val_main_v0, val_main_v1, dot, gate]
  rfl

end Cert.Proof.FfnAct

end
-- ==== Proof.FfnActClaim.lean ====
/- Hand-written, untrusted: THE GATE'S GRADIENT, THE CLAIMS: what the precondition says of the arguments, the frames, and the
   value. -/
module

public import proofs.«01_k».proof.Defs
public import proofs.«01_k».proof.Proof.Gen.Kernel.Frame
public import proofs.«01_k».proof.Proof.Gen.ReferenceIdeal.Run
public import proofs.«01_k».proof.Proof.Gen.Pre_finite_ffn
public import proofs.«01_k».proof.Proof.FfnActKernel
public import proofs.«01_k».proof.Proof.FfnActRef
public import Idealize.ShloMosaic.Adequacy
public import Idealize.ShloMosaic.Init

@[expose] public section

set_option maxRecDepth 16384

noncomputable section

namespace Cert.Proof.FfnAct

open Idealize.ShloMosaic Idealize.ShloMosaic.TcCoe Idealize.SL.Sem Cert.KernelIdeal Cert.Proof.Reals

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_pre : Cert.quiescent_KernelIdeal_pre_finite_ffn := fun m ρ _ => Cert.KernelIdeal.Gen.frame m ρ
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_reference_pre : Cert.quiescent_ReferenceIdeal_pre_finite_ffn := fun m ρ _ => frame_reference m ρ trivial

/-- The precondition's three tests say that the cotangent, the projection and the linear half are real everywhere. -/
theorem reals (a : FVec Ideal S4096x2048 .bf16) (b : FVec Ideal S5632x2048 .bf16) (g u : FVec Ideal S4096x5632 .bf16)
    (h : (Cert.Pre_finite_ffn.fn (F := Ideal) a b g u).1 = (fun _ => 1#1)
      ∧ (Cert.Pre_finite_ffn.fn (F := Ideal) a b g u).2.1 = (fun _ => 1#1)
      ∧ (Cert.Pre_finite_ffn.fn (F := Ideal) a b g u).2.2 = (fun _ => 1#1)) :
    (∀ i, IsReal (a i)) ∧ (∀ i, IsReal (b i)) ∧ ∀ i, IsReal (u i) :=
  ⟨fun i => isReal_of_test _ _ h.1 i, fun i => isReal_of_test _ _ h.2.1 i, fun i => isReal_of_test _ _ h.2.2 i⟩

theorem algebraic : Cert.algebraic_KernelIdeal_ReferenceIdeal_pre_finite_ffn := by
  intro m ρ m' ρ' hpre hagree
  refine ⟨_, _, (θ_run Cert.KernelIdeal.defs _ _).mono (fun r h c => ⟨(h c).1.trans (final4 m c), (h c).2.1.trans (final5 m c),
    (h c).2.2⟩) (Cert.KernelIdeal.Value.run_blocks m ρ), ?_⟩
  refine (θ_run Cert.ReferenceIdeal.defs _ _).mono (fun r h c => ⟨?_, ?_, (h c).2.2⟩) (Cert.ReferenceIdeal.Value.run (F := Ideal) m' ρ')
  · obtain ⟨ha, hb, hu⟩ := reals _ _ _ _ (hpre c)
    obtain ⟨e0, e1, e2, e3⟩ := hagree c
    rw [(h c).1, Cert.ReferenceIdeal.Read.val_main_v13_eq, e0, e1, e2, e3]
    exact ref_v13 _ _ _ _ ha hb hu
  · obtain ⟨e0, e1, e2, e3⟩ := hagree c
    rw [(h c).2.1, Cert.ReferenceIdeal.Read.val_main_v16_eq, e0, e1, e2]
    exact ref_v16 _ _ _

end Cert.Proof.FfnAct

end
-- ==== Proof.RmsGrad.lean ====
/- Hand-written, untrusted: THE NORM'S GRADIENT, ONE ROW. The root-mean-square norm of a row `h` divides by the root of its
   mean square; the kernels write the gradient of the norm in closed form, differentiating it step by step gives a sum of
   three terms. Both are here as functions of the row, over the extended reals, and they are equal at every row, one with
   infinite entries too. Last, a sum over the hidden columns block by block. -/
module

public import proofs.«01_k».proof.Proof.Reals
public import Idealize.ShloMosaic.Lib.Pipeline.ValueKit.Acc

@[expose] public section

noncomputable section

namespace Cert.Proof.RmsGrad

open Idealize.ShloMosaic Cert.Proof.Reals

variable {n : ℕ}

/-- The mean square of a row plus the norm's small constant. -/
def msq (N : EReal) (h : Fin n → EReal) : EReal := Ideal.div (∑ x, h x * h x) N + Ideal.ofBits .f32 0x358637BD#32

/-- The reciprocal root of `msq`. -/
def rinv (N : EReal) (h : Fin n → EReal) : EReal := Ideal.rsqrt (msq N h)

/-- The gradient of the norm at a row, in closed form; `g` is the cotangent times the norm's weight. -/
def rowGrad (N : EReal) (g h : Fin n → EReal) (j : Fin n) : EReal :=
  rinv N h * g j - h j * (rinv N h * rinv N h * rinv N h) * Ideal.div (∑ x, g x * h x) N

/-- The cotangent that reaches each entry of a row through the mean square. -/
def rowVia (N : EReal) (g h : Fin n → EReal) : EReal :=
  Ideal.div ((∑ x, h x * g x) * (Ideal.ofBits .f32 0xBF000000#32 * Ideal.div (rinv N h) (msq N h))) N

theorem ofBits_2048 : Ideal.ofBits .f32 0x45000000#32 = ((2048 : ℝ) : EReal) := by
  simp [Ideal.ofBits, Ideal.ieee]; rw [← EReal.coe_mul]; norm_num

theorem ofBits_128 : Ideal.ofBits .f32 0x43000000#32 = ((128 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_eps : ∃ e : ℝ, 0 < e ∧ Ideal.ofBits .f32 0x358637BD#32 = (e : EReal) := by
  refine ⟨_, ?_, (by simp [Ideal.ofBits, Ideal.ieee]; rw [← EReal.coe_mul])⟩
  norm_num

theorem mul_self_nonneg' (x : EReal) : 0 ≤ x * x := by
  induction x using EReal.rec with
  | bot => simp
  | coe r => rw [← EReal.coe_mul]; exact_mod_cast mul_self_nonneg r
  | top => simp

/-- The mean square plus the constant is a positive real or infinity. -/
theorem msq_cases {ν : ℝ} (hν : 0 < ν) (h : Fin n → EReal) : msq (ν : EReal) h = ⊤ ∨ ∃ x : ℝ, 0 < x ∧ msq (ν : EReal) h = x := by
  obtain ⟨e, he, hE⟩ := ofBits_eps
  have hs : (0 : EReal) ≤ Ideal.div (∑ x, h x * h x) (ν : EReal) := by
    rw [Ideal.div_coe hν.ne']
    exact mul_nonneg (Finset.sum_nonneg fun x _ => mul_self_nonneg' _) (by exact_mod_cast (by positivity : (0 : ℝ) ≤ 1 / ν))
  unfold msq
  rw [hE]
  revert hs
  generalize Ideal.div (∑ x, h x * h x) (ν : EReal) = y
  intro hs
  induction y using EReal.rec with
  | bot => simp at hs
  | coe r =>
    have hr : 0 ≤ r := by exact_mod_cast hs
    exact .inr ⟨r + e, by positivity, (EReal.coe_add r e).symm⟩
  | top => exact .inl (EReal.top_add_coe e)

theorem add_self (y : EReal) (a : ℝ) : y * (a : EReal) + y * (a : EReal) = y * ((2 * a : ℝ) : EReal) := by
  rw [show (2 * a : ℝ) = a * 2 by ring, EReal.coe_mul, ← mul_assoc]
  generalize y * (a : EReal) = z
  induction z using EReal.rec with
  | bot => rw [EReal.bot_mul_coe_of_pos two_pos]; rfl
  | coe r => norm_cast; ring
  | top => rw [EReal.top_mul_coe_of_pos two_pos]; rfl

/-- What reaches an entry through the mean square, twice, is the closed form's second term. -/
theorem via_twice {ν : ℝ} (hν : 0 < ν) (g h : Fin n → EReal) (j : Fin n) :
    h j * rowVia (ν : EReal) g h + rowVia (ν : EReal) g h * h j
      = -(h j * (rinv (ν : EReal) h * rinv (ν : EReal) h * rinv (ν : EReal) h) * Ideal.div (∑ x, g x * h x) (ν : EReal)) := by
  have hsum : ∑ x, g x * h x = ∑ x, h x * g x := Finset.sum_congr rfl fun _ _ => mul_comm _ _
  rw [hsum, mul_comm (rowVia _ _ _)]
  unfold rowVia rinv
  generalize ∑ x, h x * g x = S
  generalize h j = y
  rw [Ideal.div_coe hν.ne', Ideal.div_coe hν.ne', ofBits_neg_half]
  rcases msq_cases hν h with hX | ⟨x, hx, hX⟩ <;> rw [hX]
  · simp [Ideal.div]
  · have hs := Real.sqrt_pos.2 hx
    have e : x = Real.sqrt x * Real.sqrt x := (Real.mul_self_sqrt hx.le).symm
    rw [Ideal.rsqrt_coe, if_neg hx.not_gt, if_neg hx.ne', Ideal.div_coe hx.ne']
    have c1 : y * (S * (((-(1 / 2) : ℝ) : EReal) * (((Real.sqrt x)⁻¹ : ℝ) * ((1 / x : ℝ) : EReal))) * ((1 / ν : ℝ) : EReal))
        = (y * S) * ((-(1 / 2) * ((Real.sqrt x)⁻¹ * (1 / x)) * (1 / ν) : ℝ) : EReal) := by
      push_cast
      simp only [mul_assoc]
    have c2 : y * ((((Real.sqrt x)⁻¹ : ℝ) : EReal) * ((Real.sqrt x)⁻¹ : ℝ) * ((Real.sqrt x)⁻¹ : ℝ)) * (S * ((1 / ν : ℝ) : EReal))
        = (y * S) * (((Real.sqrt x)⁻¹ * (Real.sqrt x)⁻¹ * (Real.sqrt x)⁻¹ * (1 / ν) : ℝ) : EReal) := by
      push_cast
      simp only [mul_assoc, mul_left_comm, mul_comm]
    rw [c1, c2, add_self, ← mul_neg, ← EReal.coe_neg]
    congr 2
    rw [show (1 / x : ℝ) = (Real.sqrt x)⁻¹ * (Real.sqrt x)⁻¹ by rw [← mul_inv, ← e, one_div]]
    ring

/-- THE ROW'S GRADIENT: the closed form added to `a` is the sum of the three terms that differentiating gives. -/
theorem row_grad {N : EReal} {ν : ℝ} (hN : N = (ν : EReal)) (hν : 0 < ν) (a : EReal) (g h : Fin n → EReal) (j : Fin n) :
    a + rowGrad N g h j = a + g j * rinv N h + h j * rowVia N g h + rowVia N g h * h j := by
  subst hN
  rw [add_assoc _ (h j * _), via_twice hν, rowGrad, sub_eq_add_neg, mul_comm (rinv _ _) (g j), add_assoc]

/-- A sum over 5632 columns, eight blocks of 704 one after the other. -/
theorem sum_blocks (f : Fin 5632 → EReal) : ∑ l, f l
    = ∑ l : Fin 704, f ⟨l.val, by omega⟩ + ∑ l : Fin 704, f ⟨704 + l.val, by omega⟩ + ∑ l : Fin 704, f ⟨1408 + l.val, by omega⟩
      + ∑ l : Fin 704, f ⟨2112 + l.val, by omega⟩ + ∑ l : Fin 704, f ⟨2816 + l.val, by omega⟩ + ∑ l : Fin 704, f ⟨3520 + l.val, by omega⟩
      + ∑ l : Fin 704, f ⟨4224 + l.val, by omega⟩ + ∑ l : Fin 704, f ⟨4928 + l.val, by omega⟩ := by
  rw [← Fin.sum_mul_add_fin 8 704 f, Fin.sum_univ_eight]
  simp

end Cert.Proof.RmsGrad

end
-- ==== Proof.InBwd.lean ====
/- Hand-written, untrusted: THE INPUT NORM'S GRADIENT, THE TWO RESULTS AS FUNCTIONS. The cotangent of the normed row is a
   product over the 7168 projected columns; the input's gradient is the row's (RmsGrad) and the weight's sums over the rows. -/
module

public import proofs.«01_k».proof.Kernel2Ideal
public import proofs.«01_k».proof.Proof.RmsGrad
public import Idealize.ShloMosaic.Lib.Pipeline.ValueKit.Point
public import Idealize.ShloMosaic.Lib.Pipeline.ValueKit.Acc

@[expose] public section

set_option maxRecDepth 16384

noncomputable section

namespace Cert.Proof.InBwd

open Cert.Kernel2Ideal Idealize.ShloMosaic Cert.Proof.RmsGrad

variable (dp : FVec Ideal S4096x7168 .bf16) (w : FVec Ideal S2048x7168 .bf16) (x dh : FVec Ideal S4096x2048 .f32) (wn : FVec Ideal S1x2048 .f32)

/-- The cotangent of the normed input at a row and a column. -/
def dn (r : Fin 4096) (k : Fin 2048) : EReal := ∑ l : Fin 7168, dp (ix2 r l) * w (ix2 k l)

/-- The input's gradient. -/
def dxVal : FVec Ideal S4096x2048 .f32 := fun i =>
  dh i + rowGrad (Ideal.ofBits .f32 0x45000000#32) (fun k => dn dp w (i 0) k * wn (ix2 0 k)) (fun k => x (ix2 (i 0) k)) (i 1)

/-- The norm weight's gradient. -/
def dwVal : FVec Ideal S1x2048 .f32 := fun i =>
  ∑ r : Fin 4096, dn dp w r (i 1) * x (ix2 r (i 1)) * rinv (Ideal.ofBits .f32 0x45000000#32) (fun k => x (ix2 r k))

/-- A sum over 7168 columns, eight blocks of 896 one after the other. -/
theorem sum_blocks (f : Fin 7168 → EReal) : ∑ l, f l
    = ∑ l : Fin 896, f ⟨l.val, by omega⟩ + ∑ l : Fin 896, f ⟨896 + l.val, by omega⟩ + ∑ l : Fin 896, f ⟨1792 + l.val, by omega⟩
      + ∑ l : Fin 896, f ⟨2688 + l.val, by omega⟩ + ∑ l : Fin 896, f ⟨3584 + l.val, by omega⟩ + ∑ l : Fin 896, f ⟨4480 + l.val, by omega⟩
      + ∑ l : Fin 896, f ⟨5376 + l.val, by omega⟩ + ∑ l : Fin 896, f ⟨6272 + l.val, by omega⟩ := by
  rw [← Fin.sum_mul_add_fin 8 896 f, Fin.sum_univ_eight]
  simp

end Cert.Proof.InBwd

end
-- ==== Proof.InBwdKernel.lean ====
/- Hand-written, untrusted: THE INPUT NORM'S GRADIENT, THE KERNEL. Each grid point leaves the gradient of its 256 rows, and adds
   what they give to the weight's gradient; the first point starts that sum from zero. -/
module

public import proofs.«01_k».proof.Proof.Gen.Kernel2Ideal.Value
public import proofs.«01_k».proof.Proof.InBwd

@[expose] public section

set_option maxRecDepth 16384

noncomputable section

namespace Cert.Proof.InBwd

open Cert.Kernel2Ideal Cert.Kernel2Ideal.Gen Cert.Kernel2Ideal.Value Idealize.ShloMosaic Idealize.ShloMosaic.TcCoe Idealize.SL.Sem Idealize.ShloMosaic.StableHlo
open Cert.Proof.RmsGrad

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The array row a block's row is. -/
def row (t : Fin cfg0.N) (r : Fin 256) : Fin 4096 := ⟨t.val * 256 + r.val, by have := t.isLt; have : cfg0.N = 16 := rfl; omega⟩

/-- The eight products of a block's row. -/
def eight (X : FVec Ideal S256x7168 .bf16) (W : FVec Ideal S8x2048x896 .bf16) (r : Fin 256) (k : Fin 2048) : EReal :=
  ∑ l : Fin 896, X (ix2 r ⟨l.val, by omega⟩) * W (ix3 0 k l)
    + ∑ l : Fin 896, X (ix2 r ⟨896 + l.val, by omega⟩) * W (ix3 1 k l)
    + ∑ l : Fin 896, X (ix2 r ⟨1792 + l.val, by omega⟩) * W (ix3 2 k l)
    + ∑ l : Fin 896, X (ix2 r ⟨2688 + l.val, by omega⟩) * W (ix3 3 k l)
    + ∑ l : Fin 896, X (ix2 r ⟨3584 + l.val, by omega⟩) * W (ix3 4 k l)
    + ∑ l : Fin 896, X (ix2 r ⟨4480 + l.val, by omega⟩) * W (ix3 5 k l)
    + ∑ l : Fin 896, X (ix2 r ⟨5376 + l.val, by omega⟩) * W (ix3 6 k l)
    + ∑ l : Fin 896, X (ix2 r ⟨6272 + l.val, by omega⟩) * W (ix3 7 k l)

theorem eight_pay (X : FVec Ideal S256x7168 .bf16) (W : FVec Ideal S8x2048x896 .bf16) (r : Fin 256) (k : Fin 2048) :
    k0_pay6 (F := Ideal) (k0_pay4 (View.ld (Val := Elt Ideal) (e' := .bf16) X (Rect.unit (s := S256x7168) ![0, 0] ![256, 896] inb_S256x7168_S256x896_0_0))
        (View.ld (Val := Elt Ideal) (e' := .bf16) W (Rect.unit (s := S8x2048x896) ![0, 0, 0] ![1, 2048, 896] inb_S8x2048x896_S1x2048x896_0_0_0))
        (View.ld (Val := Elt Ideal) (e' := .bf16) X (Rect.unit (s := S256x7168) ![0, 896] ![256, 896] inb_S256x7168_S256x896_0_896))
        (View.ld (Val := Elt Ideal) (e' := .bf16) W (Rect.unit (s := S8x2048x896) ![1, 0, 0] ![1, 2048, 896] inb_S8x2048x896_S1x2048x896_1_0_0))
        (View.ld (Val := Elt Ideal) (e' := .bf16) X (Rect.unit (s := S256x7168) ![0, 1792] ![256, 896] inb_S256x7168_S256x896_0_1792))
        (View.ld (Val := Elt Ideal) (e' := .bf16) W (Rect.unit (s := S8x2048x896) ![2, 0, 0] ![1, 2048, 896] inb_S8x2048x896_S1x2048x896_2_0_0))
        (View.ld (Val := Elt Ideal) (e' := .bf16) X (Rect.unit (s := S256x7168) ![0, 2688] ![256, 896] inb_S256x7168_S256x896_0_2688))
        (View.ld (Val := Elt Ideal) (e' := .bf16) W (Rect.unit (s := S8x2048x896) ![3, 0, 0] ![1, 2048, 896] inb_S8x2048x896_S1x2048x896_3_0_0)))
      (k0_pay5 (View.ld (Val := Elt Ideal) (e' := .bf16) X (Rect.unit (s := S256x7168) ![0, 3584] ![256, 896] inb_S256x7168_S256x896_0_3584))
        (View.ld (Val := Elt Ideal) (e' := .bf16) W (Rect.unit (s := S8x2048x896) ![4, 0, 0] ![1, 2048, 896] inb_S8x2048x896_S1x2048x896_4_0_0)))
        (View.ld (Val := Elt Ideal) (e' := .bf16) X (Rect.unit (s := S256x7168) ![0, 4480] ![256, 896] inb_S256x7168_S256x896_0_4480))
        (View.ld (Val := Elt Ideal) (e' := .bf16) W (Rect.unit (s := S8x2048x896) ![5, 0, 0] ![1, 2048, 896] inb_S8x2048x896_S1x2048x896_5_0_0))
        (View.ld (Val := Elt Ideal) (e' := .bf16) X (Rect.unit (s := S256x7168) ![0, 5376] ![256, 896] inb_S256x7168_S256x896_0_5376))
        (View.ld (Val := Elt Ideal) (e' := .bf16) W (Rect.unit (s := S8x2048x896) ![6, 0, 0] ![1, 2048, 896] inb_S8x2048x896_S1x2048x896_6_0_0))
        (View.ld (Val := Elt Ideal) (e' := .bf16) X (Rect.unit (s := S256x7168) ![0, 6272] ![256, 896] inb_S256x7168_S256x896_0_6272))
        (View.ld (Val := Elt Ideal) (e' := .bf16) W (Rect.unit (s := S8x2048x896) ![7, 0, 0] ![1, 2048, 896] inb_S8x2048x896_S1x2048x896_7_0_0)) (ix2 r k)
      = eight X W r k := by
  pointwise [k0_pay4, k0_pay5, k0_pay6, eight]

/-- The eight products of a block's row, added, are the cotangent of the array's row. -/
theorem dn_block (c : Dev nD) (t : Fin cfg0.N) (r : Fin 256) (k : Fin 2048) :
    eight (iblk m c 0 t) (iblk m c 1 t) r k
      = dn (m ((c : Thread nD τ).loc main_arg0)) (m ((c : Thread nD τ).loc main_arg1)) (row t r) k := by
  unfold eight dn row
  rw [sum_blocks]
  blk_point [iblk, V, idx0 t, idx1 t]

theorem x_block (c : Dev nD) (t : Fin cfg0.N) (r : Fin 256) (k : Fin 2048) :
    iblk m c 2 t (ix2 r k) = m ((c : Thread nD τ).loc main_arg2) (ix2 (row t r) k) := by
  unfold row
  blk_point [iblk, V, idx2 t]

theorem w_block (c : Dev nD) (t : Fin cfg0.N) (r : Fin 1) (k : Fin 2048) :
    iblk m c 4 t (ix2 r k) = m ((c : Thread nD τ).loc main_arg4) (ix2 r k) := by
  blk_point [iblk, V, idx4 t]

theorem dh_block (c : Dev nD) (t : Fin cfg0.N) (r : Fin 256) (k : Fin 2048) :
    iblk m c 3 t (ix2 r k) = m ((c : Thread nD τ).loc main_arg3) (ix2 (row t r) k) := by
  unfold row
  blk_point [iblk, V, idx3 t]

/-- What a point leaves in the input gradient's block. -/
theorem point5 (c : Dev nD) (t : Fin cfg0.N) (r : Fin 256) (k : Fin 2048) : (outsAt0 m c t.val t.isLt).1 (ix2 r k)
    = dxVal (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) k) := by
  by_cases h : t.val % 16 = 0
  case' pos => rw [outsAt0_A m c t h]
  case' neg => rw [outsAt0_B m c t h]
  all_goals
    frame_out
    pointwise [k0_pay1, k0_pay7, k0_pay8, k0_pay9, k0_pay10, k0_pay11, dxVal, rowGrad, rinv, msq]
    simp only [eight_pay, dn_block, x_block, w_block, dh_block]

theorem final5 (c : Dev nD) : (dats m 0 c).arrAt 5 cfg0.N
    = dxVal (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (congrArg _ (eq_ix2 (n0 := 256) (n1 := 2048) y)).trans ((point5 m c t _ _).trans (congrArg _ ?_))
  unfold row
  blk_ext [idx5 t]

theorem last6 : ∀ t : Fin cfg0.N, (cfg0.win 6).flush t = true → t.val + 1 = cfg0.N := (by decide +kernel : ∀ t : Fin grid0.N, _)

/-- What the last point leaves in the weight gradient's block: the sum over all the rows. -/
theorem point6 (c : Dev nD) (t : Fin cfg0.N) (ht : t.val + 1 = cfg0.N) (a : Fin 1) (k : Fin 2048) :
    (outsAt0 m c t.val t.isLt).2 (ix2 a k) = dwVal (m ((c : Thread nD τ).loc main_arg0)) (m ((c : Thread nD τ).loc main_arg1))
      (m ((c : Thread nD τ).loc main_arg2)) (ix2 a k) := by
  rw [Pipeline.eq_sum_fin_of_reset_step_apply_last (fun n h => (outsAt0 m c n h).2) 16 (fun _ => 0) _
    (fun t h j => by
      rw [outsAt0_A m c t h]; frame_out
      pointwise [k0_pay2, k0_pay3, k0_pay7]; rfl)
    (fun t h j => by
      rw [outsAt0_B m c t h]; frame_out
      pointwise [k0_pay2, k0_pay7])
    (by decide) t ht (ix2 a k), zero_add]
  simp only [ix2_1, eight_pay, dn_block, x_block]
  unfold dwVal rinv msq
  exact Fin.sum_mul_add_congr fun p r hl => rfl

theorem final6 (c : Dev nD) : (dats m 0 c).arrAt 6 cfg0.N
    = dwVal (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine (congrArg _ (eq_ix2 (n0 := 1) (n1 := 2048) y)).trans ((point6 m c t (last6 t hf) _ _).trans (congrArg _ ?_))
  blk_ext [idx6 t]

end Cert.Proof.InBwd

end
-- ==== Proof.InBwdRef.lean ====
/- Hand-written, untrusted: THE INPUT NORM'S GRADIENT, THE REFERENCE. -/
module

public import proofs.«01_k».proof.Proof.Gen.Reference2Ideal.Read
public import proofs.«01_k».proof.Proof.InBwd

@[expose] public section

set_option maxRecDepth 16384

noncomputable section

namespace Cert.Proof.InBwd

open Cert.Kernel2Ideal Cert.Reference2Ideal.Read Idealize.ShloMosaic Idealize.ShloMosaic.TcCoe Idealize.SL.Sem Idealize.ShloMosaic.StableHlo
open Cert.Proof.RmsGrad

variable (dp : FVec Ideal S4096x7168 .bf16) (w : FVec Ideal S2048x7168 .bf16) (x dh : FVec Ideal S4096x2048 .f32) (wn : FVec Ideal S1x2048 .f32)

/-- The reference's first result. -/
theorem ref_v41 : val_main_v41 (F := Ideal) dp w x dh wn = dxVal dp w x dh wn := by
  funext i
  refine Eq.trans ?_ (row_grad ofBits_2048 (by norm_num) _ _ _ _).symm
  pointwise [val_main_v41, val_main_v40, val_main_v39, val_main_v38, val_main_v37, val_main_v36, val_main_cst_7, val_main_v35,
    val_main_v34, val_main_cst_6, val_main_v33, val_main_v32, val_main_v31, val_main_v30, val_main_v29, val_main_v28,
    val_main_cst_5, val_main_v27, val_main_v25, val_main_v24, val_main_v20, val_main_v19, val_main_v17, val_main_v15,
    val_main_v14, val_main_v13, val_main_v12, val_main_v11, val_main_v10, val_main_cst_2, val_main_v9, val_main_v8, val_main_v7,
    val_main_v6, val_main_cst_1, val_main_v5, val_main_v4, val_main_cst_0, val_main_v3, val_main_v2, val_main_cst, val_main_v1,
    val_main_v0, dn, rinv, msq, rowVia]
  simp only [Finset.univ_unique, Finset.sum_singleton]

/-- The reference's second result. -/
theorem ref_v42 : val_main_v42 (F := Ideal) dp w x = dwVal dp w x := by
  funext i
  pointwise [val_main_v42, val_main_v26, val_main_cst_4, val_main_v23, val_main_v22, val_main_cst_3, val_main_v21, val_main_v20,
    val_main_v19, val_main_v17, val_main_v13, val_main_v12, val_main_v8, val_main_v7, val_main_v6, val_main_cst_1, val_main_v5,
    val_main_v4, val_main_cst_0, val_main_v3, val_main_v2, val_main_cst, val_main_v1, val_main_v0, dwVal, dn, rinv, msq]
  simp only [Finset.univ_unique, Finset.sum_singleton]
  refine Finset.sum_congr rfl fun r _ => ?_
  rw [mul_comm, mul_assoc]

end Cert.Proof.InBwd

end
-- ==== Proof.InBwdClaim.lean ====
/- Hand-written, untrusted: THE INPUT NORM'S GRADIENT, THE CLAIMS. -/
module

public import proofs.«01_k».proof.Defs
public import proofs.«01_k».proof.Proof.Gen.Kernel2.Frame
public import proofs.«01_k».proof.Proof.Gen.Reference2Ideal.Run
public import proofs.«01_k».proof.Proof.InBwdKernel
public import proofs.«01_k».proof.Proof.InBwdRef
public import Idealize.ShloMosaic.Adequacy
public import Idealize.ShloMosaic.Init

@[expose] public section

set_option maxRecDepth 16384

noncomputable section

namespace Cert.Proof.InBwd

open Idealize.ShloMosaic Idealize.ShloMosaic.TcCoe Idealize.SL.Sem

theorem frame_kernel : Cert.quiescent_Kernel2 := fun m ρ _ => Cert.Kernel2.Gen.frame m ρ
theorem frame_kernelIdeal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨_, _, (θ_run Cert.Kernel2Ideal.defs _ _).mono (fun r h c => ⟨(h c).1.trans (final5 m c), (h c).2.1.trans (final6 m c),
    (h c).2.2⟩) (Cert.Kernel2Ideal.Value.run_blocks m ρ), ?_⟩
  refine (θ_run Cert.Reference2Ideal.defs _ _).mono (fun r h c => ⟨?_, ?_, (h c).2.2⟩) (Cert.Reference2Ideal.Value.run (F := Ideal) m' ρ')
  · obtain ⟨e0, e1, e2, e3, e4⟩ := hagree c
    rw [(h c).1, Cert.Reference2Ideal.Read.val_main_v41_eq, e0, e1, e2, e3, e4]
    exact ref_v41 _ _ _ _ _
  · obtain ⟨e0, e1, e2, e3, e4⟩ := hagree c
    rw [(h c).2.1, Cert.Reference2Ideal.Read.val_main_v42_eq, e0, e1, e2]
    exact ref_v42 _ _ _

end Cert.Proof.InBwd

end
-- ==== Proof.FfnIn.lean ====
/- Hand-written, untrusted: THE FEED-FORWARD NORM'S GRADIENT, THE TWO RESULTS AS FUNCTIONS. The cotangent of the normed row is the
   sum of two products over the 5632 hidden columns; the state's gradient is the row's (RmsGrad) and the weight's sums over the rows. -/
module

public import proofs.«01_k».proof.Kernel3Ideal
public import proofs.«01_k».proof.Proof.RmsGrad
public import Idealize.ShloMosaic.Lib.Pipeline.ValueKit.Point
public import Idealize.ShloMosaic.Lib.Pipeline.ValueKit.Acc

@[expose] public section

set_option maxRecDepth 16384

noncomputable section

namespace Cert.Proof.FfnIn

open Cert.Kernel3Ideal Idealize.ShloMosaic Cert.Proof.RmsGrad

variable (dg du : FVec Ideal S4096x5632 .bf16) (wg wu : FVec Ideal S2048x5632 .bf16) (h dh : FVec Ideal S4096x2048 .f32) (wn : FVec Ideal S1x2048 .f32)

/-- What one half of the gate gives to the normed state's cotangent, at a row and a column. -/
def half (d : FVec Ideal S4096x5632 .bf16) (w : FVec Ideal S2048x5632 .bf16) (r : Fin 4096) (k : Fin 2048) : EReal :=
  ∑ l : Fin 5632, d (ix2 r l) * w (ix2 k l)

/-- The cotangent of the normed state at a row and a column. -/
def dn (r : Fin 4096) (k : Fin 2048) : EReal := half du wu r k + half dg wg r k

/-- The state's gradient. -/
def dhVal : FVec Ideal S4096x2048 .f32 := fun i =>
  dh i + rowGrad (Ideal.ofBits .f32 0x45000000#32) (fun k => dn dg du wg wu (i 0) k * wn (ix2 0 k)) (fun k => h (ix2 (i 0) k)) (i 1)

/-- The norm weight's gradient. -/
def dwVal : FVec Ideal S1x2048 .f32 := fun i =>
  ∑ r : Fin 4096, dn dg du wg wu r (i 1) * h (ix2 r (i 1)) * rinv (Ideal.ofBits .f32 0x45000000#32) (fun k => h (ix2 r k))

end Cert.Proof.FfnIn

end
-- ==== Proof.FfnInKernel.lean ====
/- Hand-written, untrusted: THE FEED-FORWARD NORM'S GRADIENT, THE KERNEL. Each grid point leaves the gradient of its 256 rows, and adds
   what they give to the weight's gradient; the first point starts that sum from zero. -/
module

public import proofs.«01_k».proof.Proof.Gen.Kernel3Ideal.Value
public import proofs.«01_k».proof.Proof.FfnIn

@[expose] public section

set_option maxRecDepth 16384

noncomputable section

namespace Cert.Proof.FfnIn

open Cert.Kernel3Ideal Cert.Kernel3Ideal.Gen Cert.Kernel3Ideal.Value Idealize.ShloMosaic Idealize.ShloMosaic.TcCoe Idealize.SL.Sem Idealize.ShloMosaic.StableHlo
open Cert.Proof.RmsGrad

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

/-- The array row a block's row is. -/
def row (t : Fin cfg0.N) (r : Fin 256) : Fin 4096 := ⟨t.val * 256 + r.val, by have := t.isLt; have : cfg0.N = 16 := rfl; omega⟩

/-- The eight products of a block's row. -/
def eight (X : FVec Ideal S8x256x704 .bf16) (W : FVec Ideal S5632x2048 .bf16) (r : Fin 256) (k : Fin 2048) : EReal :=
  ∑ l : Fin 704, X (ix3 0 r l) * W (ix2 ⟨l.val, by omega⟩ k)
    + ∑ l : Fin 704, X (ix3 1 r l) * W (ix2 ⟨704 + l.val, by omega⟩ k)
    + ∑ l : Fin 704, X (ix3 2 r l) * W (ix2 ⟨1408 + l.val, by omega⟩ k)
    + ∑ l : Fin 704, X (ix3 3 r l) * W (ix2 ⟨2112 + l.val, by omega⟩ k)
    + ∑ l : Fin 704, X (ix3 4 r l) * W (ix2 ⟨2816 + l.val, by omega⟩ k)
    + ∑ l : Fin 704, X (ix3 5 r l) * W (ix2 ⟨3520 + l.val, by omega⟩ k)
    + ∑ l : Fin 704, X (ix3 6 r l) * W (ix2 ⟨4224 + l.val, by omega⟩ k)
    + ∑ l : Fin 704, X (ix3 7 r l) * W (ix2 ⟨4928 + l.val, by omega⟩ k)

/-- … and the other half's block added. -/
def dnBlk (P : FVec Ideal S256x2048 .f32) (X : FVec Ideal S8x256x704 .bf16) (W : FVec Ideal S5632x2048 .bf16) (r : Fin 256)
    (k : Fin 2048) : EReal := P (ix2 r k) + eight X W r k

theorem eight_pay (P : FVec Ideal S256x2048 .f32) (X : FVec Ideal S8x256x704 .bf16) (W : FVec Ideal S5632x2048 .bf16) (r : Fin 256)
    (k : Fin 2048) :
    k0_pay8 (F := Ideal) (k0_pay6 P) (k0_pay7 (View.ld (Val := Elt Ideal) (e' := .bf16) X (Rect.unit (s := S8x256x704) ![0, 0, 0] ![1, 256, 704] inb_S8x256x704_S1x256x704_0_0_0))
        (View.ld (Val := Elt Ideal) (e' := .bf16) W (Rect.unit (s := S5632x2048) ![0, 0] ![704, 2048] inb_S5632x2048_S704x2048_0_0))
        (View.ld (Val := Elt Ideal) (e' := .bf16) X (Rect.unit (s := S8x256x704) ![1, 0, 0] ![1, 256, 704] inb_S8x256x704_S1x256x704_1_0_0))
        (View.ld (Val := Elt Ideal) (e' := .bf16) W (Rect.unit (s := S5632x2048) ![704, 0] ![704, 2048] inb_S5632x2048_S704x2048_704_0))
        (View.ld (Val := Elt Ideal) (e' := .bf16) X (Rect.unit (s := S8x256x704) ![2, 0, 0] ![1, 256, 704] inb_S8x256x704_S1x256x704_2_0_0))
        (View.ld (Val := Elt Ideal) (e' := .bf16) W (Rect.unit (s := S5632x2048) ![1408, 0] ![704, 2048] inb_S5632x2048_S704x2048_1408_0))
        (View.ld (Val := Elt Ideal) (e' := .bf16) X (Rect.unit (s := S8x256x704) ![3, 0, 0] ![1, 256, 704] inb_S8x256x704_S1x256x704_3_0_0))
        (View.ld (Val := Elt Ideal) (e' := .bf16) W (Rect.unit (s := S5632x2048) ![2112, 0] ![704, 2048] inb_S5632x2048_S704x2048_2112_0)))
        (View.ld (Val := Elt Ideal) (e' := .bf16) X (Rect.unit (s := S8x256x704) ![4, 0, 0] ![1, 256, 704] inb_S8x256x704_S1x256x704_4_0_0))
        (View.ld (Val := Elt Ideal) (e' := .bf16) W (Rect.unit (s := S5632x2048) ![2816, 0] ![704, 2048] inb_S5632x2048_S704x2048_2816_0))
        (View.ld (Val := Elt Ideal) (e' := .bf16) X (Rect.unit (s := S8x256x704) ![5, 0, 0] ![1, 256, 704] inb_S8x256x704_S1x256x704_5_0_0))
        (View.ld (Val := Elt Ideal) (e' := .bf16) W (Rect.unit (s := S5632x2048) ![3520, 0] ![704, 2048] inb_S5632x2048_S704x2048_3520_0))
        (View.ld (Val := Elt Ideal) (e' := .bf16) X (Rect.unit (s := S8x256x704) ![6, 0, 0] ![1, 256, 704] inb_S8x256x704_S1x256x704_6_0_0))
        (View.ld (Val := Elt Ideal) (e' := .bf16) W (Rect.unit (s := S5632x2048) ![4224, 0] ![704, 2048] inb_S5632x2048_S704x2048_4224_0))
        (View.ld (Val := Elt Ideal) (e' := .bf16) X (Rect.unit (s := S8x256x704) ![7, 0, 0] ![1, 256, 704] inb_S8x256x704_S1x256x704_7_0_0))
        (View.ld (Val := Elt Ideal) (e' := .bf16) W (Rect.unit (s := S5632x2048) ![4928, 0] ![704, 2048] inb_S5632x2048_S704x2048_4928_0)) (ix2 r k)
      = dnBlk P X W r k := by
  pointwise [k0_pay6, k0_pay7, k0_pay8, dnBlk, eight]

theorem up_block (c : Dev nD) (t : Fin cfg0.N) (r : Fin 256) (k : Fin 2048) :
    eight (iblk m c 0 t) (iblk m c 1 t) r k = half (m ((c : Thread nD τ).loc main_arg1)) (m ((c : Thread nD τ).loc main_arg3)) (row t r) k := by
  unfold eight half row
  rw [sum_blocks]
  blk_point [iblk, V, idx0 t, idx1 t]

theorem gate_block (c : Dev nD) (t : Fin cfg0.N) (r : Fin 256) (k : Fin 2048) :
    iblk m c 2 t (ix2 r k) = half (m ((c : Thread nD τ).loc main_arg0)) (m ((c : Thread nD τ).loc main_arg2)) (row t r) k := by
  have e : (win0_2.blk t).view.emb (ix2 r k) = ix2 (row t r) k := by
    unfold row
    blk_ext [idx2 t]
  unfold half
  blk_point [iblk, V, e]

/-- The eight products of a block's row, added to the other half, are the cotangent of the array's row. -/
theorem dn_block (c : Dev nD) (t : Fin cfg0.N) (r : Fin 256) (k : Fin 2048) :
    dnBlk (iblk m c 2 t) (iblk m c 0 t) (iblk m c 1 t) r k
      = dn (m ((c : Thread nD τ).loc main_arg0)) (m ((c : Thread nD τ).loc main_arg1)) (m ((c : Thread nD τ).loc main_arg2)) (m ((c : Thread nD τ).loc main_arg3)) (row t r) k := by
  unfold dnBlk
  rw [up_block, gate_block, add_comm]
  rfl

theorem h_block (c : Dev nD) (t : Fin cfg0.N) (r : Fin 256) (k : Fin 2048) :
    iblk m c 3 t (ix2 r k) = m ((c : Thread nD τ).loc main_arg4) (ix2 (row t r) k) := by
  unfold row
  blk_point [iblk, V, idx3 t]

theorem w_block (c : Dev nD) (t : Fin cfg0.N) (r : Fin 1) (k : Fin 2048) :
    iblk m c 5 t (ix2 r k) = m ((c : Thread nD τ).loc main_arg6) (ix2 r k) := by
  blk_point [iblk, V, idx5 t]

theorem dh_block (c : Dev nD) (t : Fin cfg0.N) (r : Fin 256) (k : Fin 2048) :
    iblk m c 4 t (ix2 r k) = m ((c : Thread nD τ).loc main_arg5) (ix2 (row t r) k) := by
  unfold row
  blk_point [iblk, V, idx4 t]

/-- What a point leaves in the state gradient's block. -/
theorem point6 (c : Dev nD) (t : Fin cfg0.N) (r : Fin 256) (k : Fin 2048) : (outsAt0 m c t.val t.isLt).1 (ix2 r k)
    = dhVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k) := by
  by_cases h : t.val % 16 = 0
  case' pos => rw [outsAt0_A m c t h]
  case' neg => rw [outsAt0_B m c t h]
  all_goals
    frame_out
    pointwise [k0_pay1, k0_pay2, k0_pay9, dhVal, rowGrad, rinv, msq]
    simp only [eight_pay, dn_block, h_block, w_block, dh_block]

/-- What a point leaves in the block of the rounded copy. -/
theorem point7 (c : Dev nD) (t : Fin cfg0.N) (r : Fin 256) (k : Fin 2048) : (outsAt0 m c t.val t.isLt).2.1 (ix2 r k)
    = dhVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k) := by
  refine Eq.trans ?_ (point6 m c t r k)
  by_cases h : t.val % 16 = 0
  case' pos => rw [outsAt0_A m c t h]
  case' neg => rw [outsAt0_B m c t h]
  all_goals
    frame_out
    pointwise [k0_pay3]

theorem final6 (c : Dev nD) : (dats m 0 c).arrAt 6 cfg0.N
    = dhVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  blk_simp
  rw [after0_6]
  refine (congrArg _ (eq_ix2 (n0 := 256) (n1 := 2048) y)).trans ((point6 m c t _ _).trans (congrArg _ ?_))
  unfold row
  blk_ext [idx6 t]

theorem final7 (c : Dev nD) : (dats m 0 c).arrAt 7 cfg0.N
    = dhVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  refine (congrArg _ (eq_ix2 (n0 := 256) (n1 := 2048) y)).trans ((point7 m c t _ _).trans (congrArg _ ?_))
  unfold row
  blk_ext [idx7 t]

theorem last8 : ∀ t : Fin cfg0.N, (cfg0.win 8).flush t = true → t.val + 1 = cfg0.N := (by decide +kernel : ∀ t : Fin grid0.N, _)

/-- What the last point leaves in the weight gradient's block: the sum over all the rows. -/
theorem point8 (c : Dev nD) (t : Fin cfg0.N) (ht : t.val + 1 = cfg0.N) (a : Fin 1) (k : Fin 2048) :
    (outsAt0 m c t.val t.isLt).2.2 (ix2 a k) = dwVal (m ((c : Thread nD τ).loc main_arg0)) (m ((c : Thread nD τ).loc main_arg1)) (m ((c : Thread nD τ).loc main_arg2)) (m ((c : Thread nD τ).loc main_arg3)) (m ((c : Thread nD τ).loc main_arg4)) (ix2 a k) := by
  rw [Pipeline.eq_sum_fin_of_reset_step_apply_last (fun n h => (outsAt0 m c n h).2.2) 16 (fun _ => 0) _
    (fun t h j => by
      rw [outsAt0_A m c t h]; frame_out
      pointwise [k0_pay1, k0_pay4, k0_pay5, k0_pay9]; rfl)
    (fun t h j => by
      rw [outsAt0_B m c t h]; frame_out
      pointwise [k0_pay1, k0_pay4, k0_pay9])
    (by decide) t ht (ix2 a k), zero_add]
  simp only [ix2_1, eight_pay, dn_block, h_block]
  unfold dwVal rinv msq
  exact Fin.sum_mul_add_congr fun p r hl => rfl

theorem final8 (c : Dev nD) : (dats m 0 c).arrAt 8 cfg0.N
    = dwVal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  refine (congrArg _ (eq_ix2 (n0 := 1) (n1 := 2048) y)).trans ((point8 m c t (last8 t hf) _ _).trans (congrArg _ ?_))
  blk_ext [idx8 t]

end Cert.Proof.FfnIn

end
-- ==== Proof.FfnInRef.lean ====
/- Hand-written, untrusted: THE FEED-FORWARD NORM'S GRADIENT, THE REFERENCE. -/
module

public import proofs.«01_k».proof.Proof.Gen.Reference3Ideal.Read
public import proofs.«01_k».proof.Proof.FfnIn

@[expose] public section

set_option maxRecDepth 16384

noncomputable section

namespace Cert.Proof.FfnIn

open Cert.Kernel3Ideal Cert.Reference3Ideal.Read Idealize.ShloMosaic Idealize.ShloMosaic.TcCoe Idealize.SL.Sem Idealize.ShloMosaic.StableHlo
open Cert.Proof.RmsGrad

variable (dg du : FVec Ideal S4096x5632 .bf16) (wg wu : FVec Ideal S2048x5632 .bf16) (h dh : FVec Ideal S4096x2048 .f32) (wn : FVec Ideal S1x2048 .f32)

/-- The reference's first result. -/
theorem ref_v46 : val_main_v46 (F := Ideal) dg du wg wu h dh wn = dhVal dg du wg wu h dh wn := by
  funext i
  refine Eq.trans ?_ (row_grad ofBits_2048 (by norm_num) _ _ _ _).symm
  pointwise [val_main_v46, val_main_v45, val_main_v44, val_main_v43, val_main_v42, val_main_v41, val_main_cst_7, val_main_v40,
    val_main_v39, val_main_cst_6, val_main_v38, val_main_v37, val_main_v36, val_main_v35, val_main_v34, val_main_v33,
    val_main_cst_5, val_main_v32, val_main_v30, val_main_v29, val_main_v25, val_main_v24, val_main_v23, val_main_v22,
    val_main_v21, val_main_v19, val_main_v17, val_main_v15, val_main_v14, val_main_v11, val_main_v10, val_main_cst_2, val_main_v9,
    val_main_v8, val_main_v7, val_main_v6, val_main_cst_1, val_main_v5, val_main_v4, val_main_cst_0, val_main_v3, val_main_v2,
    val_main_cst, val_main_v1, val_main_v0, dn, half, rinv, msq, rowVia]
  simp only [Finset.univ_unique, Finset.sum_singleton]

/-- The reference's second result, the first rounded: in the ideal reading the same. -/
theorem ref_v48 : val_main_v48 (F := Ideal) dg du wg wu h dh wn = dhVal dg du wg wu h dh wn :=
  ref_v46 dg du wg wu h dh wn

/-- The reference's third result. -/
theorem ref_v47 : val_main_v47 (F := Ideal) dg du wg wu h = dwVal dg du wg wu h := by
  funext i
  pointwise [val_main_v47, val_main_v31, val_main_cst_4, val_main_v28, val_main_v27, val_main_cst_3, val_main_v26, val_main_v25,
    val_main_v24, val_main_v23, val_main_v22, val_main_v21, val_main_v19, val_main_v17, val_main_v13, val_main_v12, val_main_v8,
    val_main_v7, val_main_v6, val_main_cst_1, val_main_v5, val_main_v4, val_main_cst_0, val_main_v3, val_main_v2, val_main_cst,
    val_main_v1, dwVal, dn, half, rinv, msq]
  simp only [Finset.univ_unique, Finset.sum_singleton]
  refine Finset.sum_congr rfl fun r _ => ?_
  rw [mul_comm, mul_assoc]

end Cert.Proof.FfnIn

end
-- ==== Proof.FfnInClaim.lean ====
/- Hand-written, untrusted: THE FEED-FORWARD NORM'S GRADIENT, THE CLAIMS. -/
module

public import proofs.«01_k».proof.Defs
public import proofs.«01_k».proof.Proof.Gen.Kernel3.Frame
public import proofs.«01_k».proof.Proof.Gen.Reference3Ideal.Run
public import proofs.«01_k».proof.Proof.FfnInKernel
public import proofs.«01_k».proof.Proof.FfnInRef
public import Idealize.ShloMosaic.Adequacy
public import Idealize.ShloMosaic.Init

@[expose] public section

set_option maxRecDepth 16384

noncomputable section

namespace Cert.Proof.FfnIn

open Idealize.ShloMosaic Idealize.ShloMosaic.TcCoe Idealize.SL.Sem

theorem frame_kernel : Cert.quiescent_Kernel3 := fun m ρ _ => Cert.Kernel3.Gen.frame m ρ
theorem frame_kernelIdeal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, _, _, (θ_run Cert.Kernel3Ideal.defs _ _).mono (fun r h c => ⟨(h c).1.trans (final6 m c), (h c).2.1.trans (final7 m c),
    (h c).2.2.1.trans (final8 m c), (h c).2.2.2⟩) (Cert.Kernel3Ideal.Value.run_blocks m ρ), ?_⟩
  refine (θ_run Cert.Reference3Ideal.defs _ _).mono (fun r h c => ⟨?_, ?_, ?_, (h c).2.2.2⟩)
    (Cert.Reference3Ideal.Value.run (F := Ideal) m' ρ')
  all_goals obtain ⟨e0, e1, e2, e3, e4, e5, e6⟩ := hagree c
  · rw [(h c).1, Cert.Reference3Ideal.Read.val_main_v46_eq, e0, e1, e2, e3, e4, e5, e6]
    exact ref_v46 _ _ _ _ _ _ _
  · rw [(h c).2.1, Cert.Reference3Ideal.Read.val_main_v48_eq, e0, e1, e2, e3, e4, e5, e6]
    exact ref_v48 _ _ _ _ _ _ _
  · rw [(h c).2.2.1, Cert.Reference3Ideal.Read.val_main_v47_eq, e0, e1, e2, e3, e4]
    exact ref_v47 _ _ _ _ _

end Cert.Proof.FfnIn

end
-- ==== Proof.RetBwdMath.lean ====
/- Hand-written, untrusted: THE RETENTION'S GRADIENT, ONE HEAD. A head's arrays in 32 chunks of 128 rows. What reaches a chunk
   from the chunks before it (or after it) is a sum with powers of one decay; a run over the chunks that multiplies by the decay
   and adds gives the same sum. The second way of the retention is the first one over the rows in the opposite order. All of it
   over the extended reals, at every entry, infinite ones too. -/
module

public import Idealize.ShloMosaic.PureOps.Ideal
public import Mathlib.Algebra.BigOperators.Fin
public import Mathlib.Data.EReal.Operations

@[expose] public section

noncomputable section

namespace Cert.Proof.RetBwd

open Idealize.ShloMosaic

/-- One head of an array: chunk, row in the chunk, column. -/
abbrev Arr := Fin 32 → Fin 128 → Fin 128 → EReal
/-- One state of a head at each chunk. -/
abbrev Mat := Fin 128 → Fin 128 → EReal

/-! ## The decays -/

/-- The logarithm of a head's decay. -/
def rate (w : EReal) : EReal := -Ideal.exp w
/-- The decay over `r` rows. -/
def dec (L : EReal) (r : ℕ) : EReal := Ideal.exp (L * ((r : ℝ) : EReal))

def mask0 (L : EReal) : Mat := fun i j => if j ≤ i then dec L (i.val - j.val) else 0
def mask1 (L : EReal) : Mat := fun i j => if i < j then dec L (j.val - i.val) else 0
def up (L : EReal) (i : Fin 128) : EReal := dec L (i.val + 1)
def down (L : EReal) (i : Fin 128) : EReal := dec L (127 - i.val)
def up' (L : EReal) (i : Fin 128) : EReal := dec L (128 - i.val)
def down' (L : EReal) (i : Fin 128) : EReal := dec L i.val

theorem exp_nonneg (x : EReal) : 0 ≤ Ideal.exp x := by
  induction x using EReal.rec with
  | bot => simp
  | coe r => rw [Ideal.exp_coe]; exact_mod_cast (Real.exp_pos r).le
  | top => simp

theorem exp_zero' : Ideal.exp 0 = 1 := (Ideal.exp_coe 0).trans (by simp)

theorem rate_cases (w : EReal) : rate w = ⊥ ∨ ∃ x : ℝ, rate w = x := by
  unfold rate
  have h := exp_nonneg w
  generalize Ideal.exp w = y at h
  induction y using EReal.rec with
  | bot => simp at h
  | coe r => exact Or.inr ⟨-r, by simp⟩
  | top => exact Or.inl (by simp)

/-- The decay over whole chunks is a power of the decay over one. -/
theorem dec_pow (w : EReal) (a : ℕ) : Ideal.exp (rate w * ((128 : ℝ) : EReal) * ((a : ℝ) : EReal)) = dec (rate w) 128 ^ a := by
  unfold dec
  rcases rate_cases w with h | ⟨x, h⟩
  · rw [h]
    rw [EReal.bot_mul_coe_of_pos (by norm_num : (0 : ℝ) < 128), EReal.bot_mul_coe_of_pos (by norm_num : (0 : ℝ) < ((128 : ℕ) : ℝ))]
    rcases Nat.eq_zero_or_pos a with rfl | ha
    · simp only [Nat.cast_zero, EReal.coe_zero, mul_zero, pow_zero]
      exact exp_zero'
    · rw [EReal.bot_mul_coe_of_pos (by exact_mod_cast ha : (0 : ℝ) < ((a : ℕ) : ℝ)), Ideal.exp_bot, zero_pow (by omega)]
  · rw [h, ← EReal.coe_mul, ← EReal.coe_mul, Ideal.exp_coe, ← EReal.coe_mul, Ideal.exp_coe, ← EReal.coe_pow, ← Real.exp_nat_mul]
    congr 2; push_cast; ring

theorem dec_real (w : EReal) (r : ℕ) : ∃ x : ℝ, 0 ≤ x ∧ dec (rate w) r = x := by
  unfold dec
  rcases rate_cases w with h | ⟨x, h⟩
  · rw [h]
    rcases Nat.eq_zero_or_pos r with rfl | hr
    · exact ⟨1, by norm_num, by simp only [Nat.cast_zero, EReal.coe_zero, mul_zero]; exact exp_zero'⟩
    · exact ⟨0, le_refl _, by rw [EReal.bot_mul_coe_of_pos (by exact_mod_cast hr : (0 : ℝ) < ((r : ℕ) : ℝ)), Ideal.exp_bot]; rfl⟩
  · exact ⟨_, (Real.exp_pos _).le, by rw [h, ← EReal.coe_mul, Ideal.exp_coe]⟩

/-! ## The run over the chunks -/

/-- Multiply by the decay and add the next. -/
def scan (c : EReal) (a : ℕ → EReal) : ℕ → EReal
  | 0 => 0
  | n + 1 => scan c a n * c + a n

theorem scan_eq {c : ℝ} (hc : 0 ≤ c) (a : ℕ → EReal) (n : ℕ) :
    scan (c : EReal) a n = ∑ m ∈ Finset.range n, a m * (c : EReal) ^ (n - 1 - m) := by
  have hd : ∀ y z : EReal, (y + z) * (c : EReal) = y * c + z * c := fun y z => by
    simpa only [mul_comm] using EReal.left_distrib_of_nonneg_of_ne_top (x := (c : EReal)) (by exact_mod_cast hc) (EReal.coe_ne_top c) y z
  induction n with
  | zero => rfl
  | succ n ih =>
    rw [scan, ih, Finset.sum_range_succ]
    congr 1
    · have hs : ∀ (s : Finset ℕ) (f : ℕ → EReal), (∑ m ∈ s, f m) * (c : EReal) = ∑ m ∈ s, f m * c := fun s f => by
        induction s using Finset.cons_induction with
        | empty => simp
        | cons x s hx ih => rw [Finset.sum_cons, hd, ih, Finset.sum_cons]
      rw [hs]
      refine Finset.sum_congr rfl fun m hm => ?_
      have := Finset.mem_range.mp hm
      rw [mul_assoc, ← pow_succ]; congr 2; omega
    · simp

/-- The entry of chunk `m`, of a number. -/
def nth {α : Type} [Zero α] (X : Fin 32 → α) (m : ℕ) : α := if h : m < 32 then X ⟨m, h⟩ else 0

/-- What reaches chunk `n` from the chunks before it. -/
def past (c : EReal) (X : Fin 32 → Mat) : Fin 32 → Mat := fun n d e => scan c (fun m => nth (fun p => X p d e) m) n.val
/-- What reaches chunk `n` from the chunks after it. -/
def ahead (c : EReal) (X : Fin 32 → Mat) : Fin 32 → Mat := fun n d e => scan c (fun m => nth (fun p => X p.rev d e) m) n.rev.val

theorem past_rev (c : EReal) (X : Fin 32 → Mat) (n : Fin 32) : past c (fun p => X p.rev) n.rev = ahead c X n := rfl
theorem ahead_rev (c : EReal) (X : Fin 32 → Mat) (n : Fin 32) : ahead c (fun p => X p.rev) n.rev = past c X n := by
  funext d e; unfold ahead past; simp only [Fin.rev_rev]

/-- The decay from chunk `m` to chunk `n`. -/
def carry (L : EReal) (n m : Fin 32) : EReal := if m < n then Ideal.exp (L * ((128 : ℝ) : EReal) * (((n.val - 1 - m.val : ℕ) : ℝ) : EReal)) else 0

theorem sum_carry_past (w : EReal) (X : Fin 32 → Mat) (n : Fin 32) (d e : Fin 128) :
    ∑ m, X m d e * carry (rate w) n m = past (dec (rate w) 128) X n d e := by
  obtain ⟨c, hc, hC⟩ := dec_real w 128
  unfold past
  rw [hC, scan_eq hc]
  have h1 : ∀ m : Fin 32, X m d e * carry (rate w) n m = if m.val < n.val then nth (fun p => X p d e) m.val * (c : EReal) ^ (n.val - 1 - m.val) else 0 := fun m => by
    unfold carry nth
    simp only [Fin.lt_def]
    split
    · rw [dec_pow, hC, dif_pos m.isLt]
    · simp
  simp only [h1]
  rw [Fin.sum_univ_eq_sum_range (fun m => if m < n.val then nth (fun p => X p d e) m * (c : EReal) ^ (n.val - 1 - m) else 0) 32, ← Finset.sum_filter]
  refine Finset.sum_congr ?_ fun _ _ => rfl
  ext m; simp only [Finset.mem_filter, Finset.mem_range]; have := n.isLt; omega

theorem sum_carry_ahead (w : EReal) (X : Fin 32 → Mat) (m : Fin 32) (d e : Fin 128) :
    ∑ n, X n d e * carry (rate w) n m = ahead (dec (rate w) 128) X m d e := by
  have h := sum_carry_past w (fun p => X p.rev) m.rev d e
  rw [past_rev] at h
  rw [← h, ← Equiv.sum_comp Fin.revPerm]
  refine Finset.sum_congr rfl fun n _ => ?_
  simp only [Fin.revPerm_apply]
  unfold carry
  have e1 : (m < n.rev) = (n < m.rev) := by
    simp only [Fin.lt_def, Fin.val_rev, eq_iff_iff]; have := n.isLt; have := m.isLt; omega
  have e2 : n.rev.val - 1 - m.val = m.rev.val - 1 - n.val := by
    simp only [Fin.val_rev]; have := n.isLt; have := m.isLt; omega
  simp only [e1, e2]

/-! ## One way of the retention -/

/-- What a chunk adds to the state. -/
def kv (kd : Fin 128 → EReal) (K V : Arr) : Fin 32 → Mat := fun n d e => ∑ j, K n j d * kd j * V n j e
/-- What a chunk adds to the state's cotangent. -/
def qg (qd : Fin 128 → EReal) (Q G : Arr) : Fin 32 → Mat := fun n d e => ∑ i, Q n i d * qd i * G n i e

def wayQ (M : Mat) (qd : Fin 128 → EReal) (K V G : Arr) (S : Fin 32 → Mat) : Arr := fun n i d =>
  ∑ j, (∑ e, G n i e * V n j e) * M i j * K n j d + qd i * ∑ e, G n i e * S n d e
def wayK (M : Mat) (kd : Fin 128 → EReal) (Q V G : Arr) (D : Fin 32 → Mat) : Arr := fun n j d =>
  ∑ i, (∑ e, G n i e * V n j e) * M i j * Q n i d + kd j * ∑ e, V n j e * D n d e
def wayV (M : Mat) (kd : Fin 128 → EReal) (Q K G : Arr) (D : Fin 32 → Mat) : Arr := fun n j e =>
  ∑ i, (∑ d, Q n i d * K n j d) * M i j * G n i e + ∑ d, K n j d * kd j * D n d e

/-- The rows in the opposite order. -/
def flip (A : Arr) : Arr := fun n i d => A n.rev i.rev d

theorem sum_rev (f : Fin 128 → EReal) : ∑ j, f (Fin.rev j) = ∑ j, f j := Equiv.sum_comp Fin.revPerm f

theorem kv_flip (kd : Fin 128 → EReal) (K V : Arr) (n : Fin 32) : kv (fun j => kd j.rev) (flip K) (flip V) n = kv kd K V n.rev := by
  funext d e; exact sum_rev fun j => K n.rev j d * kd j * V n.rev j e
theorem qg_flip (qd : Fin 128 → EReal) (Q G : Arr) (n : Fin 32) : qg (fun j => qd j.rev) (flip Q) (flip G) n = qg qd Q G n.rev := by
  funext d e; exact sum_rev fun j => Q n.rev j d * qd j * G n.rev j e

theorem past_kv_flip (c : EReal) (kd : Fin 128 → EReal) (K V : Arr) :
    past c (kv (fun j => kd j.rev) (flip K) (flip V)) = fun p => ahead c (kv kd K V) p.rev := by
  funext p
  rw [← past_rev, Fin.rev_rev]
  exact congrArg (fun X => past c X p) (funext fun r => kv_flip kd K V r)
theorem ahead_qg_flip (c : EReal) (qd : Fin 128 → EReal) (Q G : Arr) :
    ahead c (qg (fun j => qd j.rev) (flip Q) (flip G)) = fun p => past c (qg qd Q G) p.rev := by
  funext p
  rw [← ahead_rev, Fin.rev_rev]
  exact congrArg (fun X => ahead c X p) (funext fun r => qg_flip qd Q G r)

theorem wayQ_flip (M : Mat) (qd : Fin 128 → EReal) (K V G : Arr) (S : Fin 32 → Mat) (n : Fin 32) (i d : Fin 128) :
    wayQ (fun i j => M i.rev j.rev) (fun i => qd i.rev) (flip K) (flip V) (flip G) (fun p => S p.rev) n.rev i.rev d = wayQ M qd K V G S n i d := by
  unfold wayQ flip
  simp only [Fin.rev_rev]
  rw [sum_rev fun j => (∑ e, G n i e * V n j e) * M i j * K n j d]
theorem wayK_flip (M : Mat) (kd : Fin 128 → EReal) (Q V G : Arr) (S : Fin 32 → Mat) (n : Fin 32) (i d : Fin 128) :
    wayK (fun i j => M i.rev j.rev) (fun i => kd i.rev) (flip Q) (flip V) (flip G) (fun p => S p.rev) n.rev i.rev d = wayK M kd Q V G S n i d := by
  unfold wayK flip
  simp only [Fin.rev_rev]
  rw [sum_rev fun j => (∑ e, G n j e * V n i e) * M j i * Q n j d]
theorem wayV_flip (M : Mat) (kd : Fin 128 → EReal) (Q K G : Arr) (S : Fin 32 → Mat) (n : Fin 32) (i d : Fin 128) :
    wayV (fun i j => M i.rev j.rev) (fun i => kd i.rev) (flip Q) (flip K) (flip G) (fun p => S p.rev) n.rev i.rev d = wayV M kd Q K G S n i d := by
  unfold wayV flip
  simp only [Fin.rev_rev]
  rw [sum_rev fun j => (∑ d, Q n j d * K n i d) * M j i * G n j d]

/-! ## A head -/

def scaled (s : EReal) (q : Arr) : Arr := fun n i d => q n i d * s

def headQ (s L0 L1 : EReal) (k v g : Arr) : Arr := fun n i d =>
  (wayQ (mask0 L0) (up L0) k v g (past (dec L0 128) (kv (down L0) k v)) n i d
    + wayQ (mask1 L1) (up' L1) k v g (ahead (dec L1 128) (kv (down' L1) k v)) n i d) * s
def headK (s L0 L1 : EReal) (q v g : Arr) : Arr := fun n i d =>
  wayK (mask0 L0) (down L0) (scaled s q) v g (ahead (dec L0 128) (qg (up L0) (scaled s q) g)) n i d
    + wayK (mask1 L1) (down' L1) (scaled s q) v g (past (dec L1 128) (qg (up' L1) (scaled s q) g)) n i d
def headV (s L0 L1 : EReal) (q k g : Arr) : Arr := fun n i d =>
  wayV (mask0 L0) (down L0) (scaled s q) k g (ahead (dec L0 128) (qg (up L0) (scaled s q) g)) n i d
    + wayV (mask1 L1) (down' L1) (scaled s q) k g (past (dec L1 128) (qg (up' L1) (scaled s q) g)) n i d

/-! ## The same as differentiating the forward lines gives it -/

/-- The strict mask of the rows in order. -/
def maskS (L : EReal) : Mat := fun i j => if j < i then dec L (i.val - j.val) else 0

def derQ (M : Mat) (qd kd : Fin 128 → EReal) (C : Fin 32 → Fin 32 → EReal) (K V G : Arr) : Arr := fun n i d =>
  (∑ e, G n i e * ∑ m, (∑ j, K m j d * kd j * V m j e) * C n m) * qd i + ∑ j, (∑ e, G n i e * V n j e) * M i j * K n j d
def derK (M : Mat) (qd kd : Fin 128 → EReal) (C : Fin 32 → Fin 32 → EReal) (Q V G : Arr) : Arr := fun n j d =>
  (∑ e, (∑ p, (∑ i, G p i e * (Q p i d * qd i)) * C p n) * V n j e) * kd j + ∑ i, (∑ e, G n i e * V n j e) * M i j * Q n i d
def derV (M : Mat) (qd kd : Fin 128 → EReal) (C : Fin 32 → Fin 32 → EReal) (Q K G : Arr) : Arr := fun n j e =>
  ∑ i, G n i e * ((∑ d, Q n i d * K n j d) * M i j) + ∑ d, (∑ p, (∑ i, G p i e * (Q p i d * qd i)) * C p n) * (K n j d * kd j)

theorem derQ_eq (w : EReal) (M : Mat) (qd kd : Fin 128 → EReal) (K V G : Arr) (n : Fin 32) (i d : Fin 128) :
    derQ M qd kd (carry (rate w)) K V G n i d = wayQ M qd K V G (past (dec (rate w) 128) (kv kd K V)) n i d := by
  unfold derQ wayQ
  rw [add_comm, mul_comm (qd i)]
  congr 3
  funext e
  rw [← sum_carry_past]; rfl
theorem derD_eq (w : EReal) (qd : Fin 128 → EReal) (Q G : Arr) (n : Fin 32) (d e : Fin 128) :
    ∑ p, (∑ i, G p i e * (Q p i d * qd i)) * carry (rate w) p n = ahead (dec (rate w) 128) (qg qd Q G) n d e := by
  rw [← sum_carry_ahead]
  refine Finset.sum_congr rfl fun p _ => congrArg (· * _) (Finset.sum_congr rfl fun i _ => mul_comm _ _)
theorem derK_eq (w : EReal) (M : Mat) (qd kd : Fin 128 → EReal) (Q V G : Arr) (n : Fin 32) (i d : Fin 128) :
    derK M qd kd (carry (rate w)) Q V G n i d = wayK M kd Q V G (ahead (dec (rate w) 128) (qg qd Q G)) n i d := by
  unfold derK wayK
  simp only [derD_eq]
  rw [add_comm, mul_comm (kd i)]
  simp only [mul_comm (V _ _ _)]
theorem derV_eq (w : EReal) (M : Mat) (qd kd : Fin 128 → EReal) (Q K G : Arr) (n : Fin 32) (i d : Fin 128) :
    derV M qd kd (carry (rate w)) Q K G n i d = wayV M kd Q K G (ahead (dec (rate w) 128) (qg qd Q G)) n i d := by
  unfold derV wayV
  simp only [derD_eq]
  congr 1
  · exact Finset.sum_congr rfl fun i _ => mul_comm _ _
  · exact Finset.sum_congr rfl fun i _ => mul_comm _ _

theorem mask1_flip (L : EReal) : (fun i j : Fin 128 => mask1 L i.rev j.rev) = maskS L := by
  funext i j; unfold mask1 maskS
  have e1 : (i.rev < j.rev) = (j < i) := by simp
  have e2 : j.rev.val - i.rev.val = i.val - j.val := by simp only [Fin.val_rev]; have := i.isLt; have := j.isLt; omega
  simp only [e1, e2]
theorem up_flip (L : EReal) : (fun i : Fin 128 => up' L i.rev) = up L := by
  funext i; unfold up' up; congr 1; simp only [Fin.val_rev]; have := i.isLt; omega
theorem down_flip (L : EReal) : (fun i : Fin 128 => down' L i.rev) = down L := by
  funext i; unfold down' down; congr 1; simp only [Fin.val_rev]; have := i.isLt; omega

/-- The second way's gradient, taken over the rows in the opposite order. -/
theorem derQ_flip (w : EReal) (K V G : Arr) (n : Fin 32) (i d : Fin 128) :
    derQ (maskS (rate w)) (up (rate w)) (down (rate w)) (carry (rate w)) (flip K) (flip V) (flip G) n.rev i.rev d
      = wayQ (mask1 (rate w)) (up' (rate w)) K V G (ahead (dec (rate w) 128) (kv (down' (rate w)) K V)) n i d := by
  rw [derQ_eq, ← mask1_flip, ← up_flip, ← down_flip, past_kv_flip]; exact wayQ_flip _ _ _ _ _ _ n i d
theorem derK_flip (w : EReal) (Q V G : Arr) (n : Fin 32) (i d : Fin 128) :
    derK (maskS (rate w)) (up (rate w)) (down (rate w)) (carry (rate w)) (flip Q) (flip V) (flip G) n.rev i.rev d
      = wayK (mask1 (rate w)) (down' (rate w)) Q V G (past (dec (rate w) 128) (qg (up' (rate w)) Q G)) n i d := by
  rw [derK_eq, ← mask1_flip, ← up_flip, ← down_flip, ahead_qg_flip]; exact wayK_flip _ _ _ _ _ _ n i d
theorem derV_flip (w : EReal) (Q K G : Arr) (n : Fin 32) (i d : Fin 128) :
    derV (maskS (rate w)) (up (rate w)) (down (rate w)) (carry (rate w)) (flip Q) (flip K) (flip G) n.rev i.rev d
      = wayV (mask1 (rate w)) (down' (rate w)) Q K G (past (dec (rate w) 128) (qg (up' (rate w)) Q G)) n i d := by
  rw [derV_eq, ← mask1_flip, ← up_flip, ← down_flip, ahead_qg_flip]; exact wayV_flip _ _ _ _ _ _ n i d

end Cert.Proof.RetBwd

end
-- ==== Proof.RetWords.lean ====
/- Hand-written, untrusted: WORDS OF THE RETENTION: row numbers, decays and masks as the programs compute them, rows and columns of
   the packed arrays. -/
module

public import proofs.«01_k».proof.Proof.RetBwdMath
public import Idealize.ShloMosaic.Lib.Pointwise

@[expose] public section

set_option maxRecDepth 16384

noncomputable section

namespace Cert.Proof.RetBwd

open Idealize.ShloMosaic Idealize.ShloMosaic.TcCoe

/-- The shapes of a head: its rows, half of them, the three results' rows, the states of both ways, half of a way's, one, a square and a column. -/
abbrev Rows : Shape := ⟨2, ![4096, 128]⟩
abbrev HalfRows : Shape := ⟨2, ![2048, 128]⟩
abbrev Rows3 : Shape := ⟨3, ![3, 4096, 128]⟩
abbrev Rows1 : Shape := ⟨3, ![1, 2048, 128]⟩
abbrev States : Shape := ⟨4, ![2, 32, 128, 128]⟩
abbrev HalfStates : Shape := ⟨4, ![1, 16, 128, 128]⟩
abbrev OneState : Shape := ⟨4, ![1, 1, 128, 128]⟩
abbrev Sq : Shape := ⟨2, ![128, 128]⟩
abbrev Col : Shape := ⟨2, ![128, 1]⟩

/-- The scale of the queries. -/
def sc : EReal := Ideal.ofBits .f32 1035273459#32

/-- A chunk of the 16 a half holds: row and column. -/
def rows16 (v : Vec Ideal HalfRows .f32) (m : Fin 16) (i d : Fin 128) : EReal := v (ix2 ⟨m.val * 128 + i.val, by omega⟩ d)
/-- A state of the 16 a half holds. -/
def state16 (v : Vec Ideal HalfStates .f32) (m : Fin 16) (d e : Fin 128) : EReal := v (ix4 0 m d e)
def col (w : FVec Ideal Col .f32) (i : Fin 128) : EReal := w (ix2 i 0)
def sq (w : FVec Ideal Sq .f32) (i j : Fin 128) : EReal := w (ix2 i j)

theorem neg_exp (w : EReal) : 0 - Ideal.exp w = rate w := by unfold rate; rw [zero_sub]

theorem sitofp_nat (n : ℕ) (h : n < 2 ^ 31) : (FloatOps.sitofp (F := Ideal) .f32 (BitVec.ofNat 32 n) : EReal) = ((n : ℝ) : EReal) := by
  show (((BitVec.ofNat 32 n).toInt : ℝ) : EReal) = _
  rw [BitVec.toInt_ofNat', Int.bmod_eq_of_le (by omega) (by omega)]; rfl

theorem ge_word : ∀ a b : Fin 128, IntOp.cmpi .sge (IntOp.subi (BitVec.ofNat 32 a.val) (BitVec.ofNat 32 b.val)) 0#32 = if b ≤ a then 1#1 else 0#1 := by decide +kernel
theorem gt_word : ∀ a b : Fin 128, IntOp.cmpi .sgt (IntOp.subi (BitVec.ofNat 32 a.val) (BitVec.ofNat 32 b.val)) 0#32 = if b < a then 1#1 else 0#1 := by decide +kernel
theorem gap_word : ∀ a b : Fin 128, IntOp.maxsi (IntOp.subi (BitVec.ofNat 32 a.val) (BitVec.ofNat 32 b.val)) 0#32 = BitVec.ofNat 32 (a.val - b.val) := by decide +kernel

theorem bits_127 : Ideal.ofBits .f32 1123942400#32 = ((127 : ℝ) : EReal) := by
  simp [Ideal.ofBits, Ideal.ieee]; rw [← EReal.coe_mul]; norm_num
theorem bits_128 : Ideal.ofBits .f32 1124073472#32 = ((128 : ℝ) : EReal) := by
  simp [Ideal.ofBits, Ideal.ieee]; rw [← EReal.coe_mul]; norm_num
theorem bits_1 : Ideal.ofBits .f32 1065353216#32 = ((1 : ℝ) : EReal) := by
  simp [Ideal.ofBits, Ideal.ieee]; rw [← EReal.coe_mul]; norm_num

/-- The row of a chunk's row, and the column of an entry of queries, keys or values. -/
def rowOf (n : Fin 32) (i : Fin 128) : Fin 4096 := ⟨n.val * 128 + i.val, by omega⟩
def colOf (s : Fin 3) (h : Fin 8) (d : Fin 128) : Fin 7168 := ⟨1024 * s.val + 128 * h.val + 3072 + d.val, by omega⟩
def colOut (h : Fin 8) (d : Fin 128) : Fin 1024 := ⟨128 * h.val + d.val, by omega⟩

theorem row_surj (x : Fin 4096) : ∃ n i, x = rowOf n i :=
  ⟨⟨x.val / 128, by omega⟩, ⟨x.val % 128, by omega⟩, Fin.ext (by show x.val = x.val / 128 * 128 + x.val % 128; omega)⟩
theorem col_surj (y : Fin 7168) (h0 : 3072 ≤ y.val) (h1 : y.val < 6144) : ∃ s h d, y = colOf s h d :=
  ⟨⟨(y.val - 3072) / 1024, by omega⟩, ⟨(y.val - 3072) % 1024 / 128, by omega⟩, ⟨(y.val - 3072) % 128, by omega⟩,
    Fin.ext (by show y.val = 1024 * ((y.val - 3072) / 1024) + 128 * ((y.val - 3072) % 1024 / 128) + 3072 + (y.val - 3072) % 128; omega)⟩

/-- A zero the printed text writes as a constant. -/
theorem zero_at : (id (constant (F := Ideal) ⟨0, ![]⟩ .f32 0#32) ix0 : EReal) = 0 := by
  show Ideal.ofBits .f32 0#32 = 0
  simp [Ideal.ofBits, Ideal.ieee]

/-- A row's number less another's, as extended reals. -/
theorem sub_rows (i j : Fin 128) : (FloatOps.sitofp (F := Ideal) .f32 (BitVec.ofNat 32 i.val) - FloatOps.sitofp (F := Ideal) .f32 (BitVec.ofNat 32 j.val) : EReal)
    = (((i.val : ℝ) - (j.val : ℝ) : ℝ) : EReal) := by
  rw [sitofp_nat _ (by omega), sitofp_nat _ (by omega), EReal.coe_sub]
theorem max_gap {i j : Fin 128} (h : j ≤ i) : max (((i.val : ℝ) - (j.val : ℝ) : ℝ) : EReal) 0 = (((i.val - j.val : ℕ) : ℝ) : EReal) := by
  have h' : j.val ≤ i.val := h
  rw [Nat.cast_sub h']
  refine max_eq_left ?_
  rw [← EReal.coe_zero, EReal.coe_le_coe_iff, sub_nonneg, Nat.cast_le]
  exact h'
theorem mask_ge (L : EReal) (i j : Fin 128) : (if (0 : EReal) ≤ (((i.val : ℝ) - (j.val : ℝ) : ℝ) : EReal)
    then Ideal.exp (L * max (((i.val : ℝ) - (j.val : ℝ) : ℝ) : EReal) 0) else 0) = mask0 L i j := by
  have e : (0 : EReal) ≤ (((i.val : ℝ) - (j.val : ℝ) : ℝ) : EReal) ↔ j ≤ i := by
    rw [← EReal.coe_zero, EReal.coe_le_coe_iff, sub_nonneg, Nat.cast_le]; rfl
  unfold mask0
  by_cases h : j ≤ i
  · rw [if_pos (e.2 h), if_pos h, max_gap h]; rfl
  · rw [if_neg (fun a => h (e.1 a)), if_neg h]
theorem mask_gt (L : EReal) (i j : Fin 128) : (if (0 : EReal) < (((i.val : ℝ) - (j.val : ℝ) : ℝ) : EReal)
    then Ideal.exp (L * max (((i.val : ℝ) - (j.val : ℝ) : ℝ) : EReal) 0) else 0) = maskS L i j := by
  have e : (0 : EReal) < (((i.val : ℝ) - (j.val : ℝ) : ℝ) : EReal) ↔ j < i := by
    rw [← EReal.coe_zero, EReal.coe_lt_coe_iff, sub_pos, Nat.cast_lt]; rfl
  unfold maskS
  by_cases h : j < i
  · rw [if_pos (e.2 h), if_pos h, max_gap h.le]; rfl
  · rw [if_neg (fun a => h (e.1 a)), if_neg h]

/-- The decay between two chunks' states. -/
theorem before_word : ∀ n m : Fin 32, IntOp.cmpi .sge (IntOp.subi (IntOp.subi (BitVec.ofNat 32 n.val) (BitVec.ofNat 32 m.val)) 1#32) 0#32 = if m < n then 1#1 else 0#1 := by
  decide +kernel
theorem between_word : ∀ n m : Fin 32, IntOp.maxsi (IntOp.subi (IntOp.subi (BitVec.ofNat 32 n.val) (BitVec.ofNat 32 m.val)) 1#32) 0#32 = BitVec.ofNat 32 (n.val - 1 - m.val) := by
  decide +kernel
theorem carry_word (L : EReal) (n m : Fin 32) :
    Scalar.select (IntOp.cmpi CmpIPredicate.sge (IntOp.subi (IntOp.subi (BitVec.ofNat 32 n.val) (BitVec.ofNat 32 m.val)) 1#32) 0#32)
      (Ideal.exp (L * Ideal.ofBits .f32 1124073472#32 * FloatOps.sitofp (F := Ideal) .f32
        (IntOp.maxsi (IntOp.subi (IntOp.subi (BitVec.ofNat 32 n.val) (BitVec.ofNat 32 m.val)) 1#32) 0#32))) (0 : EReal) = carry L n m := by
  rw [before_word, between_word, sitofp_nat _ (by omega), bits_128]
  unfold carry
  by_cases h : m < n
  · rw [if_pos h, if_pos h]; rfl
  · rw [if_neg h, if_neg h]; rfl
theorem up_word (L : EReal) (i : Fin 128) : Ideal.exp (L * (FloatOps.sitofp (F := Ideal) .f32 (BitVec.ofNat 32 i.val) + 1)) = up L i := by
  unfold up dec
  rw [sitofp_nat _ (by omega)]; push_cast; rfl
theorem down_word (L : EReal) (i : Fin 128) : Ideal.exp (L * (((127 : ℝ) : EReal) - FloatOps.sitofp (F := Ideal) .f32 (BitVec.ofNat 32 i.val))) = down L i := by
  unfold down dec
  rw [sitofp_nat _ (by omega), Nat.cast_sub (by omega), EReal.coe_sub]; rfl

/-- Rows and columns as the printed text counts them. -/
theorem col0 {h : Fin 8} {d : Fin 128} {p} : (⟨3072 + (h.val * 128 + d.val), p⟩ : Fin 7168) = colOf 0 h d :=
  Fin.ext (show 3072 + (h.val * 128 + d.val) = 1024 * 0 + 128 * h.val + 3072 + d.val by omega)
theorem col1 {h : Fin 8} {d : Fin 128} {p} : (⟨4096 + (h.val * 128 + d.val), p⟩ : Fin 7168) = colOf 1 h d :=
  Fin.ext (show 4096 + (h.val * 128 + d.val) = 1024 * 1 + 128 * h.val + 3072 + d.val by omega)
theorem col2 {h : Fin 8} {d : Fin 128} {p} : (⟨5120 + (h.val * 128 + d.val), p⟩ : Fin 7168) = colOf 2 h d :=
  Fin.ext (show 5120 + (h.val * 128 + d.val) = 1024 * 2 + 128 * h.val + 3072 + d.val by omega)
theorem out_at {h : Fin 8} {d : Fin 128} {p} : (⟨h.val * 128 + d.val, p⟩ : Fin 1024) = colOut h d :=
  Fin.ext (show h.val * 128 + d.val = 128 * h.val + d.val by omega)
theorem rev_at {n : Fin 32} {i : Fin 128} {p} : Fin.rev (⟨n.val * 128 + i.val, p⟩ : Fin 4096) = rowOf n.rev i.rev :=
  Fin.ext (show 4096 - (n.val * 128 + i.val + 1) = (32 - (n.val + 1)) * 128 + (128 - (i.val + 1)) by omega)

/-- A chunk and its row, out of a row of the whole. -/
theorem row_div {n : Fin 32} {i : Fin 128} {p} : (⟨(rowOf n i).val / 128, p⟩ : Fin 32) = n := Fin.ext (show (n.val * 128 + i.val) / 128 = n.val by omega)
theorem row_mod {n : Fin 32} {i : Fin 128} {p} : (⟨(rowOf n i).val % 128, p⟩ : Fin 128) = i := Fin.ext (show (n.val * 128 + i.val) % 128 = i.val by omega)

end Cert.Proof.RetBwd

end
-- ==== Proof.RetBwdPays.lean ====
/- Hand-written, untrusted: WHAT THE GRADIENT KERNEL COMPUTES FROM WHAT IT LOADS, index by index: the decays, the masks, what a
   half of the chunks adds to the states, and the three gradients of a half from its rows and its states. -/
module

public import proofs.«01_k».proof.Proof.Gen.Kernel6Ideal.Skeleton
public import proofs.«01_k».proof.Proof.RetWords

@[expose] public section

set_option maxRecDepth 16384

noncomputable section

namespace Cert.Proof.RetBwd

open Cert.Kernel6Ideal Cert.Kernel6Ideal.Gen
open Idealize.ShloMosaic Idealize.ShloMosaic.TcCoe

/-! ## What a half adds to the states -/

theorem pay_kv (w : FVec Ideal S128x1 .f32) (k v : Vec Ideal S2048x128 .f32) (m : Fin 16) (d e : Fin 128) :
    k0_pay5 w k v (ix4 0 m d e) = ∑ j, rows16 k m j d * col w j * rows16 v m j e := by
  pointwise [k0_pay5, k0_pay2, k0_pay3, rows16, col]
theorem pay_kv' (w : FVec Ideal S128x1 .f32) (k v : Vec Ideal S2048x128 .f32) (m : Fin 16) (d e : Fin 128) :
    k0_pay65 (k0_pay3 v) (k0_pay7 w k) (ix4 0 m d e) = ∑ j, rows16 k m j d * col w j * rows16 v m j e := by
  pointwise [k0_pay65, k0_pay7, k0_pay2, k0_pay3, rows16, col]
theorem pay_qg (w : FVec Ideal S128x1 .f32) (q g : Vec Ideal S2048x128 .f32) (m : Fin 16) (d e : Fin 128) :
    k0_pay6 w q g (ix4 0 m d e) = ∑ i, rows16 q m i d * sc * col w i * rows16 g m i e := by
  pointwise [k0_pay6, k0_pay1, k0_pay4, rows16, col, sc]
theorem pay_qg' (v11 : FVec Ideal S1x1 .f32) (q g : Vec Ideal S2048x128 .f32) (m : Fin 16) (d e : Fin 128) :
    k0_pay66 v11 (k0_pay1 q) (k0_pay4 g) (ix4 0 m d e) = ∑ i, rows16 q m i d * sc * col (k0_pay62 v11) i * rows16 g m i e := by
  pointwise [k0_pay66, k0_pay1, k0_pay4, k0_pay62, k0_pay61, k0_pay60, rows16, col, sc]

/-! ## The gradients of a half -/

theorem pay_dq (M0 M1 : FVec Ideal S128x128 .f32) (w0 w1 : FVec Ideal S128x1 .f32) (k v g : Vec Ideal S2048x128 .f32)
    (s0 s1 : Vec Ideal S1x16x128x128 .f32) (m : Fin 16) (i d : Fin 128) :
    k0_pay41 (k0_pay36 M1 w1 (k0_pay11 k) (k0_pay13 g) (k0_pay15 v g) (k0_pay24 (k0_pay20 g s0) (k0_pay22 M0 k v g) (k0_pay23 w0)) s1)
        (ix3 0 ⟨m.val * 128 + i.val, by omega⟩ d)
      = ((∑ j, (∑ e, rows16 g m i e * rows16 v m j e) * sq M0 i j * rows16 k m j d + col w0 i * ∑ e, rows16 g m i e * state16 s0 m d e)
        + (∑ j, (∑ e, rows16 g m i e * rows16 v m j e) * sq M1 i j * rows16 k m j d + col w1 i * ∑ e, rows16 g m i e * state16 s1 m d e)) * sc := by
  pointwise [k0_pay41, k0_pay36, k0_pay11, k0_pay13, k0_pay15, k0_pay24, k0_pay20, k0_pay22, k0_pay23, k0_pay33, k0_pay32, k0_pay34, k0_pay30,
    k0_pay19, k0_pay18, k0_pay16, k0_pay12, k0_pay9, rows16, state16, col, sq, sc]

theorem pay_dk (M0 M1 : FVec Ideal S128x128 .f32) (w0 w1 : FVec Ideal S128x1 .f32) (q v g : Vec Ideal S2048x128 .f32)
    (s0 s1 : Vec Ideal S1x16x128x128 .f32) (m : Fin 16) (j d : Fin 128) :
    k0_pay42 (k0_pay37 M1 w1 (k0_pay10 q) (k0_pay12 v) (k0_pay15 v g) (k0_pay25 w0 (k0_pay10 q) (k0_pay19 M0 v g) (k0_pay21 v s0)) s1)
        (ix3 0 ⟨m.val * 128 + j.val, by omega⟩ d)
      = (∑ i, (∑ e, rows16 g m i e * rows16 v m j e) * sq M0 i j * (rows16 q m i d * sc) + col w0 j * ∑ e, rows16 v m j e * state16 s0 m d e)
        + (∑ i, (∑ e, rows16 g m i e * rows16 v m j e) * sq M1 i j * (rows16 q m i d * sc) + col w1 j * ∑ e, rows16 v m j e * state16 s1 m d e) := by
  pointwise [k0_pay42, k0_pay37, k0_pay10, k0_pay8, k0_pay12, k0_pay13, k0_pay15, k0_pay25, k0_pay19, k0_pay18, k0_pay21, k0_pay33, k0_pay32, k0_pay35, k0_pay31,
    k0_pay17, rows16, state16, col, sq, sc]

theorem pay_dv (M0 M1 : FVec Ideal S128x128 .f32) (w0 w1 : FVec Ideal S128x1 .f32) (q k g : Vec Ideal S2048x128 .f32)
    (s0 s1 : Vec Ideal S1x16x128x128 .f32) (m : Fin 16) (j e : Fin 128) :
    k0_pay43 (k0_pay38 M1 w1 (k0_pay9 k) (k0_pay13 g) (k0_pay14 q k) (k0_pay26 M0 w0 (k0_pay9 k) (k0_pay13 g) (k0_pay14 q k) (k0_pay17 s0)) s1)
        (ix3 0 ⟨m.val * 128 + j.val, by omega⟩ e)
      = (∑ i, (∑ d, rows16 q m i d * sc * rows16 k m j d) * sq M0 i j * rows16 g m i e + ∑ d, rows16 k m j d * col w0 j * state16 s0 m d e)
        + (∑ i, (∑ d, rows16 q m i d * sc * rows16 k m j d) * sq M1 i j * rows16 g m i e + ∑ d, rows16 k m j d * col w1 j * state16 s1 m d e) := by
  pointwise [k0_pay43, k0_pay38, k0_pay9, k0_pay13, k0_pay14, k0_pay26, k0_pay10, k0_pay8, k0_pay11, k0_pay31, k0_pay17, rows16, state16, col, sq, sc]

/-! ## The run over the chunks -/

theorem pay_next (c : FVec Ideal S1x1 .f32) (a : FVec Ideal S128x128 .f32) (x : Vec Ideal S1x1x128x128 .f32) (d e : Fin 128) :
    k0_pay69 c a x (ix2 d e) = a (ix2 d e) * c (ix2 0 0) + x (ix4 0 0 d e) ∧ k0_pay74 c a x (ix2 d e) = a (ix2 d e) * c (ix2 0 0) + x (ix4 0 0 d e) := by
  constructor
  · pointwise [k0_pay69]
  · pointwise [k0_pay74]
theorem pay_next' (v11 : FVec Ideal S1x1 .f32) (a : FVec Ideal S128x128 .f32) (x : Vec Ideal S1x1x128x128 .f32) (d e : Fin 128) :
    k0_pay71 v11 a x (ix2 d e) = a (ix2 d e) * k0_pay64 v11 (ix2 0 0) + x (ix4 0 0 d e)
      ∧ k0_pay76 v11 a x (ix2 d e) = a (ix2 d e) * k0_pay64 v11 (ix2 0 0) + x (ix4 0 0 d e) := by
  constructor
  · pointwise [k0_pay71, k0_pay64]
  · pointwise [k0_pay76, k0_pay64]
theorem pay_put (a : FVec Ideal S128x128 .f32) (d e : Fin 128) :
    k0_pay68 a (ix4 0 0 d e) = a (ix2 d e) ∧ k0_pay70 a (ix4 0 0 d e) = a (ix2 d e) ∧ k0_pay73 a (ix4 0 0 d e) = a (ix2 d e) ∧ k0_pay75 a (ix4 0 0 d e) = a (ix2 d e) := by
  refine ⟨?_, ?_, ?_, ?_⟩
  · pointwise [k0_pay68]
  · pointwise [k0_pay70]
  · pointwise [k0_pay73]
  · pointwise [k0_pay75]
theorem pay_zero (d e : Fin 128) : k0_pay67 (F := Ideal) (ix2 d e) = 0 ∧ k0_pay72 (F := Ideal) (ix2 d e) = 0 := by
  constructor
  · pointwise [k0_pay67]
  · pointwise [k0_pay72]

/-! ## The decays -/

theorem pay_up (w : Elt Ideal .f32) (i : Fin 128) : col (k0_pay52 w) i = up (rate w) i := by
  pointwise [col, k0_pay52, k0_pay44, k0_pay50, k0_pay49]
  unfold up dec
  rw [sitofp_nat _ (by omega), neg_exp]; push_cast; rfl
theorem pay_down (w : Elt Ideal .f32) (i : Fin 128) : col (k0_pay53 w) i = down (rate w) i := by
  pointwise [col, k0_pay53, k0_pay44, k0_pay51, k0_pay49]
  unfold down dec
  rw [sitofp_nat _ (by omega), neg_exp, bits_127, ← EReal.coe_sub, Nat.cast_sub (by omega)]; rfl
theorem pay_step (w : Elt Ideal .f32) : k0_pay54 w (ix2 0 0) = dec (rate w) 128 := by
  pointwise [k0_pay54, k0_pay44]
  rw [neg_exp, bits_128]; rfl
theorem pay_up' (w : Elt Ideal .f32) (i : Fin 128) : col (k0_pay62 (k0_pay45 w)) i = up' (rate w) i := by
  pointwise [col, k0_pay62, k0_pay45, k0_pay61, k0_pay60]
  unfold up' dec
  rw [sitofp_nat _ (by omega), neg_exp, bits_128, ← EReal.coe_sub, Nat.cast_sub (by omega)]; rfl
theorem pay_down' (w : Elt Ideal .f32) (i : Fin 128) : col (k0_pay63 (k0_pay45 w)) i = down' (rate w) i := by
  pointwise [col, k0_pay63, k0_pay45, k0_pay60]
  rw [sitofp_nat _ (by omega), neg_exp]; rfl
theorem pay_step' (w : Elt Ideal .f32) : k0_pay64 (k0_pay45 w) (ix2 0 0) = dec (rate w) 128 := by
  pointwise [k0_pay64, k0_pay45]
  rw [neg_exp, bits_128]; rfl
theorem pay_mask0 (w : Elt Ideal .f32) (i j : Fin 128) : sq (k0_pay48 w) i j = mask0 (rate w) i j := by
  pointwise [sq, k0_pay48, k0_pay44, k0_pay47, k0_pay46]
  rw [ge_word, gap_word, sitofp_nat _ (by omega), neg_exp]
  unfold mask0
  split <;> rfl
theorem pay_mask1 (w : Elt Ideal .f32) (i j : Fin 128) : sq (k0_pay59 (k0_pay45 w) k0_pay56 k0_pay57) i j = mask1 (rate w) i j := by
  pointwise [sq, k0_pay59, k0_pay45, k0_pay56, k0_pay57, k0_pay58, k0_pay55]
  rw [gt_word, gap_word, sitofp_nat _ (by omega), neg_exp]
  unfold mask1
  split <;> rfl

end Cert.Proof.RetBwd

end
-- ==== Proof.RetBwdStore.lean ====
/- Hand-written, untrusted: READING WHAT LOOPS LEFT IN A BUFFER OF STATES. Two trips that each store half of the chunks leave the
   whole, way by way; thirty-two trips that each replace one chunk's entry by the running sum and then add the entry to it leave
   the running sums. -/
module

public import proofs.«01_k».proof.Proof.RetWords
public import Idealize.ShloMosaic.Lib.WritesUnit
public import Idealize.ShloMosaic.Lib.WholeRead

@[expose] public section

set_option maxRecDepth 16384

noncomputable section

namespace Cert.Proof.RetBwd

open Idealize.ShloMosaic Idealize.ShloMosaic.TcCoe

variable {sg : RefSig} {κ : Kind} {sp : Space}

/-- Chunk `m` of half `k`. -/
def half (k : Fin 2) (m : Fin 16) : Fin 32 := ⟨16 * k.val + m.val, by omega⟩
theorem half_surj (n : Fin 32) : ∃ k m, n = half k m :=
  ⟨⟨n.val / 16, by omega⟩, ⟨n.val % 16, by omega⟩, Fin.ext (by show n.val = 16 * (n.val / 16) + n.val % 16; omega)⟩

/-! ## Halves -/

/-- Four stored halves: way 1 and way 0 of the second, way 1 and way 0 of the first (last first). -/
theorem read_halves (v : View sg κ sp States .f32) (f : v.ty.Contents (Elt Ideal)) (o : Fin 2 → Fin 2 → Fin 4 → ℕ)
    (ho : ∀ w k, o w k = ![w.val, 16 * k.val, 0, 0]) (hb : ∀ w k a, o w k a + HalfStates.size a ≤ States.size a)
    (p : Fin 2 → Fin 2 → Vec Ideal HalfStates .f32) (w k : Fin 2) (m : Fin 16) (d e : Fin 128) :
    v.read (Elt Ideal) (v.writes (Elt Ideal) f [⟨Rect.unit (o 1 1) HalfStates.size (hb 1 1), p 1 1⟩, ⟨Rect.unit (o 0 1) HalfStates.size (hb 0 1), p 0 1⟩,
        ⟨Rect.unit (o 1 0) HalfStates.size (hb 1 0), p 1 0⟩, ⟨Rect.unit (o 0 0) HalfStates.size (hb 0 0), p 0 0⟩]) (ix4 w (half k m) d e)
      = p w k (ix4 0 m d e) := by
  have hit : ∀ (w k : Fin 2) (L), v.read (Elt Ideal) (v.writes (Elt Ideal) f (⟨Rect.unit (o w k) HalfStates.size (hb w k), p w k⟩ :: L)) (ix4 w (half k m) d e) = p w k (ix4 0 m d e) :=
    fun w k L => View.read_writes_cons_unit_of_mem v f (hb w k) (p w k) L _ (ix4 0 m d e) (ho w k) fun a => by
      fin_cases a
      · exact (Nat.add_zero _).symm
      · rfl
      · exact (Nat.zero_add _).symm
      · exact (Nat.zero_add _).symm
  have way : ∀ (w w' k k' : Fin 2) (L), w ≠ w' → v.read (Elt Ideal) (v.writes (Elt Ideal) f (⟨Rect.unit (o w' k') HalfStates.size (hb w' k'), p w' k'⟩ :: L)) (ix4 w (half k m) d e)
      = v.read (Elt Ideal) (v.writes (Elt Ideal) f L) (ix4 w (half k m) d e) :=
    fun w w' k k' L h => View.read_writes_cons_unit_of_not_mem v f (hb w' k') (p w' k') L _ (ho w' k') 0 (by
      show w.val < w'.val ∨ w'.val + 1 ≤ w.val
      have := Fin.val_ne_of_ne h; omega)
  have chk : ∀ (w w' k k' : Fin 2) (L), k ≠ k' → v.read (Elt Ideal) (v.writes (Elt Ideal) f (⟨Rect.unit (o w' k') HalfStates.size (hb w' k'), p w' k'⟩ :: L)) (ix4 w (half k m) d e)
      = v.read (Elt Ideal) (v.writes (Elt Ideal) f L) (ix4 w (half k m) d e) :=
    fun w w' k k' L h => View.read_writes_cons_unit_of_not_mem v f (hb w' k') (p w' k') L _ (ho w' k') 1 (by
      show 16 * k.val + m.val < 16 * k'.val ∨ 16 * k'.val + 16 ≤ 16 * k.val + m.val
      have := Fin.val_ne_of_ne h; omega)
  rcases (by decide : ∀ w k : Fin 2, (w = 1 ∧ k = 1) ∨ (w = 0 ∧ k = 1) ∨ (w = 1 ∧ k = 0) ∨ (w = 0 ∧ k = 0)) w k with ⟨rfl, rfl⟩ | ⟨rfl, rfl⟩ | ⟨rfl, rfl⟩ | ⟨rfl, rfl⟩
  · exact hit 1 1 _
  · rw [way 0 1 1 1 _ (by decide)]; exact hit 0 1 _
  · rw [chk 1 1 0 1 _ (by decide), chk 1 0 0 1 _ (by decide)]; exact hit 1 0 _
  · rw [chk 0 1 0 1 _ (by decide), chk 0 0 0 1 _ (by decide), way 0 1 0 0 _ (by decide)]; exact hit 0 0 _

/-! ## The run over the chunks -/

/-- What a trip carries and has stored. -/
abbrev Carry : Type := (FVec Ideal Sq .f32 × FVec Ideal Sq .f32) × List (View.Piece (Elt Ideal) States .f32)

/-- One trip: chunk `n0` of way 0 and chunk `n1` of way 1 get the running sums, which then take the entries found there. -/
structure Trip (v : View sg κ sp States .f32) (f : v.ty.Contents (Elt Ideal)) (c0 c1 : EReal) (n0 n1 : Fin 32) (a b : Carry) : Prop where
  next0 : ∀ d e, b.1.1 (ix2 d e) = a.1.1 (ix2 d e) * c0 + v.read (Elt Ideal) (v.writes (Elt Ideal) f a.2) (ix4 0 n0 d e)
  next1 : ∀ d e, b.1.2 (ix2 d e) = a.1.2 (ix2 d e) * c1 + v.read (Elt Ideal) (v.writes (Elt Ideal) f a.2) (ix4 1 n1 d e)
  hit0 : ∀ d e, v.read (Elt Ideal) (v.writes (Elt Ideal) f b.2) (ix4 0 n0 d e) = a.1.1 (ix2 d e)
  hit1 : ∀ d e, v.read (Elt Ideal) (v.writes (Elt Ideal) f b.2) (ix4 1 n1 d e) = a.1.2 (ix2 d e)
  miss0 : ∀ n d e, n ≠ n0 → v.read (Elt Ideal) (v.writes (Elt Ideal) f b.2) (ix4 0 n d e) = v.read (Elt Ideal) (v.writes (Elt Ideal) f a.2) (ix4 0 n d e)
  miss1 : ∀ n d e, n ≠ n1 → v.read (Elt Ideal) (v.writes (Elt Ideal) f b.2) (ix4 1 n d e) = v.read (Elt Ideal) (v.writes (Elt Ideal) f a.2) (ix4 1 n d e)

/-- The two stores of a trip. -/
theorem read_pair (v : View sg κ sp States .f32) (f : v.ty.Contents (Elt Ideal)) {o0 o1 : Fin 4 → ℕ} {n0 n1 : Fin 32}
    (h0 : o0 = ![0, n0.val, 0, 0]) (h1 : o1 = ![1, n1.val, 0, 0]) (b0 : ∀ a, o0 a + OneState.size a ≤ States.size a)
    (b1 : ∀ a, o1 a + OneState.size a ≤ States.size a) (p0 p1 : Vec Ideal OneState .f32) (L : List (View.Piece (Elt Ideal) States .f32))
    (d e : Fin 128) :
    let R := v.read (Elt Ideal) (v.writes (Elt Ideal) f (⟨Rect.unit o1 OneState.size b1, p1⟩ :: ⟨Rect.unit o0 OneState.size b0, p0⟩ :: L))
    R (ix4 0 n0 d e) = p0 (ix4 0 0 d e) ∧ R (ix4 1 n1 d e) = p1 (ix4 0 0 d e)
      ∧ (∀ n, n ≠ n0 → R (ix4 0 n d e) = v.read (Elt Ideal) (v.writes (Elt Ideal) f L) (ix4 0 n d e))
      ∧ (∀ n, n ≠ n1 → R (ix4 1 n d e) = v.read (Elt Ideal) (v.writes (Elt Ideal) f L) (ix4 1 n d e)) := by
  intro R
  have skip1 : ∀ n, R (ix4 0 n d e) = v.read (Elt Ideal) (v.writes (Elt Ideal) f (⟨Rect.unit o0 OneState.size b0, p0⟩ :: L)) (ix4 0 n d e) := fun n =>
    View.read_writes_cons_unit_of_not_mem v f b1 p1 _ _ h1 0 (Or.inl (by show 0 < 1; omega))
  have skip0 : ∀ n, v.read (Elt Ideal) (v.writes (Elt Ideal) f (⟨Rect.unit o0 OneState.size b0, p0⟩ :: L)) (ix4 1 n d e) = v.read (Elt Ideal) (v.writes (Elt Ideal) f L) (ix4 1 n d e) := fun n =>
    View.read_writes_cons_unit_of_not_mem v f b0 p0 _ _ h0 0 (Or.inr (by show 0 + 1 ≤ 1; omega))
  refine ⟨?_, ?_, fun n h => ?_, fun n h => ?_⟩
  · rw [skip1]
    exact View.read_writes_cons_unit_of_mem v f b0 p0 L _ (ix4 0 0 d e) h0 fun a => by
      fin_cases a
      · rfl
      · exact (Nat.add_zero _).symm
      · exact (Nat.zero_add _).symm
      · exact (Nat.zero_add _).symm
  · exact View.read_writes_cons_unit_of_mem v f b1 p1 _ _ (ix4 0 0 d e) h1 fun a => by
      fin_cases a
      · rfl
      · exact (Nat.add_zero _).symm
      · exact (Nat.zero_add _).symm
      · exact (Nat.zero_add _).symm
  · rw [skip1]
    exact View.read_writes_cons_unit_of_not_mem v f b0 p0 L _ h0 1 (by
      show n.val < n0.val ∨ n0.val + 1 ≤ n.val
      have := Fin.val_ne_of_ne h; omega)
  · refine (View.read_writes_cons_unit_of_not_mem v f b1 p1 _ _ h1 1 (by
      show n.val < n1.val ∨ n1.val + 1 ≤ n.val
      have := Fin.val_ne_of_ne h; omega)).trans (skip0 n)

/-- One entry's run: the running sums and what has been stored, trip after trip. -/
theorem run_entry (c : EReal) (φ : Fin 32 → Fin 32) (hφ : ∀ a b, φ a = φ b → a = b) (X : Fin 32 → EReal) (A : ℕ → EReal) (R : ℕ → Fin 32 → EReal)
    (hA : A 0 = 0) (hR : ∀ n, R 0 n = X n) (next : ∀ k : Fin 32, A (k.val + 1) = A k.val * c + R k.val (φ k))
    (hit : ∀ k : Fin 32, R (k.val + 1) (φ k) = A k.val) (miss : ∀ (k : Fin 32) n, n ≠ φ k → R (k.val + 1) n = R k.val n) :
    ∀ k, k ≤ 32 → A k = scan c (fun m => nth (fun p => X (φ p)) m) k
      ∧ ∀ n : Fin 32, R k (φ n) = if n.val < k then scan c (fun m => nth (fun p => X (φ p)) m) n.val else X (φ n) := by
  intro k
  induction k with
  | zero => exact fun _ => ⟨hA, fun n => by rw [hR, if_neg (Nat.not_lt_zero _)]⟩
  | succ k ih =>
    intro hk
    obtain ⟨ihA, ihR⟩ := ih (by omega)
    have hk' : k < 32 := hk
    refine ⟨?_, fun n => ?_⟩
    · have h := next ⟨k, hk'⟩
      rw [ihR, if_neg (lt_irrefl _)] at h
      rw [h, ihA, scan]
      simp only [nth, dif_pos hk']
    · by_cases hn : n = ⟨k, hk'⟩
      · subst hn
        rw [hit ⟨k, hk'⟩, ihA, if_pos (Nat.lt_succ_self _)]
      · have hv : n.val ≠ k := fun h => hn (Fin.ext h)
        rw [miss ⟨k, hk'⟩ _ (fun h => hn (hφ _ _ h)), ihR]
        by_cases h : n.val < k
        · rw [if_pos h, if_pos (by omega)]
        · rw [if_neg h, if_neg (by omega)]

/-- The whole run, both ways: way 0 by `φ0`, way 1 by `φ1`. -/
theorem run_states (v : View sg κ sp States .f32) (f : v.ty.Contents (Elt Ideal)) (c0 c1 : EReal) (φ0 φ1 : Fin 32 → Fin 32)
    (h0 : ∀ a b, φ0 a = φ0 b → a = b) (h1 : ∀ a b, φ1 a = φ1 b → a = b) (st : ℕ → Carry) (z0 : ∀ d e, (st 0).1.1 (ix2 d e) = 0) (z1 : ∀ d e, (st 0).1.2 (ix2 d e) = 0)
    (zL : (st 0).2 = []) (trip : ∀ k : Fin 32, Trip v f c0 c1 (φ0 k) (φ1 k) (st k.val) (st (k.val + 1))) (n : Fin 32) (d e : Fin 128) :
    v.read (Elt Ideal) (v.writes (Elt Ideal) f (st 32).2) (ix4 0 (φ0 n) d e) = scan c0 (fun m => nth (fun p => v.read (Elt Ideal) f (ix4 0 (φ0 p) d e)) m) n.val
      ∧ v.read (Elt Ideal) (v.writes (Elt Ideal) f (st 32).2) (ix4 1 (φ1 n) d e) = scan c1 (fun m => nth (fun p => v.read (Elt Ideal) f (ix4 1 (φ1 p) d e)) m) n.val := by
  constructor
  · have h := (run_entry c0 φ0 h0 (fun n => v.read (Elt Ideal) f (ix4 0 n d e)) (fun k => (st k).1.1 (ix2 d e)) (fun k n => v.read (Elt Ideal) (v.writes (Elt Ideal) f (st k).2) (ix4 0 n d e))
      (z0 d e) (fun n => by rw [zL]; rfl) (fun k => (trip k).next0 d e) (fun k => (trip k).hit0 d e) (fun k n hn => (trip k).miss0 n d e hn) 32 (le_refl _)).2 n
    rwa [if_pos n.isLt] at h
  · have h := (run_entry c1 φ1 h1 (fun n => v.read (Elt Ideal) f (ix4 1 n d e)) (fun k => (st k).1.2 (ix2 d e)) (fun k n => v.read (Elt Ideal) (v.writes (Elt Ideal) f (st k).2) (ix4 1 n d e))
      (z1 d e) (fun n => by rw [zL]; rfl) (fun k => (trip k).next1 d e) (fun k => (trip k).hit1 d e) (fun k n hn => (trip k).miss1 n d e hn) 32 (le_refl _)).2 n
    rwa [if_pos n.isLt] at h

/-! ## The three results of a head -/

/-- Six stored halves of rows: third, second and first result of the second half, then of the first (last first). -/
theorem read_rows (v : View sg κ sp Rows3 .bf16) (f : v.ty.Contents (Elt Ideal)) (o : Fin 3 → Fin 2 → Fin 3 → ℕ)
    (ho : ∀ r k, o r k = ![r.val, 2048 * k.val, 0]) (hb : ∀ r k a, o r k a + Rows1.size a ≤ Rows3.size a)
    (p : Fin 3 → Fin 2 → Vec Ideal Rows1 .bf16) (r : Fin 3) (k : Fin 2) (x : Fin 2048) (d : Fin 128) :
    v.read (Elt Ideal) (v.writes (Elt Ideal) f [⟨Rect.unit (o 2 1) Rows1.size (hb 2 1), p 2 1⟩, ⟨Rect.unit (o 1 1) Rows1.size (hb 1 1), p 1 1⟩, ⟨Rect.unit (o 0 1) Rows1.size (hb 0 1), p 0 1⟩,
        ⟨Rect.unit (o 2 0) Rows1.size (hb 2 0), p 2 0⟩, ⟨Rect.unit (o 1 0) Rows1.size (hb 1 0), p 1 0⟩, ⟨Rect.unit (o 0 0) Rows1.size (hb 0 0), p 0 0⟩])
        (ix3 r ⟨2048 * k.val + x.val, by omega⟩ d)
      = p r k (ix3 0 x d) := by
  have hit : ∀ (r : Fin 3) (k : Fin 2) (L), v.read (Elt Ideal) (v.writes (Elt Ideal) f (⟨Rect.unit (o r k) Rows1.size (hb r k), p r k⟩ :: L)) (ix3 r ⟨2048 * k.val + x.val, by omega⟩ d) = p r k (ix3 0 x d) :=
    fun r k L => View.read_writes_cons_unit_of_mem v f (hb r k) (p r k) L _ (ix3 0 x d) (ho r k) fun a => by
      fin_cases a
      · exact (Nat.add_zero _).symm
      · rfl
      · exact (Nat.zero_add _).symm
  have skip : ∀ (r r' : Fin 3) (k k' : Fin 2) (L), (r ≠ r' ∨ k ≠ k') → v.read (Elt Ideal) (v.writes (Elt Ideal) f (⟨Rect.unit (o r' k') Rows1.size (hb r' k'), p r' k'⟩ :: L)) (ix3 r ⟨2048 * k.val + x.val, by omega⟩ d)
      = v.read (Elt Ideal) (v.writes (Elt Ideal) f L) (ix3 r ⟨2048 * k.val + x.val, by omega⟩ d) := by
    intro r r' k k' L h
    rcases h with h | h
    · exact View.read_writes_cons_unit_of_not_mem v f (hb r' k') (p r' k') L _ (ho r' k') 0 (by
        show r.val < r'.val ∨ r'.val + 1 ≤ r.val
        have := Fin.val_ne_of_ne h; omega)
    · exact View.read_writes_cons_unit_of_not_mem v f (hb r' k') (p r' k') L _ (ho r' k') 1 (by
        show 2048 * k.val + x.val < 2048 * k'.val ∨ 2048 * k'.val + 2048 ≤ 2048 * k.val + x.val
        have := Fin.val_ne_of_ne h; omega)
  by_cases hk : k = 1
  · subst hk
    by_cases h2 : r = 2
    · subst h2; exact hit 2 1 _
    rw [skip r 2 1 1 _ (Or.inl h2)]
    by_cases h1 : r = 1
    · subst h1; exact hit 1 1 _
    rw [skip r 1 1 1 _ (Or.inl h1)]
    obtain rfl : r = 0 := by omega
    exact hit 0 1 _
  · rw [skip r 2 k 1 _ (Or.inr hk), skip r 1 k 1 _ (Or.inr hk), skip r 0 k 1 _ (Or.inr hk)]
    obtain rfl : k = 0 := by omega
    by_cases h2 : r = 2
    · subst h2; exact hit 2 0 _
    rw [skip r 2 0 0 _ (Or.inl h2)]
    by_cases h1 : r = 1
    · subst h1; exact hit 1 0 _
    rw [skip r 1 0 0 _ (Or.inl h1)]
    obtain rfl : r = 0 := by omega
    exact hit 0 0 _

/-! ## Loads -/

/-- A half of an argument's rows, and a half of a way's states, as loaded. -/
abbrev ldRows {arg : Memref sg .tc .vmem Rows .f32} (harg : arg.IsWhole) (x : Vec Ideal Rows .f32) (o : Fin 2 → ℕ)
    (h : ∀ a, o a + HalfRows.size a ≤ Rows.size a) : Vec Ideal HalfRows .f32 :=
  View.readAt (Elt Ideal) arg.view (Rect.unit (s := Rows) o HalfRows.size h).toLoadRect (harg.unread x)
abbrev ldStates {sp : Space} {M : Memref sg .tc sp States .f32} (G : M.view.ty.Contents (Elt Ideal)) (o : Fin 4 → ℕ)
    (h : ∀ a, o a + HalfStates.size a ≤ States.size a) : Vec Ideal HalfStates .f32 :=
  View.readAt (Elt Ideal) M.view (Rect.unit (s := States) o HalfStates.size h).toLoadRect G
abbrev ldState {sp : Space} {M : Memref sg .tc sp States .f32} (G : M.view.ty.Contents (Elt Ideal)) (o : Fin 4 → ℕ)
    (h : ∀ a, o a + OneState.size a ≤ States.size a) : Vec Ideal OneState .f32 :=
  View.readAt (Elt Ideal) M.view (Rect.unit (s := States) o OneState.size h).toLoadRect G

/-- An argument's block by chunk and row of the chunk. -/
def cell (X : Vec Ideal Rows .f32) : Arr := fun n i d => X (ix2 ⟨n.val * 128 + i.val, by omega⟩ d)

theorem ld_rows {arg : Memref sg .tc .vmem Rows .f32} (harg : arg.IsWhole) (x : Vec Ideal Rows .f32) {o : Fin 2 → ℕ} (k : Fin 2)
    (ho : o = ![2048 * k.val, 0]) (h : ∀ a, o a + HalfRows.size a ≤ Rows.size a) (m : Fin 16) (i d : Fin 128) :
    rows16 (ldRows harg x o h) m i d = cell x (half k m) i d := by
  subst ho
  refine (harg.readAt_unread _ _ _).trans (congrArg x (funext fun a => Fin.ext ?_))
  fin_cases a
  · show 2048 * k.val + 1 * (m.val * 128 + i.val) = (16 * k.val + m.val) * 128 + i.val; omega
  · show 0 + 1 * d.val = d.val; omega
theorem ld_states {sp : Space} {M : Memref sg .tc sp States .f32} (G : M.view.ty.Contents (Elt Ideal)) {o : Fin 4 → ℕ} (w k : Fin 2)
    (ho : o = ![w.val, 16 * k.val, 0, 0]) (h : ∀ a, o a + HalfStates.size a ≤ States.size a) (m : Fin 16) (d e : Fin 128) :
    state16 (ldStates G o h) m d e = M.view.read (Elt Ideal) G (ix4 w (half k m) d e) := by
  subst ho
  refine congrArg (M.view.read (Elt Ideal) G) (funext fun a => Fin.ext ?_)
  fin_cases a
  · show w.val + 1 * 0 = w.val; omega
  · show 16 * k.val + 1 * m.val = 16 * k.val + m.val; omega
  · show 0 + 1 * d.val = d.val; omega
  · show 0 + 1 * e.val = e.val; omega
theorem ld_state {sp : Space} {M : Memref sg .tc sp States .f32} (G : M.view.ty.Contents (Elt Ideal)) {o : Fin 4 → ℕ} (w : Fin 2) (n : Fin 32)
    (ho : o = ![w.val, n.val, 0, 0]) (h : ∀ a, o a + OneState.size a ≤ States.size a) (d e : Fin 128) :
    ldState G o h (ix4 0 0 d e) = M.view.read (Elt Ideal) G (ix4 w n d e) := by
  subst ho
  refine congrArg (M.view.read (Elt Ideal) G) (funext fun a => Fin.ext ?_)
  fin_cases a
  · show w.val + 1 * 0 = w.val; omega
  · show n.val + 1 * 0 = n.val; omega
  · show 0 + 1 * d.val = d.val; omega
  · show 0 + 1 * e.val = e.val; omega

theorem rev_inj (m n : Fin 32) (h : m.rev = n.rev) : m = n := by simpa using h
theorem off_rev (w : ℕ) (k : Fin 32) : (![w, 31 - k.val, 0, 0] : Fin 4 → ℕ) = ![w, k.rev.val, 0, 0] := by
  rw [Fin.val_rev]; congr 2; omega

end Cert.Proof.RetBwd

end
-- ==== Proof.RetBwdLoops.lean ====
/- Hand-written, untrusted: THE GRADIENT KERNEL'S FOUR LOOPS AT ONE HEAD. The first fills the two state buffers with what every
   chunk adds; the second and third turn these into what reaches every chunk; the fourth fills the three results. -/
module

public import proofs.«01_k».proof.Proof.Gen.Kernel6Ideal.Loops
public import proofs.«01_k».proof.Proof.RetBwdPays
public import proofs.«01_k».proof.Proof.RetBwdStore

@[expose] public section

set_option maxRecDepth 16384

noncomputable section

namespace Cert.Proof.RetBwd

open Cert.Kernel6Ideal Cert.Kernel6Ideal.Gen
open Idealize.ShloMosaic Idealize.ShloMosaic.TcCoe

/-- The buffers of states and of results. -/
abbrev states0 : Memref sig .tc .vmem S2x32x128x128 .f32 := Memref.whole cc0_scratch0
abbrev states1 : Memref sig .tc .vmem S2x32x128x128 .f32 := Memref.whole cc0_scratch1
abbrev grads : Memref sig .tc .vmem S3x4096x128 .bf16 := Memref.whole cc0_scratch2
abbrev into : Memref sig .tc .hbm S4096x7168 .bf16 := Memref.whole main_v0_1

variable (c : Dev nD) (i : grid0.Coords) (arg1 : Memref sig .tc .smem S1x8 .f32) (harg1 : arg1.IsWhole) (arg2 : Memref sig .tc .smem S1x8 .f32) (harg2 : arg2.IsWhole)
  (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg8 : Memref sig .tc .vmem S1x8x128 .f32) (harg8 : arg8.IsWhole) (a b : Elt Ideal .f32) (x3 x4 x5 x6 : Vec Ideal S4096x128 .f32)

/-- The first loop's stores, the second's and third's runs over what a buffer held, the fourth's stores. -/
def put (k : ℕ) : List (View.Piece (Elt Ideal) S2x32x128x128 .f32) × List (View.Piece (Elt Ideal) S2x32x128x128 .f32) :=
  pb_k0_t1 (F := Ideal) Variants.none c none i arg1 harg1 arg2 harg2 arg3 harg3 arg4 harg4 arg5 harg5 arg6 harg6 into (Memref.isWhole_whole _) arg8 harg8 into (Memref.isWhole_whole _)
    states0 (Memref.isWhole_whole _) states1 (Memref.isWhole_whole _) grads (Memref.isWhole_whole _) cc0_scratch3
    (k0_pay44 a) (k0_pay45 b) k0_pay47 (k0_pay48 a) k0_pay50 k0_pay51 (k0_pay52 a) (k0_pay53 a) (k0_pay54 a) k0_pay56 k0_pay57 (harg3.unread x3) (harg4.unread x4) (harg5.unread x5) (harg6.unread x6) k
def back (G : states0.view.ty.Contents (Elt Ideal)) (k : ℕ) : Carry :=
  st_k0_t2 (F := Ideal) Variants.none c none i arg1 harg1 arg2 harg2 arg3 harg3 arg4 harg4 arg5 harg5 arg6 harg6 into (Memref.isWhole_whole _) arg8 harg8 into (Memref.isWhole_whole _)
    states0 (Memref.isWhole_whole _) states1 (Memref.isWhole_whole _) grads (Memref.isWhole_whole _) cc0_scratch3
    (k0_pay44 a) (k0_pay45 b) k0_pay47 (k0_pay48 a) k0_pay50 k0_pay51 (k0_pay52 a) (k0_pay53 a) (k0_pay54 a) k0_pay56 k0_pay57 G (k0_pay67, k0_pay67) k
def forth (G : states1.view.ty.Contents (Elt Ideal)) (k : ℕ) : Carry :=
  st_k0_t3 (F := Ideal) Variants.none c none i arg1 harg1 arg2 harg2 arg3 harg3 arg4 harg4 arg5 harg5 arg6 harg6 into (Memref.isWhole_whole _) arg8 harg8 into (Memref.isWhole_whole _)
    states0 (Memref.isWhole_whole _) states1 (Memref.isWhole_whole _) grads (Memref.isWhole_whole _) cc0_scratch3
    (k0_pay44 a) (k0_pay45 b) k0_pay47 (k0_pay48 a) k0_pay50 k0_pay51 (k0_pay52 a) (k0_pay53 a) (k0_pay54 a) k0_pay56 k0_pay57 G (k0_pay72, k0_pay72) k
def give (G0 : states0.view.ty.Contents (Elt Ideal)) (G1 : states1.view.ty.Contents (Elt Ideal)) (k : ℕ) : (FVec Ideal S1x128 .f32 × FVec Ideal S1x128 .f32) × List (View.Piece (Elt Ideal) S3x4096x128 .bf16) :=
  st_k0_t4 (F := Ideal) Variants.none c none i arg1 harg1 arg2 harg2 arg3 harg3 arg4 harg4 arg5 harg5 arg6 harg6 into (Memref.isWhole_whole _) arg8 harg8 into (Memref.isWhole_whole _)
    states0 (Memref.isWhole_whole _) states1 (Memref.isWhole_whole _) grads (Memref.isWhole_whole _) cc0_scratch3
    (k0_pay44 a) (k0_pay45 b) k0_pay47 (k0_pay48 a) k0_pay50 k0_pay51 (k0_pay52 a) (k0_pay53 a) (k0_pay54 a) k0_pay56 k0_pay57 (harg3.unread x3) (harg4.unread x4) (harg5.unread x5) (harg6.unread x6) G0 G1 (k0_pay77, k0_pay77) k

/-- The stores of the first loop's trip. -/
def putKV (k : Fin k0_t1_loop.trips) : List (View.Piece (Elt Ideal) S2x32x128x128 .f32) :=
  [⟨Rect.unit (k0_off4 k) S1x16x128x128.size (k0_off4_inb k), k0_pay65 (k0_pay3 (ldRows harg5 x5 _ (k0_off2_inb k))) (k0_pay7 (k0_pay63 (k0_pay45 b)) (ldRows harg4 x4 _ (k0_off2_inb k)))⟩,
    ⟨Rect.unit (k0_off3 k) S1x16x128x128.size (k0_off3_inb k), k0_pay5 (k0_pay53 a) (ldRows harg4 x4 _ (k0_off2_inb k)) (ldRows harg5 x5 _ (k0_off2_inb k))⟩]
def putQG (k : Fin k0_t1_loop.trips) : List (View.Piece (Elt Ideal) S2x32x128x128 .f32) :=
  [⟨Rect.unit (k0_off4 k) S1x16x128x128.size (k0_off4_inb k), k0_pay66 (k0_pay45 b) (k0_pay1 (ldRows harg3 x3 _ (k0_off2_inb k))) (k0_pay4 (ldRows harg6 x6 _ (k0_off2_inb k)))⟩,
    ⟨Rect.unit (k0_off3 k) S1x16x128x128.size (k0_off3_inb k), k0_pay6 (k0_pay52 a) (ldRows harg3 x3 _ (k0_off2_inb k)) (ldRows harg6 x6 _ (k0_off2_inb k))⟩]

theorem put_eq (k : Fin k0_t1_loop.trips) :
    put c i arg1 harg1 arg2 harg2 arg3 harg3 arg4 harg4 arg5 harg5 arg6 harg6 arg8 harg8 a b x3 x4 x5 x6 (k.val + 1)
      = (putKV arg4 harg4 arg5 harg5 a b x4 x5 k ++ (put c i arg1 harg1 arg2 harg2 arg3 harg3 arg4 harg4 arg5 harg5 arg6 harg6 arg8 harg8 a b x3 x4 x5 x6 k.val).1,
        putQG arg3 harg3 arg6 harg6 a b x3 x6 k ++ (put c i arg1 harg1 arg2 harg2 arg3 harg3 arg4 harg4 arg5 harg5 arg6 harg6 arg8 harg8 a b x3 x4 x5 x6 k.val).2) := by
  refine (pb_k0_t1_succ ..).trans ?_
  unfold tripL_k0_t1 trip_k0_t1
  rfl

/-- One trip of the second and of the third loop, from what was carried and stored. -/
def backStep (G : states0.view.ty.Contents (Elt Ideal)) (k : Fin k0_t2_loop.trips) (p : Carry) : Carry :=
  ((k0_pay69 (k0_pay54 a) p.1.1 (ldState (M := states0) (states0.view.writes (Elt Ideal) G p.2) _ (k0_off5_inb k)),
      k0_pay71 (k0_pay45 b) p.1.2 (ldState (M := states0) (states0.view.writes (Elt Ideal) G p.2) _ (k0_off6_inb k))),
    [⟨Rect.unit (k0_off6 k) S1x1x128x128.size (k0_off6_inb k), k0_pay70 p.1.2⟩, ⟨Rect.unit (k0_off5 k) S1x1x128x128.size (k0_off5_inb k), k0_pay68 p.1.1⟩] ++ p.2)
def forthStep (G : states1.view.ty.Contents (Elt Ideal)) (k : Fin k0_t3_loop.trips) (p : Carry) : Carry :=
  ((k0_pay74 (k0_pay54 a) p.1.1 (ldState (M := states1) (states1.view.writes (Elt Ideal) G p.2) _ (k0_off7_inb k)),
      k0_pay76 (k0_pay45 b) p.1.2 (ldState (M := states1) (states1.view.writes (Elt Ideal) G p.2) _ (k0_off8_inb k))),
    [⟨Rect.unit (k0_off8 k) S1x1x128x128.size (k0_off8_inb k), k0_pay75 p.1.2⟩, ⟨Rect.unit (k0_off7 k) S1x1x128x128.size (k0_off7_inb k), k0_pay73 p.1.1⟩] ++ p.2)

theorem back_eq (G : states0.view.ty.Contents (Elt Ideal)) (k : Fin k0_t2_loop.trips) :
    back c i arg1 harg1 arg2 harg2 arg3 harg3 arg4 harg4 arg5 harg5 arg6 harg6 arg8 harg8 a b G (k.val + 1)
      = backStep a b G k (back c i arg1 harg1 arg2 harg2 arg3 harg3 arg4 harg4 arg5 harg5 arg6 harg6 arg8 harg8 a b G k.val) := by
  refine (st_k0_t2_succ ..).trans ?_
  unfold tripR_k0_t2 tripL_k0_t2 trip_k0_t2
  rfl
theorem forth_eq (G : states1.view.ty.Contents (Elt Ideal)) (k : Fin k0_t3_loop.trips) :
    forth c i arg1 harg1 arg2 harg2 arg3 harg3 arg4 harg4 arg5 harg5 arg6 harg6 arg8 harg8 a b G (k.val + 1)
      = forthStep a b G k (forth c i arg1 harg1 arg2 harg2 arg3 harg3 arg4 harg4 arg5 harg5 arg6 harg6 arg8 harg8 a b G k.val) := by
  refine (st_k0_t3_succ ..).trans ?_
  unfold tripR_k0_t3 tripL_k0_t3 trip_k0_t3
  rfl

/-- The stores of the fourth loop's trip. -/
def outQ (G0 : states0.view.ty.Contents (Elt Ideal)) (k : Fin k0_t4_loop.trips) : Vec Ideal S1x2048x128 .bf16 :=
  k0_pay41 (k0_pay36 (k0_pay59 (k0_pay45 b) k0_pay56 k0_pay57) (k0_pay62 (k0_pay45 b)) (k0_pay11 (ldRows harg4 x4 _ (k0_off9_inb k))) (k0_pay13 (ldRows harg6 x6 _ (k0_off9_inb k)))
    (k0_pay15 (ldRows harg5 x5 _ (k0_off9_inb k)) (ldRows harg6 x6 _ (k0_off9_inb k)))
    (k0_pay24 (k0_pay20 (ldRows harg6 x6 _ (k0_off9_inb k)) (ldStates (M := states0) G0 _ (k0_off10_inb k)))
      (k0_pay22 (k0_pay48 a) (ldRows harg4 x4 _ (k0_off9_inb k)) (ldRows harg5 x5 _ (k0_off9_inb k)) (ldRows harg6 x6 _ (k0_off9_inb k))) (k0_pay23 (k0_pay52 a)))
    (ldStates (M := states0) G0 _ (k0_off11_inb k)))
def outK (G1 : states1.view.ty.Contents (Elt Ideal)) (k : Fin k0_t4_loop.trips) : Vec Ideal S1x2048x128 .bf16 :=
  k0_pay42 (k0_pay37 (k0_pay59 (k0_pay45 b) k0_pay56 k0_pay57) (k0_pay63 (k0_pay45 b)) (k0_pay10 (ldRows harg3 x3 _ (k0_off9_inb k))) (k0_pay12 (ldRows harg5 x5 _ (k0_off9_inb k)))
    (k0_pay15 (ldRows harg5 x5 _ (k0_off9_inb k)) (ldRows harg6 x6 _ (k0_off9_inb k)))
    (k0_pay25 (k0_pay53 a) (k0_pay10 (ldRows harg3 x3 _ (k0_off9_inb k))) (k0_pay19 (k0_pay48 a) (ldRows harg5 x5 _ (k0_off9_inb k)) (ldRows harg6 x6 _ (k0_off9_inb k)))
      (k0_pay21 (ldRows harg5 x5 _ (k0_off9_inb k)) (ldStates (M := states1) G1 _ (k0_off10_inb k))))
    (ldStates (M := states1) G1 _ (k0_off11_inb k)))
def outV (G1 : states1.view.ty.Contents (Elt Ideal)) (k : Fin k0_t4_loop.trips) : Vec Ideal S1x2048x128 .bf16 :=
  k0_pay43 (k0_pay38 (k0_pay59 (k0_pay45 b) k0_pay56 k0_pay57) (k0_pay63 (k0_pay45 b)) (k0_pay9 (ldRows harg4 x4 _ (k0_off9_inb k))) (k0_pay13 (ldRows harg6 x6 _ (k0_off9_inb k)))
    (k0_pay14 (ldRows harg3 x3 _ (k0_off9_inb k)) (ldRows harg4 x4 _ (k0_off9_inb k)))
    (k0_pay26 (k0_pay48 a) (k0_pay53 a) (k0_pay9 (ldRows harg4 x4 _ (k0_off9_inb k))) (k0_pay13 (ldRows harg6 x6 _ (k0_off9_inb k)))
      (k0_pay14 (ldRows harg3 x3 _ (k0_off9_inb k)) (ldRows harg4 x4 _ (k0_off9_inb k))) (k0_pay17 (ldStates (M := states1) G1 _ (k0_off10_inb k))))
    (ldStates (M := states1) G1 _ (k0_off11_inb k)))

theorem give_eq (G0 : states0.view.ty.Contents (Elt Ideal)) (G1 : states1.view.ty.Contents (Elt Ideal)) (k : Fin k0_t4_loop.trips) :
    (give c i arg1 harg1 arg2 harg2 arg3 harg3 arg4 harg4 arg5 harg5 arg6 harg6 arg8 harg8 a b x3 x4 x5 x6 G0 G1 (k.val + 1)).2
      = [⟨Rect.unit (k0_off14 k) S1x2048x128.size (k0_off14_inb k), outV arg3 harg3 arg4 harg4 arg6 harg6 a b x3 x4 x6 G1 k⟩,
          ⟨Rect.unit (k0_off13 k) S1x2048x128.size (k0_off13_inb k), outK arg3 harg3 arg5 harg5 arg6 harg6 a b x3 x5 x6 G1 k⟩,
          ⟨Rect.unit (k0_off12 k) S1x2048x128.size (k0_off12_inb k), outQ arg4 harg4 arg5 harg5 arg6 harg6 a b x4 x5 x6 G0 k⟩]
        ++ (give c i arg1 harg1 arg2 harg2 arg3 harg3 arg4 harg4 arg5 harg5 arg6 harg6 arg8 harg8 a b x3 x4 x5 x6 G0 G1 k.val).2 := by
  refine (congrArg Prod.snd (st_k0_t4_succ ..)).trans ?_
  unfold tripL_k0_t4 trip_k0_t4
  rfl

end Cert.Proof.RetBwd

end
-- ==== Proof.RetBwdHead.lean ====
/- Hand-written, untrusted: WHAT THE FOUR LOOPS LEAVE AT ONE HEAD: the three gradients of the head, at every row. -/
module

public import proofs.«01_k».proof.Proof.RetBwdLoops

@[expose] public section

set_option maxRecDepth 16384

noncomputable section

namespace Cert.Proof.RetBwd

open Cert.Kernel6Ideal Cert.Kernel6Ideal.Gen
open Idealize.ShloMosaic Idealize.ShloMosaic.TcCoe

variable (c : Dev nD) (i : grid0.Coords) (arg1 : Memref sig .tc .smem S1x8 .f32) (harg1 : arg1.IsWhole) (arg2 : Memref sig .tc .smem S1x8 .f32) (harg2 : arg2.IsWhole)
  (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg8 : Memref sig .tc .vmem S1x8x128 .f32) (harg8 : arg8.IsWhole) (a b : Elt Ideal .f32) (x3 x4 x5 x6 : Vec Ideal S4096x128 .f32)

/-- What the first loop leaves in the two buffers, whatever they held. -/
theorem put_states0 (f : states0.view.ty.Contents (Elt Ideal)) (n : Fin 32) (d e : Fin 128) :
    let R := states0.view.read (Elt Ideal) (states0.view.writes (Elt Ideal) f (put c i arg1 harg1 arg2 harg2 arg3 harg3 arg4 harg4 arg5 harg5 arg6 harg6 arg8 harg8 a b x3 x4 x5 x6 2).1)
    R (ix4 0 n d e) = kv (down (rate a)) (cell x4) (cell x5) n d e ∧ R (ix4 1 n d e) = kv (down' (rate b)) (cell x4) (cell x5) n d e := by
  intro R
  have eL : (put c i arg1 harg1 arg2 harg2 arg3 harg3 arg4 harg4 arg5 harg5 arg6 harg6 arg8 harg8 a b x3 x4 x5 x6 2).1 = putKV arg4 harg4 arg5 harg5 a b x4 x5 (1 : Fin 2) ++ (putKV arg4 harg4 arg5 harg5 a b x4 x5 (0 : Fin 2) ++ []) :=
    (congrArg Prod.fst (put_eq c i arg1 harg1 arg2 harg2 arg3 harg3 arg4 harg4 arg5 harg5 arg6 harg6 arg8 harg8 a b x3 x4 x5 x6 (1 : Fin 2))).trans (congrArg (_ ++ ·) (congrArg Prod.fst (put_eq c i arg1 harg1 arg2 harg2 arg3 harg3 arg4 harg4 arg5 harg5 arg6 harg6 arg8 harg8 a b x3 x4 x5 x6 (0 : Fin 2))))
  obtain ⟨k, m, rfl⟩ := half_surj n
  have h := fun w => read_halves states0.view f (fun w k => ![k0_off3 k, k0_off4 k] w) (fun w k => by fin_cases w; exacts [k0_off3_eq k, k0_off4_eq k])
    (fun w k => by fin_cases w; exacts [k0_off3_inb k, k0_off4_inb k])
    (fun w k => ![k0_pay5 (k0_pay53 a) (ldRows harg4 x4 _ (k0_off2_inb k)) (ldRows harg5 x5 _ (k0_off2_inb k)),
      k0_pay65 (k0_pay3 (ldRows harg5 x5 _ (k0_off2_inb k))) (k0_pay7 (k0_pay63 (k0_pay45 b)) (ldRows harg4 x4 _ (k0_off2_inb k)))] w) w k m d e
  have hR : ∀ w : Fin 2, R (ix4 w (half k m) d e) = _ := fun w => (congrArg (fun L => states0.view.read (Elt Ideal) (states0.view.writes (Elt Ideal) f L) (ix4 w (half k m) d e)) eL).trans (h w)
  constructor
  · refine (hR 0).trans ((pay_kv _ _ _ m d e).trans ?_)
    simp only [ld_rows harg4 x4 k (k0_off2_eq k), ld_rows harg5 x5 k (k0_off2_eq k), pay_down]; rfl
  · refine (hR 1).trans ((pay_kv' _ _ _ m d e).trans ?_)
    simp only [ld_rows harg4 x4 k (k0_off2_eq k), ld_rows harg5 x5 k (k0_off2_eq k), pay_down']; rfl

theorem put_states1 (f : states1.view.ty.Contents (Elt Ideal)) (n : Fin 32) (d e : Fin 128) :
    let R := states1.view.read (Elt Ideal) (states1.view.writes (Elt Ideal) f (put c i arg1 harg1 arg2 harg2 arg3 harg3 arg4 harg4 arg5 harg5 arg6 harg6 arg8 harg8 a b x3 x4 x5 x6 2).2)
    R (ix4 0 n d e) = qg (up (rate a)) (scaled sc (cell x3)) (cell x6) n d e ∧ R (ix4 1 n d e) = qg (up' (rate b)) (scaled sc (cell x3)) (cell x6) n d e := by
  intro R
  have eL : (put c i arg1 harg1 arg2 harg2 arg3 harg3 arg4 harg4 arg5 harg5 arg6 harg6 arg8 harg8 a b x3 x4 x5 x6 2).2 = putQG arg3 harg3 arg6 harg6 a b x3 x6 (1 : Fin 2) ++ (putQG arg3 harg3 arg6 harg6 a b x3 x6 (0 : Fin 2) ++ []) :=
    (congrArg Prod.snd (put_eq c i arg1 harg1 arg2 harg2 arg3 harg3 arg4 harg4 arg5 harg5 arg6 harg6 arg8 harg8 a b x3 x4 x5 x6 (1 : Fin 2))).trans (congrArg (_ ++ ·) (congrArg Prod.snd (put_eq c i arg1 harg1 arg2 harg2 arg3 harg3 arg4 harg4 arg5 harg5 arg6 harg6 arg8 harg8 a b x3 x4 x5 x6 (0 : Fin 2))))
  obtain ⟨k, m, rfl⟩ := half_surj n
  have h := fun w => read_halves states1.view f (fun w k => ![k0_off3 k, k0_off4 k] w) (fun w k => by fin_cases w; exacts [k0_off3_eq k, k0_off4_eq k])
    (fun w k => by fin_cases w; exacts [k0_off3_inb k, k0_off4_inb k])
    (fun w k => ![k0_pay6 (k0_pay52 a) (ldRows harg3 x3 _ (k0_off2_inb k)) (ldRows harg6 x6 _ (k0_off2_inb k)),
      k0_pay66 (k0_pay45 b) (k0_pay1 (ldRows harg3 x3 _ (k0_off2_inb k))) (k0_pay4 (ldRows harg6 x6 _ (k0_off2_inb k)))] w) w k m d e
  have hR : ∀ w : Fin 2, R (ix4 w (half k m) d e) = _ := fun w => (congrArg (fun L => states1.view.read (Elt Ideal) (states1.view.writes (Elt Ideal) f L) (ix4 w (half k m) d e)) eL).trans (h w)
  constructor
  · refine (hR 0).trans ((pay_qg _ _ _ m d e).trans ?_)
    simp only [ld_rows harg3 x3 k (k0_off2_eq k), ld_rows harg6 x6 k (k0_off2_eq k), pay_up]; rfl
  · refine (hR 1).trans ((pay_qg' _ _ _ m d e).trans ?_)
    simp only [ld_rows harg3 x3 k (k0_off2_eq k), ld_rows harg6 x6 k (k0_off2_eq k), pay_up']; rfl

/-- A trip of the second and of the third loop, as reads. -/
theorem back_trip (G : states0.view.ty.Contents (Elt Ideal)) (k : Fin 32) :
    Trip states0.view G (dec (rate a) 128) (dec (rate b) 128) k k.rev (back c i arg1 harg1 arg2 harg2 arg3 harg3 arg4 harg4 arg5 harg5 arg6 harg6 arg8 harg8 a b G k.val) (back c i arg1 harg1 arg2 harg2 arg3 harg3 arg4 harg4 arg5 harg5 arg6 harg6 arg8 harg8 a b G (k.val + 1)) := by
  rw [back_eq c i arg1 harg1 arg2 harg2 arg3 harg3 arg4 harg4 arg5 harg5 arg6 harg6 arg8 harg8 a b G k]
  generalize back c i arg1 harg1 arg2 harg2 arg3 harg3 arg4 harg4 arg5 harg5 arg6 harg6 arg8 harg8 a b G k.val = p
  have h6 := (k0_off6_eq k).trans (off_rev 1 k)
  have h := fun d e => read_pair states0.view G (k0_off5_eq k) h6 (k0_off5_inb k) (k0_off6_inb k) (k0_pay68 p.1.1) (k0_pay70 p.1.2) p.2 d e
  exact ⟨fun d e => ((pay_next _ _ _ d e).1).trans (by rw [pay_step, ld_state (M := states0) _ 0 k (k0_off5_eq k)]),
    fun d e => ((pay_next' _ _ _ d e).1).trans (by rw [pay_step', ld_state (M := states0) _ 1 k.rev h6]),
    fun d e => (h d e).1.trans (pay_put _ d e).1, fun d e => (h d e).2.1.trans (pay_put _ d e).2.1,
    fun n d e hn => (h d e).2.2.1 n hn, fun n d e hn => (h d e).2.2.2 n hn⟩
theorem forth_trip (G : states1.view.ty.Contents (Elt Ideal)) (k : Fin 32) :
    Trip states1.view G (dec (rate a) 128) (dec (rate b) 128) k.rev k (forth c i arg1 harg1 arg2 harg2 arg3 harg3 arg4 harg4 arg5 harg5 arg6 harg6 arg8 harg8 a b G k.val) (forth c i arg1 harg1 arg2 harg2 arg3 harg3 arg4 harg4 arg5 harg5 arg6 harg6 arg8 harg8 a b G (k.val + 1)) := by
  rw [forth_eq c i arg1 harg1 arg2 harg2 arg3 harg3 arg4 harg4 arg5 harg5 arg6 harg6 arg8 harg8 a b G k]
  generalize forth c i arg1 harg1 arg2 harg2 arg3 harg3 arg4 harg4 arg5 harg5 arg6 harg6 arg8 harg8 a b G k.val = p
  have h7 := (k0_off7_eq k).trans (off_rev 0 k)
  have h := fun d e => read_pair states1.view G h7 (k0_off8_eq k) (k0_off7_inb k) (k0_off8_inb k) (k0_pay73 p.1.1) (k0_pay75 p.1.2) p.2 d e
  exact ⟨fun d e => ((pay_next _ _ _ d e).2).trans (by rw [pay_step, ld_state (M := states1) _ 0 k.rev h7]),
    fun d e => ((pay_next' _ _ _ d e).2).trans (by rw [pay_step', ld_state (M := states1) _ 1 k (k0_off8_eq k)]),
    fun d e => (h d e).1.trans (pay_put _ d e).2.2.1, fun d e => (h d e).2.1.trans (pay_put _ d e).2.2.2,
    fun n d e hn => (h d e).2.2.1 n hn, fun n d e hn => (h d e).2.2.2 n hn⟩

/-- The two buffers after their run: what reaches every chunk, from either side. -/
theorem back_states (G : states0.view.ty.Contents (Elt Ideal)) (X0 X1 : Fin 32 → Mat) (h0 : ∀ n d e, states0.view.read (Elt Ideal) G (ix4 0 n d e) = X0 n d e)
    (h1 : ∀ n d e, states0.view.read (Elt Ideal) G (ix4 1 n d e) = X1 n d e) (n : Fin 32) (d e : Fin 128) :
    let R := states0.view.read (Elt Ideal) (states0.view.writes (Elt Ideal) G (back c i arg1 harg1 arg2 harg2 arg3 harg3 arg4 harg4 arg5 harg5 arg6 harg6 arg8 harg8 a b G 32).2)
    R (ix4 0 n d e) = past (dec (rate a) 128) X0 n d e ∧ R (ix4 1 n d e) = ahead (dec (rate b) 128) X1 n d e := by
  intro R
  have h := fun n => run_states states0.view G (dec (rate a) 128) (dec (rate b) 128) (fun k => k) Fin.rev (fun _ _ h => h) rev_inj (fun k => back c i arg1 harg1 arg2 harg2 arg3 harg3 arg4 harg4 arg5 harg5 arg6 harg6 arg8 harg8 a b G k)
    (fun d e => (pay_zero d e).1) (fun d e => (pay_zero d e).1) rfl (back_trip c i arg1 harg1 arg2 harg2 arg3 harg3 arg4 harg4 arg5 harg5 arg6 harg6 arg8 harg8 a b G) n d e
  refine ⟨(h n).1.trans ?_, ?_⟩
  · simp only [h0]; rfl
  · have h' := (h n.rev).2
    rw [Fin.rev_rev] at h'
    refine h'.trans ?_
    simp only [h1]; rfl
theorem forth_states (G : states1.view.ty.Contents (Elt Ideal)) (X0 X1 : Fin 32 → Mat) (h0 : ∀ n d e, states1.view.read (Elt Ideal) G (ix4 0 n d e) = X0 n d e)
    (h1 : ∀ n d e, states1.view.read (Elt Ideal) G (ix4 1 n d e) = X1 n d e) (n : Fin 32) (d e : Fin 128) :
    let R := states1.view.read (Elt Ideal) (states1.view.writes (Elt Ideal) G (forth c i arg1 harg1 arg2 harg2 arg3 harg3 arg4 harg4 arg5 harg5 arg6 harg6 arg8 harg8 a b G 32).2)
    R (ix4 0 n d e) = ahead (dec (rate a) 128) X0 n d e ∧ R (ix4 1 n d e) = past (dec (rate b) 128) X1 n d e := by
  intro R
  have h := fun n => run_states states1.view G (dec (rate a) 128) (dec (rate b) 128) Fin.rev (fun k => k) rev_inj (fun _ _ h => h) (fun k => forth c i arg1 harg1 arg2 harg2 arg3 harg3 arg4 harg4 arg5 harg5 arg6 harg6 arg8 harg8 a b G k)
    (fun d e => (pay_zero d e).2) (fun d e => (pay_zero d e).2) rfl (forth_trip c i arg1 harg1 arg2 harg2 arg3 harg3 arg4 harg4 arg5 harg5 arg6 harg6 arg8 harg8 a b G) n d e
  refine ⟨?_, (h n).2.trans ?_⟩
  · have h' := (h n.rev).1
    rw [Fin.rev_rev] at h'
    refine h'.trans ?_
    simp only [h0]; rfl
  · simp only [h1]; rfl

/-- The fourth loop's results, from the states it finds. -/
theorem give_rows (f : grads.view.ty.Contents (Elt Ideal)) (G0 : states0.view.ty.Contents (Elt Ideal)) (G1 : states1.view.ty.Contents (Elt Ideal)) (S0 S1 D0 D1 : Fin 32 → Mat)
    (hS : ∀ n d e, states0.view.read (Elt Ideal) G0 (ix4 0 n d e) = S0 n d e ∧ states0.view.read (Elt Ideal) G0 (ix4 1 n d e) = S1 n d e)
    (hD : ∀ n d e, states1.view.read (Elt Ideal) G1 (ix4 0 n d e) = D0 n d e ∧ states1.view.read (Elt Ideal) G1 (ix4 1 n d e) = D1 n d e) (n : Fin 32) (r d : Fin 128) :
    let R := fun s : Fin 3 => grads.view.read (Elt Ideal) (grads.view.writes (Elt Ideal) f (give c i arg1 harg1 arg2 harg2 arg3 harg3 arg4 harg4 arg5 harg5 arg6 harg6 arg8 harg8 a b x3 x4 x5 x6 G0 G1 2).2) (ix3 s ⟨n.val * 128 + r.val, by omega⟩ d)
    R 0 = (wayQ (mask0 (rate a)) (up (rate a)) (cell x4) (cell x5) (cell x6) S0 n r d + wayQ (mask1 (rate b)) (up' (rate b)) (cell x4) (cell x5) (cell x6) S1 n r d) * sc
      ∧ R 1 = wayK (mask0 (rate a)) (down (rate a)) (scaled sc (cell x3)) (cell x5) (cell x6) D0 n r d + wayK (mask1 (rate b)) (down' (rate b)) (scaled sc (cell x3)) (cell x5) (cell x6) D1 n r d
      ∧ R 2 = wayV (mask0 (rate a)) (down (rate a)) (scaled sc (cell x3)) (cell x4) (cell x6) D0 n r d + wayV (mask1 (rate b)) (down' (rate b)) (scaled sc (cell x3)) (cell x4) (cell x6) D1 n r d := by
  intro R
  have one := give_eq c i arg1 harg1 arg2 harg2 arg3 harg3 arg4 harg4 arg5 harg5 arg6 harg6 arg8 harg8 a b x3 x4 x5 x6 G0 G1 (1 : Fin 2)
  have zero := give_eq c i arg1 harg1 arg2 harg2 arg3 harg3 arg4 harg4 arg5 harg5 arg6 harg6 arg8 harg8 a b x3 x4 x5 x6 G0 G1 (0 : Fin 2)
  have eL := one.trans (congrArg (_ ++ ·) zero)
  obtain ⟨k, m, rfl⟩ := half_surj n
  have h := fun s => read_rows grads.view f (fun s k => ![k0_off12 k, k0_off13 k, k0_off14 k] s) (fun s k => by fin_cases s; exacts [k0_off12_eq k, k0_off13_eq k, k0_off14_eq k])
    (fun s k => by fin_cases s; exacts [k0_off12_inb k, k0_off13_inb k, k0_off14_inb k])
    (fun s k => ![outQ arg4 harg4 arg5 harg5 arg6 harg6 a b x4 x5 x6 G0 k, outK arg3 harg3 arg5 harg5 arg6 harg6 a b x3 x5 x6 G1 k,
      outV arg3 harg3 arg4 harg4 arg6 harg6 a b x3 x4 x6 G1 k] s) s k ⟨m.val * 128 + r.val, by omega⟩ d
  have hR : ∀ s : Fin 3, R s = _ := fun s => by
    refine (congrArg (fun y => grads.view.read (Elt Ideal) (grads.view.writes (Elt Ideal) f (give c i arg1 harg1 arg2 harg2 arg3 harg3 arg4 harg4 arg5 harg5 arg6 harg6 arg8 harg8 a b x3 x4 x5 x6 G0 G1 2).2) y) (?_ : _ = ix3 s ⟨2048 * k.val + (m.val * 128 + r.val), by omega⟩ d)).trans
      ((congrArg (fun L => grads.view.read (Elt Ideal) (grads.view.writes (Elt Ideal) f L) (ix3 s ⟨2048 * k.val + (m.val * 128 + r.val), by omega⟩ d)) eL).trans (h s))
    exact congrArg (fun t => ix3 s t d) (Fin.ext (by show (16 * k.val + m.val) * 128 + r.val = 2048 * k.val + (m.val * 128 + r.val); omega))
  have q := ld_rows harg3 x3 k (k0_off9_eq k) (k0_off9_inb k)
  have kk := ld_rows harg4 x4 k (k0_off9_eq k) (k0_off9_inb k)
  have v := ld_rows harg5 x5 k (k0_off9_eq k) (k0_off9_inb k)
  have g := ld_rows harg6 x6 k (k0_off9_eq k) (k0_off9_inb k)
  have s0 : ∀ m d e, state16 (ldStates (M := states0) G0 _ (k0_off10_inb k)) m d e = S0 (half k m) d e := fun m d e => (ld_states (M := states0) G0 0 k (k0_off10_eq k) _ m d e).trans (hS _ d e).1
  have s1 : ∀ m d e, state16 (ldStates (M := states0) G0 _ (k0_off11_inb k)) m d e = S1 (half k m) d e := fun m d e => (ld_states (M := states0) G0 1 k (k0_off11_eq k) _ m d e).trans (hS _ d e).2
  have d0 : ∀ m d e, state16 (ldStates (M := states1) G1 _ (k0_off10_inb k)) m d e = D0 (half k m) d e := fun m d e => (ld_states (M := states1) G1 0 k (k0_off10_eq k) _ m d e).trans (hD _ d e).1
  have d1 : ∀ m d e, state16 (ldStates (M := states1) G1 _ (k0_off11_inb k)) m d e = D1 (half k m) d e := fun m d e => (ld_states (M := states1) G1 1 k (k0_off11_eq k) _ m d e).trans (hD _ d e).2
  refine ⟨(hR 0).trans ((pay_dq _ _ _ _ _ _ _ _ _ m r d).trans ?_), (hR 1).trans ((pay_dk _ _ _ _ _ _ _ _ _ m r d).trans ?_), (hR 2).trans ((pay_dv _ _ _ _ _ _ _ _ _ m r d).trans ?_)⟩
  · simp only [kk, v, g, s0, s1, pay_mask0, pay_mask1, pay_up, pay_up']; rfl
  · simp only [q, v, g, d0, d1, pay_mask0, pay_mask1, pay_down, pay_down']; rfl
  · simp only [q, kk, g, d0, d1, pay_mask0, pay_mask1, pay_down, pay_down']; rfl

/-- The buffers of states as the fourth loop finds them. -/
def found0 (f : states0.view.ty.Contents (Elt Ideal)) : states0.view.ty.Contents (Elt Ideal) :=
  states0.view.writes (Elt Ideal) f ((back c i arg1 harg1 arg2 harg2 arg3 harg3 arg4 harg4 arg5 harg5 arg6 harg6 arg8 harg8 a b (states0.view.writes (Elt Ideal) f (put c i arg1 harg1 arg2 harg2 arg3 harg3 arg4 harg4 arg5 harg5 arg6 harg6 arg8 harg8 a b x3 x4 x5 x6 2).1) 32).2 ++ (put c i arg1 harg1 arg2 harg2 arg3 harg3 arg4 harg4 arg5 harg5 arg6 harg6 arg8 harg8 a b x3 x4 x5 x6 2).1)
def found1 (f : states1.view.ty.Contents (Elt Ideal)) : states1.view.ty.Contents (Elt Ideal) :=
  states1.view.writes (Elt Ideal) f ((forth c i arg1 harg1 arg2 harg2 arg3 harg3 arg4 harg4 arg5 harg5 arg6 harg6 arg8 harg8 a b (states1.view.writes (Elt Ideal) f (put c i arg1 harg1 arg2 harg2 arg3 harg3 arg4 harg4 arg5 harg5 arg6 harg6 arg8 harg8 a b x3 x4 x5 x6 2).2) 32).2 ++ (put c i arg1 harg1 arg2 harg2 arg3 harg3 arg4 harg4 arg5 harg5 arg6 harg6 arg8 harg8 a b x3 x4 x5 x6 2).2)

/-- The head's three gradients, whatever the buffers held. -/
theorem head_rows (f0 : states0.view.ty.Contents (Elt Ideal)) (f1 : states1.view.ty.Contents (Elt Ideal)) (f : grads.view.ty.Contents (Elt Ideal)) (n : Fin 32) (r d : Fin 128) :
    let R := fun s : Fin 3 => grads.view.read (Elt Ideal) (grads.view.writes (Elt Ideal) f (give c i arg1 harg1 arg2 harg2 arg3 harg3 arg4 harg4 arg5 harg5 arg6 harg6 arg8 harg8 a b x3 x4 x5 x6 (found0 c i arg1 harg1 arg2 harg2 arg3 harg3 arg4 harg4 arg5 harg5 arg6 harg6 arg8 harg8 a b x3 x4 x5 x6 f0) (found1 c i arg1 harg1 arg2 harg2 arg3 harg3 arg4 harg4 arg5 harg5 arg6 harg6 arg8 harg8 a b x3 x4 x5 x6 f1) 2).2) (ix3 s ⟨n.val * 128 + r.val, by omega⟩ d)
    R 0 = headQ sc (rate a) (rate b) (cell x4) (cell x5) (cell x6) n r d ∧ R 1 = headK sc (rate a) (rate b) (cell x3) (cell x5) (cell x6) n r d
      ∧ R 2 = headV sc (rate a) (rate b) (cell x3) (cell x4) (cell x6) n r d := by
  refine give_rows c i arg1 harg1 arg2 harg2 arg3 harg3 arg4 harg4 arg5 harg5 arg6 harg6 arg8 harg8 a b x3 x4 x5 x6 f _ _ _ _ _ _ (fun n d e => ?_) (fun n d e => ?_) n r d
  · unfold found0
    rw [View.writes_append]
    exact back_states c i arg1 harg1 arg2 harg2 arg3 harg3 arg4 harg4 arg5 harg5 arg6 harg6 arg8 harg8 a b _ _ _ (fun n d e => (put_states0 c i arg1 harg1 arg2 harg2 arg3 harg3 arg4 harg4 arg5 harg5 arg6 harg6 arg8 harg8 a b x3 x4 x5 x6 f0 n d e).1) (fun n d e => (put_states0 c i arg1 harg1 arg2 harg2 arg3 harg3 arg4 harg4 arg5 harg5 arg6 harg6 arg8 harg8 a b x3 x4 x5 x6 f0 n d e).2) n d e
  · unfold found1
    rw [View.writes_append]
    exact forth_states c i arg1 harg1 arg2 harg2 arg3 harg3 arg4 harg4 arg5 harg5 arg6 harg6 arg8 harg8 a b _ _ _ (fun n d e => (put_states1 c i arg1 harg1 arg2 harg2 arg3 harg3 arg4 harg4 arg5 harg5 arg6 harg6 arg8 harg8 a b x3 x4 x5 x6 f1 n d e).1) (fun n d e => (put_states1 c i arg1 harg1 arg2 harg2 arg3 harg3 arg4 harg4 arg5 harg5 arg6 harg6 arg8 harg8 a b x3 x4 x5 x6 f1 n d e).2) n d e

end Cert.Proof.RetBwd

end
-- ==== Proof.RetBwdRun.lean ====
module

public import proofs.«01_k».proof.Proof.Gen.Kernel6Ideal.Loops
public import proofs.«01_k».proof.Proof.Gen.Kernel6Ideal.Frame

@[expose] public section

set_option maxRecDepth 16384

noncomputable section

namespace Cert.Proof.RetBwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's buffer: what the region writes in place. -/
abbrev res : Memref sig .tc .hbm S4096x7168 .bf16 := Memref.whole main_v0_1
/-- Its contents on core `c`, and the buffer held whole at them. -/
abbrev ResBuf (c : Dev nD) {sp : Space} {S : Shape} {e : EltTy} (M : Memref sig .tc sp S e) : Type := Buf (Elt F) (M.view.loc (c : Thread nD τ))
abbrev resPt (c : Dev nD) {sp : Space} {S : Shape} {e : EltTy} (M : Memref sig .tc sp S e) (f : ResBuf (F := F) c M) : sProp 𝕄 :=
  M.view.loc (c : Thread nD τ) ↦{fullShare} f

set_option maxHeartbeats 4000000 in
set_option sl_exec.dmaWindow true in
def run (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg8 : Memref sig .tc .vmem S1x8x128 .f32) (harg8 : arg8.IsWhole)
    (x1 x2 : Vec F S1x8 .f32) (x3 x4 x5 x6 : Vec F S4096x128 .f32)
    :
    { G : ResBuf (F := F) c res → ResBuf (F := F) c (Memref.whole cc0_scratch0 : Memref sig .tc .vmem S2x32x128x128 .f32) → ResBuf (F := F) c (Memref.whole cc0_scratch1 : Memref sig .tc .vmem S2x32x128x128 .f32) → ResBuf (F := F) c (Memref.whole cc0_scratch2 : Memref sig .tc .vmem S3x4096x128 .bf16) → ResBuf (F := F) c res // ∀ (f9 : ResBuf (F := F) c res) (W : Waits sig Unit) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ (∃ d, owns (c : Thread nD τ) arg8 fullShare d)
      ∗ (∃ d, owns (c : Thread nD τ) (Memref.whole cc0_scratch0 : Memref sig .tc .vmem S2x32x128x128 .f32) fullShare d)
      ∗ (∃ d, owns (c : Thread nD τ) (Memref.whole cc0_scratch1 : Memref sig .tc .vmem S2x32x128x128 .f32) fullShare d)
      ∗ (∃ d, owns (c : Thread nD τ) (Memref.whole cc0_scratch2 : Memref sig .tc .vmem S3x4096x128 .bf16) fullShare d)
      ∗ semVal ((c : Thread nD τ), SemLoc.dma 12) 0 ∗ semVal ((c : Thread nD τ), SemLoc.dma 13) 0 ∗ semVal ((c : Thread nD τ), SemLoc.dma 14) 0
      ∗ resPt c res f9 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ (∃ d, owns (c : Thread nD τ) arg8 fullShare d)
      ∗ (∃ d, owns (c : Thread nD τ) (Memref.whole cc0_scratch0 : Memref sig .tc .vmem S2x32x128x128 .f32) fullShare d)
      ∗ (∃ d, owns (c : Thread nD τ) (Memref.whole cc0_scratch1 : Memref sig .tc .vmem S2x32x128x128 .f32) fullShare d)
      ∗ (∃ d, owns (c : Thread nD τ) (Memref.whole cc0_scratch2 : Memref sig .tc .vmem S3x4096x128 .bf16) fullShare d)
      ∗ semVal ((c : Thread nD τ), SemLoc.dma 12) 0 ∗ semVal ((c : Thread nD τ), SemLoc.dma 13) 0 ∗ semVal ((c : Thread nD τ), SemLoc.dma 14) 0
      ∗ (∃ f10 f11 f12, resPt c res (G f9 f10 f11 f12)) ∗ (∃ W', owes (c : Thread nD τ) 0 W')) -∗ K ⟨⟩))
    ⊢ wp frame (wpE (defs₀ (F := F)) Variants.none c none) Set.univ (cc0_ret_bwd i arg1 harg1 arg2 harg2 arg3 harg3 arg4 harg4 arg5 harg5 arg6 harg6 (Memref.whole main_v0_1) (Memref.isWhole_whole _) arg8 harg8 (Memref.whole main_v0_1) (Memref.isWhole_whole _) (Memref.whole cc0_scratch0) (Memref.isWhole_whole _) (Memref.whole cc0_scratch1) (Memref.isWhole_whole _) (Memref.whole cc0_scratch2) (Memref.isWhole_whole _) cc0_scratch3) K } := by
  refine ⟨?_, fun f9 W K => ?run⟩
  case run =>
    simp only [cc0_ret_bwd_eq_skeleton]; unfold cc0_ret_bwd_skel
    simp only [k0_part6_eq_skeleton, k0_part7_eq_skeleton, k0_part8_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d10, %f10, -, H10⟩, ⟨%d11, %f11, -, H11⟩, ⟨%d12, %f12, -, H12⟩, Hq0, Hq1, Hq2, H9, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _, _; isplitr; swap; · iexact H8
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [Hq0]; · iexact Hq0
    isplitl [Hq1]; · iexact Hq1
    isplitl [Hq2]; · iexact Hq2
    isplitl [H9]
    · iexists f10, f11, f12; iexact H9
    iexists _; iexact HW

end Cert.Proof.RetBwd

end
-- ==== Proof.RetBwdFrame.lean ====
module

public import proofs.«01_k».proof.Proof.RetBwdRun
public import Idealize.ShloMosaic.Lib.Pipeline.FrameValue

@[expose] public section

set_option maxRecDepth 16384

noncomputable section

namespace Cert.Proof.RetBwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One head's step, and what the result may hold after some heads -/

/-- Window `w`'s staging memref at point `t`. -/
abbrev stage (w : Fin cfg0.W) (t : Fin cfg0.N) := (cfg0.win w).stage (cfg0.slots t w)

/-- The result after head `t`, from what it held before (`f9`) and what the scratch buffers held (`f10`, `f11`, `f12`). -/
def step (c : Dev nD) (t : Fin cfg0.N) :=
  (run (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (iblk m c 0 t) (iblk m c 1 t) (iblk m c 2 t) (iblk m c 3 t) (iblk m c 4 t) (iblk m c 5 t))

/-- What the result may hold after the first `n` heads. -/
def Reach (c : Dev nD) : ℕ → ResBuf (F := F) c res → Prop
  | 0, f => f = V m c main_v0_1
  | n + 1, f => ∃ (h : n < cfg0.N) (f9 : ResBuf (F := F) c res) (f10 : ResBuf (F := F) c (Memref.whole cc0_scratch0 : Memref sig .tc .vmem S2x32x128x128 .f32))
      (f11 : ResBuf (F := F) c (Memref.whole cc0_scratch1 : Memref sig .tc .vmem S2x32x128x128 .f32)) (f12 : ResBuf (F := F) c (Memref.whole cc0_scratch2 : Memref sig .tc .vmem S3x4096x128 .bf16)),
      Reach c n f9 ∧ f = (step m c ⟨n, h⟩).1 f9 f10 f11 f12

/-! ## The launch -/

/-- The three semaphores of the copies. -/
abbrev osem : Fin 3 → SemLoc sig := ![SemLoc.dma 12, SemLoc.dma 13, SemLoc.dma 14]
theorem osem_facts : Pipeline.OwnSemFacts spec0 osem := by decide
/-- The buffer the copies write. -/
def written : Finset (Ref sig .tc) := {main_v0_1}
theorem written_sub : written ⊆ Pipeline.restRefsP sig Pipeline.Prefetch.none spec0 \ ∅ := by decide

omit [FloatOps F] in
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 12) 0 ∗ semVal ((c : Thread nD τ), SemLoc.dma 13) 0 ∗ semVal ((c : Thread nD τ), SemLoc.dma 14) 0) := by
  rw [Pipeline.ownSems0_eq_of_list c osem [0, 1, 2] (by decide) (by decide)]; rfl

/-- The invariant before head `n`: scratch at anything, the semaphores at zero, the result at what it may hold. -/
def inv (c : Dev nD) (n : ℕ) : sProp 𝕄 :=
  iprop(Pipeline.ΦD osem spec0 ∅ (V m) c ∗ Pipeline.routedSat written c fun W => Reach m c n (W main_v0_1))

theorem inv_eq (c : Dev nD) (n : ℕ) : inv m c n = iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
      ∗ (∃ r, prngReg c r) ∗ (semVal ((c : Thread nD τ), SemLoc.dma 12) 0 ∗ semVal ((c : Thread nD τ), SemLoc.dma 13) 0 ∗ semVal ((c : Thread nD τ), SemLoc.dma 14) 0) ∗ (bigSep ∅ fun b => ((c.tc : Thread nD τ).loc b) ↦{fullShare} V m c b))
      ∗ (∃ W : (b : Ref sig .tc) → Buf (Elt F) ((c.tc : Thread nD τ).loc b), ⌜Reach m c n (W main_v0_1)⌝ ∗ resPt c res (W main_v0_1))) := by
  unfold inv Pipeline.routedSat Pipeline.routed written
  rw [Pipeline.ΦD_eq, scopedRest0_eq, osem_eq]
  simp only [BI.bigSep_eq_bigSepL_of_eq [main_v0_1] (by decide : ({main_v0_1} : Finset (Ref sig .tc)) = _) (by decide)]
  rfl

/-- The proof data: every input's buffer at its block, nothing said of the small output's (its blocks are forgotten). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := inv m c t.val
  q w := Pipeline.shareOf spec0 w
  owed _ := 0

/-- The output whose blocks are forgotten. -/
def small : Fin cfg0.W → Bool := ![false, false, false, false, false, false, true]

theorem A_eq (c : Dev nD) (w : Fin cfg0.W) : (dats m 0 c).A w = V m c (Pipeline.arrRef spec0 w) := by
  dsimp only [dats]

/-- Every input's staging buffer holds its block at every point. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t) := by
  refine ⟨fun d => ?_, fun d => ?_, fun d => ?_, fun d => ?_, fun d => ?_, fun d => ?_⟩
  all_goals
    refine ((dats m 0 c).before_in_eq_fetched _ rfl (fun _ => rfl) (fun _ _ _ => rfl) (fun t => ?_) t d).trans ?_
    · unfold Dat.blockOf; rw [A_eq]; rfl
    · unfold Dat.fetched Dat.blockOf; rw [A_eq]; rfl

theorem reach_succ {c : Dev nD} {t : Fin cfg0.N} {f9 : ResBuf (F := F) c res} (h : Reach m c t.val f9) (f10) (f11) (f12) :
    Reach m c (t.val + 1) ((step m c t).1 f9 f10 f11 f12) := ⟨t.isLt, f9, f10, f11, f12, h, rfl⟩

/-- The body at any point: its run, from the invariant to the invariant one head further. -/
theorem sound_body (c : Dev nD) (t : Fin cfg0.N) :
    iprop(inv m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ X, owns (c : Thread nD τ) (win0_6.stage (cfg0.slots t 6)) fullShare X))
    ⊢ wp frame (wpE (defs₀ (F := F)) Variants.none c none) Set.univ (bodyAt0 t) (fun _ =>
      iprop(inv m c (t.val + 1) ∗ (dats m 0 c).owesAt () t.succ
      ∗ owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (iblk m c 3 t)
      ∗ owns (c : Thread nD τ) (win0_4.stage (cfg0.slots t 4)) fullShare (iblk m c 4 t)
      ∗ owns (c : Thread nD τ) (win0_5.stage (cfg0.slots t 5)) fullShare (iblk m c 5 t)
      ∗ (∃ X, owns (c : Thread nD τ) (win0_6.stage (cfg0.slots t 6)) fullShare X))) := by
  obtain ⟨h0, h1, h2, h3, h4, h5⟩ := before_in m c t
  simp only [h0, h1, h2, h3, h4, h5, inv_eq]
  unfold bodyAt0 Dat.owesAt Pipeline.owesWithin
  rw [show (dats m 0 c).owed t.castSucc = 0 from rfl, show (dats m 0 c).owed t.succ = 0 from rfl]
  iintro ⟨⟨⟨⟨HS0, HS1, HS2⟩, Hg, ⟨Hq0, Hq1, Hq2⟩, HH⟩, ⟨%Wr, %hWr, HR⟩⟩, ⟨%W, -, HW⟩, ⟨%d0, H0⟩, ⟨%d1, H1⟩, ⟨%d2, H2⟩, ⟨%d3, H3⟩, ⟨%d4, H4⟩, ⟨%d5, H5⟩, H6⟩
  iapply ((step m c t).2 (Wr main_v0_1) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · icases HS0 with ⟨%f, HS0⟩; iexists _; rw [owns_whole]; iexact HS0
  isplitl [HS1]; · icases HS1 with ⟨%f, HS1⟩; iexists _; rw [owns_whole]; iexact HS1
  isplitl [HS2]; · icases HS2 with ⟨%f, HS2⟩; iexists _; rw [owns_whole]; iexact HS2
  isplitl [Hq0]; · iexact Hq0
  isplitl [Hq1]; · iexact Hq1
  isplitl [Hq2]; · iexact Hq2
  isplitl [HR]; · iexact HR
  isplitl [HW]; · iexact HW
  iintro ⟨H0, H1, H2, H3, H4, H5, H6, ⟨%e0, HS0⟩, ⟨%e1, HS1⟩, ⟨%e2, HS2⟩, Hq0, Hq1, Hq2, ⟨%f10, %f11, %f12, HR⟩, ⟨%W', HW'⟩⟩
  isplitl [HS0 HS1 HS2 Hg Hq0 Hq1 Hq2 HH HR]
  · isplitr [HR]
    · isplitl [HS0 HS1 HS2]
      · isplitl [HS0]; · iexists e0; rw [← owns_whole]; iexact HS0
        isplitl [HS1]; · iexists e1; rw [← owns_whole]; iexact HS1
        iexists e2; rw [← owns_whole]; iexact HS2
      isplitl [Hg]; · iexact Hg
      isplitl [Hq0 Hq1 Hq2]
      · isplitl [Hq0]; · iexact Hq0
        isplitl [Hq1]; · iexact Hq1
        iexact Hq2
      iexact HH
    · iexists fun b => if h : b = main_v0_1 then h ▸ (step m c t).1 (Wr main_v0_1) f10 f11 f12 else Wr b
      simp only [dite_true]
      isplitr; · ipureintro; exact reach_succ m hWr f10 f11 f12
      iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots. -/
theorem row (t : Fin cfg0.N) : defs₀ (F := F) .tc cfg0.body (cfg0.bodyArgs t (cfg0.slots t)) = bodyAt0 t := by
  unfold defs₀; rw [Defs.onTc_tc]

theorem obligation (c : Dev nD) : Pipeline.BodyObligationLoose (dats (F := F) m 0 c) (defs₀ (F := F)) Variants.none () Set.univ small := fun t => by
  rw [bigSep_W0, bigSep_W0, row]
  exact triple_restated (sound_body m c t) rfl .rfl fun _ => .rfl

theorem main_to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What holds after the run: the arrays as the relational data allow, the rest untouched, the result at what it may hold after all heads. -/
abbrev Post (r : PUnit × MemSt nD τ sig (Elt F)) : Prop :=
  RDat.FramePostR cfg0 (fun c => (dats m 0 c).toRForget small) written (V m) r
    ∧ ∀ c : Dev nD, ∃ W : (b : Ref sig .tc) → Buf (Elt F) ((c.tc : Thread nD τ).loc b), Reach m c 8 (W main_v0_1) ∧ ∀ b ∈ written, r.2.mem ((c.tc : Thread nD τ).loc b) = W b

set_option backward.isDefEq.respectTransparency.types false in
theorem launched : θ_run defs (onTc (τ := τ) (main (F := F))) (⟨m, fun _ => 0, ρ⟩) (fun r => Post m r ∧ r.2.sem = fun _ => 0) :=
  RDat.θ_run_frameP_dmaRSat_shared (Q' := _) (fun q => (cfgs q).toPCfg (Val := Elt F)) (fun q => (cfgs q).toPCfg_adm) (0 : Fin 1) launch₀0.toP osem defs₀ Variants.none
    (fun c => (dats m 0 c).toRForget small) osem_facts ∅ written (Finset.empty_subset _) written_sub m ρ main
    (hbody := fun c => (obligation m c).toRForget) (hq := fun _ _ _ => rfl) (howed := fun _ _ => rfl) (V := V m) (hmain := main_to_region m) (hA := A_eq m)
    (hpf := fun _ k => k.elim0) (PG := fun c W => Reach m c 8 (W main_v0_1))
    (hin := fun c => by
      change _ ⊢ inv m c 0
      unfold Pipeline.ΦDRG inv Pipeline.routedSat
      iintro ⟨⟨HD, HR⟩, -⟩
      isplitl [HD]; · iexact HD
      iexists V m c
      isplitr; · ipureintro; rfl
      iexact HR)
    (hout := fun _ => .rfl)
    (hQ' := fun _ h => h)

/-- An input's array ends as the region found it. -/
theorem in_kept {r : PUnit × MemSt nD τ sig (Elt F)} (h : Post m r) (c : Dev nD) (w : Fin cfg0.W) (hw : (cfg0.win w).isOut = false) :
    r.2.mem ((cfg0.spec w).arr.view.loc (c.tc : Thread nD τ)) = V m c (Pipeline.arrRef spec0 w) := by
  have e := (h.1 c).1 w
  rw [RDat.ArrAt_in _ w hw] at e
  exact e

/-- Every argument array ends as launched. -/
theorem kept {r : PUnit × MemSt nD τ sig (Elt F)} (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(in_kept m h c 2 rfl).trans (V_main_arg0 m c), (in_kept m h c 5 rfl).trans (V_main_arg1 m c),
    (in_kept m h c 0 rfl).trans (V_main_arg2 m c), (in_kept m h c 1 rfl).trans (V_main_arg3 m c),
    ((h.1 c).2 main_arg4 (by decide)).trans (V_main_arg4 m c)⟩

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (launched m ρ)

/-- The result at the end: what it may hold after all heads; the arguments beside it. -/
theorem result : θ_run defs (onTc (τ := τ) (main (F := F))) ⟨m, fun _ => 0, ρ⟩ (fun r => ∀ c : Dev nD, Reach m c 8 (r.2.mem ((c.tc : Thread nD τ).loc main_v0_1)) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
    obtain ⟨W, hW, hr⟩ := h.1.2 c
    rw [hr main_v0_1 (by decide)]; exact hW, kept m h.1 c⟩) (launched m ρ)

end Cert.Proof.RetBwd

end
-- ==== Proof.RetBwdWhole.lean ====
/- Hand-written, untrusted: WHAT THE RETENTION'S GRADIENT IS, over the packed arrays: columns 3072 to 6143 hold the three gradients of
   the eight heads, all other columns what they held. -/
module

public import proofs.«01_k».proof.Proof.RetWords

@[expose] public section

noncomputable section

namespace Cert.Proof.RetBwd

open Idealize.ShloMosaic

variable (X : FVec Ideal ⟨2, ![4096, 7168]⟩ .f32) (G : FVec Ideal ⟨2, ![4096, 1024]⟩ .f32) (L0 L1 : FVec Ideal ⟨2, ![1, 8]⟩ .f32) (D : FVec Ideal ⟨2, ![4096, 7168]⟩ .bf16)

/-- A head's queries (0), keys (1) or values (2), and its cotangent. -/
def part (s : Fin 3) (h : Fin 8) : Arr := fun n i d => X (ix2 (rowOf n i) (colOf s h d))
def cot (h : Fin 8) : Arr := fun n i d => G (ix2 (rowOf n i) (colOut h d))

/-- A head's gradient for its queries, keys or values. -/
def grad (s : Fin 3) (h : Fin 8) : Arr :=
  ![headQ sc (rate (L0 (ix2 0 h))) (rate (L1 (ix2 0 h))) (part X 1 h) (part X 2 h) (cot G h),
    headK sc (rate (L0 (ix2 0 h))) (rate (L1 (ix2 0 h))) (part X 0 h) (part X 2 h) (cot G h),
    headV sc (rate (L0 (ix2 0 h))) (rate (L1 (ix2 0 h))) (part X 0 h) (part X 1 h) (cot G h)] s

/-- The result `R`: the gradients in their columns, `D` in the others. -/
structure Spec (R : FVec Ideal ⟨2, ![4096, 7168]⟩ .bf16) : Prop where
  inside : ∀ s h n i d, R (ix2 (rowOf n i) (colOf s h d)) = grad X G L0 L1 s h n i d
  outside : ∀ x (y : Fin 7168), (y.val < 3072 ∨ 6144 ≤ y.val) → R (ix2 x y) = D (ix2 x y)

theorem Spec.unique {R R' : FVec Ideal ⟨2, ![4096, 7168]⟩ .bf16} (h : Spec X G L0 L1 D R) (h' : Spec X G L0 L1 D R') : R = R' := by
  funext z
  have ez : z = ix2 (z 0) (z 1) := by funext a; fin_cases a <;> rfl
  rw [ez]
  generalize z 0 = x
  generalize z 1 = y
  by_cases hy : y.val < 3072 ∨ 6144 ≤ y.val
  · exact (h.outside x y hy).trans (h'.outside x y hy).symm
  · obtain ⟨s, e, d, rfl⟩ := col_surj y (by omega) (by omega)
    obtain ⟨n, i, rfl⟩ := row_surj x
    exact (h.inside s e n i d).trans (h'.inside s e n i d).symm

end Cert.Proof.RetBwd

end
-- ==== Proof.RetBwdKernel.lean ====
/- Hand-written, untrusted: WHAT THE GRADIENT KERNEL LEAVES IN ITS RESULT: after every head, the head's three gradients in their columns. -/
module

public import proofs.«01_k».proof.Proof.RetBwdHead
public import proofs.«01_k».proof.Proof.RetBwdFrame
public import proofs.«01_k».proof.Proof.RetBwdWhole
public import Idealize.ShloMosaic.Lib.ValueLayout

@[expose] public section

set_option maxRecDepth 16384

noncomputable section

namespace Cert.Proof.RetBwd

open Cert.Kernel6Ideal Cert.Kernel6Ideal.Gen
open Idealize.ShloMosaic Idealize.ShloMosaic.TcCoe

/-- One of the three results as it is copied out. -/
abbrev copied (G : grads.view.ty.Contents (Elt Ideal)) (s : Fin 3) (h : ∀ a, (![s.val, 0, 0] : Fin 3 → ℕ) a + S1x4096x128.size a ≤ S3x4096x128.size a) : Vec Ideal S4096x128 .bf16 :=
  View.read (Elt Ideal) ((grads.slice (Rect.unit (s := S3x4096x128) ![s.val, 0, 0] S1x4096x128.size h) (fun _ => rfl)).squeeze S4096x128 squeezes_S1x4096x128_S4096x128).view G

theorem copied_apply (G : grads.view.ty.Contents (Elt Ideal)) (s : Fin 3) (h) (x : Fin 4096) (d : Fin 128) :
    copied G s h (ix2 x d) = grads.view.read (Elt Ideal) G (ix3 s x d) := by
  have e : ((grads.slice (Rect.unit (s := S3x4096x128) ![s.val, 0, 0] S1x4096x128.size h) (fun _ => rfl)).squeeze S4096x128 squeezes_S1x4096x128_S4096x128).view.emb (ix2 x d)
      = grads.view.emb ((Rect.unit (s := S3x4096x128) ![s.val, 0, 0] S1x4096x128.size h).emb (Shape.reshapeEquiv squeezes_S1x4096x128_S4096x128.numel_eq (ix2 x d))) := rfl
  refine congrArg G (e.trans (congrArg grads.view.emb ?_))
  refine (congrArg _ (ValueIdx.reshapeEquiv_ix2_1ab _ x d)).trans (funext fun a => Fin.ext ?_)
  fin_cases a
  · show s.val + 1 * 0 = s.val; omega
  · show 0 + 1 * x.val = x.val; omega
  · show 0 + 1 * d.val = d.val; omega

theorem word_apply (c : Dev nD) (i : grid0.Coords) (arg : Memref sig .tc .smem S1x8 .f32) (harg : arg.IsWhole) (x : Vec Ideal S1x8 .f32) :
    run.sl.r (F := Ideal) c i arg harg x = x (ix2 0 (i 0)) ∧ run.sl.r_1 (F := Ideal) c i arg harg x = x (ix2 0 (i 0)) := by
  have h : View.readAt (Elt Ideal) arg.view (Rect.unit (s := S1x8) (k0_off1 i) S1x1.size (k0_off1_inb i)).toLoadRect (harg.unread x) (ix2 0 0) = x (ix2 0 (i 0)) := by
    refine (harg.readAt_unread _ _ _).trans (congrArg x (funext fun a => Fin.ext ?_))
    have e := k0_off1_eq i
    fin_cases a
    · show k0_off1 i 0 + 1 * 0 = 0; rw [e]; rfl
    · show k0_off1 i 1 + 1 * 0 = (i 0).val; rw [e]; rfl
  have e : (Shape.Idx.first (s := S1x1) (by decide)) = ix2 0 0 := by decide
  exact ⟨(congrArg _ e).trans h, (congrArg _ e).trans h⟩

variable (c : Dev nD) (i : grid0.Coords) (arg1 : Memref sig .tc .smem S1x8 .f32) (harg1 : arg1.IsWhole) (arg2 : Memref sig .tc .smem S1x8 .f32) (harg2 : arg2.IsWhole)
  (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg8 : Memref sig .tc .vmem S1x8x128 .f32) (harg8 : arg8.IsWhole) (x1 x2 : Vec Ideal S1x8 .f32) (x3 x4 x5 x6 : Vec Ideal S4096x128 .f32)

/-- The buffer of results as the copies read it. -/
def ready (a b : Elt Ideal .f32) (f0 : states0.view.ty.Contents (Elt Ideal)) (f1 : states1.view.ty.Contents (Elt Ideal)) (f : grads.view.ty.Contents (Elt Ideal)) : grads.view.ty.Contents (Elt Ideal) :=
  grads.view.writes (Elt Ideal) f (give c i arg1 harg1 arg2 harg2 arg3 harg3 arg4 harg4 arg5 harg5 arg6 harg6 arg8 harg8 a b x3 x4 x5 x6
    (found0 c i arg1 harg1 arg2 harg2 arg3 harg3 arg4 harg4 arg5 harg5 arg6 harg6 arg8 harg8 a b x3 x4 x5 x6 f0) (found1 c i arg1 harg1 arg2 harg2 arg3 harg3 arg4 harg4 arg5 harg5 arg6 harg6 arg8 harg8 a b x3 x4 x5 x6 f1) 2).2

theorem trips_eq : Scf.trips k0_t1_loop.lb k0_t1_loop.ub k0_t1_loop.st = 2 ∧ Scf.trips k0_t2_loop.lb k0_t2_loop.ub k0_t2_loop.st = 32
    ∧ Scf.trips k0_t3_loop.lb k0_t3_loop.ub k0_t3_loop.st = 32 ∧ Scf.trips k0_t4_loop.lb k0_t4_loop.ub k0_t4_loop.st = 2 := by decide +kernel

theorem dma_eq (f0 : states0.view.ty.Contents (Elt Ideal)) (f1 : states1.view.ty.Contents (Elt Ideal)) (f : grads.view.ty.Contents (Elt Ideal)) :
    let G := ready c i arg1 harg1 arg2 harg2 arg3 harg3 arg4 harg4 arg5 harg5 arg6 harg6 arg8 harg8 x3 x4 x5 x6 (run.sl.r c i arg1 harg1 x1) (run.sl.r_1 c i arg2 harg2 x2) f0 f1 f
    run.sl.dma6 (F := Ideal) c i arg1 harg1 arg2 harg2 arg3 harg3 arg4 harg4 arg5 harg5 arg6 harg6 arg8 harg8 x1 x2 x3 x4 x5 x6 f0 f1 f = copied G 0 inb_S3x4096x128_S1x4096x128_0_0_0
      ∧ run.sl.dma6_1 (F := Ideal) c i arg1 harg1 arg2 harg2 arg3 harg3 arg4 harg4 arg5 harg5 arg6 harg6 arg8 harg8 x1 x2 x3 x4 x5 x6 f0 f1 f = copied G 1 inb_S3x4096x128_S1x4096x128_1_0_0
      ∧ run.sl.dma6_2 (F := Ideal) c i arg1 harg1 arg2 harg2 arg3 harg3 arg4 harg4 arg5 harg5 arg6 harg6 arg8 harg8 x1 x2 x3 x4 x5 x6 f0 f1 f = copied G 2 inb_S3x4096x128_S1x4096x128_2_0_0 := by
  intro G
  unfold run.sl.dma6 run.sl.dma6_1 run.sl.dma6_2
  obtain ⟨e1, e2, -, -⟩ := trips_eq
  rw [e1, e2]
  exact ⟨rfl, rfl, rfl⟩

/-- The result after a head: three blocks of columns written over what it was. -/
theorem run_eq (f9 : ResBuf (F := Ideal) c res) (f0 : states0.view.ty.Contents (Elt Ideal)) (f1 : states1.view.ty.Contents (Elt Ideal)) (f : grads.view.ty.Contents (Elt Ideal)) :
    let G := ready c i arg1 harg1 arg2 harg2 arg3 harg3 arg4 harg4 arg5 harg5 arg6 harg6 arg8 harg8 x3 x4 x5 x6 (x1 (ix2 0 (i 0))) (x2 (ix2 0 (i 0))) f0 f1 f
    (run (F := Ideal) c i arg1 harg1 arg2 harg2 arg3 harg3 arg4 harg4 arg5 harg5 arg6 harg6 arg8 harg8 x1 x2 x3 x4 x5 x6).1 f9 f0 f1 f
      = into.view.writes (Elt Ideal) f9 [⟨Rect.unit (s := S4096x7168) (k0_off15 i 40#32) S4096x128.size (k0_off15_inb i 2), copied G 2 inb_S3x4096x128_S1x4096x128_2_0_0⟩,
          ⟨Rect.unit (s := S4096x7168) (k0_off15 i 32#32) S4096x128.size (k0_off15_inb i 1), copied G 1 inb_S3x4096x128_S1x4096x128_1_0_0⟩,
          ⟨Rect.unit (s := S4096x7168) (k0_off15 i 24#32) S4096x128.size (k0_off15_inb i 0), copied G 0 inb_S3x4096x128_S1x4096x128_0_0_0⟩] := by
  intro G
  have h := dma_eq c i arg1 harg1 arg2 harg2 arg3 harg3 arg4 harg4 arg5 harg5 arg6 harg6 arg8 harg8 x1 x2 x3 x4 x5 x6 f0 f1 f
  rw [(word_apply c i arg1 harg1 x1).1, (word_apply c i arg2 harg2 x2).2] at h
  obtain ⟨h0, h1, h2⟩ := h
  have e : (run (F := Ideal) c i arg1 harg1 arg2 harg2 arg3 harg3 arg4 harg4 arg5 harg5 arg6 harg6 arg8 harg8 x1 x2 x3 x4 x5 x6).1 f9 f0 f1 f = run.sl.H9_w2 c i arg1 harg1 arg2 harg2 arg3 harg3 arg4 harg4 arg5 harg5 arg6 harg6 arg8 harg8 x1 x2 x3 x4 x5 x6 f9 f0 f1 f := by
    unfold run; dsimp only
  refine e.trans ?_
  unfold run.sl.H9_w2 run.sl.H9_w1 run.sl.H9_w0
  rw [h0, h1, h2]
  rfl

/-- The head's three gradients. -/
def three (a b : Elt Ideal .f32) (s : Fin 3) : Arr :=
  ![headQ sc (rate a) (rate b) (cell x4) (cell x5) (cell x6), headK sc (rate a) (rate b) (cell x3) (cell x5) (cell x6), headV sc (rate a) (rate b) (cell x3) (cell x4) (cell x6)] s

theorem copied_ready (a b : Elt Ideal .f32) (f0 : states0.view.ty.Contents (Elt Ideal)) (f1 : states1.view.ty.Contents (Elt Ideal)) (f : grads.view.ty.Contents (Elt Ideal)) (s : Fin 3) (h)
    (n : Fin 32) (r d : Fin 128) :
    copied (ready c i arg1 harg1 arg2 harg2 arg3 harg3 arg4 harg4 arg5 harg5 arg6 harg6 arg8 harg8 x3 x4 x5 x6 a b f0 f1 f) s h (ix2 (rowOf n r) d) = three x3 x4 x5 x6 a b s n r d := by
  have e := head_rows c i arg1 harg1 arg2 harg2 arg3 harg3 arg4 harg4 arg5 harg5 arg6 harg6 arg8 harg8 a b x3 x4 x5 x6 f0 f1 f n r d
  refine (copied_apply _ s h _ d).trans ?_
  fin_cases s
  exacts [e.1, e.2.1, e.2.2]

/-- Where three blocks of 128 columns were written, and where not. -/
theorem read_blocks (f9 : into.view.ty.Contents (Elt Ideal)) (p : Fin 3 → Vec Ideal S4096x128 .bf16) :
    let R := into.view.writes (Elt Ideal) f9 [⟨Rect.unit (s := S4096x7168) (k0_off15 i 40#32) S4096x128.size (k0_off15_inb i 2), p 2⟩,
          ⟨Rect.unit (s := S4096x7168) (k0_off15 i 32#32) S4096x128.size (k0_off15_inb i 1), p 1⟩,
          ⟨Rect.unit (s := S4096x7168) (k0_off15 i 24#32) S4096x128.size (k0_off15_inb i 0), p 0⟩]
    (∀ s x (d : Fin 128), into.view.read (Elt Ideal) R (ix2 x (colOf s (i 0) d)) = p s (ix2 x d))
      ∧ ∀ x (y : Fin 7168), (∀ s d, y ≠ colOf s (i 0) d) → into.view.read (Elt Ideal) R (ix2 x y) = into.view.read (Elt Ideal) f9 (ix2 x y) := by
  intro R
  have hi : (i 0).val < 8 := (i 0).isLt
  have hit : ∀ (s : Fin 3) (L) x (d : Fin 128), into.view.read (Elt Ideal) (into.view.writes (Elt Ideal) f9
      (⟨Rect.unit (s := S4096x7168) (k0_off15 i (BitVec.ofNat 32 (24 + 8 * s.val))) S4096x128.size (k0_off15_inb i s), p s⟩ :: L)) (ix2 x (colOf s (i 0) d)) = p s (ix2 x d) :=
    fun s L x d => View.read_writes_cons_unit_of_mem into.view f9 (k0_off15_inb i s) (p s) L _ (ix2 x d) (k0_off15_eq i s) fun a => by
      fin_cases a
      · exact (Nat.zero_add _).symm
      · rfl
  have miss : ∀ (s : Fin 3) (L) x (y : Fin 7168), (y.val < 1024 * s.val + 128 * (i 0).val + 3072 ∨ 1024 * s.val + 128 * (i 0).val + 3072 + 128 ≤ y.val) →
      into.view.read (Elt Ideal) (into.view.writes (Elt Ideal) f9
      (⟨Rect.unit (s := S4096x7168) (k0_off15 i (BitVec.ofNat 32 (24 + 8 * s.val))) S4096x128.size (k0_off15_inb i s), p s⟩ :: L)) (ix2 x y)
        = into.view.read (Elt Ideal) (into.view.writes (Elt Ideal) f9 L) (ix2 x y) :=
    fun s L x y h => View.read_writes_cons_unit_of_not_mem into.view f9 (k0_off15_inb i s) (p s) L _ (k0_off15_eq i s) 1 h
  constructor
  · intro s x d
    have hd := d.isLt
    have hv : ∀ s : Fin 3, (colOf s (i 0) d).val = 1024 * s.val + 128 * (i 0).val + 3072 + d.val := fun s => rfl
    fin_cases s
    · exact (miss 2 _ x _ (Or.inl (by rw [hv]; show 1024 * 0 + _ + 3072 + _ < 1024 * 2 + _ + 3072; omega))).trans
        ((miss 1 _ x _ (Or.inl (by rw [hv]; show 1024 * 0 + _ + 3072 + _ < 1024 * 1 + _ + 3072; omega))).trans (hit 0 _ x d))
    · exact (miss 2 _ x _ (Or.inl (by rw [hv]; show 1024 * 1 + _ + 3072 + _ < 1024 * 2 + _ + 3072; omega))).trans (hit 1 _ x d)
    · exact hit 2 _ x d
  · intro x y hy
    have h : ∀ s : Fin 3, y.val < 1024 * s.val + 128 * (i 0).val + 3072 ∨ 1024 * s.val + 128 * (i 0).val + 3072 + 128 ≤ y.val := fun s => by
      by_contra hc
      have h1 : 1024 * s.val + 128 * (i 0).val + 3072 ≤ y.val := by omega
      exact hy s ⟨y.val - (1024 * s.val + 128 * (i 0).val + 3072), by omega⟩
        (Fin.ext (by show y.val = 1024 * s.val + 128 * (i 0).val + 3072 + (y.val - (1024 * s.val + 128 * (i 0).val + 3072)); omega))
    exact (miss 2 _ x y (h 2)).trans ((miss 1 _ x y (h 1)).trans (miss 0 _ x y (h 0)))

/-- A head's step, at every place of the result. -/
theorem run_apply (f9 : ResBuf (F := Ideal) c res) (f0 : states0.view.ty.Contents (Elt Ideal)) (f1 : states1.view.ty.Contents (Elt Ideal)) (f : grads.view.ty.Contents (Elt Ideal)) :
    let R := (run (F := Ideal) c i arg1 harg1 arg2 harg2 arg3 harg3 arg4 harg4 arg5 harg5 arg6 harg6 arg8 harg8 x1 x2 x3 x4 x5 x6).1 f9 f0 f1 f
    (∀ s n r d, into.view.read (Elt Ideal) R (ix2 (rowOf n r) (colOf s (i 0) d)) = three x3 x4 x5 x6 (x1 (ix2 0 (i 0))) (x2 (ix2 0 (i 0))) s n r d)
      ∧ ∀ x (y : Fin 7168), (∀ s d, y ≠ colOf s (i 0) d) → into.view.read (Elt Ideal) R (ix2 x y) = into.view.read (Elt Ideal) f9 (ix2 x y) := by
  intro R
  have e : R = _ := run_eq c i arg1 harg1 arg2 harg2 arg3 harg3 arg4 harg4 arg5 harg5 arg6 harg6 arg8 harg8 x1 x2 x3 x4 x5 x6 f9 f0 f1 f
  have h := read_blocks i f9 (fun s => copied (ready c i arg1 harg1 arg2 harg2 arg3 harg3 arg4 harg4 arg5 harg5 arg6 harg6 arg8 harg8 x3 x4 x5 x6 (x1 (ix2 0 (i 0))) (x2 (ix2 0 (i 0))) f0 f1 f) s
    (by fin_cases s; exacts [inb_S3x4096x128_S1x4096x128_0_0_0, inb_S3x4096x128_S1x4096x128_1_0_0, inb_S3x4096x128_S1x4096x128_2_0_0]))
  rw [e]
  exact ⟨fun s n r d => (h.1 s (rowOf n r) d).trans (copied_ready c i arg1 harg1 arg2 harg2 arg3 harg3 arg4 harg4 arg5 harg5 arg6 harg6 arg8 harg8 x3 x4 x5 x6 _ _ f0 f1 f s _ n r d), h.2⟩

end Cert.Proof.RetBwd

end
-- ==== Proof.RetBwdReach.lean ====
/- Hand-written, untrusted: THE GRADIENT KERNEL'S RESULT AT THE END: what it may hold after all heads is what the packed gradient is. -/
module

public import proofs.«01_k».proof.Proof.RetBwdKernel
public import Idealize.ShloMosaic.Lib.Pipeline.ValueKit

@[expose] public section

set_option maxRecDepth 16384

noncomputable section

namespace Cert.Proof.RetBwd

open Cert.Kernel6Ideal Cert.Kernel6Ideal.Gen
open Idealize.ShloMosaic Idealize.ShloMosaic.TcCoe

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 24 + t.val] := (by decide +kernel : ∀ t : Fin grid0.N, _)
theorem idx3 : ∀ t : Fin cfg0.N, win0_3.index t = ![0, 32 + t.val] := (by decide +kernel : ∀ t : Fin grid0.N, _)
theorem idx4 : ∀ t : Fin cfg0.N, win0_4.index t = ![0, 40 + t.val] := (by decide +kernel : ∀ t : Fin grid0.N, _)
theorem idx5 : ∀ t : Fin cfg0.N, win0_5.index t = ![0, t.val] := (by decide +kernel : ∀ t : Fin grid0.N, _)
theorem point : ∀ t : Fin cfg0.N, ((grid0.coords t) 0).val = t.val := (by decide +kernel : ∀ t : Fin grid0.N, _)

/-- A point's head. -/
def head (t : Fin cfg0.N) : Fin 8 := ⟨t.val, t.isLt⟩

theorem head_eq (t : Fin cfg0.N) : (grid0.coords t) 0 = head t := Fin.ext (point t)

variable (c : Dev nD)

abbrev inX : FVec Ideal ⟨2, ![4096, 7168]⟩ .f32 := m ((c : Thread nD τ).loc main_arg0)
abbrev inG : FVec Ideal ⟨2, ![4096, 1024]⟩ .f32 := m ((c : Thread nD τ).loc main_arg1)
abbrev inL0 : FVec Ideal ⟨2, ![1, 8]⟩ .f32 := m ((c : Thread nD τ).loc main_arg2)
abbrev inL1 : FVec Ideal ⟨2, ![1, 8]⟩ .f32 := m ((c : Thread nD τ).loc main_arg3)
abbrev inD : FVec Ideal ⟨2, ![4096, 7168]⟩ .bf16 := m ((c : Thread nD τ).loc main_arg4)

theorem rate0_block (t : Fin cfg0.N) (h : Fin 8) : iblk m c 0 t (ix2 0 h) = inL0 m c (ix2 0 h) := by
  blk_point [iblk, V, idx0 t]
theorem rate1_block (t : Fin cfg0.N) (h : Fin 8) : iblk m c 1 t (ix2 0 h) = inL1 m c (ix2 0 h) := by
  blk_point [iblk, V, idx1 t]
theorem q_block (t : Fin cfg0.N) : cell (iblk m c 2 t) = part (inX m c) 0 (head t) := by
  funext n i d
  unfold cell part rowOf colOf head
  blk_point [iblk, V, idx2 t]
theorem k_block (t : Fin cfg0.N) : cell (iblk m c 3 t) = part (inX m c) 1 (head t) := by
  funext n i d
  unfold cell part rowOf colOf head
  blk_point [iblk, V, idx3 t]
theorem v_block (t : Fin cfg0.N) : cell (iblk m c 4 t) = part (inX m c) 2 (head t) := by
  funext n i d
  unfold cell part rowOf colOf head
  blk_point [iblk, V, idx4 t]
theorem g_block (t : Fin cfg0.N) : cell (iblk m c 5 t) = cot (inG m c) (head t) := by
  funext n i d
  unfold cell cot rowOf colOut head
  blk_point [iblk, V, idx5 t]

theorem three_block (t : Fin cfg0.N) (s : Fin 3) :
    three (iblk m c 2 t) (iblk m c 3 t) (iblk m c 4 t) (iblk m c 5 t) (iblk m c 0 t (ix2 0 (head t))) (iblk m c 1 t (ix2 0 (head t))) s
      = grad (inX m c) (inG m c) (inL0 m c) (inL1 m c) s (head t) := by
  unfold three grad
  rw [rate0_block, rate1_block, q_block, k_block, v_block, g_block]

theorem start (x : Fin 4096) (y : Fin 7168) : into.view.read (Elt Ideal) (V m c main_v0_1) (ix2 x y) = inD m c (ix2 x y) := by
  blk_point [V]

/-- After the first heads: theirs are done, the other columns are as they were. -/
theorem reach_apply (n : ℕ) (f : ResBuf (F := Ideal) c res) (hf : Reach m c n f) :
    (∀ s (h : Fin 8) p r d, h.val < n → into.view.read (Elt Ideal) f (ix2 (rowOf p r) (colOf s h d)) = grad (inX m c) (inG m c) (inL0 m c) (inL1 m c) s h p r d)
      ∧ ∀ x (y : Fin 7168), (∀ s (h : Fin 8) d, h.val < n → y ≠ colOf s h d) → into.view.read (Elt Ideal) f (ix2 x y) = inD m c (ix2 x y) := by
  induction n generalizing f with
  | zero =>
    obtain rfl := (hf : f = V m c main_v0_1)
    exact ⟨fun s h p r d hh => absurd hh (Nat.not_lt_zero _), fun x y _ => start m c x y⟩
  | succ n ih =>
    obtain ⟨hn, f9, f10, f11, f12, h9, rfl⟩ := hf
    obtain ⟨ih1, ih2⟩ := ih f9 h9
    have e := head_eq ⟨n, hn⟩
    have h := run_apply c (grid0.coords ⟨n, hn⟩) (win0_0.stage (cfg0.slots ⟨n, hn⟩ 0)) (hstage0_0 ((cfg0.slots ⟨n, hn⟩ 0).cast nbuf0_0)) (win0_1.stage (cfg0.slots ⟨n, hn⟩ 1)) (hstage0_1 ((cfg0.slots ⟨n, hn⟩ 1).cast nbuf0_1))
      (win0_2.stage (cfg0.slots ⟨n, hn⟩ 2)) (hstage0_2 ((cfg0.slots ⟨n, hn⟩ 2).cast nbuf0_2)) (win0_3.stage (cfg0.slots ⟨n, hn⟩ 3)) (hstage0_3 ((cfg0.slots ⟨n, hn⟩ 3).cast nbuf0_3))
      (win0_4.stage (cfg0.slots ⟨n, hn⟩ 4)) (hstage0_4 ((cfg0.slots ⟨n, hn⟩ 4).cast nbuf0_4)) (win0_5.stage (cfg0.slots ⟨n, hn⟩ 5)) (hstage0_5 ((cfg0.slots ⟨n, hn⟩ 5).cast nbuf0_5))
      (win0_6.stage (cfg0.slots ⟨n, hn⟩ 6)) (hstage0_6 ((cfg0.slots ⟨n, hn⟩ 6).cast nbuf0_6))
      (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) f9 f10 f11 f12
    rw [e] at h
    obtain ⟨h1, h2⟩ := h
    refine ⟨fun s j p r d hj => ?_, fun x y hy => ?_⟩
    · by_cases hjn : j.val < n
      · refine (h2 _ _ fun s' d' he => ?_).trans (ih1 s j p r d hjn)
        have he' : 1024 * s.val + 128 * j.val + 3072 + d.val = 1024 * s'.val + 128 * n + 3072 + d'.val := congrArg Fin.val he
        have := j.isLt; have : n < 8 := hn; have := d.isLt; have := d'.isLt
        omega
      · obtain rfl : j = head ⟨n, hn⟩ := Fin.ext (by show j.val = n; omega)
        exact (h1 s p r d).trans (congrFun (congrFun (congrFun (three_block m c ⟨n, hn⟩ s) p) r) d)
    · exact (h2 x y fun s d => hy s (head ⟨n, hn⟩) d (Nat.lt_succ_self n)).trans (ih2 x y fun s j d hj => hy s j d (Nat.lt_succ_of_lt hj))

/-- The result at the end is the packed gradient. -/
theorem reach_spec (f : ResBuf (F := Ideal) c res) (hf : Reach m c 8 f) : Spec (inX m c) (inG m c) (inL0 m c) (inL1 m c) (inD m c) f := by
  obtain ⟨h1, h2⟩ := reach_apply m c 8 f hf
  exact ⟨fun s h n i d => h1 s h n i d h.isLt, fun x y hy => h2 x y fun s h d _ he => by
    have he' : y.val = 1024 * s.val + 128 * h.val + 3072 + d.val := congrArg Fin.val he
    have := h.isLt; have := s.isLt; have := d.isLt
    omega⟩

end Cert.Proof.RetBwd

end
-- ==== Proof.RetBwdRefIn.lean ====
/- Hand-written, untrusted: THE RETENTION'S GRADIENT, WHAT ITS REFERENCE STARTS FROM: heads, masks and decays. -/
module

public import proofs.«01_k».proof.Proof.Gen.Reference6Ideal.Read
public import proofs.«01_k».proof.Proof.RetBwdWhole
public import Idealize.ShloMosaic.Lib.Pointwise

@[expose] public section

set_option maxRecDepth 16384

noncomputable section

namespace Cert.Proof.RetBwd

open Cert.Reference6Ideal Cert.Reference6Ideal.Read Idealize.ShloMosaic Idealize.ShloMosaic.TcCoe Idealize.SL.Sem Idealize.ShloMosaic.StableHlo

variable (X : FVec Ideal ⟨2, ![4096, 7168]⟩ .f32) (G : FVec Ideal ⟨2, ![4096, 1024]⟩ .f32) (L0 L1 : FVec Ideal ⟨2, ![1, 8]⟩ .f32) (D : FVec Ideal ⟨2, ![4096, 7168]⟩ .bf16)

/-- Queries with their scale, keys, values and cotangents, by head and chunk. -/
theorem v79_at (n : Fin 32) (h : Fin 8) (i d : Fin 128) : val_main_v79 (F := Ideal) X (ix5 n 0 h i d) = scaled sc (part X 0 h) n i d := by
  pointwise [val_main_v79, val_main_v78, val_main_v15, val_main_v5, val_main_v14, val_main_v4, val_main_cst, val_main_v3, val_main_v0, scaled, part,
    sc]
  rw [col0]; rfl
theorem v81_at (n : Fin 32) (h : Fin 8) (i d : Fin 128) : val_main_v81 (F := Ideal) X (ix5 n 0 h i d) = part X 1 h n i d := by
  pointwise [val_main_v81, val_main_v80, val_main_v8, val_main_v7, val_main_v6, val_main_v1, part]
  rw [col1]; rfl
theorem v83_at (n : Fin 32) (h : Fin 8) (i d : Fin 128) : val_main_v83 (F := Ideal) X (ix5 n 0 h i d) = part X 2 h n i d := by
  pointwise [val_main_v83, val_main_v82, val_main_v11, val_main_v10, val_main_v9, val_main_v2, part]
  rw [col2]; rfl
theorem v230_at (n : Fin 32) (h : Fin 8) (i d : Fin 128) : val_main_v230 (F := Ideal) G (ix5 n 0 h i d) = cot G h n i d := by
  pointwise [val_main_v230, val_main_v229, val_main_v192, val_main_v191, cot]
  rw [out_at]; rfl
/-- The same in reversed order. -/
theorem v164_at (n : Fin 32) (h : Fin 8) (i d : Fin 128) : val_main_v164 (F := Ideal) X (ix5 n 0 h i d) = flip (scaled sc (part X 0 h)) n i d := by
  pointwise [val_main_v164, val_main_v163, val_main_v102, val_main_v15, val_main_v5, val_main_v14, val_main_v4, val_main_cst, val_main_v3,
    val_main_v0, flip, scaled, part, sc]
  simp only [List.mem_singleton, Fin.reduceEq, ↓reduceIte]
  rw [rev_at, col0]
theorem v166_at (n : Fin 32) (h : Fin 8) (i d : Fin 128) : val_main_v166 (F := Ideal) X (ix5 n 0 h i d) = flip (part X 1 h) n i d := by
  pointwise [val_main_v166, val_main_v165, val_main_v103, val_main_v8, val_main_v7, val_main_v6, val_main_v1, flip, part]
  simp only [List.mem_singleton, Fin.reduceEq, ↓reduceIte]
  rw [rev_at, col1]
theorem v168_at (n : Fin 32) (h : Fin 8) (i d : Fin 128) : val_main_v168 (F := Ideal) X (ix5 n 0 h i d) = flip (part X 2 h) n i d := by
  pointwise [val_main_v168, val_main_v167, val_main_v104, val_main_v11, val_main_v10, val_main_v9, val_main_v2, flip, part]
  simp only [List.mem_singleton, Fin.reduceEq, ↓reduceIte]
  rw [rev_at, col2]
theorem v195_at (n : Fin 32) (h : Fin 8) (i d : Fin 128) : val_main_v195 (F := Ideal) G (ix5 n 0 h i d) = flip (cot G h) n i d := by
  pointwise [val_main_v195, val_main_v194, val_main_v193, val_main_v192, val_main_v191, flip, cot]
  simp only [List.mem_singleton, Fin.reduceEq, ↓reduceIte]
  rw [rev_at, out_at]
/-- The masks and decays of a way. -/
theorem v36_at (h : Fin 8) (i j : Fin 128) : val_main_v36 (F := Ideal) L0 (ix3 h i j) = mask0 (rate (L0 (ix2 0 h))) i j := by
  pointwise [val_main_v36, val_main_call0_v1, val_main_v35, val_main_call0_v2, val_main_v27, val_main_v34, val_main_call0_v0, val_main_v25,
    val_main_v26, val_main_v32, val_main_v33, val_main_cst_2, val_main_v23, val_main_v24, val_main_cst_0, val_main_v28, val_main_v31, val_main_v21,
    val_main_v22, val_main_v17, val_main_v30, val_main_v20, val_main_v16, val_main_v29, val_main_v12, val_main_cst_1]
  rw [sub_rows, zero_at]; exact mask_ge _ i j
theorem v45_at (h : Fin 8) (i : Fin 128) : val_main_v45 (F := Ideal) L0 (ix3 h i 0) = up (rate (L0 (ix2 0 h))) i := by
  pointwise [val_main_v45, val_main_v44, val_main_v43, val_main_v41, val_main_v42, val_main_v37, val_main_v40, val_main_v17, val_main_v39,
    val_main_v16, val_main_v20, val_main_v38, val_main_v12, val_main_cst_3]
  exact up_word _ i
theorem v54_at (h : Fin 8) (i : Fin 128) : val_main_v54 (F := Ideal) L0 (ix3 h i 0) = down (rate (L0 (ix2 0 h))) i := by
  pointwise [val_main_v54, val_main_v53, val_main_v52, val_main_v50, val_main_v51, val_main_v46, val_main_v49, val_main_v17, val_main_v48,
    val_main_v16, val_main_v47, val_main_v20, val_main_v12, val_main_cst_4]
  rw [bits_127]; exact down_word _ i
theorem v77_at (h : Fin 8) (n m : Fin 32) : val_main_v77 (F := Ideal) L0 (ix3 h n m) = carry (rate (L0 (ix2 0 h))) n m := by
  pointwise [val_main_v77, val_main_call1_v1, val_main_v76, val_main_call1_v2, val_main_v65, val_main_v75, val_main_call1_v0, val_main_v63,
    val_main_v64, val_main_v73, val_main_v74, val_main_cst_8, val_main_v61, val_main_v62, val_main_c_5, val_main_v68, val_main_v72, val_main_v59,
    val_main_v60, val_main_c, val_main_v66, val_main_v67, val_main_v71, val_main_v56, val_main_v58, val_main_v17, val_main_cst_6, val_main_v70,
    val_main_v55, val_main_v57, val_main_v16, val_main_v69, val_main_v12, val_main_c_7]
  rw [zero_at]; exact carry_word _ n m
/-- The masks and decays of a way. -/
theorem v121_at (h : Fin 8) (i j : Fin 128) : val_main_v121 (F := Ideal) L1 (ix3 h i j) = maskS (rate (L1 (ix2 0 h))) i j := by
  pointwise [val_main_v121, val_main_call5_v1, val_main_v120, val_main_call5_v2, val_main_v112, val_main_v119, val_main_call5_v0, val_main_v110,
    val_main_v111, val_main_v117, val_main_v118, val_main_cst_11, val_main_v108, val_main_v109, val_main_cst_9, val_main_v113, val_main_v116,
    val_main_v106, val_main_v107, val_main_v19, val_main_v115, val_main_v105, val_main_v18, val_main_v114, val_main_v13, val_main_cst_10]
  rw [sub_rows, zero_at]; exact mask_gt _ i j
theorem v130_at (h : Fin 8) (i : Fin 128) : val_main_v130 (F := Ideal) L1 (ix3 h i 0) = up (rate (L1 (ix2 0 h))) i := by
  pointwise [val_main_v130, val_main_v129, val_main_v128, val_main_v126, val_main_v127, val_main_v122, val_main_v125, val_main_v19, val_main_v124,
    val_main_v18, val_main_v105, val_main_v123, val_main_v13, val_main_cst_12]
  exact up_word _ i
theorem v139_at (h : Fin 8) (i : Fin 128) : val_main_v139 (F := Ideal) L1 (ix3 h i 0) = down (rate (L1 (ix2 0 h))) i := by
  pointwise [val_main_v139, val_main_v138, val_main_v137, val_main_v135, val_main_v136, val_main_v131, val_main_v134, val_main_v19, val_main_v133,
    val_main_v18, val_main_v132, val_main_v105, val_main_v13, val_main_cst_13]
  rw [bits_127]; exact down_word _ i
theorem v162_at (h : Fin 8) (n m : Fin 32) : val_main_v162 (F := Ideal) L1 (ix3 h n m) = carry (rate (L1 (ix2 0 h))) n m := by
  pointwise [val_main_v162, val_main_call6_v1, val_main_v161, val_main_call6_v2, val_main_v150, val_main_v160, val_main_call6_v0, val_main_v148,
    val_main_v149, val_main_v158, val_main_v159, val_main_cst_18, val_main_v146, val_main_v147, val_main_c_15, val_main_v153, val_main_v157,
    val_main_v144, val_main_v145, val_main_c_14, val_main_v151, val_main_v152, val_main_v156, val_main_v141, val_main_v143, val_main_v19,
    val_main_cst_16, val_main_v155, val_main_v140, val_main_v142, val_main_v18, val_main_v154, val_main_v13, val_main_c_17]
  rw [zero_at]; exact carry_word _ n m

end Cert.Proof.RetBwd

end
-- ==== Proof.RetBwdRef.lean ====
/- Hand-written, untrusted: THE RETENTION'S GRADIENT, THE REFERENCE. -/
module

public import proofs.«01_k».proof.Proof.Gen.Reference6Ideal.Read
public import proofs.«01_k».proof.Proof.RetBwdRefIn
public import Idealize.ShloMosaic.Lib.Pointwise

@[expose] public section

set_option maxRecDepth 16384

noncomputable section

namespace Cert.Proof.RetBwd

open Cert.Reference6Ideal Cert.Reference6Ideal.Read Idealize.ShloMosaic Idealize.ShloMosaic.TcCoe Idealize.SL.Sem Idealize.ShloMosaic.StableHlo

variable (X : FVec Ideal ⟨2, ![4096, 7168]⟩ .f32) (G : FVec Ideal ⟨2, ![4096, 1024]⟩ .f32) (L0 L1 : FVec Ideal ⟨2, ![1, 8]⟩ .f32) (D : FVec Ideal ⟨2, ![4096, 7168]⟩ .bf16)

theorem v254_at (n : Fin 32) (h : Fin 8) (i d : Fin 128) : val_main_v254 (F := Ideal) X G L0 (ix5 n 0 h i d)
    = derQ (mask0 (rate (L0 (ix2 0 h)))) (up (rate (L0 (ix2 0 h)))) (down (rate (L0 (ix2 0 h)))) (carry (rate (L0 (ix2 0 h)))) (part X 1 h) (part X 2 h) (cot G h) n i d := by
  pointwise [val_main_v254, val_main_v235, val_main_v253, val_main_v233, val_main_v234, val_main_v250, val_main_v93, val_main_v95, val_main_v238,
    val_main_v249, val_main_v92, val_main_v85, val_main_v91, val_main_v90, val_main_v89, val_main_v88, derQ]
  simp only [v81_at, v83_at, v230_at, v36_at, v45_at, v54_at, v77_at]
theorem v252_at (n : Fin 32) (h : Fin 8) (i d : Fin 128) : val_main_v252 (F := Ideal) X G L0 (ix5 n 0 h i d)
    = derK (mask0 (rate (L0 (ix2 0 h)))) (up (rate (L0 (ix2 0 h)))) (down (rate (L0 (ix2 0 h)))) (carry (rate (L0 (ix2 0 h)))) (scaled sc (part X 0 h)) (part X 2 h) (cot G h) n i d := by
  pointwise [val_main_v252, val_main_v248, val_main_v251, val_main_v246, val_main_v247, val_main_v250, val_main_v245, val_main_v88, val_main_v238,
    val_main_v249, val_main_v241, val_main_v85, val_main_v240, val_main_v239, val_main_v232, val_main_v231, val_main_v97, val_main_v96, val_main_v95,
    derK]
  simp only [v79_at, v83_at, v230_at, v36_at, v45_at, v54_at, v77_at]
theorem v244_at (n : Fin 32) (h : Fin 8) (i d : Fin 128) : val_main_v244 (F := Ideal) X G L0 (ix5 n 0 h i d)
    = derV (mask0 (rate (L0 (ix2 0 h)))) (up (rate (L0 (ix2 0 h)))) (down (rate (L0 (ix2 0 h)))) (carry (rate (L0 (ix2 0 h)))) (scaled sc (part X 0 h)) (part X 1 h) (cot G h) n i d := by
  pointwise [val_main_v244, val_main_v237, val_main_v243, val_main_v236, val_main_v242, val_main_v87, val_main_v241, val_main_v90, val_main_v84,
    val_main_v86, val_main_v240, val_main_v89, val_main_v85, val_main_v239, val_main_v88, val_main_v232, val_main_v231, val_main_v97, val_main_v96,
    val_main_v95, derV]
  simp only [v79_at, v81_at, v230_at, v36_at, v45_at, v54_at, v77_at]
theorem v219_at (n : Fin 32) (h : Fin 8) (i d : Fin 128) : val_main_v219 (F := Ideal) X G L1 (ix5 n 0 h i d)
    = derQ (maskS (rate (L1 (ix2 0 h)))) (up (rate (L1 (ix2 0 h)))) (down (rate (L1 (ix2 0 h)))) (carry (rate (L1 (ix2 0 h)))) (flip (part X 1 h)) (flip (part X 2 h)) (flip (cot G h)) n i d := by
  pointwise [val_main_v219, val_main_v200, val_main_v218, val_main_v198, val_main_v199, val_main_v215, val_main_v178, val_main_v180, val_main_v203,
    val_main_v214, val_main_v177, val_main_v170, val_main_v176, val_main_v175, val_main_v174, val_main_v173, derQ]
  simp only [v166_at, v168_at, v195_at, v121_at, v130_at, v139_at, v162_at]
theorem v217_at (n : Fin 32) (h : Fin 8) (i d : Fin 128) : val_main_v217 (F := Ideal) X G L1 (ix5 n 0 h i d)
    = derK (maskS (rate (L1 (ix2 0 h)))) (up (rate (L1 (ix2 0 h)))) (down (rate (L1 (ix2 0 h)))) (carry (rate (L1 (ix2 0 h)))) (flip (scaled sc (part X 0 h))) (flip (part X 2 h)) (flip (cot G h)) n i d := by
  pointwise [val_main_v217, val_main_v213, val_main_v216, val_main_v211, val_main_v212, val_main_v215, val_main_v210, val_main_v173, val_main_v203,
    val_main_v214, val_main_v206, val_main_v170, val_main_v205, val_main_v204, val_main_v197, val_main_v196, val_main_v182, val_main_v181,
    val_main_v180, derK]
  simp only [v164_at, v168_at, v195_at, v121_at, v130_at, v139_at, v162_at]
theorem v209_at (n : Fin 32) (h : Fin 8) (i d : Fin 128) : val_main_v209 (F := Ideal) X G L1 (ix5 n 0 h i d)
    = derV (maskS (rate (L1 (ix2 0 h)))) (up (rate (L1 (ix2 0 h)))) (down (rate (L1 (ix2 0 h)))) (carry (rate (L1 (ix2 0 h)))) (flip (scaled sc (part X 0 h))) (flip (part X 1 h)) (flip (cot G h)) n i d := by
  pointwise [val_main_v209, val_main_v202, val_main_v208, val_main_v201, val_main_v207, val_main_v172, val_main_v206, val_main_v175, val_main_v169,
    val_main_v171, val_main_v205, val_main_v174, val_main_v170, val_main_v204, val_main_v173, val_main_v197, val_main_v196, val_main_v182,
    val_main_v181, val_main_v180, derV]
  simp only [v164_at, v166_at, v195_at, v121_at, v130_at, v139_at, v162_at]
/-- The two ways' gradients together, for queries, keys and values. -/
theorem v274_at (n : Fin 32) (h : Fin 8) (i d : Fin 128) : val_main_v274 (F := Ideal) X G L0 L1 (ix2 (rowOf n i) (colOut h d)) = grad X G L0 L1 0 h n i d := by
  pointwise [val_main_v274, val_main_v273, val_main_cst_22, val_main_v272, val_main_v265, val_main_v263, val_main_v264, val_main_v228, val_main_v262,
    val_main_cst_19, val_main_v225, val_main_v261, val_main_v224, rowOf, colOut]
  simp only [Finset.univ_unique, Finset.sum_singleton, List.mem_singleton, Fin.reduceEq, ↓reduceIte, rev_at, row_div, row_mod]
  rw [v219_at, v254_at, derQ_flip, derQ_eq, add_comm]; rfl
theorem v271_at (n : Fin 32) (h : Fin 8) (i d : Fin 128) : val_main_v271 (F := Ideal) X G L0 L1 (ix2 (rowOf n i) (colOut h d)) = grad X G L0 L1 1 h n i d := by
  pointwise [val_main_v271, val_main_v270, val_main_cst_21, val_main_v269, val_main_v260, val_main_v227, val_main_v259, val_main_v223, val_main_v258,
    val_main_v222, rowOf, colOut]
  simp only [Finset.univ_unique, Finset.sum_singleton, List.mem_singleton, Fin.reduceEq, ↓reduceIte, rev_at, row_div, row_mod]
  rw [v217_at, v252_at, derK_flip, derK_eq, add_comm]; rfl
theorem v268_at (n : Fin 32) (h : Fin 8) (i d : Fin 128) : val_main_v268 (F := Ideal) X G L0 L1 (ix2 (rowOf n i) (colOut h d)) = grad X G L0 L1 2 h n i d := by
  pointwise [val_main_v268, val_main_v267, val_main_cst_20, val_main_v266, val_main_v257, val_main_v226, val_main_v256, val_main_v221, val_main_v255,
    val_main_v220, rowOf, colOut]
  simp only [Finset.univ_unique, Finset.sum_singleton, List.mem_singleton, Fin.reduceEq, ↓reduceIte, rev_at, row_div, row_mod]
  rw [v209_at, v244_at, derV_flip, derV_eq, add_comm]; rfl
/-- Columns of a piece of the result, by the whole's columns. -/
theorem piece_at {h : Fin 8} {d : Fin 128} {k p} (e : k = 128 * h.val + d.val) : (⟨k, p⟩ : Fin 1024) = colOut h d := Fin.ext e

/-- The result: the gradients in their columns, the given array in the others. -/
theorem v280_at0 (n : Fin 32) (h : Fin 8) (i d : Fin 128) : val_main_v280 (F := Ideal) X G L0 L1 D (ix2 (rowOf n i) (colOf 0 h d)) = grad X G L0 L1 0 h n i d := by
  pointwise [val_main_v280, val_main_v275, val_main_v276, val_main_v277, val_main_v278, val_main_v279, rowOf, colOf]
  rw [dif_neg (by omega), dif_pos (by omega), piece_at (h := h) (d := d) (by omega)]; exact v274_at X G L0 L1 n h i d
theorem v280_at1 (n : Fin 32) (h : Fin 8) (i d : Fin 128) : val_main_v280 (F := Ideal) X G L0 L1 D (ix2 (rowOf n i) (colOf 1 h d)) = grad X G L0 L1 1 h n i d := by
  pointwise [val_main_v280, val_main_v275, val_main_v276, val_main_v277, val_main_v278, val_main_v279, rowOf, colOf]
  rw [dif_neg (by omega), dif_neg (by omega), dif_pos (by omega), piece_at (h := h) (d := d) (by omega)]; exact v271_at X G L0 L1 n h i d
theorem v280_at2 (n : Fin 32) (h : Fin 8) (i d : Fin 128) : val_main_v280 (F := Ideal) X G L0 L1 D (ix2 (rowOf n i) (colOf 2 h d)) = grad X G L0 L1 2 h n i d := by
  pointwise [val_main_v280, val_main_v275, val_main_v276, val_main_v277, val_main_v278, val_main_v279, rowOf, colOf]
  rw [dif_neg (by omega), dif_neg (by omega), dif_neg (by omega), dif_pos (by omega), piece_at (h := h) (d := d) (by omega)]; exact v268_at X G L0 L1 n h i d
theorem v280_out (x : Fin 4096) (y : Fin 7168) (hy : y.val < 3072 ∨ 6144 ≤ y.val) : val_main_v280 (F := Ideal) X G L0 L1 D (ix2 x y) = D (ix2 x y) := by
  pointwise [val_main_v280, val_main_v275, val_main_v279]
  by_cases h : y.val < 3072
  · rw [dif_pos h]
  · rw [dif_neg h, dif_neg (by omega), dif_neg (by omega), dif_neg (by omega)]
    exact congrArg (fun z => D (ix2 x z)) (Fin.ext (show 6144 + (y.val - 3072 - 1024 - 1024 - 1024) = y.val by omega))
theorem ref_spec : Spec X G L0 L1 D (val_main_v280 (F := Ideal) X G L0 L1 D) where
  inside s h n i d := by
    fin_cases s
    · exact v280_at0 X G L0 L1 D n h i d
    · exact v280_at1 X G L0 L1 D n h i d
    · exact v280_at2 X G L0 L1 D n h i d
  outside x y hy := v280_out X G L0 L1 D x y hy

end Cert.Proof.RetBwd

end
-- ==== Proof.RetBwdClaim.lean ====
/- Hand-written, untrusted: THE RETENTION'S GRADIENT, THE CLAIMS. -/
module

public import proofs.«01_k».proof.Defs
public import proofs.«01_k».proof.Proof.Gen.Kernel6.Skeleton
public import proofs.«01_k».proof.Proof.Gen.Reference6Ideal.Run
public import proofs.«01_k».proof.Proof.RetBwdReach
public import proofs.«01_k».proof.Proof.RetBwdRef
public import Idealize.ShloMosaic.Adequacy
public import Idealize.ShloMosaic.Init

@[expose] public section

set_option maxRecDepth 16384

noncomputable section

namespace Cert.Proof.RetBwd

open Idealize.ShloMosaic Idealize.ShloMosaic.TcCoe Idealize.SL.Sem

/-- The kernel's two programs are one program: the frame is proved once. -/
theorem same_frame : ((m : (ℓ : Loc Cert.Kernel6Ideal.nD Cert.Kernel6Ideal.τ Cert.Kernel6Ideal.sig) → Buf (Elt Bits) ℓ) → (ρ : Dev Cert.Kernel6Ideal.nD → PrngReg) → True →
    θ_run Cert.Kernel6Ideal.defs (onTc (τ := Cert.Kernel6Ideal.τ) (Cert.Kernel6Ideal.main (F := Bits))) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)) = Cert.quiescent_Kernel6 := by
  sl_kernel_rfl
theorem frame_kernel : Cert.quiescent_Kernel6 := same_frame.mp fun m ρ _ => frame (F := Bits) m ρ
theorem frame_kernelIdeal : Cert.quiescent_Kernel6Ideal := fun m ρ _ => frame m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Equal arguments, equal values. -/
theorem same_value {X X' : FVec Ideal ⟨2, ![4096, 7168]⟩ .f32} {G G' : FVec Ideal ⟨2, ![4096, 1024]⟩ .f32} {L0 L0' L1 L1' : FVec Ideal ⟨2, ![1, 8]⟩ .f32}
    {D D' : FVec Ideal ⟨2, ![4096, 7168]⟩ .bf16} (e0 : X = X') (e1 : G = G') (e2 : L0 = L0') (e3 : L1 = L1') (e4 : D = D') :
    Cert.Reference6Ideal.Read.val_main_v280 (F := Ideal) X G L0 L1 D = Cert.Reference6Ideal.Read.val_main_v280 (F := Ideal) X' G' L0' L1' D' := by
  subst e0 e1 e2 e3 e4; rfl

/-- Kernel and reference leave the same gradients. -/
theorem algebraic : Cert.algebraic_Kernel6Ideal_Reference6Ideal := by
  intro m ρ m' ρ' _ hagree
  refine ⟨fun c => Cert.Reference6Ideal.Read.val_main_v280 (F := Ideal) (inX m c) (inG m c) (inL0 m c) (inL1 m c) (inD m c), ?_, ?_⟩
  · exact (θ_run Cert.Kernel6Ideal.defs _ _).mono (fun r h c =>
      ⟨Spec.unique _ _ _ _ _ (reach_spec m c _ (h c).1) (ref_spec _ _ _ _ _), (h c).2⟩) (result m ρ)
  · refine (θ_run Cert.Reference6Ideal.defs _ _).mono (fun r h c => ⟨?_, (h c).2⟩) (Cert.Reference6Ideal.Value.run (F := Ideal) m' ρ')
    obtain ⟨e0, e1, e2, e3, e4⟩ := hagree c
    rw [(h c).1, Cert.Reference6Ideal.Read.val_main_v280_eq]
    exact same_value e0 e1 e2 e3 e4

end Cert.Proof.RetBwd

end
-- ==== Proof.DownLoss.lean ====
/- Hand-written, untrusted: THE LOSS AND ITS GRADIENT, THE RESULTS AS FUNCTIONS. The last state is the residual plus the down
   projection; its norm, weighed, less the target is the error; half the mean square of the error, summed over the rows, is the loss. -/
module

public import proofs.«01_k».proof.Kernel5Ideal
public import proofs.«01_k».proof.Proof.RmsGrad
public import Idealize.ShloMosaic.Lib.Pipeline.ValueKit.Point
public import Idealize.ShloMosaic.Lib.Pipeline.ValueKit.Acc

@[expose] public section

set_option maxRecDepth 16384

noncomputable section

namespace Cert.Proof.DownLoss

open Cert.Kernel5Ideal Idealize.ShloMosaic Cert.Proof.RmsGrad Cert.Proof.Reals

variable (act : FVec Ideal S4096x5632 .bf16) (wd : FVec Ideal S5632x2048 .bf16) (h1 tgt : FVec Ideal S4096x2048 .f32) (w : FVec Ideal S2048 .f32)

/-- The number of columns, as the programs write it. -/
abbrev cols : EReal := Ideal.ofBits .f32 0x45000000#32

/-- The last state at a row and a column. -/
def last (r : Fin 4096) (k : Fin 2048) : EReal := h1 (ix2 r k) + ∑ l : Fin 5632, act (ix2 r l) * wd (ix2 l k)

/-- The error at a row and a column. -/
def err (r : Fin 4096) (k : Fin 2048) : EReal :=
  last act wd h1 r k * rinv cols (last act wd h1 r) * w (ix1 k) - tgt (ix2 r k)

/-- The cotangent of the normed state. -/
def cot (r : Fin 4096) (k : Fin 2048) : EReal := err act wd h1 tgt w r k * Ideal.ofBits .f32 0x3A000000#32

/-- The state's gradient. -/
def dhVal : FVec Ideal S4096x2048 .f32 := fun i =>
  rowGrad cols (fun k => cot act wd h1 tgt w (i 0) k * w (ix1 k)) (last act wd h1 (i 0)) (i 1)

/-- The norm weight's gradient. -/
def dwVal : FVec Ideal S1x2048 .f32 := fun i =>
  ∑ r : Fin 4096, cot act wd h1 tgt w r (i 1) * last act wd h1 r (i 1) * rinv cols (last act wd h1 r)

/-- What one block of 256 rows gives to the loss. -/
def part (t : Fin 16) : EReal :=
  Ideal.div (Ideal.ofBits .f32 0x3F000000#32 * ∑ p : Fin 256, ∑ k : Fin 2048,
    err act wd h1 tgt w ⟨t.val * 256 + p.val, by omega⟩ k * err act wd h1 tgt w ⟨t.val * 256 + p.val, by omega⟩ k) cols

/-- The loss. -/
def lossVal : FVec Ideal S_ .f32 := fun _ => ∑ t : Fin 16, part act wd h1 tgt w t

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_inv_cols : Ideal.ofBits .f32 0x3A000000#32 = ((1 / 2048 : ℝ) : EReal) := by
  simp [Ideal.ofBits, Ideal.ieee]; rw [← EReal.coe_mul]; norm_num

/-- The factor of the error: half of the mean's share, times two. -/
theorem factor (e : EReal) :
    Ideal.div (Ideal.ofBits .f32 0x3F000000#32) cols * (Ideal.ofBits .f32 0x40000000#32 * e)
      = e * Ideal.ofBits .f32 0x3A000000#32 := by
  unfold cols
  rw [ofBits_half, ofBits_two, ofBits_2048, ofBits_inv_cols, Ideal.div_coe (by norm_num), ← mul_assoc, ← EReal.coe_mul, ← EReal.coe_mul,
    mul_comm]
  norm_num

/-- A nonnegative real factor passes a sum of nonnegative terms. -/
theorem mul_sum_nonneg {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun x _ => hf x), ih]

/-- The loss row by row is the loss block by block. -/
theorem loss_rows (f : Fin 4096 → EReal) (hf : ∀ r, 0 ≤ f r) :
    Ideal.ofBits .f32 0x3F000000#32 * ∑ r : Fin 4096, Ideal.div (f r) cols
      = ∑ t : Fin 16, Ideal.div (Ideal.ofBits .f32 0x3F000000#32 * ∑ p : Fin 256, f ⟨t.val * 256 + p.val, by omega⟩) cols := by
  unfold cols
  simp only [ofBits_2048, Ideal.div_coe (show (2048 : ℝ) ≠ 0 by norm_num)]
  rw [← Fin.sum_mul_add_fin 16 256, mul_sum_nonneg _ _ _ fun t => Finset.sum_nonneg fun p _ => mul_nonneg (hf _) (by exact_mod_cast (by norm_num : (0:ℝ) ≤ 1 / 2048))]
  refine Finset.sum_congr rfl fun t _ => ?_
  rw [mul_assoc]
  congr 1
  rw [mul_comm (∑ p : Fin 256, _), mul_sum_nonneg _ _ _ fun p => hf _]
  exact Finset.sum_congr rfl fun p _ => mul_comm _ _

end Cert.Proof.DownLoss

end
-- ==== Proof.DownLossKernel.lean ====
/- Hand-written, untrusted: THE LOSS AND ITS GRADIENT, THE KERNEL. Each grid point leaves the gradient of its 256 rows and its part of the
   loss, and adds what its rows give to the weight's gradient; the first point starts that sum from zero. -/
module

public import proofs.«01_k».proof.Proof.Gen.Kernel5Ideal.Frame
public import proofs.«01_k».proof.Proof.DownLoss
public import Idealize.ShloMosaic.Lib.Pipeline.ValueKit

@[expose] public section

set_option maxRecDepth 16384

noncomputable section

namespace Cert.Proof.DownLoss

open Cert.Kernel5Ideal Cert.Kernel5Ideal.Gen Idealize.ShloMosaic Idealize.ShloMosaic.TcCoe Idealize.SL.Sem Idealize.ShloMosaic.StableHlo
open Cert.Proof.RmsGrad

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

/-- The array row a block's row is. -/
def row (t : Fin cfg0.N) (r : Fin 256) : Fin 4096 := ⟨t.val * 256 + r.val, by have := t.isLt; have : cfg0.N = 16 := rfl; omega⟩

/-- The eight products of a block's row. -/
def eight (X : FVec Ideal S8x256x704 .bf16) (W : FVec Ideal S5632x2048 .bf16) (r : Fin 256) (k : Fin 2048) : EReal :=
  ∑ l : Fin 704, X (ix3 0 r l) * W (ix2 ⟨l.val, by omega⟩ k)
    + ∑ l : Fin 704, X (ix3 1 r l) * W (ix2 ⟨704 + l.val, by omega⟩ k)
    + ∑ l : Fin 704, X (ix3 2 r l) * W (ix2 ⟨1408 + l.val, by omega⟩ k)
    + ∑ l : Fin 704, X (ix3 3 r l) * W (ix2 ⟨2112 + l.val, by omega⟩ k)
    + ∑ l : Fin 704, X (ix3 4 r l) * W (ix2 ⟨2816 + l.val, by omega⟩ k)
    + ∑ l : Fin 704, X (ix3 5 r l) * W (ix2 ⟨3520 + l.val, by omega⟩ k)
    + ∑ l : Fin 704, X (ix3 6 r l) * W (ix2 ⟨4224 + l.val, by omega⟩ k)
    + ∑ l : Fin 704, X (ix3 7 r l) * W (ix2 ⟨4928 + l.val, by omega⟩ k)

/-- … and the residual's block added. -/
def lastBlk (P : FVec Ideal S256x2048 .f32) (X : FVec Ideal S8x256x704 .bf16) (W : FVec Ideal S5632x2048 .bf16) (r : Fin 256)
    (k : Fin 2048) : EReal := P (ix2 r k) + eight X W r k

theorem eight_pay (P : FVec Ideal S256x2048 .f32) (X : FVec Ideal S8x256x704 .bf16) (W : FVec Ideal S5632x2048 .bf16) (r : Fin 256)
    (k : Fin 2048) :
    k0_pay5 (F := Ideal) P (k0_pay3 (View.ld (Val := Elt Ideal) (e' := .bf16) X (Rect.unit (s := S8x256x704) ![0, 0, 0] ![1, 256, 704] inb_S8x256x704_S1x256x704_0_0_0))
        (View.ld (Val := Elt Ideal) (e' := .bf16) W (Rect.unit (s := S5632x2048) ![0, 0] ![704, 2048] inb_S5632x2048_S704x2048_0_0))
        (View.ld (Val := Elt Ideal) (e' := .bf16) X (Rect.unit (s := S8x256x704) ![1, 0, 0] ![1, 256, 704] inb_S8x256x704_S1x256x704_1_0_0))
        (View.ld (Val := Elt Ideal) (e' := .bf16) W (Rect.unit (s := S5632x2048) ![704, 0] ![704, 2048] inb_S5632x2048_S704x2048_704_0))
        (View.ld (Val := Elt Ideal) (e' := .bf16) X (Rect.unit (s := S8x256x704) ![2, 0, 0] ![1, 256, 704] inb_S8x256x704_S1x256x704_2_0_0))
        (View.ld (Val := Elt Ideal) (e' := .bf16) W (Rect.unit (s := S5632x2048) ![1408, 0] ![704, 2048] inb_S5632x2048_S704x2048_1408_0))
        (View.ld (Val := Elt Ideal) (e' := .bf16) X (Rect.unit (s := S8x256x704) ![3, 0, 0] ![1, 256, 704] inb_S8x256x704_S1x256x704_3_0_0))
        (View.ld (Val := Elt Ideal) (e' := .bf16) W (Rect.unit (s := S5632x2048) ![2112, 0] ![704, 2048] inb_S5632x2048_S704x2048_2112_0)))
        (k0_pay4 (View.ld (Val := Elt Ideal) (e' := .bf16) X (Rect.unit (s := S8x256x704) ![4, 0, 0] ![1, 256, 704] inb_S8x256x704_S1x256x704_4_0_0)))
        (View.ld (Val := Elt Ideal) (e' := .bf16) W (Rect.unit (s := S5632x2048) ![2816, 0] ![704, 2048] inb_S5632x2048_S704x2048_2816_0))
        (View.ld (Val := Elt Ideal) (e' := .bf16) X (Rect.unit (s := S8x256x704) ![5, 0, 0] ![1, 256, 704] inb_S8x256x704_S1x256x704_5_0_0))
        (View.ld (Val := Elt Ideal) (e' := .bf16) W (Rect.unit (s := S5632x2048) ![3520, 0] ![704, 2048] inb_S5632x2048_S704x2048_3520_0))
        (View.ld (Val := Elt Ideal) (e' := .bf16) X (Rect.unit (s := S8x256x704) ![6, 0, 0] ![1, 256, 704] inb_S8x256x704_S1x256x704_6_0_0))
        (View.ld (Val := Elt Ideal) (e' := .bf16) W (Rect.unit (s := S5632x2048) ![4224, 0] ![704, 2048] inb_S5632x2048_S704x2048_4224_0))
        (View.ld (Val := Elt Ideal) (e' := .bf16) X (Rect.unit (s := S8x256x704) ![7, 0, 0] ![1, 256, 704] inb_S8x256x704_S1x256x704_7_0_0))
        (View.ld (Val := Elt Ideal) (e' := .bf16) W (Rect.unit (s := S5632x2048) ![4928, 0] ![704, 2048] inb_S5632x2048_S704x2048_4928_0)) (ix2 r k)
      = lastBlk P X W r k := by
  pointwise [k0_pay5, k0_pay3, k0_pay4, lastBlk, eight]

/-- The activations as the blocks read them: eight column blocks, one after the other. -/
theorem V_v1 (c : Dev nD) : V m c main_v1 = transpose S8x4096x704 [1, 0, 2]
    (shapeCast S4096x8x704 (m ((c : Thread nD τ).loc main_arg0)) shapeCasts_S4096x5632_S4096x8x704) transposes_S4096x8x704_S8x4096x704_1_0_2 := by
  show after hostOps0 (fun b => m (c, b)) (Proc.devRef .tc main_v1) = _
  after_results
  rfl

/-- The norm's weight as the blocks read it: one row. -/
theorem V_v2 (c : Dev nD) : V m c main_v2 = shapeCast S1x2048 (m ((c : Thread nD τ).loc main_arg4)) shapeCasts_S2048_S1x2048 := by
  show after hostOps0 (fun b => m (c, b)) (Proc.devRef .tc main_v2) = _
  after_results
  rfl

theorem h_block (c : Dev nD) (t : Fin cfg0.N) (r : Fin 256) (k : Fin 2048) :
    iblk m c 2 t (ix2 r k) = m ((c : Thread nD τ).loc main_arg2) (ix2 (row t r) k) := by
  unfold row
  blk_point [iblk, V, idx2 t]

theorem tgt_block (c : Dev nD) (t : Fin cfg0.N) (r : Fin 256) (k : Fin 2048) :
    iblk m c 3 t (ix2 r k) = m ((c : Thread nD τ).loc main_arg3) (ix2 (row t r) k) := by
  unfold row
  blk_point [iblk, V, idx3 t]

theorem w_block (c : Dev nD) (t : Fin cfg0.N) (r : Fin 1) (k : Fin 2048) :
    iblk m c 4 t (ix2 r k) = m ((c : Thread nD τ).loc main_arg4) (ix1 k) := by
  show V m c main_v2 ((win0_4.blk t).view.emb (ix2 r k)) = _
  have e : (win0_4.blk t).view.emb (ix2 r k) = ix2 r k := by blk_ext [idx4 t]
  rw [V_v2, e]
  pointwise []

theorem act_block (c : Dev nD) (t : Fin cfg0.N) (a : Fin 8) (r : Fin 256) (l : Fin 704) :
    iblk m c 0 t (ix3 a r l) = m ((c : Thread nD τ).loc main_arg0) (ix2 (row t r) ⟨a.val * 704 + l.val, by omega⟩) := by
  show V m c main_v1 ((win0_0.blk t).view.emb (ix3 a r l)) = _
  have e : (win0_0.blk t).view.emb (ix3 a r l) = ix3 a (row t r) l := by
    unfold row
    blk_ext [idx0 t]
  rw [V_v1, e]
  pointwise []

/-- The eight products of a block's row, added to the residual, are the last state's row. -/
theorem last_block (c : Dev nD) (t : Fin cfg0.N) (r : Fin 256) (k : Fin 2048) :
    lastBlk (iblk m c 2 t) (iblk m c 0 t) (iblk m c 1 t) r k = last (m ((c : Thread nD τ).loc main_arg0)) (m ((c : Thread nD τ).loc main_arg1)) (m ((c : Thread nD τ).loc main_arg2)) (row t r) k := by
  unfold lastBlk eight last
  rw [sum_blocks, h_block]
  simp only [act_block]
  blk_point [iblk, V, idx1 t]

/-- What a point leaves in the state gradient's block. -/
theorem point5 (c : Dev nD) (t : Fin cfg0.N) (r : Fin 256) (k : Fin 2048) : (outsAt0 m c t.val t.isLt).1 (ix2 r k)
    = dhVal (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
  by_cases h : t.val % 16 = 0
  case' pos => rw [outsAt0_A m c t h]
  case' neg => rw [outsAt0_B m c t h]
  all_goals
    frame_out
    pointwise [k0_pay6, k0_pay7, k0_pay8, k0_pay10, k0_pay11, k0_pay12, dhVal, cot, err, rowGrad, rinv, msq]
    simp only [eight_pay, last_block, tgt_block, w_block]

/-- What a point leaves in the block of the rounded copy. -/
theorem point6 (c : Dev nD) (t : Fin cfg0.N) (r : Fin 256) (k : Fin 2048) : (outsAt0 m c t.val t.isLt).2.1 (ix2 r k)
    = dhVal (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) k) := by
  refine Eq.trans ?_ (point5 m c t r k)
  by_cases h : t.val % 16 = 0
  case' pos => rw [outsAt0_A m c t h]
  case' neg => rw [outsAt0_B m c t h]
  all_goals
    frame_out
    pointwise [k0_pay14]

/-- What a point leaves in the loss's block, in every entry. -/
theorem point7 (c : Dev nD) (t : Fin cfg0.N) (a : Fin 8) (b : Fin 128) : (outsAt0 m c t.val t.isLt).2.2.1 (ix2 a b)
    = part (m ((c : Thread nD τ).loc main_arg0)) (m ((c : Thread nD τ).loc main_arg1)) (m ((c : Thread nD τ).loc main_arg2)) (m ((c : Thread nD τ).loc main_arg3)) (m ((c : Thread nD τ).loc main_arg4)) t := by
  by_cases h : t.val % 16 = 0
  case' pos => rw [outsAt0_A m c t h]
  case' neg => rw [outsAt0_B m c t h]
  all_goals
    frame_out
    pointwise [k0_pay6, k0_pay7, k0_pay8, k0_pay9, part, err, rinv, msq]
    simp only [eight_pay, last_block, tgt_block, w_block]
    rfl

theorem final5 (c : Dev nD) : (dats m 0 c).arrAt 5 cfg0.N
    = dhVal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (congrArg _ (eq_ix2 (n0 := 256) (n1 := 2048) y)).trans ((point5 m c t _ _).trans (congrArg _ ?_))
  unfold row
  blk_ext [idx5 t]

theorem final6 (c : Dev nD) : (dats m 0 c).arrAt 6 cfg0.N
    = dhVal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (congrArg _ (eq_ix2 (n0 := 256) (n1 := 2048) y)).trans ((point6 m c t _ _).trans (congrArg _ ?_))
  unfold row
  blk_ext [idx6 t]

/-- The array of the loss's parts: each block of eight rows holds its point's. -/
def parts (c : Dev nD) : FVec Ideal S128x128 .f32 := fun i => part (m ((c : Thread nD τ).loc main_arg0)) (m ((c : Thread nD τ).loc main_arg1)) (m ((c : Thread nD τ).loc main_arg2)) (m ((c : Thread nD τ).loc main_arg3)) (m ((c : Thread nD τ).loc main_arg4)) ⟨(i 0).val / 8, by have := (i 0).isLt; have : S128x128.size 0 = 128 := rfl; omega⟩

theorem parts_at (c : Dev nD) (t : Fin cfg0.N) (a : Fin 8) (b : Fin 128) :
    parts m c (ix2 ⟨t.val * 8 + a.val, by have := t.isLt; have : cfg0.N = 16 := rfl; omega⟩ b) = part (m ((c : Thread nD τ).loc main_arg0)) (m ((c : Thread nD τ).loc main_arg1)) (m ((c : Thread nD τ).loc main_arg2)) (m ((c : Thread nD τ).loc main_arg3)) (m ((c : Thread nD τ).loc main_arg4)) t := by
  unfold parts
  refine congrArg (part _ _ _ _ _) (Fin.ext ?_)
  simp only [ix2_0]
  omega

theorem final7 (c : Dev nD) : (dats m 0 c).arrAt 7 cfg0.N = parts m c := by
  refine (dats m 0 c).arrAt_eq_of_covers 7 _ (by decide +kernel) fun t hf y => ?_
  blk_simp
  rw [after0_7]
  refine (congrArg _ (eq_ix2 (n0 := 8) (n1 := 128) y)).trans ((point7 m c t _ _).trans ((parts_at m c t (y 0) (y 1)).symm.trans (congrArg _ ?_)))
  blk_ext [idx7 t]

theorem last8 : ∀ t : Fin cfg0.N, (cfg0.win 8).flush t = true → t.val + 1 = cfg0.N := (by decide +kernel : ∀ t : Fin grid0.N, _)

/-- What the last point leaves in the weight gradient's block: the sum over all the rows. -/
theorem point8 (c : Dev nD) (t : Fin cfg0.N) (ht : t.val + 1 = cfg0.N) (a : Fin 1) (k : Fin 2048) :
    (outsAt0 m c t.val t.isLt).2.2.2 (ix2 a k) = dwVal (m ((c : Thread nD τ).loc main_arg0)) (m ((c : Thread nD τ).loc main_arg1)) (m ((c : Thread nD τ).loc main_arg2)) (m ((c : Thread nD τ).loc main_arg3)) (m ((c : Thread nD τ).loc main_arg4)) (ix2 a k) := by
  rw [Pipeline.eq_sum_fin_of_reset_step_apply_last (fun n h => (outsAt0 m c n h).2.2.2) 16 (fun _ => 0) _
    (fun t h j => by
      rw [outsAt0_A m c t h]; frame_out
      pointwise [k0_pay1, k0_pay2, k0_pay6, k0_pay7, k0_pay8, k0_pay10, k0_pay11, k0_pay13]; rfl)
    (fun t h j => by
      rw [outsAt0_B m c t h]; frame_out
      pointwise [k0_pay1, k0_pay6, k0_pay7, k0_pay8, k0_pay10, k0_pay11, k0_pay13])
    (by decide) t ht (ix2 a k), zero_add]
  simp only [ix2_1, eight_pay, last_block, tgt_block, w_block]
  unfold dwVal cot err rinv msq
  exact Fin.sum_mul_add_congr fun p r hl => rfl

theorem final8 (c : Dev nD) : (dats m 0 c).arrAt 8 cfg0.N
    = dwVal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  refine (congrArg _ (eq_ix2 (n0 := 1) (n1 := 2048) y)).trans ((point8 m c t (last8 t hf) _ _).trans (congrArg _ ?_))
  blk_ext [idx8 t]

/-- The sum over one entry of each block of eight rows. -/
theorem sum_parts (P : FVec Ideal S128x128 .f32) (i : S_.Idx) : Host.reduceAdd (F := Ideal) (shapeCast S16
      (Host.slice S16x1 ![0, 0] ![8, 1] P slicesBy_S128x128_S16x1_0s8_0s1) shapeCasts_S16x1_S16)
      (constant (F := Ideal) S_ .f32 0x00000000#32) reducesTo_S16_S_d0 h_S_ i
    = ∑ t : Fin 16, P (ix2 ⟨t.val * 8, by omega⟩ 0) := by
  pointwise []
  exact Finset.sum_congr rfl fun t _ => congrArg (fun n => P (ix2 n 0)) (Fin.ext (Nat.mul_comm _ _))

/-- The lines after the blocks sum the parts: the loss. -/
theorem tail_loss (c : Dev nD) : Pipeline.afterTail₀ cfgs (dats m) 0 (V0 m) [hostOps1] c main_v6 = lossVal (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  simp only [List.flatten_cons, List.flatten_nil, List.append_nil]
  after_results
  have e : Pipeline.withArrays spec0 c (V0 m c) (fun w => (dats m 0 c).arrAt w cfg0.N) (Proc.devRef .tc main_v3_2) = parts m c :=
    (Pipeline.withArrays_arr spec0 (by decide +kernel) c (V0 m c) (fun w => (dats m 0 c).arrAt w cfg0.N) 7).trans (final7 m c)
  funext i
  refine (sum_parts (Pipeline.withArrays spec0 c (V0 m c) (fun w => (dats m 0 c).arrAt w cfg0.N) (Proc.devRef .tc main_v3_2)) i).trans ?_
  rw [e]
  exact Finset.sum_congr rfl fun t _ => parts_at m c t 0 0

/-- The run of the program with what its four results hold, the arguments kept. -/
theorem run_values (ρ : Dev nD → PrngReg) : θ_run (defs (F := Ideal)) (onTc (τ := τ) (main (F := Ideal))) ⟨m, fun _ => 0, ρ⟩ (fun r => ∀ c : Dev nD,
    r.2.mem ((c : Thread nD τ).loc main_v3_0) = dhVal (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v3_1) = dhVal (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v6) = lossVal (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v3_3) = dwVal (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c => ⟨((h c).1 5).trans (final5 m c), ((h c).1 6).trans (final6 m c),
    ((h c).2 main_v6 (Pipeline.mem_restRefs_of main_v6 (by decide) (by decide))).trans (tail_loss m c), ((h c).1 8).trans (final8 m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c)⟩) (run_main m ρ)

end Cert.Proof.DownLoss

end
-- ==== Proof.DownLossRef.lean ====
/- Hand-written, untrusted: THE LOSS AND ITS GRADIENT, THE REFERENCE. -/
module

public import proofs.«01_k».proof.Proof.Gen.Reference5Ideal.Read
public import proofs.«01_k».proof.Proof.DownLoss

@[expose] public section

set_option maxRecDepth 16384

noncomputable section

namespace Cert.Proof.DownLoss

open Cert.Kernel5Ideal Cert.Reference5Ideal.Read Idealize.ShloMosaic Idealize.ShloMosaic.TcCoe Idealize.SL.Sem Idealize.ShloMosaic.StableHlo
open Cert.Proof.RmsGrad

variable (act : FVec Ideal S4096x5632 .bf16) (wd : FVec Ideal S5632x2048 .bf16) (h1 tgt : FVec Ideal S4096x2048 .f32) (w : FVec Ideal S2048 .f32)

/-- The reference's first result. -/
theorem ref_v54 : val_main_v54 (F := Ideal) act wd h1 tgt w = dhVal act wd h1 tgt w := by
  funext i
  refine Eq.trans ?_ ((row_grad ofBits_2048 (by norm_num) 0 _ _ _).symm.trans (zero_add _))
  rw [zero_add]
  pointwise [val_main_v54, val_main_v52, val_main_v53, val_main_v45, val_main_v51, val_main_v50, val_main_v3, val_main_v39,
    val_main_v44, val_main_v49, val_main_v2, val_main_v34, val_main_v38, val_main_v11, val_main_v48, val_main_cst_15,
    val_main_v0, val_main_v1, val_main_v33, val_main_v23, val_main_v17, val_main_v10, val_main_v46, val_main_v47, val_main_v32,
    val_main_v22, val_main_v20, val_main_v8, val_main_v9, val_main_v43, val_main_v14, val_main_cst_14, val_main_v30,
    val_main_v31, val_main_cst_3, val_main_v19, val_main_v6, val_main_v7, val_main_cst_1, val_main_v42, val_main_v13,
    val_main_v12, val_main_v29, val_main_cst_10, val_main_v16, val_main_v18, val_main_v5, val_main_cst_0, val_main_v41,
    val_main_cst_13, val_main_cst_2, val_main_cst_8, val_main_cst_9, val_main_v15, val_main_v4, val_main_cst, last, rinv, msq,
    rowVia]
  simp only [Finset.univ_unique, Finset.sum_singleton, cot, err, ← factor]
  rw [show tgt i = tgt (ix2 (i 0) (i 1)) from congrArg tgt (eq_ix2 (n0 := 4096) (n1 := 2048) i),
    show h1 i = h1 (ix2 (i 0) (i 1)) from congrArg h1 (eq_ix2 (n0 := 4096) (n1 := 2048) i)]
  rfl

/-- The reference's second result, the first rounded: in the ideal reading the same. -/
theorem ref_v55 : val_main_v55 (F := Ideal) act wd h1 tgt w = dhVal act wd h1 tgt w :=
  ref_v54 act wd h1 tgt w

/-- The reference's third result. -/
theorem ref_v28 : val_main_v28 (F := Ideal) act wd h1 tgt w = lossVal act wd h1 tgt w := by
  funext i
  refine Eq.trans ?_ (loss_rows (fun r => ∑ k : Fin 2048, err act wd h1 tgt w r k * err act wd h1 tgt w r k)
    fun r => Finset.sum_nonneg fun k _ => mul_self_nonneg' _)
  pointwise [val_main_v28, val_main_cst_7, val_main_v27, val_main_v26, val_main_cst_6, val_main_v24, val_main_v25, val_main_v21,
    val_main_cst_4, val_main_cst_5, val_main_v20, val_main_v19, val_main_v16, val_main_v18, val_main_v3, val_main_v15,
    val_main_v17, val_main_v2, val_main_v11, val_main_v0, val_main_v1, val_main_v10, val_main_v8, val_main_v9, val_main_v6,
    val_main_v7, val_main_cst_1, val_main_v5, val_main_cst_0, val_main_v4, val_main_cst, err, last, rinv, msq]

/-- The reference's fourth result. -/
theorem ref_v56 : val_main_v56 (F := Ideal) act wd h1 tgt w = dwVal act wd h1 tgt w := by
  funext i
  pointwise [val_main_v56, val_main_v40, val_main_v37, val_main_cst_12, val_main_v36, val_main_v35, val_main_cst_11,
    val_main_v16, val_main_v34, val_main_v3, val_main_v15, val_main_v33, val_main_v23, val_main_v2, val_main_v11, val_main_v32,
    val_main_v22, val_main_v20, val_main_v0, val_main_v1, val_main_v10, val_main_v30, val_main_v31, val_main_cst_3,
    val_main_v19, val_main_v8, val_main_v9, val_main_v29, val_main_cst_10, val_main_v18, val_main_v6, val_main_v7,
    val_main_cst_1, val_main_cst_8, val_main_cst_9, val_main_v17, val_main_v5, val_main_cst_0, val_main_v4, val_main_cst, dwVal,
    last, rinv, msq]
  simp only [Finset.univ_unique, Finset.sum_singleton, cot, err, ← factor]
  refine Finset.sum_congr rfl fun r _ => ?_
  rw [mul_comm, ← mul_assoc]
  rfl

end Cert.Proof.DownLoss

end
-- ==== Proof.DownLossClaim.lean ====
/- Hand-written, untrusted: THE LOSS AND ITS GRADIENT, THE CLAIMS. -/
module

public import proofs.«01_k».proof.Defs
public import proofs.«01_k».proof.Proof.Gen.Kernel5.Frame
public import proofs.«01_k».proof.Proof.Gen.Reference5Ideal.Run
public import proofs.«01_k».proof.Proof.DownLossKernel
public import proofs.«01_k».proof.Proof.DownLossRef
public import Idealize.ShloMosaic.Adequacy
public import Idealize.ShloMosaic.Init

@[expose] public section

set_option maxRecDepth 16384

noncomputable section

namespace Cert.Proof.DownLoss

open Idealize.ShloMosaic Idealize.ShloMosaic.TcCoe Idealize.SL.Sem

theorem frame_kernel : Cert.quiescent_Kernel5 := fun m ρ _ => Cert.Kernel5.Gen.frame m ρ
theorem frame_kernelIdeal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_, _, _, _, run_values m ρ, ?_⟩
  refine (θ_run Cert.Reference5Ideal.defs _ _).mono (fun r h c => ⟨?_, ?_, ?_, ?_, (h c).2.2.2.2⟩)
    (Cert.Reference5Ideal.Value.run (F := Ideal) m' ρ')
  all_goals obtain ⟨e0, e1, e2, e3, e4⟩ := hagree c
  · rw [(h c).1, Cert.Reference5Ideal.Read.val_main_v54_eq, e0, e1, e2, e3, e4]
    exact ref_v54 _ _ _ _ _
  · rw [(h c).2.1, Cert.Reference5Ideal.Read.val_main_v55_eq, e0, e1, e2, e3, e4]
    exact ref_v55 _ _ _ _ _
  · rw [(h c).2.2.1, Cert.Reference5Ideal.Read.val_main_v28_eq, e0, e1, e2, e3, e4]
    exact ref_v28 _ _ _ _ _
  · rw [(h c).2.2.2.1, Cert.Reference5Ideal.Read.val_main_v56_eq, e0, e1, e2, e3, e4]
    exact ref_v56 _ _ _ _ _

end Cert.Proof.DownLoss

end
-- ==== Proof.RetGate.lean ====
/- Hand-written, untrusted: THE RETENTION'S GATED NORM, ITS GRADIENT. Of a head's output the forward pass takes the root-mean-square
   norm over the head's 128 columns, times a weight, times the gate. Here is what each of the three gradients is at an entry. -/
module

public import proofs.«01_k».proof.Proof.RmsGrad
public import Idealize.ShloMosaic.Lib.Pipeline.ValueKit

@[expose] public section

noncomputable section

namespace Cert.Proof.RetGate

open Idealize.ShloMosaic Cert.Proof.Reals Cert.Proof.RmsGrad

/-- The number of columns of a head. -/
abbrev N : EReal := Ideal.ofBits .f32 0x43000000#32

/-- An entry of a normed row is real, whatever the row holds: a row with an infinite entry is scaled by zero. -/
theorem isReal_normed {n : ℕ} (h : Fin n → EReal) (j : Fin n) : IsReal (h j * rinv N h) := by
  have hν : (0 : ℝ) < 128 := by norm_num
  unfold rinv N
  rw [ofBits_128]
  rcases msq_cases hν h with hX | ⟨x, hx, hX⟩
  · rw [hX]; simp only [Ideal.rsqrt_top, mul_zero]; exact ⟨0, rfl⟩
  · rw [hX, Ideal.rsqrt_coe, if_neg hx.not_gt, if_neg hx.ne']
    refine IsReal.mul ?_ (isReal_coe _)
    have fin : h j ≠ ⊤ ∧ h j ≠ ⊥ := by
      by_contra hc
      have hjj : h j * h j = ⊤ := by
        rcases not_and_or.mp hc with h1 | h1 <;> rw [not_not] at h1 <;> rw [h1] <;> rfl
      have hs : ∑ x, h x * h x = ⊤ := by
        have := Finset.single_le_sum (f := fun x => h x * h x) (fun x _ => mul_self_nonneg' (h x)) (Finset.mem_univ j)
        exact top_le_iff.1 (hjj ▸ this)
      unfold msq at hX
      obtain ⟨e, he, hE⟩ := ofBits_eps
      rw [hs, hE, Ideal.div_coe hν.ne', EReal.top_mul_coe_of_pos (by positivity)] at hX
      exact absurd (hX.symm.trans (EReal.top_add_coe e)) (EReal.coe_ne_top x)
    exact ⟨(h j).toReal, (EReal.coe_toReal fin.1 fin.2).symm⟩

/-- The gradient for a row of the head's output. -/
def doAt (o g y w : Fin 128 → EReal) (d : Fin 128) : EReal := rowGrad N (fun x => y x * w x * (g x * gate (g x))) o d
/-- The gradient for a weight, from its column of all rows. -/
def dwAt (o : Fin 4096 → Fin 128 → EReal) (g y : Fin 4096 → EReal) (d : Fin 128) : EReal := ∑ r, y r * (o r d * rinv N (o r)) * (g r * gate (g r))
/-- The gradient for the gate's input. -/
def dgAt (o : Fin 128 → EReal) (g y w : EReal) (d : Fin 128) : EReal := y * (o d * rinv N o) * w * (gate g * (1 + g * (1 - gate g)))

/-- A head's column, in an array of the heads alone. -/
def col (h : Fin 8) (d : Fin 128) : Fin 1024 := ⟨h.val * 128 + d.val, by omega⟩
/-- The same column among the cotangent's, and among the projection's. -/
def colY (h : Fin 8) (d : Fin 128) : Fin 2048 := ⟨1024 + (h.val * 128 + d.val), by omega⟩
def colX (h : Fin 8) (d : Fin 128) : Fin 7168 := ⟨6144 + (h.val * 128 + d.val), by omega⟩

theorem col_surj (y : Fin 1024) : ∃ h d, y = col h d :=
  ⟨⟨y.val / 128, by omega⟩, ⟨y.val % 128, by omega⟩, Fin.ext (by show y.val = y.val / 128 * 128 + y.val % 128; omega)⟩
theorem colX_surj (y : Fin 7168) (hy : 6144 ≤ y.val) : ∃ h d, y = colX h d :=
  ⟨⟨(y.val - 6144) / 128, by omega⟩, ⟨(y.val - 6144) % 128, by omega⟩,
    Fin.ext (by show y.val = 6144 + ((y.val - 6144) / 128 * 128 + (y.val - 6144) % 128); omega)⟩

variable (X : FVec Ideal ⟨2, ![4096, 7168]⟩ .f32) (O : FVec Ideal ⟨2, ![4096, 1024]⟩ .f32) (Y : FVec Ideal ⟨2, ![4096, 2048]⟩ .f32)
  (W : FVec Ideal ⟨2, ![1, 1024]⟩ .f32) (D : FVec Ideal ⟨2, ![4096, 7168]⟩ .bf16)

/-- A row of a head's output, of its gate's input, of the cotangent and of the weight. -/
def oRow (h : Fin 8) (r : Fin 4096) (d : Fin 128) : EReal := O (ix2 r (col h d))
def gRow (h : Fin 8) (r : Fin 4096) (d : Fin 128) : EReal := X (ix2 r (colX h d))
def yRow (h : Fin 8) (r : Fin 4096) (d : Fin 128) : EReal := Y (ix2 r (colY h d))
def wRow (h : Fin 8) (d : Fin 128) : EReal := W (ix2 0 (col h d))

/-- The three results. -/
structure SpecO (R : FVec Ideal ⟨2, ![4096, 1024]⟩ .f32) : Prop where
  at' : ∀ h r d, R (ix2 r (col h d)) = doAt (oRow O h r) (gRow X h r) (yRow Y h r) (wRow W h) d
structure SpecW (R : FVec Ideal ⟨3, ![8, 8, 128]⟩ .f32) : Prop where
  at' : ∀ h s d, R (ix3 h s d) = dwAt (oRow O h) (fun r => gRow X h r d) (fun r => yRow Y h r d) d
structure SpecG (R : FVec Ideal ⟨2, ![4096, 7168]⟩ .bf16) : Prop where
  inside : ∀ h r d, R (ix2 r (colX h d)) = dgAt (oRow O h r) (gRow X h r d) (yRow Y h r d) (wRow W h d) d
  outside : ∀ r (y : Fin 7168), y.val < 6144 → R (ix2 r y) = D (ix2 r y)

theorem SpecO.unique {R R' : FVec Ideal ⟨2, ![4096, 1024]⟩ .f32} (h : SpecO X O Y W R) (h' : SpecO X O Y W R') : R = R' := by
  funext z
  have ez : z = ix2 (z 0) (z 1) := by funext a; fin_cases a <;> rfl
  obtain ⟨e, d, hd⟩ := col_surj (z 1)
  rw [ez, hd]
  exact (h.at' e (z 0) d).trans (h'.at' e (z 0) d).symm

theorem SpecW.unique {R R' : FVec Ideal ⟨3, ![8, 8, 128]⟩ .f32} (h : SpecW X O Y R) (h' : SpecW X O Y R') : R = R' := by
  funext z
  have ez : z = ix3 (z 0) (z 1) (z 2) := by funext a; fin_cases a <;> rfl
  rw [ez]
  exact (h.at' (z 0) (z 1) (z 2)).trans (h'.at' (z 0) (z 1) (z 2)).symm

theorem SpecG.unique {R R' : FVec Ideal ⟨2, ![4096, 7168]⟩ .bf16} (h : SpecG X O Y W D R) (h' : SpecG X O Y W D R') : R = R' := by
  funext z
  have ez : z = ix2 (z 0) (z 1) := by funext a; fin_cases a <;> rfl
  rw [ez]
  generalize z 0 = r
  generalize z 1 = y
  by_cases hy : y.val < 6144
  · exact (h.outside r y hy).trans (h'.outside r y hy).symm
  · obtain ⟨e, d, rfl⟩ := colX_surj y (by omega)
    exact (h.inside e r d).trans (h'.inside e r d).symm

end Cert.Proof.RetGate

end
-- ==== Proof.RetGatePays.lean ====
/- Hand-written, untrusted: THE GATED NORM'S GRADIENT, THE BODY: what a head's body computes from the four blocks it reads. -/
module

public import proofs.«01_k».proof.Proof.Gen.Kernel4Ideal.Skeleton
public import proofs.«01_k».proof.Proof.RetGate

@[expose] public section

set_option maxRecDepth 16384

noncomputable section

namespace Cert.Proof.RetGate

open Cert.Kernel4Ideal Cert.Kernel4Ideal.Gen
open Idealize.ShloMosaic Idealize.ShloMosaic.TcCoe Cert.Proof.Reals Cert.Proof.RmsGrad

variable (x1 x2 x3 : Vec Ideal S4096x128 .f32) (x4 : Vec Ideal S1x128 .f32)

/-- A block's row. -/
def rowIn (x : Vec Ideal S4096x128 .f32) (r : Fin 4096) (d : Fin 128) : EReal := x (ix2 r d)
def wIn (x : Vec Ideal S1x128 .f32) (d : Fin 128) : EReal := x (ix2 0 d)

theorem pay_rinv (r : Fin 4096) : k0_pay1 (F := Ideal) x2 (ix2 r 0) = rinv N (rowIn x2 r) := by
  unfold rowIn
  pointwise [k0_pay1, rinv, msq, N]

theorem pay_gate (r : Fin 4096) (d : Fin 128) : k0_pay3 (F := Ideal) x1 (ix2 r d) = gate (rowIn x1 r d) := by
  unfold rowIn gate
  rw [← zero_sub_eq]
  pointwise [k0_pay3]

theorem pay_normed (r : Fin 4096) (d : Fin 128) : k0_pay2 (F := Ideal) x2 (ix2 r d) = rowIn x2 r d * rinv N (rowIn x2 r) := by
  rw [← pay_rinv]
  unfold rowIn
  pointwise [k0_pay2]

theorem pay_silu (r : Fin 4096) (d : Fin 128) : k0_pay4 (F := Ideal) x1 (ix2 r d) = rowIn x1 r d * gate (rowIn x1 r d) := by
  rw [← pay_gate]
  unfold rowIn
  pointwise [k0_pay4]

theorem pay_dw (s : Fin 8) (d : Fin 128) : k0_pay5 (F := Ideal) x2 x1 x3 (ix3 0 s d)
    = dwAt (rowIn x2) (fun r => rowIn x1 r d) (fun r => rowIn x3 r d) d := by
  unfold dwAt
  simp only [← pay_normed, ← pay_silu]
  unfold rowIn
  pointwise [k0_pay5]

theorem pay_dg (r : Fin 4096) (d : Fin 128) :
    k0_pay9 (F := Ideal) (k0_pay3 x1) (k0_pay6 x2 x3 x4) (k0_pay7 x1) k0_pay8 (ix3 0 r d)
      = dgAt (rowIn x2 r) (rowIn x1 r d) (rowIn x3 r d) (wIn x4 d) d := by
  unfold dgAt
  rw [← pay_normed, ← pay_gate]
  unfold rowIn wIn
  pointwise [k0_pay9, k0_pay6, k0_pay7, k0_pay8]

theorem pay_do (r : Fin 4096) (d : Fin 128) :
    k0_pay10 (F := Ideal) x2 x3 x4 (k0_pay1 x2) (k0_pay4 x1) (ix2 r d) = doAt (rowIn x2 r) (rowIn x1 r) (rowIn x3 r) (wIn x4) d := by
  unfold doAt rowGrad
  simp only [← pay_rinv, ← pay_silu]
  unfold rowIn wIn
  pointwise [k0_pay10, N]

end Cert.Proof.RetGate

end
-- ==== Proof.RetGateRun.lean ====
module

public import proofs.«01_k».proof.Proof.Gen.Kernel4Ideal.Skeleton
public import proofs.«01_k».proof.Proof.Gen.Kernel4Ideal.Frame

@[expose] public section

set_option maxRecDepth 16384

noncomputable section

namespace Cert.Proof.RetGate

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's buffer: what the region writes in place. -/
abbrev res : Memref sig .tc .hbm S4096x7168 .bf16 := Memref.whole main_v0_2
/-- Its contents on core `c`, and the buffer held whole at them. -/
abbrev ResBuf (c : Dev nD) {sp : Space} {S : Shape} {e : EltTy} (M : Memref sig .tc sp S e) : Type := Buf (Elt F) (M.view.loc (c : Thread nD τ))
abbrev resPt (c : Dev nD) {sp : Space} {S : Shape} {e : EltTy} (M : Memref sig .tc sp S e) (f : ResBuf (F := F) c M) : sProp 𝕄 :=
  M.view.loc (c : Thread nD τ) ↦{fullShare} f

set_option maxHeartbeats 4000000 in
set_option sl_exec.dmaWindow true in
/-- One head: the pieces the body writes to its two blocks, and the result after it from what the result and the scratch buffer held. -/
def run (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole)
    (x1 x2 x3 : Vec F S4096x128 .f32) (x4 : Vec F S1x128 .f32) :
    Σ' (L6 : List (View.Piece (Elt F) S4096x128 .f32)) (L7 : List (View.Piece (Elt F) S1x8x128 .f32)),
    { G : ResBuf (F := F) c res → ResBuf (F := F) c (Memref.whole cc0_scratch0 : Memref sig .tc .vmem S1x4096x128 .bf16) → ResBuf (F := F) c res // ∀ (f8 : ResBuf (F := F) c res) (W : Waits sig Unit) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4
      ∗ (∃ d, owns (c : Thread nD τ) arg6 fullShare d) ∗ (∃ d, owns (c : Thread nD τ) arg7 fullShare d)
      ∗ (∃ d, owns (c : Thread nD τ) (Memref.whole cc0_scratch0 : Memref sig .tc .vmem S1x4096x128 .bf16) fullShare d)
      ∗ semVal ((c : Thread nD τ), SemLoc.dma 12) 0 ∗ resPt c res f8 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4
      ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
      ∗ (∃ d, owns (c : Thread nD τ) (Memref.whole cc0_scratch0 : Memref sig .tc .vmem S1x4096x128 .bf16) fullShare d)
      ∗ semVal ((c : Thread nD τ), SemLoc.dma 12) 0 ∗ (∃ f9, resPt c res (G f8 f9)) ∗ (∃ W', owes (c : Thread nD τ) 0 W')) -∗ K ⟨⟩))
    ⊢ wp frame (wpE (defs₀ (F := F)) Variants.none c none) Set.univ (cc0_ret_gate_bwd i arg1 harg1 arg2 harg2 arg3 harg3 arg4 harg4 (Memref.whole main_v0_2) (Memref.isWhole_whole _) arg6 harg6 arg7 harg7 (Memref.whole main_v0_2) (Memref.isWhole_whole _) (Memref.whole cc0_scratch0) (Memref.isWhole_whole _) cc0_scratch1) K } := by
  refine ⟨?_, ?_, ?_, fun f8 W K => ?run⟩
  case run =>
    simp only [cc0_ret_gate_bwd_eq_skeleton]; unfold cc0_ret_gate_bwd_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%d6, %f6, -, H6⟩, ⟨%d7, %f7, -, H7⟩, ⟨%d9, %f9, -, H9⟩, Hq0, H8, HW, Hk⟩
    obtain rfl := harg1.eq_unread hf1; obtain rfl := harg2.eq_unread hf2; obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]; · iexists _; iexact H6
    isplitl [H7]; · iexists _; iexact H7
    isplitl [H9]
    · iexists _, _; isplitr; swap; · iexact H9
      ipureintro; rfl
    isplitl [Hq0]; · iexact Hq0
    isplitl [H8]
    · iexists f9; iexact H8
    iexists _; iexact HW

end Cert.Proof.RetGate

end
-- ==== Proof.RetGateFrame.lean ====
module

public import proofs.«01_k».proof.Proof.RetGateRun
public import Idealize.ShloMosaic.Lib.Pipeline.FrameValue

@[expose] public section

set_option maxRecDepth 16384

noncomputable section

namespace Cert.Proof.RetGate

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One head's step, what it leaves in its blocks, and what the result may hold after some heads -/

/-- The body's run at head `t`. -/
def step (c : Dev nD) (t : Fin cfg0.N) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (iblk m c 0 t) (iblk m c 1 t) (iblk m c 2 t) (iblk m c 3 t)

/-- What the result may hold after the first `n` heads. -/
def Reach (c : Dev nD) : ℕ → ResBuf (F := F) c res → Prop
  | 0, f => f = V m c main_v0_2
  | n + 1, f => ∃ (h : n < cfg0.N) (f8 : ResBuf (F := F) c res) (f9 : ResBuf (F := F) c (Memref.whole cc0_scratch0 : Memref sig .tc .vmem S1x4096x128 .bf16)),
      Reach c n f8 ∧ f = (step m c ⟨n, h⟩).2.2.1 f8 f9

/-- The pieces cover the two blocks. -/
theorem cover6 (c : Dev nD) (t : Fin cfg0.N) (y : S4096x128.Idx) : ∃ pc ∈ (step m c t).1, y ∈ pc.1.set :=
  View.cover_of_tiledL (step m c t).1 S4096x128.size (by sl_kernel_rfl) y
theorem cover7 (c : Dev nD) (t : Fin cfg0.N) (y : S1x8x128.Idx) : ∃ pc ∈ (step m c t).2.1, y ∈ pc.1.set :=
  View.cover_of_tiledL (step m c t).2.1 S1x8x128.size (by sl_kernel_rfl) y

/-- A staging buffer of each output, through which its contents are stated. -/
abbrev VO6 : View sig .tc .vmem S4096x128 .f32 := (Memref.whole cc0_stg4_0 : Memref sig .tc .vmem S4096x128 .f32).view
abbrev VO7 : View sig .tc .vmem S1x8x128 .f32 := (Memref.whole cc0_stg5_0 : Memref sig .tc .vmem S1x8x128 .f32).view
/-- What a head leaves in its two blocks. -/
def left6 (c : Dev nD) (t : Fin cfg0.N) : Vec F S4096x128 .f32 := VO6.read (Elt F) (VO6.writes (Elt F) VO6.junk (step m c t).1)
def left7 (c : Dev nD) (t : Fin cfg0.N) : Vec F S1x8x128 .f32 := VO7.read (Elt F) (VO7.writes (Elt F) VO7.junk (step m c t).2.1)

/-! ## The launch -/

/-- The semaphore of the copy. -/
abbrev osem : Fin 1 → SemLoc sig := ![SemLoc.dma 12]
theorem osem_facts : Pipeline.OwnSemFacts spec0 osem := by decide
/-- The buffer the copy writes. -/
def written : Finset (Ref sig .tc) := {main_v0_2}
theorem written_sub : written ⊆ Pipeline.restRefsP sig Pipeline.Prefetch.none spec0 \ ∅ := by decide

omit [FloatOps F] in
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 12) 0) := by
  rw [Pipeline.ownSems0_eq_of_list c osem [0] (by decide) (by decide)]; rfl

/-- The invariant before head `n`: scratch at anything, the semaphore at zero, the result at what it may hold. -/
def inv (c : Dev nD) (n : ℕ) : sProp 𝕄 :=
  iprop(Pipeline.ΦD osem spec0 ∅ (V m) c ∗ Pipeline.routedSat written c fun W => Reach m c n (W main_v0_2))

theorem inv_eq (c : Dev nD) (n : ℕ) : inv m c n = iprop(((∃ f : Buf (Elt F) ((c : Thread nD τ).loc cc0_scratch0), ((c : Thread nD τ).loc cc0_scratch0) ↦{fullShare} f)
      ∗ (∃ r, prngReg c r) ∗ semVal ((c : Thread nD τ), SemLoc.dma 12) 0 ∗ (bigSep ∅ fun b => ((c.tc : Thread nD τ).loc b) ↦{fullShare} V m c b))
      ∗ (∃ W : (b : Ref sig .tc) → Buf (Elt F) ((c.tc : Thread nD τ).loc b), ⌜Reach m c n (W main_v0_2)⌝ ∗ resPt c res (W main_v0_2))) := by
  unfold inv Pipeline.routedSat Pipeline.routed written
  rw [Pipeline.ΦD_eq, scopedRest0_eq, osem_eq]
  simp only [BI.bigSep_eq_bigSepL_of_eq [main_v0_2] (by decide : ({main_v0_2} : Finset (Ref sig .tc)) = _) (by decide)]
  rfl

/-- The proof data: every input's buffer at its block, each output's at what the head leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left6 m c t
    | ⟨5, _⟩ => left7 m c t
  Φ t := inv m c t.val
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = left6 m c t := by dsimp only [dats]
theorem after5 (c : Dev nD) (t : Fin cfg0.N) : (dats m 0 c).after 5 t = left7 m c t := by dsimp only [dats]

/-- Every input's staging buffer holds its block at every point. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t) := by
  refine ⟨fun d => ?_, fun d => ?_, fun d => ?_, fun d => ?_⟩
  all_goals
    refine ((dats m 0 c).before_in_eq_fetched _ rfl (fun _ => rfl) (fun _ _ _ => rfl) (fun t => ?_) t d).trans ?_
    · unfold Dat.blockOf; rw [A_eq]; rfl
    · unfold Dat.fetched Dat.blockOf; rw [A_eq]; rfl

theorem reach_succ {c : Dev nD} {t : Fin cfg0.N} {f8 : ResBuf (F := F) c res} (h : Reach m c t.val f8) (f9) :
    Reach m c (t.val + 1) ((step m c t).2.2.1 f8 f9) := ⟨t.isLt, f8, f9, h, rfl⟩

/-- The body at any point: its run, from the invariant to the invariant one head further. -/
theorem sound_body (c : Dev nD) (t : Fin cfg0.N) :
    iprop(inv m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := F)) Variants.none c none) Set.univ (bodyAt0 t) (fun _ =>
      iprop(inv m c (t.val + 1) ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t))) := by
  obtain ⟨h0, h1, h2, h3⟩ := before_in m c t
  simp only [h0, h1, h2, h3, inv_eq]
  rw [after0, after1, after2, after3, after4, after5]
  unfold bodyAt0 Dat.owesAt Pipeline.owesWithin
  rw [show (dats m 0 c).owed t.castSucc = 0 from rfl, show (dats m 0 c).owed t.succ = 0 from rfl]
  iintro ⟨⟨⟨HS, Hg, Hq, HH⟩, ⟨%Wr, %hWr, HR⟩⟩, ⟨%W, -, HW⟩, ⟨%d0, H0⟩, ⟨%d1, H1⟩, ⟨%d2, H2⟩, ⟨%d3, H3⟩, ⟨%d4, H4⟩, ⟨%d5, H5⟩⟩
  iapply ((step m c t).2.2.2 (Wr main_v0_2) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · icases HS with ⟨%f, HS⟩; iexists _; rw [owns_whole]; iexact HS
  isplitl [Hq]; · iexact Hq
  isplitl [HR]; · iexact HR
  isplitl [HW]; · iexact HW
  iintro ⟨H0, H1, H2, H3, ⟨%e4, H4⟩, ⟨%e5, H5⟩, ⟨%e, HS⟩, Hq, ⟨%f9, HR⟩, ⟨%W', HW'⟩⟩
  isplitl [HS Hg Hq HH HR]
  · isplitr [HR]
    · isplitl [HS]; · iexists e; rw [← owns_whole]; iexact HS
      isplitl [Hg]; · iexact Hg
      isplitl [Hq]; · iexact Hq
      iexact HH
    · iexists fun b => if h : b = main_v0_2 then h ▸ (step m c t).2.2.1 (Wr main_v0_2) f9 else Wr b
      simp only [dite_true]
      isplitr; · ipureintro; exact reach_succ m hWr f9
      iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; unfold left6; exact View.read_writes_of_cover _ _ _ _ _ (cover6 m c t)
  unfold owns; iexists _; isplitr
  swap; · iexact H5
  ipureintro; unfold left7; exact View.read_writes_of_cover _ _ _ _ _ (cover7 m c t)

/-- The body table's row at point `t`'s slots. -/
theorem row (t : Fin cfg0.N) : defs₀ (F := F) .tc cfg0.body (cfg0.bodyArgs t (cfg0.slots t)) = bodyAt0 t := by
  unfold defs₀; rw [Defs.onTc_tc]

/-- No output is left unsaid. -/
def said : Fin cfg0.W → Bool := fun _ => false

theorem obligation (c : Dev nD) : Pipeline.BodyObligationLoose (dats (F := F) m 0 c) (defs₀ (F := F)) Variants.none () Set.univ said := fun t => by
  rw [bigSep_W0, bigSep_W0, row]
  exact triple_restated (sound_body m c t) rfl .rfl fun _ => .rfl

theorem main_to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What holds after the run: the arrays as the relational data allow, the rest untouched, the result at what it may hold after all heads. -/
abbrev Post (r : PUnit × MemSt nD τ sig (Elt F)) : Prop :=
  RDat.FramePostR cfg0 (fun c => (dats m 0 c).toRForget said) written (V m) r
    ∧ ∀ c : Dev nD, ∃ W : (b : Ref sig .tc) → Buf (Elt F) ((c.tc : Thread nD τ).loc b), Reach m c 8 (W main_v0_2) ∧ ∀ b ∈ written, r.2.mem ((c.tc : Thread nD τ).loc b) = W b

set_option backward.isDefEq.respectTransparency.types false in
theorem launched : θ_run defs (onTc (τ := τ) (main (F := F))) (⟨m, fun _ => 0, ρ⟩) (fun r => Post m r ∧ r.2.sem = fun _ => 0) :=
  RDat.θ_run_frameP_dmaRSat_shared (Q' := _) (fun q => (cfgs q).toPCfg (Val := Elt F)) (fun q => (cfgs q).toPCfg_adm) (0 : Fin 1) launch0.to₀.toP osem defs₀ Variants.none
    (fun c => (dats m 0 c).toRForget said) osem_facts ∅ written (Finset.empty_subset _) written_sub m ρ main
    (hbody := fun c => (obligation m c).toRForget) (hq := fun _ _ _ => rfl) (howed := fun _ _ => rfl) (V := V m) (hmain := main_to_region m) (hA := A_eq m)
    (hpf := fun _ k => k.elim0) (PG := fun c W => Reach m c 8 (W main_v0_2))
    (hin := fun c => by
      change _ ⊢ inv m c 0
      unfold Pipeline.ΦDRG inv Pipeline.routedSat
      iintro ⟨⟨HD, HR⟩, -⟩
      isplitl [HD]; · iexact HD
      iexists V m c
      isplitr; · ipureintro; rfl
      iexact HR)
    (hout := fun _ => .rfl)
    (hQ' := fun _ h => h)

/-- An input's array ends as the region found it. -/
theorem in_kept {r : PUnit × MemSt nD τ sig (Elt F)} (h : Post m r) (c : Dev nD) (w : Fin cfg0.W) (hw : (cfg0.win w).isOut = false) :
    r.2.mem ((cfg0.spec w).arr.view.loc (c.tc : Thread nD τ)) = V m c (Pipeline.arrRef spec0 w) := by
  have e := (h.1 c).1 w
  rw [RDat.ArrAt_in _ w hw] at e
  exact e

/-- An output's array ends as the heads wrote it. -/
theorem out_left {r : PUnit × MemSt nD τ sig (Elt F)} (h : Post m r) (c : Dev nD) (w : Fin cfg0.W) :
    r.2.mem ((cfg0.spec w).arr.view.loc (c.tc : Thread nD τ)) = (dats m 0 c).arrAt w cfg0.N :=
  ((dats m 0 c).toRForget_arrAt_iff (fgt := said) rfl cfg0.N _).mp ((h.1 c).1 w)

/-- Every argument array ends as launched. -/
theorem kept {r : PUnit × MemSt nD τ sig (Elt F)} (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(in_kept m h c 0 rfl).trans (V_main_arg0 m c), (in_kept m h c 1 rfl).trans (V_main_arg1 m c),
    (in_kept m h c 2 rfl).trans (V_main_arg2 m c), (in_kept m h c 3 rfl).trans (V_main_arg3 m c),
    ((h.1 c).2 main_arg4 (by decide)).trans (V_main_arg4 m c)⟩

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (launched m ρ)

/-- The three results at the end; the arguments beside them. -/
theorem result : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ Reach m c 8 (r.2.mem ((c.tc : Thread nD τ).loc main_v0_2)) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨out_left m h.1 c 4, out_left m h.1 c 5, by
    obtain ⟨W, hW, hr⟩ := h.1.2 c
    rw [hr main_v0_2 (by decide)]; exact hW, kept m h.1 c⟩) (launched m ρ)

end Cert.Proof.RetGate

end
-- ==== Proof.RetGateKernel.lean ====
/- Hand-written, untrusted: THE GATED NORM'S GRADIENT, ONE HEAD: what its body writes to its two blocks, and what it leaves in the
   columns of the result that it copies its third gradient to. -/
module

public import proofs.«01_k».proof.Proof.RetGatePays
public import proofs.«01_k».proof.Proof.RetGateFrame
public import Idealize.ShloMosaic.Lib.ValueLayout
public import Idealize.ShloMosaic.Lib.WritesUnit
public import Idealize.ShloMosaic.Lib.WholeRead

@[expose] public section

set_option maxRecDepth 16384

noncomputable section

namespace Cert.Proof.RetGate

open Cert.Kernel4Ideal Cert.Kernel4Ideal.Gen
open Idealize.ShloMosaic Idealize.ShloMosaic.TcCoe

/-- A whole block read is the block. -/
theorem read_block {arg : Memref sig .tc .vmem S4096x128 .f32} (h : arg.IsWhole) (x : Vec Ideal S4096x128 .f32) :
    View.readAt (Elt Ideal) arg.view (Rect.unit (s := S4096x128) ![0, 0] ![4096, 128] inb_S4096x128_S4096x128_0_0).toLoadRect (h.unread x) = x := by
  funext j
  refine (h.readAt_unread _ _ _).trans (congrArg x (funext fun a => Fin.ext ?_))
  fin_cases a
  · show 0 + 1 * (j 0).val = (j 0).val; omega
  · show 0 + 1 * (j 1).val = (j 1).val; omega

theorem read_weight {arg : Memref sig .tc .vmem S1x128 .f32} (h : arg.IsWhole) (x : Vec Ideal S1x128 .f32) :
    View.readAt (Elt Ideal) arg.view (Rect.unit (s := S1x128) ![0, 0] ![1, 128] inb_S1x128_S1x128_0_0).toLoadRect (h.unread x) = x := by
  funext j
  refine (h.readAt_unread _ _ _).trans (congrArg x (funext fun a => Fin.ext ?_))
  fin_cases a
  · show 0 + 1 * (j 0).val = (j 0).val; omega
  · show 0 + 1 * (j 1).val = (j 1).val; omega

/-- The scratch buffer, and its one row of blocks as it is copied out. -/
abbrev scr : Memref sig .tc .vmem S1x4096x128 .bf16 := Memref.whole cc0_scratch0
abbrev copied (G : scr.view.ty.Contents (Elt Ideal)) : Vec Ideal S4096x128 .bf16 :=
  View.read (Elt Ideal) ((scr.slice (Rect.unit (s := S1x4096x128) ![0, 0, 0] S1x4096x128.size inb_S1x4096x128_S1x4096x128_0_0_0) (fun _ => rfl)).squeeze S4096x128 squeezes_S1x4096x128_S4096x128).view G

theorem copied_apply (G : scr.view.ty.Contents (Elt Ideal)) (x : Fin 4096) (d : Fin 128) :
    copied G (ix2 x d) = scr.view.read (Elt Ideal) G (ix3 0 x d) := by
  have e : ((scr.slice (Rect.unit (s := S1x4096x128) ![0, 0, 0] S1x4096x128.size inb_S1x4096x128_S1x4096x128_0_0_0) (fun _ => rfl)).squeeze S4096x128 squeezes_S1x4096x128_S4096x128).view.emb (ix2 x d)
      = scr.view.emb ((Rect.unit (s := S1x4096x128) ![0, 0, 0] S1x4096x128.size inb_S1x4096x128_S1x4096x128_0_0_0).emb (Shape.reshapeEquiv squeezes_S1x4096x128_S4096x128.numel_eq (ix2 x d))) := rfl
  refine congrArg G (e.trans (congrArg scr.view.emb ?_))
  refine (congrArg _ (ValueIdx.reshapeEquiv_ix2_1ab _ x d)).trans (funext fun a => Fin.ext ?_)
  fin_cases a
  · show 0 + 1 * 0 = 0; omega
  · show 0 + 1 * x.val = x.val; omega
  · show 0 + 1 * d.val = d.val; omega

variable (c : Dev nD) (i : grid0.Coords) (arg1 : Memref sig .tc .vmem S4096x128 .f32) (harg1 : arg1.IsWhole) (arg2 : Memref sig .tc .vmem S4096x128 .f32) (harg2 : arg2.IsWhole)
  (arg3 : Memref sig .tc .vmem S4096x128 .f32) (harg3 : arg3.IsWhole) (arg4 : Memref sig .tc .vmem S1x128 .f32) (harg4 : arg4.IsWhole)
  (arg6 : Memref sig .tc .vmem S4096x128 .f32) (harg6 : arg6.IsWhole) (arg7 : Memref sig .tc .vmem S1x8x128 .f32) (harg7 : arg7.IsWhole)
  (x1 x2 x3 : Vec Ideal S4096x128 .f32) (x4 : Vec Ideal S1x128 .f32)

/-- The first block's piece. -/
theorem run_do : (run (F := Ideal) c i arg1 harg1 arg2 harg2 arg3 harg3 arg4 harg4 arg6 harg6 arg7 harg7 x1 x2 x3 x4).1
    = [⟨Rect.unit (s := S4096x128) ![0, 0] ![4096, 128] inb_S4096x128_S4096x128_0_0, k0_pay10 x2 x3 x4 (k0_pay1 x2) (k0_pay4 x1)⟩] := by
  unfold run; dsimp only
  unfold run.sl.r run.sl.r_1 run.sl.r_2 run.sl.r_3 run.sl.r_5
  simp only [read_block, read_weight]

/-- The second block's piece. -/
theorem run_dw : (run (F := Ideal) c i arg1 harg1 arg2 harg2 arg3 harg3 arg4 harg4 arg6 harg6 arg7 harg7 x1 x2 x3 x4).2.1
    = [⟨Rect.unit (s := S1x8x128) ![0, 0, 0] ![1, 8, 128] inb_S1x8x128_S1x8x128_0_0_0, k0_pay5 x2 x1 x3⟩] := by
  unfold run; dsimp only
  simp only [read_block]

/-- The scratch buffer as the copy reads it. -/
def ready (f9 : scr.view.ty.Contents (Elt Ideal)) : scr.view.ty.Contents (Elt Ideal) :=
  scr.view.writes (Elt Ideal) f9 [⟨Rect.unit (s := S1x4096x128) ![0, 0, 0] ![1, 4096, 128] inb_S1x4096x128_S1x4096x128_0_0_0, k0_pay9 (k0_pay3 x1) (k0_pay6 x2 x3 x4) (k0_pay7 x1) k0_pay8⟩]

theorem scratch_eq : run.sl.H9_1 (F := Ideal) c arg1 harg1 arg2 harg2 arg3 harg3 arg4 harg4 x1 x2 x3 x4
    = [⟨Rect.unit (s := S1x4096x128) ![0, 0, 0] ![1, 4096, 128] inb_S1x4096x128_S1x4096x128_0_0_0, k0_pay9 (k0_pay3 x1) (k0_pay6 x2 x3 x4) (k0_pay7 x1) k0_pay8⟩] := by
  unfold run.sl.H9_1 run.sl.r_4 run.sl.r_6 run.sl.r_7
  simp only [read_block, read_weight]

theorem dma_eq (f9 : scr.view.ty.Contents (Elt Ideal)) : run.sl.dma10 (F := Ideal) c arg1 harg1 arg2 harg2 arg3 harg3 arg4 harg4 x1 x2 x3 x4 f9 = copied (ready x1 x2 x3 x4 f9) := by
  unfold run.sl.dma10
  rw [scratch_eq]
  rfl

/-- The result after a head: a block of columns written over what it was. -/
theorem run_dg (f8 : ResBuf (F := Ideal) c res) (f9 : scr.view.ty.Contents (Elt Ideal)) :
    (run (F := Ideal) c i arg1 harg1 arg2 harg2 arg3 harg3 arg4 harg4 arg6 harg6 arg7 harg7 x1 x2 x3 x4).2.2.1 f8 f9
      = res.view.writes (Elt Ideal) f8 [⟨Rect.unit (s := S4096x7168) (k0_off1 i) S4096x128.size (k0_off1_inb i), copied (ready x1 x2 x3 x4 f9)⟩] := by
  have e : (run (F := Ideal) c i arg1 harg1 arg2 harg2 arg3 harg3 arg4 harg4 arg6 harg6 arg7 harg7 x1 x2 x3 x4).2.2.1 f8 f9
      = run.sl.H8_w0 c i arg1 harg1 arg2 harg2 arg3 harg3 arg4 harg4 x1 x2 x3 x4 f8 f9 := by
    unfold run; dsimp only
  refine e.trans ?_
  unfold run.sl.H8_w0
  rw [dma_eq]
  generalize copied (ready x1 x2 x3 x4 f9) = p
  rfl

/-- The first block after a head. -/
theorem do_at (v : View sig .tc .vmem S4096x128 .f32) (f : v.ty.Contents (Elt Ideal)) (r : Fin 4096) (d : Fin 128) :
    v.read (Elt Ideal) (v.writes (Elt Ideal) f (run (F := Ideal) c i arg1 harg1 arg2 harg2 arg3 harg3 arg4 harg4 arg6 harg6 arg7 harg7 x1 x2 x3 x4).1) (ix2 r d)
      = doAt (rowIn x2 r) (rowIn x1 r) (rowIn x3 r) (wIn x4) d := by
  rw [run_do]
  refine (View.read_writes_cons_unit_of_mem v f _ _ [] _ (ix2 r d) rfl fun a => ?_).trans (pay_do x1 x2 x3 x4 r d)
  fin_cases a
  · exact (Nat.zero_add _).symm
  · exact (Nat.zero_add _).symm

/-- The second block after a head. -/
theorem dw_at (v : View sig .tc .vmem S1x8x128 .f32) (f : v.ty.Contents (Elt Ideal)) (s : Fin 8) (d : Fin 128) :
    v.read (Elt Ideal) (v.writes (Elt Ideal) f (run (F := Ideal) c i arg1 harg1 arg2 harg2 arg3 harg3 arg4 harg4 arg6 harg6 arg7 harg7 x1 x2 x3 x4).2.1) (ix3 0 s d)
      = dwAt (rowIn x2) (fun r => rowIn x1 r d) (fun r => rowIn x3 r d) d := by
  rw [run_dw]
  refine (View.read_writes_cons_unit_of_mem v f _ _ [] _ (ix3 0 s d) rfl fun a => ?_).trans (pay_dw x1 x2 x3 s d)
  fin_cases a
  · rfl
  · exact (Nat.zero_add _).symm
  · exact (Nat.zero_add _).symm

theorem copied_ready (f9 : scr.view.ty.Contents (Elt Ideal)) (r : Fin 4096) (d : Fin 128) :
    copied (ready x1 x2 x3 x4 f9) (ix2 r d) = dgAt (rowIn x2 r) (rowIn x1 r d) (rowIn x3 r d) (wIn x4 d) d := by
  refine (copied_apply _ r d).trans ?_
  unfold ready
  refine (View.read_writes_cons_unit_of_mem scr.view f9 _ _ [] _ (ix3 0 r d) rfl fun a => ?_).trans (pay_dg x1 x2 x3 x4 r d)
  fin_cases a
  · rfl
  · exact (Nat.zero_add _).symm
  · exact (Nat.zero_add _).symm

/-- The result after a head, at every place. -/
theorem run_apply (f8 : ResBuf (F := Ideal) c res) (f9 : scr.view.ty.Contents (Elt Ideal)) :
    let R := (run (F := Ideal) c i arg1 harg1 arg2 harg2 arg3 harg3 arg4 harg4 arg6 harg6 arg7 harg7 x1 x2 x3 x4).2.2.1 f8 f9
    (∀ r d, res.view.read (Elt Ideal) R (ix2 r (colX (i 0) d)) = dgAt (rowIn x2 r) (rowIn x1 r d) (rowIn x3 r d) (wIn x4 d) d)
      ∧ ∀ r (y : Fin 7168), (∀ d, y ≠ colX (i 0) d) → res.view.read (Elt Ideal) R (ix2 r y) = res.view.read (Elt Ideal) f8 (ix2 r y) := by
  intro R
  have e : R = _ := run_dg c i arg1 harg1 arg2 harg2 arg3 harg3 arg4 harg4 arg6 harg6 arg7 harg7 x1 x2 x3 x4 f8 f9
  have hi : (i 0).val < 8 := (i 0).isLt
  rw [e]
  constructor
  · intro r d
    refine (View.read_writes_cons_unit_of_mem res.view f8 (k0_off1_inb i) _ [] _ (ix2 r d) (k0_off1_eq i) fun a => ?_).trans (copied_ready x1 x2 x3 x4 f9 r d)
    fin_cases a
    · exact (Nat.zero_add _).symm
    · show 6144 + ((i 0).val * 128 + d.val) = 128 * (i 0).val + 6144 + d.val; omega
  · intro r y hy
    refine View.read_writes_cons_unit_of_not_mem res.view f8 (k0_off1_inb i) _ [] _ (k0_off1_eq i) 1 ?_
    by_contra hc
    obtain ⟨h1, h2⟩ := not_or.mp hc
    have h1 : 128 * (i 0).val + 6144 ≤ y.val := not_lt.mp h1
    have h2 : y.val < 128 * (i 0).val + 6144 + 128 := not_le.mp h2
    exact hy ⟨y.val - (128 * (i 0).val + 6144), by omega⟩ (Fin.ext (by show y.val = 6144 + ((i 0).val * 128 + (y.val - (128 * (i 0).val + 6144))); omega))

end Cert.Proof.RetGate

end
-- ==== Proof.RetGateReach.lean ====
/- Hand-written, untrusted: THE GATED NORM'S GRADIENT, THE KERNEL'S RESULTS: every head writes its own block of the first two and
   its own columns of the third. -/
module

public import proofs.«01_k».proof.Proof.RetGateKernel

@[expose] public section

set_option maxRecDepth 16384

noncomputable section

namespace Cert.Proof.RetGate

open Cert.Kernel4Ideal Cert.Kernel4Ideal.Gen
open Idealize.ShloMosaic Idealize.ShloMosaic.TcCoe Idealize.ShloMosaic.Tactic

variable (m : (ℓ : Loc nD τ sig) → Buf (Elt Ideal) ℓ)

theorem idx0 : ∀ t : Fin cfg0.N, win0_0.index t = ![0, 48 + t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 8 + t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![t.val, 0, 0] := (by decide +kernel : ∀ t : Fin grid0.N, _)
theorem point : ∀ t : Fin cfg0.N, ((grid0.coords t) 0).val = t.val := (by decide +kernel : ∀ t : Fin grid0.N, _)

/-- A point's head. -/
def head (t : Fin cfg0.N) : Fin 8 := ⟨t.val, t.isLt⟩

theorem head_eq (t : Fin cfg0.N) : (grid0.coords t) 0 = head t := Fin.ext (point t)

variable (c : Dev nD)

abbrev inX : FVec Ideal ⟨2, ![4096, 7168]⟩ .f32 := m ((c : Thread nD τ).loc main_arg0)
abbrev inO : FVec Ideal ⟨2, ![4096, 1024]⟩ .f32 := m ((c : Thread nD τ).loc main_arg1)
abbrev inY : FVec Ideal ⟨2, ![4096, 2048]⟩ .f32 := m ((c : Thread nD τ).loc main_arg2)
abbrev inW : FVec Ideal ⟨2, ![1, 1024]⟩ .f32 := m ((c : Thread nD τ).loc main_arg3)
abbrev inD : FVec Ideal ⟨2, ![4096, 7168]⟩ .bf16 := m ((c : Thread nD τ).loc main_arg4)

theorem g_block (t : Fin cfg0.N) : rowIn (iblk m c 0 t) = gRow (inX m c) (head t) := by
  funext r d
  unfold rowIn gRow colX head
  blk_point [iblk, V, idx0 t]
theorem o_block (t : Fin cfg0.N) : rowIn (iblk m c 1 t) = oRow (inO m c) (head t) := by
  funext r d
  unfold rowIn oRow col head
  blk_point [iblk, V, idx1 t]
theorem y_block (t : Fin cfg0.N) : rowIn (iblk m c 2 t) = yRow (inY m c) (head t) := by
  funext r d
  unfold rowIn yRow colY head
  blk_point [iblk, V, idx2 t]
theorem w_block (t : Fin cfg0.N) : wIn (iblk m c 3 t) = wRow (inW m c) (head t) := by
  funext d
  unfold wIn wRow col head
  blk_point [iblk, V, idx3 t]

/-- The first block a head leaves. -/
theorem left6_at (t : Fin cfg0.N) (r : Fin 4096) (d : Fin 128) :
    left6 m c t (ix2 r d) = doAt (oRow (inO m c) (head t) r) (gRow (inX m c) (head t) r) (yRow (inY m c) (head t) r) (wRow (inW m c) (head t)) d := by
  rw [← g_block, ← o_block, ← y_block, ← w_block]
  unfold left6 step
  exact do_at c _ _ _ _ _ _ _ _ _ _ _ _ _ _ _ _ _ _ _ r d

/-- The second block a head leaves. -/
theorem left7_at (t : Fin cfg0.N) (s : Fin 8) (d : Fin 128) :
    left7 m c t (ix3 0 s d) = dwAt (oRow (inO m c) (head t)) (fun r => gRow (inX m c) (head t) r d) (fun r => yRow (inY m c) (head t) r d) d := by
  rw [← g_block, ← o_block, ← y_block]
  unfold left7 step
  exact dw_at c _ _ _ _ _ _ _ _ _ _ _ _ _ _ _ _ _ _ _ s d

/-- A column's head and its place there. -/
def hd (y : Fin 1024) : Fin 8 := ⟨y.val / 128, by omega⟩
def pl (y : Fin 1024) : Fin 128 := ⟨y.val % 128, by omega⟩

theorem hd_col (h : Fin 8) (d : Fin 128) : hd (col h d) = h := Fin.ext (by show (h.val * 128 + d.val) / 128 = h.val; omega)
theorem pl_col (h : Fin 8) (d : Fin 128) : pl (col h d) = d := Fin.ext (by show (h.val * 128 + d.val) % 128 = d.val; omega)

/-- A block with one first row is read at it. -/
theorem one_first (y : (⟨3, ![1, 8, 128]⟩ : Shape).Idx) : y = ix3 0 (y 1) (y 2) :=
  (eq_ix3 (n0 := 1) (n1 := 8) (n2 := 128) y).trans (congrArg (fun k => ix3 (n0 := 1) (n1 := 8) (n2 := 128) k (y 1) (y 2)) (Subsingleton.elim (α := Fin 1) (y 0) 0))

/-- The first two results, entry by entry. -/
def doVal (X : FVec Ideal ⟨2, ![4096, 7168]⟩ .f32) (O : FVec Ideal ⟨2, ![4096, 1024]⟩ .f32) (Y : FVec Ideal ⟨2, ![4096, 2048]⟩ .f32) (W : FVec Ideal ⟨2, ![1, 1024]⟩ .f32) :
    FVec Ideal ⟨2, ![4096, 1024]⟩ .f32 :=
  fun i => doAt (oRow O (hd (i 1)) (i 0)) (gRow X (hd (i 1)) (i 0)) (yRow Y (hd (i 1)) (i 0)) (wRow W (hd (i 1))) (pl (i 1))
def dwVal (X : FVec Ideal ⟨2, ![4096, 7168]⟩ .f32) (O : FVec Ideal ⟨2, ![4096, 1024]⟩ .f32) (Y : FVec Ideal ⟨2, ![4096, 2048]⟩ .f32) :
    FVec Ideal ⟨3, ![8, 8, 128]⟩ .f32 :=
  fun i => dwAt (oRow O (i 0)) (fun r => gRow X (i 0) r (i 2)) (fun r => yRow Y (i 0) r (i 2)) (i 2)

/-- Equal head, row and place, equal entry. -/
theorem do_congr (X : FVec Ideal ⟨2, ![4096, 7168]⟩ .f32) (O : FVec Ideal ⟨2, ![4096, 1024]⟩ .f32) (Y : FVec Ideal ⟨2, ![4096, 2048]⟩ .f32) (W : FVec Ideal ⟨2, ![1, 1024]⟩ .f32)
    {h h' : Fin 8} {r r' : Fin 4096} {d d' : Fin 128} (eh : h = h') (er : r = r') (ed : d = d') :
    doAt (oRow O h r) (gRow X h r) (yRow Y h r) (wRow W h) d = doAt (oRow O h' r') (gRow X h' r') (yRow Y h' r') (wRow W h') d' := by
  subst eh er ed; rfl

/-- The first result at the end. -/
theorem final4 : (dats m 0 c).arrAt 4 cfg0.N = doVal (inX m c) (inO m c) (inY m c) (inW m c) := by
  refine (dats m 0 c).arrAt_eq_of_covers 4 _ (by decide +kernel) fun t hf y => ?_
  blk_simp
  rw [after4]
  refine (congrArg _ (eq_ix2 (n0 := 4096) (n1 := 128) y)).trans ((left6_at m c t _ _).trans ?_)
  have e : ix2 (n0 := 4096) (n1 := 1024) (y 0) (col (head t) (y 1)) = (win0_4.blk t).view.emb y := by
    unfold col head
    blk_ext [idx4 t]
  rw [← e]
  exact do_congr _ _ _ _ (hd_col _ _).symm rfl (pl_col _ _).symm

/-- The second result at the end. -/
theorem final5 : (dats m 0 c).arrAt 5 cfg0.N = dwVal (inX m c) (inO m c) (inY m c) := by
  refine (dats m 0 c).arrAt_eq_of_covers 5 _ (by decide +kernel) fun t hf y => ?_
  blk_simp
  rw [after5]
  refine (congrArg _ (one_first y)).trans ((left7_at m c t (y 1) (y 2)).trans ?_)
  have e : ix3 (n0 := 8) (n1 := 8) (n2 := 128) (head t) (y 1) (y 2) = (win0_5.blk t).view.emb y := by
    unfold head
    blk_ext [idx5 t]
  rw [← e]
  rfl

theorem spec_do : SpecO (inX m c) (inO m c) (inY m c) (inW m c) (doVal (inX m c) (inO m c) (inY m c) (inW m c)) :=
  ⟨fun h _ d => do_congr _ _ _ _ (hd_col h d) rfl (pl_col h d)⟩
theorem spec_dw : SpecW (inX m c) (inO m c) (inY m c) (dwVal (inX m c) (inO m c) (inY m c)) := ⟨fun _ _ _ => rfl⟩

theorem start (x : Fin 4096) (y : Fin 7168) : res.view.read (Elt Ideal) (V m c main_v0_2) (ix2 x y) = inD m c (ix2 x y) := by
  blk_point [V]

/-- The third result after the first heads: theirs are done, the other columns are as they were. -/
theorem reach_apply (n : ℕ) (f : ResBuf (F := Ideal) c res) (hf : Reach m c n f) :
    (∀ (h : Fin 8) r d, h.val < n → res.view.read (Elt Ideal) f (ix2 r (colX h d)) = dgAt (oRow (inO m c) h r) (gRow (inX m c) h r d) (yRow (inY m c) h r d) (wRow (inW m c) h d) d)
      ∧ ∀ r (y : Fin 7168), (∀ (h : Fin 8) d, h.val < n → y ≠ colX h d) → res.view.read (Elt Ideal) f (ix2 r y) = inD m c (ix2 r y) := by
  induction n generalizing f with
  | zero =>
    obtain rfl := (hf : f = V m c main_v0_2)
    exact ⟨fun h r d hh => absurd hh (Nat.not_lt_zero _), fun x y _ => start m c x y⟩
  | succ n ih =>
    obtain ⟨hn, f8, f9, h8, rfl⟩ := hf
    obtain ⟨ih1, ih2⟩ := ih f8 h8
    have e := head_eq ⟨n, hn⟩
    have h := run_apply c (grid0.coords ⟨n, hn⟩) (win0_0.stage (cfg0.slots ⟨n, hn⟩ 0)) (hstage0_0 ((cfg0.slots ⟨n, hn⟩ 0).cast nbuf0_0)) (win0_1.stage (cfg0.slots ⟨n, hn⟩ 1)) (hstage0_1 ((cfg0.slots ⟨n, hn⟩ 1).cast nbuf0_1))
      (win0_2.stage (cfg0.slots ⟨n, hn⟩ 2)) (hstage0_2 ((cfg0.slots ⟨n, hn⟩ 2).cast nbuf0_2)) (win0_3.stage (cfg0.slots ⟨n, hn⟩ 3)) (hstage0_3 ((cfg0.slots ⟨n, hn⟩ 3).cast nbuf0_3))
      (win0_4.stage (cfg0.slots ⟨n, hn⟩ 4)) (hstage0_4 ((cfg0.slots ⟨n, hn⟩ 4).cast nbuf0_4)) (win0_5.stage (cfg0.slots ⟨n, hn⟩ 5)) (hstage0_5 ((cfg0.slots ⟨n, hn⟩ 5).cast nbuf0_5))
      (iblk m c 0 ⟨n, hn⟩) (iblk m c 1 ⟨n, hn⟩) (iblk m c 2 ⟨n, hn⟩) (iblk m c 3 ⟨n, hn⟩) f8 f9
    rw [e, g_block, o_block, y_block, w_block] at h
    obtain ⟨h1, h2⟩ := h
    refine ⟨fun j r d hj => ?_, fun x y hy => ?_⟩
    · by_cases hjn : j.val < n
      · refine (h2 _ _ fun d' he => ?_).trans (ih1 j r d hjn)
        have he' : 6144 + (j.val * 128 + d.val) = 6144 + (n * 128 + d'.val) := congrArg Fin.val he
        have := j.isLt; have : n < 8 := hn; have := d.isLt; have := d'.isLt
        omega
      · obtain rfl : j = head ⟨n, hn⟩ := Fin.ext (by show j.val = n; omega)
        exact h1 r d
    · exact (h2 x y fun d => hy (head ⟨n, hn⟩) d (Nat.lt_succ_self n)).trans (ih2 x y fun j d hj => hy j d (Nat.lt_succ_of_lt hj))

/-- The third result at the end. -/
theorem reach_spec (f : ResBuf (F := Ideal) c res) (hf : Reach m c 8 f) : SpecG (inX m c) (inO m c) (inY m c) (inW m c) (inD m c) f := by
  obtain ⟨h1, h2⟩ := reach_apply m c 8 f hf
  exact ⟨fun h r d => h1 h r d h.isLt, fun x y hy => h2 x y fun h d _ he => by
    have he' : y.val = 6144 + (h.val * 128 + d.val) := congrArg Fin.val he
    omega⟩

end Cert.Proof.RetGate

end
-- ==== Proof.RetGateRef.lean ====
/- Hand-written, untrusted: THE GATED NORM'S GRADIENT, THE REFERENCE: its three results are the three gradients. -/
module

public import proofs.«01_k».proof.Proof.Gen.Reference4Ideal.Read
public import proofs.«01_k».proof.Proof.RetGate

@[expose] public section

set_option maxRecDepth 16384

noncomputable section

namespace Cert.Proof.RetGate

open Cert.Reference4Ideal Cert.Reference4Ideal.Read Idealize.ShloMosaic Idealize.ShloMosaic.TcCoe Idealize.SL.Sem Idealize.ShloMosaic.StableHlo
open Cert.Proof.Reals Cert.Proof.RmsGrad

variable (X : FVec Ideal ⟨2, ![4096, 7168]⟩ .f32) (O : FVec Ideal ⟨2, ![4096, 1024]⟩ .f32) (Y : FVec Ideal ⟨2, ![4096, 2048]⟩ .f32)
  (W : FVec Ideal ⟨2, ![1, 1024]⟩ .f32) (D : FVec Ideal ⟨2, ![4096, 7168]⟩ .bf16)

/-- The first gradient as differentiating step by step gives it. -/
theorem do_swap (o g y w : Fin 128 → EReal) (d : Fin 128) : doAt o g y w d
    = y d * (g d * gate (g d)) * w d * rinv N o + o d * rowVia N (fun x => y x * (g x * gate (g x)) * w x) o
      + rowVia N (fun x => y x * (g x * gate (g x)) * w x) o * o d := by
  refine (congrArg (fun f => rowGrad N f o d) (funext fun x => mul_right_comm (y x) (w x) (g x * gate (g x)))).trans ?_
  refine (zero_add _).symm.trans ((row_grad ofBits_128 (by norm_num) 0 _ o d).trans ?_)
  rw [zero_add]

theorem ref_do : SpecO X O Y W (val_main_v52 (F := Ideal) X O Y W) := by
  refine ⟨fun h r d => Eq.trans ?_ (do_swap _ _ _ _ _).symm⟩
  unfold rowVia rinv msq oRow gRow yRow wRow gate col colX colY
  pointwise [val_main_v52, val_main_v51, val_main_v50, val_main_v48, val_main_v49, val_main_v41, val_main_v47, val_main_v46, val_main_v2, val_main_v36, val_main_v40, val_main_v45, val_main_v1, val_main_v35, val_main_v10, val_main_v44, val_main_cst_7, val_main_v32, val_main_v9, val_main_v42, val_main_v43, val_main_v26, val_main_v31, val_main_v7, val_main_v8, val_main_v39, val_main_v13, val_main_cst_6, val_main_v24, val_main_v22_0, val_main_v19, val_main_v5, val_main_v6, val_main_cst_1, val_main_v38, val_main_v12, val_main_v11, val_main_v0, val_main_v22_2, val_main_v18, val_main_v4, val_main_cst_0, val_main_v37, val_main_cst_5, val_main_cst_2, val_main_call0_v4, val_main_call0_v3, val_main_v3, val_main_cst, val_main_call0_cst_0, val_main_call0_v2, val_main_call0_v1, val_main_call0_cst, val_main_call0_v0]
  simp only [Finset.univ_unique, Finset.sum_singleton]

theorem ref_dw : SpecW X O Y (val_main_v54 (F := Ideal) X O Y) := by
  refine ⟨fun h s d => ?_⟩
  unfold dwAt rinv msq oRow gRow yRow gate col colX colY
  pointwise [val_main_v54, val_main_v53, val_main_v34, val_main_v33, val_main_v30, val_main_cst_4, val_main_v29, val_main_v28, val_main_cst_3, val_main_v17, val_main_v26, val_main_v16, val_main_v24, val_main_v22_0, val_main_v15, val_main_v0, val_main_v22_2, val_main_v2, val_main_v14, val_main_call0_v4, val_main_call0_v3, val_main_v1, val_main_v10, val_main_call0_cst_0, val_main_call0_v2, val_main_call0_v1, val_main_v9, val_main_call0_cst, val_main_call0_v0, val_main_v7, val_main_v8, val_main_v5, val_main_v6, val_main_cst_1, val_main_v4, val_main_cst_0, val_main_v3, val_main_cst]
  simp only [Finset.univ_unique, Finset.sum_singleton]
  exact Finset.sum_congr rfl fun r _ => (mul_assoc _ _ _).symm.trans (congrArg (· * _) (mul_comm _ _))

theorem v57_inside (h : Fin 8) (r : Fin 4096) (d : Fin 128) :
    val_main_v57 (F := Ideal) X O Y W D (ix2 r (colX h d)) = val_main_v56 (F := Ideal) X O Y W (ix2 r (col h d)) := by
  pointwise [val_main_v57]
  rw [dif_neg (by show ¬(6144 + _ < 6144); omega)]
  exact congrArg (fun y => val_main_v56 (F := Ideal) X O Y W (ix2 r y)) (Fin.ext (by show 6144 + (h.val * 128 + d.val) - 6144 = h.val * 128 + d.val; omega))

theorem ref_dg (hY : ∀ i, IsReal (Y i)) (hW : ∀ i, IsReal (W i)) : SpecG X O Y W D (val_main_v57 (F := Ideal) X O Y W D) := by
  refine ⟨fun h r d => ?_, fun r y hy => ?_⟩
  · have hy : IsReal (yRow Y h r d) := hY _
    have hw : IsReal (wRow W h d) := hW _
    rw [v57_inside]
    unfold dgAt
    rw [show yRow Y h r d * (oRow O h r d * rinv N (oRow O h r)) * wRow W h d = oRow O h r d * rinv N (oRow O h r) * wRow W h d * yRow Y h r d from
      (congrArg (· * _) (mul_comm _ _)).trans (mul_right_comm _ _ _)]
    refine Eq.trans ?_ (silu_grad (((isReal_normed (oRow O h r) d).mul hw).mul hy) (gRow X h r d)).symm
    unfold rinv msq oRow gRow yRow wRow gate col colX colY
    pointwise [val_main_v56, val_main_v27, val_main_call1_v1, val_main_call1_v2, val_main_v25, val_main_v22_2, val_main_call1_v0, val_main_v22_1, val_main_v21, val_main_v24, val_main_call0_v4, val_main_call0_v3, val_main_v0, val_main_call0_v7, val_main_v17, val_main_v20, val_main_call0_cst_0, val_main_call0_v2, val_main_call0_v1, val_main_call0_v6, val_main_v16, val_main_v19, val_main_call0_cst, val_main_call0_v0, val_main_call0_cst_1, val_main_v15, val_main_v18, val_main_v2, val_main_v14, val_main_v1, val_main_v10, val_main_v9, val_main_v7, val_main_v8, val_main_v5, val_main_v6, val_main_cst_1, val_main_v4, val_main_cst_0, val_main_v3, val_main_cst]
  · pointwise [val_main_v57, val_main_v55]
    exact dif_pos hy

end Cert.Proof.RetGate

end
-- ==== Proof.RetGateClaim.lean ====
/- Hand-written, untrusted: THE GATED NORM'S GRADIENT, THE CLAIMS. -/
module

public import proofs.«01_k».proof.Defs
public import proofs.«01_k».proof.Proof.Gen.Kernel4.Skeleton
public import proofs.«01_k».proof.Proof.Gen.Reference4Ideal.Run
public import proofs.«01_k».proof.Proof.Gen.Pre_finite_gate
public import proofs.«01_k».proof.Proof.RetGateReach
public import proofs.«01_k».proof.Proof.RetGateRef
public import Idealize.ShloMosaic.Adequacy
public import Idealize.ShloMosaic.Init

@[expose] public section

set_option maxRecDepth 16384

noncomputable section

namespace Cert.Proof.RetGate

open Idealize.ShloMosaic Idealize.ShloMosaic.TcCoe Idealize.SL.Sem Cert.Proof.Reals

/-- The kernel's two programs are one program: the frame is proved once. -/
theorem same_frame : ((m : (ℓ : Loc Cert.Kernel4Ideal.nD Cert.Kernel4Ideal.τ Cert.Kernel4Ideal.sig) → Buf (Elt Bits) ℓ) → (ρ : Dev Cert.Kernel4Ideal.nD → PrngReg) → True →
    θ_run Cert.Kernel4Ideal.defs (onTc (τ := Cert.Kernel4Ideal.τ) (Cert.Kernel4Ideal.main (F := Bits))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)) = Cert.quiescent_Kernel4 := by
  sl_kernel_rfl
theorem frame_kernel : Cert.quiescent_Kernel4 := same_frame.mp fun m ρ _ => frame (F := Bits) m ρ
theorem frame_kernelIdeal : Cert.quiescent_Kernel4Ideal := fun m ρ _ => frame m ρ
theorem frame_kernelIdeal_pre : Cert.quiescent_Kernel4Ideal_pre_finite_gate := fun m ρ _ => frame m ρ
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem frame_reference_pre : Cert.quiescent_Reference4Ideal_pre_finite_gate := fun m ρ _ => frame_reference m ρ trivial

/-- The precondition's two tests say that the cotangent and the norm's weight are real everywhere. -/
theorem reals (x : FVec Ideal ⟨2, ![4096, 7168]⟩ .f32) (o : FVec Ideal ⟨2, ![4096, 1024]⟩ .f32) (y : FVec Ideal ⟨2, ![4096, 2048]⟩ .f32)
    (w : FVec Ideal ⟨2, ![1, 1024]⟩ .f32) (d : FVec Ideal ⟨2, ![4096, 7168]⟩ .bf16)
    (h : (Cert.Pre_finite_gate.fn (F := Ideal) x o y w d).1 = (fun _ => 1#1) ∧ (Cert.Pre_finite_gate.fn (F := Ideal) x o y w d).2 = (fun _ => 1#1)) :
    (∀ i, IsReal (y i)) ∧ ∀ i, IsReal (w i) :=
  ⟨fun i => isReal_of_test _ _ h.1 i, fun i => isReal_of_test _ _ h.2 i⟩

/-- The reference's results at arguments that agree are the specified gradients. -/
theorem same_do {X X' : FVec Ideal ⟨2, ![4096, 7168]⟩ .f32} {O O' : FVec Ideal ⟨2, ![4096, 1024]⟩ .f32} {Y Y' : FVec Ideal ⟨2, ![4096, 2048]⟩ .f32} {W W' : FVec Ideal ⟨2, ![1, 1024]⟩ .f32}
    (e0 : X' = X) (e1 : O' = O) (e2 : Y' = Y) (e3 : W' = W) :
    Cert.Reference4Ideal.Read.val_main_v52 (F := Ideal) X' O' Y' W' = Cert.Reference4Ideal.Read.val_main_v52 (F := Ideal) X O Y W := by
  subst e0 e1 e2 e3; rfl
theorem same_dw {X X' : FVec Ideal ⟨2, ![4096, 7168]⟩ .f32} {O O' : FVec Ideal ⟨2, ![4096, 1024]⟩ .f32} {Y Y' : FVec Ideal ⟨2, ![4096, 2048]⟩ .f32}
    (e0 : X' = X) (e1 : O' = O) (e2 : Y' = Y) :
    Cert.Reference4Ideal.Read.val_main_v54 (F := Ideal) X' O' Y' = Cert.Reference4Ideal.Read.val_main_v54 (F := Ideal) X O Y := by
  subst e0 e1 e2; rfl
theorem same_dg {X X' : FVec Ideal ⟨2, ![4096, 7168]⟩ .f32} {O O' : FVec Ideal ⟨2, ![4096, 1024]⟩ .f32} {Y Y' : FVec Ideal ⟨2, ![4096, 2048]⟩ .f32} {W W' : FVec Ideal ⟨2, ![1, 1024]⟩ .f32}
    {D D' : FVec Ideal ⟨2, ![4096, 7168]⟩ .bf16} (e0 : X' = X) (e1 : O' = O) (e2 : Y' = Y) (e3 : W' = W) (e4 : D' = D) :
    Cert.Reference4Ideal.Read.val_main_v57 (F := Ideal) X' O' Y' W' D' = Cert.Reference4Ideal.Read.val_main_v57 (F := Ideal) X O Y W D := by
  subst e0 e1 e2 e3 e4; rfl

/-- Kernel and reference leave the same three gradients. -/
theorem algebraic : Cert.algebraic_Kernel4Ideal_Reference4Ideal_pre_finite_gate := by
  intro m ρ m' ρ' hpre hagree
  refine ⟨fun c => Cert.Reference4Ideal.Read.val_main_v52 (F := Ideal) (inX m c) (inO m c) (inY m c) (inW m c),
    fun c => Cert.Reference4Ideal.Read.val_main_v54 (F := Ideal) (inX m c) (inO m c) (inY m c),
    fun c => Cert.Reference4Ideal.Read.val_main_v57 (F := Ideal) (inX m c) (inO m c) (inY m c) (inW m c) (inD m c), ?_, ?_⟩
  · refine (θ_run Cert.Kernel4Ideal.defs _ _).mono (fun r h c => ?_) (result m ρ)
    obtain ⟨hy, hw⟩ := reals _ _ _ _ _ (hpre c)
    exact ⟨(h c).1.trans ((final4 m c).trans (SpecO.unique _ _ _ _ (spec_do m c) (ref_do _ _ _ _))),
      (h c).2.1.trans ((final5 m c).trans (SpecW.unique _ _ _ (spec_dw m c) (ref_dw _ _ _))),
      SpecG.unique _ _ _ _ _ (reach_spec m c _ (h c).2.2.1) (ref_dg _ _ _ _ _ hy hw), (h c).2.2.2⟩
  · refine (θ_run Cert.Reference4Ideal.defs _ _).mono (fun r h c => ?_) (Cert.Reference4Ideal.Value.run (F := Ideal) m' ρ')
    obtain ⟨e0, e1, e2, e3, e4⟩ := hagree c
    refine ⟨?_, ?_, ?_, (h c).2.2.2⟩
    · rw [(h c).1, Cert.Reference4Ideal.Read.val_main_v52_eq]
      exact same_do e0 e1 e2 e3
    · rw [(h c).2.1, Cert.Reference4Ideal.Read.val_main_v54_eq]
      exact same_dw e0 e1 e2
    · rw [(h c).2.2.1, Cert.Reference4Ideal.Read.val_main_v57_eq]
      exact same_dg e0 e1 e2 e3 e4

end Cert.Proof.RetGate

end
-- ==== Proof.OutFwd.lean ====
/- Hand-written, untrusted: THE OUTPUT PROJECTION WITH THE SECOND NORM, FORWARD: the new state, the mixed heads and the normed state as
   arrays, what the kernel leaves in each block of rows, the reference, and the claims. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.RmsGrad
public import Idealize.ShloMosaic.Lib.Pipeline.ValueKit
public import Idealize.ShloMosaic.Adequacy
public import Idealize.ShloMosaic.Init

@[expose] public section

set_option maxRecDepth 16384

noncomputable section

namespace Cert.Proof.OutFwd

open Cert.Kernel8Ideal Cert.Kernel8Ideal.Gen Cert.Kernel8Ideal.Value Cert.Reference8Ideal.Read
open Idealize.ShloMosaic Idealize.ShloMosaic.TcCoe Idealize.SL.Sem Idealize.ShloMosaic.StableHlo
open Cert.Proof.RmsGrad

section spec
variable (x : FVec Ideal S4096x2048 .f32) (a r : FVec Ideal S4096x1024 .f32) (w : FVec Ideal S2048x2048 .bf16) (nw : FVec Ideal S1x2048 .f32)

/-- The attention's columns, then the retention's. -/
def mixVal : FVec Ideal S4096x2048 .bf16 := fun i =>
  if h : (i 1).val < 1024 then a (ix2 (i 0) ⟨(i 1).val, h⟩) else r (ix2 (i 0) ⟨(i 1).val - 1024, by have := (i 1).isLt; change (i 1).val < 2048 at this; omega⟩)
/-- The state after the projection, at a row and a column. -/
def state (p : Fin 4096) (q : Fin 2048) : EReal :=
  x (ix2 p q) + ∑ k : Fin 1024, a (ix2 p k) * w (ix2 ⟨k.val, by omega⟩ q) + ∑ k : Fin 1024, r (ix2 p k) * w (ix2 ⟨1024 + k.val, by omega⟩ q)
def stateVal : FVec Ideal S4096x2048 .f32 := fun i => state x a r w (i 0) (i 1)
/-- Its norm. -/
def normVal : FVec Ideal S4096x2048 .bf16 := fun i =>
  state x a r w (i 0) (i 1) * rinv (Ideal.ofBits .f32 0x45000000#32) (fun k : Fin 2048 => state x a r w (i 0) k) * nw (ix2 0 (i 1))
end spec

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem final5 (c : Dev nD) : (dats m 0 c).arrAt 5 cfg0.N
    = stateVal (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay3, k0_pay1, k0_pay2, stateVal, state]
  blk_point [iblk, V, idx0 t, idx1 t, idx2 t, idx3 t, idx5 t]
theorem final7 (c : Dev nD) : (dats m 0 c).arrAt 7 cfg0.N
    = normVal (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 7 _ (by decide +kernel) fun t hf y => ?_
  blk_simp
  rw [after0_7]; frame_out
  pointwise [k0_pay4, k0_pay3, k0_pay1, k0_pay2, normVal, state, rinv, msq]
  blk_point [iblk, V, idx0 t, idx1 t, idx2 t, idx3 t, idx4 t, idx7 t]
/-- The two pieces of the mixed block, as one function of the block's index. -/
def halves (a r : Vec Ideal S512x1024 .f32) : Vec Ideal S512x2048 .bf16 := fun y =>
  if h : (y 1).val < 1024 then a (ix2 (y 0) ⟨(y 1).val, h⟩) else r (ix2 (y 0) ⟨(y 1).val - 1024, by have := (y 1).isLt; change (y 1).val < 2048 at this; omega⟩)
theorem out_halves (x0 : Vec Ideal S512x2048 .f32) (a r : Vec Ideal S512x1024 .f32) (w : Vec Ideal S2048x2048 .bf16) (nw : Vec Ideal S1x2048 .f32) :
    out0_6 x0 a r w nw = halves a r := by
  funext y
  refine View.canon_apply_of_pieces (halves a r) _ (fun p hp z => ?_) y (cover0_6 _ _ y)
  rcases List.mem_cons.mp hp with rfl | hp
  · have h0 : (z 0).val < 512 := (z 0).isLt
    have h1 : (z 1).val < 1024 := (z 1).isLt
    refine Eq.trans ?_ (dif_neg (by show ¬ 1024 + 1 * (z 1).val < 1024; omega)).symm
    refine congrArg r (funext fun b => Fin.ext ?_)
    match b with
    | ⟨0, _⟩ => rfl
    | ⟨1, _⟩ => show 0 + 1 * (z 1).val = 1024 + 1 * (z 1).val - 1024; omega
  · obtain rfl := List.mem_singleton.mp hp
    have h0 : (z 0).val < 512 := (z 0).isLt
    have h1 : (z 1).val < 1024 := (z 1).isLt
    refine Eq.trans ?_ (dif_pos (by show 0 + 1 * (z 1).val < 1024; omega)).symm
    refine congrArg a (funext fun b => Fin.ext ?_)
    match b with
    | ⟨0, _⟩ => rfl
    | ⟨1, _⟩ => rfl
theorem final6 (c : Dev nD) : (dats m 0 c).arrAt 6 cfg0.N
    = mixVal (m ((c : Thread nD τ).loc main_arg1)) (m ((c : Thread nD τ).loc main_arg2)) := by
  refine (dats m 0 c).arrAt_eq_of_covers 6 _ (by decide +kernel) fun t hf y => ?_
  rw [after0_6, out_halves]
  unfold halves mixVal
  have e : ((win0_6.blk t).view.emb y 1).val = (y 1).val := by blk_point [idx6 t]
  by_cases h : (y 1).val < 1024
  · rw [dif_pos h, dif_pos (e.trans_lt h)]
    blk_point [iblk, V, idx1 t, idx6 t]
  · rw [dif_neg h, dif_neg (e ▸ h)]
    blk_point [iblk, V, idx2 t, idx6 t]

variable (x : FVec Ideal S4096x2048 .f32) (a r : FVec Ideal S4096x1024 .f32) (w : FVec Ideal S2048x2048 .bf16) (nw : FVec Ideal S1x2048 .f32)

theorem ref_v0 : val_main_v0 (F := Ideal) a r = mixVal a r := by
  funext i
  pointwise [val_main_v0, mixVal]

/-- The product over all columns, in two halves. -/
theorem split (p : Fin 4096) (q : Fin 2048) : x (ix2 p q) + ∑ k : Fin 2048, mixVal a r (ix2 p k) * w (ix2 k q) = state x a r w p q := by
  unfold state
  rw [add_assoc]
  refine congrArg (x (ix2 p q) + ·) ((Fin.sum_univ_add (a := 1024) (b := 1024) fun k => mixVal a r (ix2 p k) * w (ix2 k q)).trans (congrArg₂ (· + ·) ?_ ?_))
  · refine Finset.sum_congr rfl fun k _ => congrArg₂ (· * ·) (dif_pos k.isLt) rfl
  · refine Finset.sum_congr rfl fun k _ => congrArg₂ (· * ·) ((dif_neg (by show ¬ 1024 + k.val < 1024; omega)).trans (congrArg r ?_)) rfl
    exact congrArg (ix2 p) (Fin.ext (by show 1024 + k.val - 1024 = k.val; omega))

theorem ref_v3 : val_main_v3 (F := Ideal) x a r w = stateVal x a r w := by
  funext i
  refine Eq.trans ?_ (split x a r w (i 0) (i 1))
  rw [← ref_v0]
  pointwise [val_main_v3, val_main_v2, val_main_v1]
theorem ref_v4 : val_main_v4 (F := Ideal) a r = mixVal a r := ref_v0 a r
theorem ref_v19 : val_main_v19 (F := Ideal) x a r w nw = normVal x a r w nw := by
  funext i
  unfold normVal rinv msq
  have e0 : val_main_v3 (F := Ideal) x a r w i = state x a r w (i 0) (i 1) := congrFun (ref_v3 x a r w) i
  have e : ∀ p q, val_main_v3 (F := Ideal) x a r w (ix2 p q) = state x a r w p q := fun p q => congrFun (ref_v3 x a r w) (ix2 p q)
  pointwise [val_main_v19, val_main_v18, val_main_v17, val_main_v16, val_main_v15, val_main_v14, val_main_v13, val_main_v12, val_main_v11,
    val_main_cst_1, val_main_v10, val_main_v9, val_main_cst_0, val_main_v8, val_main_v7, val_main_cst, val_main_v6, val_main_v5]
  rw [e0]
  exact congrArg (fun f : Fin 2048 → EReal => state x a r w (i 0) (i 1) * Ideal.rsqrt (Ideal.div (∑ k, f k * f k) (Ideal.ofBits .f32 1157627904#32)
    + Ideal.ofBits .f32 897988541#32) * nw (ix2 0 (i 1))) (funext fun k => e (i 0) k)

theorem frame_kernel : Cert.quiescent_Kernel8 := fun m ρ _ => Cert.Kernel8.Gen.frame m ρ
theorem frame_kernelIdeal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, _, _, (θ_run Cert.Kernel8Ideal.defs _ _).mono (fun r h c => ⟨(h c).1.trans (final5 m c), (h c).2.1.trans (final6 m c), (h c).2.2.1.trans (final7 m c), (h c).2.2.2⟩)
    (Cert.Kernel8Ideal.Value.run_blocks m ρ), ?_⟩
  refine (θ_run Cert.Reference8Ideal.defs _ _).mono (fun r h c => ⟨?_, ?_, ?_, (h c).2.2.2⟩) (Cert.Reference8Ideal.Value.run (F := Ideal) m' ρ')
  all_goals obtain ⟨e0, e1, e2, e3, e4⟩ := hagree c
  · rw [(h c).1, Cert.Reference8Ideal.Read.val_main_v3_eq, e0, e1, e2, e3]
    exact ref_v3 _ _ _ _
  · rw [(h c).2.1, Cert.Reference8Ideal.Read.val_main_v4_eq, e1, e2]
    exact ref_v4 _ _
  · rw [(h c).2.2.1, Cert.Reference8Ideal.Read.val_main_v19_eq, e0, e1, e2, e3, e4]
    exact ref_v19 _ _ _ _ _

end Cert.Proof.OutFwd

end
-- ==== Proof.FfnUp.lean ====
/- Hand-written, untrusted: THE FEED-FORWARD LAYER'S GATE, FORWARD: the two products and the gated product as arrays in blocks of
   columns, what the kernel leaves in each block, the reference, and the claims. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Reals
public import Idealize.ShloMosaic.Lib.Pipeline.ValueKit
public import Idealize.ShloMosaic.Adequacy
public import Idealize.ShloMosaic.Init

@[expose] public section

set_option maxRecDepth 16384

noncomputable section

namespace Cert.Proof.FfnUp

open Cert.Kernel9Ideal Cert.Kernel9Ideal.Gen Cert.Kernel9Ideal.Value Cert.Reference9Ideal.Read
open Idealize.ShloMosaic Idealize.ShloMosaic.TcCoe Idealize.SL.Sem Idealize.ShloMosaic.StableHlo
open Cert.Proof.Reals

/-- A row of the normed state times a column of a projection. -/
def prod (n : FVec Ideal S4096x2048 .bf16) (w : FVec Ideal S2048x5632 .bf16) (r : Fin 4096) (b : Fin 8) (j : Fin 704) : EReal :=
  ∑ k : Fin 2048, n (ix2 r k) * w (ix2 k ⟨b.val * 704 + j.val, by omega⟩)
/-- A product, block by block of its columns. -/
def halfVal (n : FVec Ideal S4096x2048 .bf16) (w : FVec Ideal S2048x5632 .bf16) : FVec Ideal S8x4096x704 .bf16 := fun i =>
  prod n w (i 1) (i 0) (i 2)
/-- The gated product. -/
def actVal (n : FVec Ideal S4096x2048 .bf16) (wg wu : FVec Ideal S2048x5632 .bf16) : FVec Ideal S8x4096x704 .bf16 := fun i =>
  prod n wg (i 1) (i 0) (i 2) * gate (prod n wg (i 1) (i 0) (i 2)) * prod n wu (i 1) (i 0) (i 2)

variable (m : (ℓ : Loc nD τ sig) → Buf (Elt Ideal) ℓ)

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, (grid0.coords t 1).val, 0] := (by decide +kernel : ∀ t : Fin grid0.N, _)

theorem final3 (c : Dev nD) : (dats m 0 c).arrAt 3 cfg0.N
    = halfVal (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay3, k0_pay1, halfVal, prod]
  blk_point [iblk, V, idx0 t, idx1 t, idx3 t]
theorem final4 (c : Dev nD) : (dats m 0 c).arrAt 4 cfg0.N
    = halfVal (m ((c : Thread nD τ).loc main_arg0)) (m ((c : Thread nD τ).loc main_arg2)) := by
  refine (dats m 0 c).arrAt_eq_of_covers 4 _ (by decide +kernel) fun t hf y => ?_
  blk_simp
  rw [after0_4]; frame_out
  pointwise [k0_pay4, k0_pay2, halfVal, prod]
  blk_point [iblk, V, idx0 t, idx2 t, idx4 t]
theorem final5 (c : Dev nD) : (dats m 0 c).arrAt 5 cfg0.N
    = actVal (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay5, k0_pay1, k0_pay2, actVal, prod, gate]
  simp only [zero_sub_eq]
  blk_point [iblk, V, idx0 t, idx1 t, idx2 t, idx5 t]

variable (n : FVec Ideal S4096x2048 .bf16) (wg wu : FVec Ideal S2048x5632 .bf16)

/-- The reference's three results. -/
theorem ref_v8 : val_main_v8 (F := Ideal) n wg = halfVal n wg := by
  funext i
  pointwise [val_main_v8, val_main_v7, val_main_v6, val_main_v2, val_main_v1, val_main_v0, halfVal, prod]
theorem ref_v11 : val_main_v11 (F := Ideal) n wu = halfVal n wu := by
  funext i
  pointwise [val_main_v11, val_main_v10, val_main_v9, val_main_v5, val_main_v4, val_main_v3, halfVal, prod]
theorem ref_v16 : val_main_v16 (F := Ideal) n wg wu = actVal n wg wu := by
  funext i
  pointwise [val_main_v16, val_main_v15, val_main_v14, val_main_v13, val_main_v12, val_main_call0_v5, val_main_call0_v4, val_main_call0_cst_0,
    val_main_call0_v3, val_main_call0_v2, val_main_call0_cst, val_main_call0_v1, val_main_call0_v0, val_main_v5, val_main_v4, val_main_v3, val_main_v2,
    val_main_v1, val_main_v0, actVal, prod, gate]

theorem frame_kernel : Cert.quiescent_Kernel9 := fun m ρ _ => Cert.Kernel9.Gen.frame m ρ
theorem frame_kernelIdeal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, _, _, (θ_run Cert.Kernel9Ideal.defs _ _).mono (fun r h c => ⟨(h c).1.trans (final3 m c), (h c).2.1.trans (final4 m c), (h c).2.2.1.trans (final5 m c), (h c).2.2.2⟩)
    (Cert.Kernel9Ideal.Value.run_blocks m ρ), ?_⟩
  refine (θ_run Cert.Reference9Ideal.defs _ _).mono (fun r h c => ⟨?_, ?_, ?_, (h c).2.2.2⟩) (Cert.Reference9Ideal.Value.run (F := Ideal) m' ρ')
  all_goals obtain ⟨e0, e1, e2⟩ := hagree c
  · rw [(h c).1, Cert.Reference9Ideal.Read.val_main_v8_eq, e0, e1]
    exact ref_v8 _ _
  · rw [(h c).2.1, Cert.Reference9Ideal.Read.val_main_v11_eq, e0, e2]
    exact ref_v11 _ _
  · rw [(h c).2.2.1, Cert.Reference9Ideal.Read.val_main_v16_eq, e0, e1, e2]
    exact ref_v16 _ _ _

end Cert.Proof.FfnUp

end
-- ==== Proof.NormFwd.lean ====
/- Hand-written, untrusted: THE FIRST NORM OF THE FORWARD PASS: the array it stands for, what the kernel leaves in each block of
   rows, the reference, and the claims. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.RmsGrad
public import Idealize.ShloMosaic.Lib.Pipeline.ValueKit
public import Idealize.ShloMosaic.Adequacy
public import Idealize.ShloMosaic.Init

@[expose] public section

set_option maxRecDepth 16384

noncomputable section

namespace Cert.Proof.NormFwd

open Cert.Kernel10Ideal Cert.Kernel10Ideal.Gen Cert.Kernel10Ideal.Value Cert.Reference10Ideal.Read
open Idealize.ShloMosaic Idealize.ShloMosaic.TcCoe Idealize.SL.Sem Idealize.ShloMosaic.StableHlo
open Cert.Proof.RmsGrad

/-- Each row over the root of its mean square, times the weight. -/
def normVal (x : FVec Ideal S4096x2048 .f32) (w : FVec Ideal S1x2048 .f32) : FVec Ideal S4096x2048 .bf16 := fun i =>
  x (ix2 (i 0) (i 1)) * rinv (Ideal.ofBits .f32 0x45000000#32) (fun k : Fin 2048 => x (ix2 (i 0) k)) * w (ix2 0 (i 1))

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem final2 (c : Dev nD) : (dats m 0 c).arrAt 2 cfg0.N
    = normVal (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, normVal, rinv, msq]
  blk_point [iblk, V, idx0 t, idx1 t, idx2 t]

/-- The reference's result. -/
theorem ref_v14 (x : FVec Ideal S4096x2048 .f32) (w : FVec Ideal S1x2048 .f32) : val_main_v14 (F := Ideal) x w = normVal x w := by
  funext i
  pointwise [val_main_v14, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0, normVal, rinv, msq]

theorem frame_kernel : Cert.quiescent_Kernel10 := fun m ρ _ => Cert.Kernel10.Gen.frame m ρ
theorem frame_kernelIdeal : Cert.quiescent_Kernel10Ideal := fun m ρ _ => Cert.Kernel10Ideal.Gen.frame m ρ
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, (θ_run Cert.Kernel10Ideal.defs _ _).mono (fun r h c => ⟨(h c).1.trans (final2 m c), (h c).2⟩)
    (Cert.Kernel10Ideal.Value.run_blocks m ρ), ?_⟩
  refine (θ_run Cert.Reference10Ideal.defs _ _).mono (fun r h c => ⟨?_, (h c).2⟩) (Cert.Reference10Ideal.Value.run (F := Ideal) m' ρ')
  obtain ⟨e0, e1⟩ := hagree c
  rw [(h c).1, Cert.Reference10Ideal.Read.val_main_v14_eq, e0, e1]
  exact ref_v14 _ _

end Cert.Proof.NormFwd

end
-- ==== Proof.Wgrad.lean ====
/- Hand-written, untrusted: A WEIGHT'S GRADIENT: the product of the transposed input and the cotangent, in blocks of the weight's rows. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Adequacy
public import Idealize.ShloMosaic.Init

@[expose] public section

set_option maxRecDepth 16384

noncomputable section

namespace Cert.Proof.Wgrad

open Cert.Kernel11Ideal Cert.Kernel11Ideal.Gen Cert.Kernel11Ideal.Value Cert.Reference11Ideal.Read
open Idealize.ShloMosaic Idealize.ShloMosaic.TcCoe Idealize.SL.Sem Idealize.ShloMosaic.StableHlo

/-- A column of the input times a column of the cotangent. -/
def prod (x : FVec Ideal S4096x5632 .bf16) (g : FVec Ideal S4096x2048 .bf16) (b : Fin 8) (r : Fin 704) (j : Fin 2048) : EReal :=
  ∑ k : Fin 4096, x (ix2 k ⟨b.val * 704 + r.val, by omega⟩) * g (ix2 k j)
theorem prod_swap (x : FVec Ideal S4096x5632 .bf16) (g : FVec Ideal S4096x2048 .bf16) (b : Fin 8) (r : Fin 704) (j : Fin 2048) :
    ∑ k : Fin 4096, g (ix2 k j) * x (ix2 k ⟨b.val * 704 + r.val, by omega⟩) = prod x g b r j := Finset.sum_congr rfl fun _ _ => mul_comm _ _
/-- The gradient, block by block of the input's columns. -/
def prodVal (x : FVec Ideal S4096x5632 .bf16) (g : FVec Ideal S4096x2048 .bf16) : FVec Ideal S8x704x2048 .bf16 := fun i =>
  prod x g (i 0) (i 1) (i 2)

variable (m : (ℓ : Loc nD τ sig) → Buf (Elt Ideal) ℓ)

theorem idx0 : ∀ t : Fin cfg0.N, win0_0.index t = ![(grid0.coords t 0).val, 0, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)

theorem final2 (c : Dev nD) : (dats m 0 c).arrAt 2 cfg0.N = prodVal (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, k0_pay2, k0_pay3, prodVal, prod]
  blk_point [iblk, V, idx0 t, idx1 t, idx2 t]

theorem ref_v7 (x : FVec Ideal S4096x5632 .bf16) (g : FVec Ideal S4096x2048 .bf16) : val_main_v7 (F := Ideal) x g = prodVal x g := by
  funext i
  refine Eq.trans ?_ (prod_swap x g (i 0) (i 1) (i 2))
  pointwise [val_main_v7, val_main_v6, val_main_v5, val_main_v4, val_main_v3, val_main_v1]

theorem frame_kernel : Cert.quiescent_Kernel11 := fun m ρ _ => Cert.Kernel11.Gen.frame m ρ
theorem frame_kernelIdeal : Cert.quiescent_Kernel11Ideal := fun m ρ _ => Cert.Kernel11Ideal.Gen.frame m ρ
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_, (θ_run Cert.Kernel11Ideal.defs _ _).mono (fun r h c => ⟨(h c).1.trans (final2 m c), (h c).2⟩)
    (Cert.Kernel11Ideal.Value.run_blocks m ρ), ?_⟩
  refine (θ_run Cert.Reference11Ideal.defs _ _).mono (fun r h c => ⟨?_, (h c).2⟩) (Cert.Reference11Ideal.Value.run (F := Ideal) m' ρ')
  all_goals obtain ⟨e0, e1⟩ := hagree c
  · rw [(h c).1, Cert.Reference11Ideal.Read.val_main_v7_eq, e0, e1]
    exact ref_v7 _ _

end Cert.Proof.Wgrad

end
-- ==== Proof.AdamBlock.lean ====
/- Hand-written, untrusted: THE OPTIMISER OF A LARGE WEIGHT: the sum of the parts, the two moments and the update. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Adequacy
public import Idealize.ShloMosaic.Init

@[expose] public section

set_option maxRecDepth 16384

noncomputable section

namespace Cert.Proof.AdamBlock

open Cert.Kernel12Ideal Cert.Kernel12Ideal.Gen Cert.Kernel12Ideal.Value Cert.Reference12Ideal.Read
open Idealize.ShloMosaic Idealize.ShloMosaic.TcCoe Idealize.SL.Sem Idealize.ShloMosaic.StableHlo

section spec
variable (g : FVec Ideal S8x704x2048 .bf16) (w m1 m2 : FVec Ideal S704x2048 .f32)
/-- The sum of the devices' parts. -/
def gradVal : FVec Ideal S704x2048 .f32 := fun i => ∑ d : Fin 8, g (ix3 d (i 0) (i 1))
/-- The new first moment. -/
def firstVal : FVec Ideal S704x2048 .f32 := fun i => Ideal.ofBits .f32 0x3F666666#32 * m1 i + Ideal.ofBits .f32 0x3DCCCCCD#32 * gradVal g i
/-- The new second moment. -/
def secondVal : FVec Ideal S704x2048 .f32 := fun i => Ideal.ofBits .f32 0x3F7FBE77#32 * m2 i + Ideal.ofBits .f32 0x3A83126F#32 * (gradVal g i * gradVal g i)
/-- The update. -/
def stepVal : FVec Ideal S704x2048 .f32 := fun i =>
  Ideal.ofBits .f32 0xBA83126F#32 * (Ideal.div (Ideal.div (firstVal g m1 i) (Ideal.ofBits .f32 0x3F26BD02#32))
    (Ideal.sqrt (Ideal.div (secondVal g m2 i) (Ideal.ofBits .f32 0x3C231ACC#32)) + Ideal.ofBits .f32 0x322BCC77#32)
    + Ideal.ofBits .f32 0x3C23D70A#32 * w i)
end spec

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem final4 (c : Dev nD) : (dats m 0 c).arrAt 4 cfg0.N = gradVal (m ((c : Thread nD τ).loc main_arg0)) := by
  refine (dats m 0 c).arrAt_eq_of_covers 4 _ (by decide +kernel) fun t hf y => ?_
  blk_simp
  rw [after0_4]; unfold outsAt0; frame_out
  pointwise [k0_pay4, gradVal, Fin.sum_univ_eight]
  blk_point [iblk, V, idx0 t, idx4 t]

theorem final5 (c : Dev nD) : (dats m 0 c).arrAt 5 cfg0.N = stepVal (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold outsAt0; frame_out
  pointwise [k0_pay3, k0_pay2, k0_pay1, stepVal, firstVal, secondVal, k0_pay4, gradVal, Fin.sum_univ_eight]
  blk_point [iblk, V, idx0 t, idx1 t, idx2 t, idx3 t, idx5 t]

theorem final6 (c : Dev nD) : (dats m 0 c).arrAt 6 cfg0.N = firstVal (m ((c : Thread nD τ).loc main_arg0)) (m ((c : Thread nD τ).loc main_arg2)) := by
  refine (dats m 0 c).arrAt_eq_of_covers 6 _ (by decide +kernel) fun t hf y => ?_
  blk_simp
  rw [after0_6]; unfold outsAt0; frame_out
  pointwise [k0_pay1, firstVal, k0_pay4, gradVal, Fin.sum_univ_eight]
  blk_point [iblk, V, idx0 t, idx2 t, idx6 t]

theorem final7 (c : Dev nD) : (dats m 0 c).arrAt 7 cfg0.N = secondVal (m ((c : Thread nD τ).loc main_arg0)) (m ((c : Thread nD τ).loc main_arg3)) := by
  refine (dats m 0 c).arrAt_eq_of_covers 7 _ (by decide +kernel) fun t hf y => ?_
  blk_simp
  rw [after0_7]; unfold outsAt0; frame_out
  pointwise [k0_pay2, secondVal, k0_pay4, gradVal, Fin.sum_univ_eight]
  blk_point [iblk, V, idx0 t, idx3 t, idx7 t]

section ref
variable (g : FVec Ideal S8x704x2048 .bf16) (w m1 m2 : FVec Ideal S704x2048 .f32)
theorem ref_v1 : val_main_v1 (F := Ideal) g = gradVal g := by
  funext i
  pointwise [val_main_v1, val_main_cst, val_main_v0, gradVal]
theorem ref_v6 : val_main_v6 (F := Ideal) g m1 = firstVal g m1 := by
  funext i
  unfold firstVal
  rw [← ref_v1]
  pointwise [val_main_v6, val_main_v5, val_main_v4, val_main_cst_1, val_main_v3, val_main_v2, val_main_cst_0]
theorem ref_v12 : val_main_v12 (F := Ideal) g m2 = secondVal g m2 := by
  funext i
  unfold secondVal
  rw [← ref_v1]
  pointwise [val_main_v12, val_main_v11, val_main_v10, val_main_cst_3, val_main_v9,
    val_main_v8, val_main_v7, val_main_cst_2]
theorem ref_v25 : val_main_v25 (F := Ideal) g w m1 m2 = stepVal g w m1 m2 := by
  funext i
  unfold stepVal
  rw [← ref_v6, ← ref_v12]
  pointwise [val_main_v25, val_main_v24, val_main_cst_8, val_main_v23, val_main_v22, val_main_v21, val_main_cst_7, val_main_v20, val_main_v19, val_main_v18,
    val_main_cst_6, val_main_v17, val_main_v16, val_main_v15, val_main_cst_5, val_main_v14, val_main_v13, val_main_cst_4]
end ref

theorem frame_kernel : Cert.quiescent_Kernel12 := fun m ρ _ => Cert.Kernel12.Gen.frame m ρ
theorem frame_kernelIdeal : Cert.quiescent_Kernel12Ideal := fun m ρ _ => Cert.Kernel12Ideal.Gen.frame m ρ
theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, _, _, _, (θ_run Cert.Kernel12Ideal.defs _ _).mono (fun r h c => ⟨(h c).1.trans (final4 m c), (h c).2.1.trans (final5 m c), (h c).2.2.1.trans (final6 m c), (h c).2.2.2.1.trans (final7 m c), (h c).2.2.2.2⟩)
    (Cert.Kernel12Ideal.Value.run_blocks m ρ), ?_⟩
  refine (θ_run Cert.Reference12Ideal.defs _ _).mono (fun r h c => ⟨?_, ?_, ?_, ?_, (h c).2.2.2.2⟩) (Cert.Reference12Ideal.Value.run (F := Ideal) m' ρ')
  all_goals obtain ⟨e0, e1, e2, e3⟩ := hagree c
  · rw [(h c).1, Cert.Reference12Ideal.Read.val_main_v1_eq, e0]
    exact ref_v1 _
  · rw [(h c).2.1, Cert.Reference12Ideal.Read.val_main_v25_eq, e0, e1, e2, e3]
    exact ref_v25 _ _ _ _
  · rw [(h c).2.2.1, Cert.Reference12Ideal.Read.val_main_v6_eq, e0, e2]
    exact ref_v6 _ _
  · rw [(h c).2.2.2.1, Cert.Reference12Ideal.Read.val_main_v12_eq, e0, e3]
    exact ref_v12 _ _

end Cert.Proof.AdamBlock

end
-- ==== Proof.Dmix.lean ====
/- Hand-written, untrusted: THE OUTPUT PROJECTION'S GRADIENT IN ITS INPUT: a plain product. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Adequacy
public import Idealize.ShloMosaic.Init

@[expose] public section

set_option maxRecDepth 16384

noncomputable section

namespace Cert.Proof.Dmix

open Cert.Kernel13Ideal Cert.Kernel13Ideal.Gen Cert.Kernel13Ideal.Value Cert.Reference13Ideal.Read
open Idealize.ShloMosaic Idealize.ShloMosaic.TcCoe Idealize.SL.Sem Idealize.ShloMosaic.StableHlo

/-- A row of the cotangent times a row of the projection. -/
def prodVal (g : FVec Ideal S4096x2048 .bf16) (w : FVec Ideal S2048x2048 .bf16) : FVec Ideal S4096x2048 .f32 := fun i =>
  ∑ k : Fin 2048, g (ix2 (i 0) k) * w (ix2 (i 1) k)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem final2 (c : Dev nD) : (dats m 0 c).arrAt 2 cfg0.N = prodVal (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prodVal]
  blk_point [iblk, V, idx0 t, idx1 t, idx2 t]

theorem ref_v4 (g : FVec Ideal S4096x2048 .bf16) (w : FVec Ideal S2048x2048 .bf16) : val_main_v4 (F := Ideal) g w = prodVal g w := by
  funext i
  pointwise [val_main_v4, val_main_v3, val_main_v1, prodVal]

theorem frame_kernel : Cert.quiescent_Kernel13 := fun m ρ _ => Cert.Kernel13.Gen.frame m ρ
theorem frame_kernelIdeal : Cert.quiescent_Kernel13Ideal := fun m ρ _ => Cert.Kernel13Ideal.Gen.frame m ρ
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨_, (θ_run Cert.Kernel13Ideal.defs _ _).mono (fun r h c => ⟨(h c).1.trans (final2 m c), (h c).2⟩)
    (Cert.Kernel13Ideal.Value.run_blocks m ρ), ?_⟩
  refine (θ_run Cert.Reference13Ideal.defs _ _).mono (fun r h c => ⟨?_, (h c).2⟩) (Cert.Reference13Ideal.Value.run (F := Ideal) m' ρ')
  all_goals obtain ⟨e0, e1⟩ := hagree c
  · rw [(h c).1, Cert.Reference13Ideal.Read.val_main_v4_eq, e0, e1]
    exact ref_v4 _ _

end Cert.Proof.Dmix

end
-- ==== Proof.RetFwdRun.lean ====
/- Hand-written, untrusted: THE RETENTION KERNEL AT ONE HEAD, RUN: what its two blocks hold after it, from what they and the buffer of
   states held before. -/
module

public import proofs.«01_k».proof.Proof.Gen.Kernel7Ideal.Loops
public import proofs.«01_k».proof.Proof.Gen.Kernel7Ideal.Frame

@[expose] public section

set_option maxRecDepth 16384

noncomputable section

namespace Cert.Proof.RetFwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer of states. -/
abbrev states : Memref sig .tc .vmem S2x32x128x128 .f32 := Memref.whole cc0_scratch0
/-- What a memref's buffer holds. -/
abbrev Held {sp : Space} {S : Shape} {e : EltTy} (M : Memref sig .tc sp S e) : Type := M.view.ty.Contents (Elt F)

set_option maxHeartbeats 4000000 in
def run (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
    (x1 x2 : Vec F S1x8 .f32) (x3 x4 x5 x6 : Vec F S4096x128 .f32) (x7 : Vec F S1x128 .f32) :
    Σ' (G8 : Held (F := F) states → Held (F := F) arg8 → Held (F := F) arg9 → Held (F := F) arg8),
    { G9 : Held (F := F) states → Held (F := F) arg8 → Held (F := F) arg9 → Held (F := F) arg9 // ∀ (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
      ∗ (∃ d, owns (c : Thread nD τ) arg8 fullShare d) ∗ (∃ d, owns (c : Thread nD τ) arg9 fullShare d) ∗ (∃ d, owns (c : Thread nD τ) states fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
      ∗ (∃ f f8 f9, (arg8.view.loc (c : Thread nD τ) ↦[arg8.view.set]{fullShare} G8 f f8 f9) ∗ (arg9.view.loc (c : Thread nD τ) ↦[arg9.view.set]{fullShare} G9 f f8 f9))
      ∗ (∃ d, owns (c : Thread nD τ) states fullShare d)) -∗ K ⟨⟩))
    ⊢ wp frame (wpE (defs₀ (F := F)) Variants.none c none) Set.univ (cc0_ret_fwd i arg1 harg1 arg2 harg2 arg3 harg3 arg4 harg4 arg5 harg5 arg6 harg6 arg7 harg7 arg8 harg8 arg9 harg9 states (Memref.isWhole_whole _)) K } := by
  refine ⟨?_, ?_, fun K => ?run⟩
  case run =>
    simp only [cc0_ret_fwd_eq_skeleton]; unfold cc0_ret_fwd_skel
    simp only [k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8 H9]
    · iexists f10, f8, f9
      isplitl [H8]; · iexact H8
      iexact H9
    iexists _, _; isplitr; swap; · iexact H10
    ipureintro; rfl

end Cert.Proof.RetFwd

end
-- ==== Proof.RetFwdMath.lean ====
/- Hand-written, untrusted: THE RETENTION, ONE HEAD: what a chunk reads within itself and from the state before it (or after it); the
   second way is the first one over the rows in the opposite order; then the head's norm, weight and gate. -/
module

public import proofs.«01_k».proof.Proof.RetBwdWhole
public import proofs.«01_k».proof.Proof.Reals

@[expose] public section

noncomputable section

namespace Cert.Proof.RetFwd

open Cert.Proof.RetBwd Idealize.ShloMosaic

/-- One way: a chunk's rows against its own, and against the state that reaches it. -/
def wayO (M : Mat) (qd : Fin 128 → EReal) (Q K V : Arr) (S : Fin 32 → Mat) : Arr := fun n i e =>
  ∑ j, (∑ d, Q n i d * K n j d) * M i j * V n j e + ∑ d, Q n i d * qd i * S n d e
/-- Both ways. -/
def headO (s L0 L1 : EReal) (q k v : Arr) : Arr := fun n i e =>
  wayO (mask0 L0) (up L0) (scaled s q) k v (past (dec L0 128) (kv (down L0) k v)) n i e
    + wayO (mask1 L1) (up' L1) (scaled s q) k v (ahead (dec L1 128) (kv (down' L1) k v)) n i e

/-- One way as the forward lines give it, the state written as the sum that it is. -/
def derO (M : Mat) (qd kd : Fin 128 → EReal) (C : Fin 32 → Fin 32 → EReal) (Q K V : Arr) : Arr := fun n i e =>
  ∑ j, (∑ d, Q n i d * K n j d) * M i j * V n j e + ∑ d, Q n i d * qd i * ∑ m, (∑ j, K m j d * kd j * V m j e) * C n m

theorem derO_eq (w : EReal) (M : Mat) (qd kd : Fin 128 → EReal) (Q K V : Arr) (n : Fin 32) (i e : Fin 128) :
    derO M qd kd (carry (rate w)) Q K V n i e = wayO M qd Q K V (past (dec (rate w) 128) (kv kd K V)) n i e := by
  unfold derO wayO
  congr 2
  funext d
  rw [← sum_carry_past]; rfl

theorem wayO_flip (M : Mat) (qd : Fin 128 → EReal) (Q K V : Arr) (S : Fin 32 → Mat) (n : Fin 32) (i e : Fin 128) :
    wayO (fun i j => M i.rev j.rev) (fun i => qd i.rev) (RetBwd.flip Q) (RetBwd.flip K) (RetBwd.flip V) (fun p => S p.rev) n.rev i.rev e = wayO M qd Q K V S n i e := by
  unfold wayO RetBwd.flip
  simp only [Fin.rev_rev]
  rw [sum_rev fun j => (∑ d, Q n i d * K n j d) * M i j * V n j e]

/-- The second way, taken over the rows in the opposite order. -/
theorem derO_flip (w : EReal) (Q K V : Arr) (n : Fin 32) (i e : Fin 128) :
    derO (maskS (rate w)) (up (rate w)) (down (rate w)) (carry (rate w)) (RetBwd.flip Q) (RetBwd.flip K) (RetBwd.flip V) n.rev i.rev e
      = wayO (mask1 (rate w)) (up' (rate w)) Q K V (ahead (dec (rate w) 128) (kv (down' (rate w)) K V)) n i e := by
  rw [derO_eq, ← mask1_flip, ← up_flip, ← down_flip, past_kv_flip]; exact wayO_flip _ _ _ _ _ _ n i e

/-- A row of a head, normalised, weighted and gated. -/
def gated (o : Fin 128 → EReal) (w g : EReal) (e : Fin 128) : EReal :=
  o e * Ideal.rsqrt (Ideal.div (∑ d, o d * o d) (Ideal.ofBits .f32 1124073472#32) + Ideal.ofBits .f32 897988541#32) * w * (g * Reals.gate g)

/-! ## The whole -/

variable (X : FVec Ideal ⟨2, ![4096, 7168]⟩ .f32) (L0 L1 : FVec Ideal ⟨2, ![1, 8]⟩ .f32) (W : FVec Ideal ⟨2, ![1, 1024]⟩ .f32)

/-- A head's output. -/
def out (h : Fin 8) : Arr := headO sc (rate (L0 (ix2 0 h))) (rate (L1 (ix2 0 h))) (part X 0 h) (part X 1 h) (part X 2 h)
/-- The gates' columns. -/
def colGate (h : Fin 8) (d : Fin 128) : Fin 7168 := ⟨6144 + (128 * h.val + d.val), by omega⟩

/-- The two results. -/
structure Spec (Y O : FVec Ideal ⟨2, ![4096, 1024]⟩ .f32) : Prop where
  left : ∀ h n i e, Y (ix2 (rowOf n i) (colOut h e)) = gated (out X L0 L1 h n i) (W (ix2 0 (colOut h e))) (X (ix2 (rowOf n i) (colGate h e))) e
  right : ∀ h n i e, O (ix2 (rowOf n i) (colOut h e)) = out X L0 L1 h n i e

theorem out_surj (y : Fin 1024) : ∃ h d, y = colOut h d :=
  ⟨⟨y.val / 128, by omega⟩, ⟨y.val % 128, by omega⟩, Fin.ext (by show y.val = 128 * (y.val / 128) + y.val % 128; omega)⟩

theorem Spec.unique {Y O Y' O' : FVec Ideal ⟨2, ![4096, 1024]⟩ .f32} (h : Spec X L0 L1 W Y O) (h' : Spec X L0 L1 W Y' O') : Y = Y' ∧ O = O' := by
  have at_ix : ∀ (z : (⟨2, ![4096, 1024]⟩ : Shape).Idx), ∃ n i e d, z = ix2 (rowOf n i) (colOut e d) := fun z => by
    obtain ⟨n, i, hx⟩ := row_surj (z 0)
    obtain ⟨e, d, hy⟩ := out_surj (z 1)
    exact ⟨n, i, e, d, by rw [← hx, ← hy]; funext a; fin_cases a <;> rfl⟩
  constructor <;> funext z <;> obtain ⟨n, i, e, d, rfl⟩ := at_ix z
  · exact (h.left e n i d).trans (h'.left e n i d).symm
  · exact (h.right e n i d).trans (h'.right e n i d).symm

end Cert.Proof.RetFwd

end
-- ==== Proof.RetFwdPays.lean ====
/- Hand-written, untrusted: WHAT THE RETENTION KERNEL COMPUTES FROM WHAT IT LOADS, index by index: the decays, the masks, what a half
   of the chunks adds to the states, a half's rows from its states, and the gated rows. -/
module

public import proofs.«01_k».proof.Proof.Gen.Kernel7Ideal.Skeleton
public import proofs.«01_k».proof.Proof.RetFwdMath

@[expose] public section

set_option maxRecDepth 16384

noncomputable section

namespace Cert.Proof.RetFwd

open Cert.Proof.RetBwd Cert.Kernel7Ideal Cert.Kernel7Ideal.Gen
open Idealize.ShloMosaic Idealize.ShloMosaic.TcCoe

/-! ## The decays -/

theorem pay_up (w : Elt Ideal .f32) (i : Fin 128) : col (k0_pay11 w) i = up (rate w) i := by
  pointwise [col, k0_pay11, k0_pay8, k0_pay10]
  unfold up dec
  rw [sitofp_nat _ (by omega), neg_exp]; push_cast; rfl
theorem pay_down (w : Elt Ideal .f32) (i : Fin 128) : col (k0_pay12 w) i = down (rate w) i := by
  pointwise [col, k0_pay12, k0_pay8, k0_pay10]
  unfold down dec
  rw [sitofp_nat _ (by omega), neg_exp, bits_127, ← EReal.coe_sub, Nat.cast_sub (by omega)]; rfl
theorem pay_step (w : Elt Ideal .f32) : k0_pay13 w (ix2 0 0) = dec (rate w) 128 := by
  pointwise [k0_pay13, k0_pay8]
  rw [neg_exp, bits_128]; rfl
theorem pay_up' (w : Elt Ideal .f32) (i : Fin 128) : col (k0_pay20 (k0_pay14 w)) i = up' (rate w) i := by
  pointwise [col, k0_pay20, k0_pay14, k0_pay19]
  unfold up' dec
  rw [sitofp_nat _ (by omega), neg_exp, bits_128, ← EReal.coe_sub, Nat.cast_sub (by omega)]; rfl
theorem pay_mask0 (w : Elt Ideal .f32) (i j : Fin 128) : sq (k0_pay9 w) i j = mask0 (rate w) i j := by
  pointwise [RetBwd.sq, k0_pay9, k0_pay8]
  rw [ge_word, gap_word, sitofp_nat _ (by omega), neg_exp]
  unfold mask0
  split <;> rfl
theorem pay_mask1 (w : Elt Ideal .f32) (i j : Fin 128) : sq (k0_pay18 (k0_pay14 w) k0_pay16 k0_pay17) i j = mask1 (rate w) i j := by
  pointwise [RetBwd.sq, k0_pay18, k0_pay14, k0_pay16, k0_pay17, k0_pay15]
  rw [gt_word, gap_word, sitofp_nat _ (by omega), neg_exp]
  unfold mask1
  split <;> rfl

/-! ## What a half adds to the states -/

theorem pay_kv (w : FVec Ideal S128x1 .f32) (k v : Vec Ideal S2048x128 .f32) (m : Fin 16) (d e : Fin 128) :
    k0_pay23 w k v (ix4 0 m d e) = ∑ j, rows16 k m j d * col w j * rows16 v m j e := by
  pointwise [k0_pay23, k0_pay21, k0_pay22, rows16, col]
theorem pay_kv' (b : Elt Ideal .f32) (k v : Vec Ideal S2048x128 .f32) (m : Fin 16) (d e : Fin 128) :
    k0_pay24 (k0_pay14 b) k v (ix4 0 m d e) = ∑ j, rows16 k m j d * down' (rate b) j * rows16 v m j e := by
  pointwise [k0_pay24, k0_pay21, k0_pay22, k0_pay14, k0_pay19, rows16]
  refine Finset.sum_congr rfl fun j _ => ?_
  rw [sitofp_nat _ (by omega), neg_exp]; rfl

/-! ## The run over the chunks -/

theorem pay_next (c : FVec Ideal S1x1 .f32) (a : FVec Ideal S128x128 .f32) (x : Vec Ideal S1x1x128x128 .f32) (d e : Fin 128) :
    k0_pay27 c a x (ix2 d e) = a (ix2 d e) * c (ix2 0 0) + x (ix4 0 0 d e) := by
  pointwise [k0_pay27]
theorem pay_next' (b : Elt Ideal .f32) (a : FVec Ideal S128x128 .f32) (x : Vec Ideal S1x1x128x128 .f32) (d e : Fin 128) :
    k0_pay29 (k0_pay14 b) a x (ix2 d e) = a (ix2 d e) * dec (rate b) 128 + x (ix4 0 0 d e) := by
  pointwise [k0_pay29, k0_pay14]
  rw [neg_exp, bits_128]; rfl
theorem pay_put (a : FVec Ideal S128x128 .f32) (d e : Fin 128) : k0_pay26 a (ix4 0 0 d e) = a (ix2 d e) ∧ k0_pay28 a (ix4 0 0 d e) = a (ix2 d e) := by
  constructor
  · pointwise [k0_pay26]
  · pointwise [k0_pay28]
theorem pay_zero (d e : Fin 128) : k0_pay25 (F := Ideal) (ix2 d e) = 0 := by
  pointwise [k0_pay25]

/-! ## A half's rows -/

theorem pay_rows (M0 M1 : FVec Ideal S128x128 .f32) (w0 w1 : FVec Ideal S128x1 .f32) (q k v : Vec Ideal S2048x128 .f32)
    (s0 s1 : Vec Ideal S1x16x128x128 .f32) (m : Fin 16) (i e : Fin 128) :
    k0_pay30 (k0_pay5 M0 w0 q k v s0) (k0_pay6 M1 q k v) (k0_pay7 w1 q) s1 (ix2 ⟨m.val * 128 + i.val, by omega⟩ e)
      = (∑ j, (∑ d, rows16 q m i d * sc * rows16 k m j d) * sq M0 i j * rows16 v m j e + ∑ d, rows16 q m i d * sc * col w0 i * state16 s0 m d e)
        + (∑ j, (∑ d, rows16 q m i d * sc * rows16 k m j d) * sq M1 i j * rows16 v m j e + ∑ d, rows16 q m i d * sc * col w1 i * state16 s1 m d e) := by
  pointwise [k0_pay30, k0_pay5, k0_pay6, k0_pay7, k0_pay4, k0_pay3, k0_pay2, rows16, state16, col, RetBwd.sq, sc]

/-! ## The gated rows -/

theorem pay_gated (o g : Vec Ideal S4096x128 .f32) (w : Vec Ideal S1x128 .f32) (x : Fin 4096) (e : Fin 128) :
    k0_pay1 (k0_pay31 o) g (k0_pay32 o) w (ix2 x e) = gated (fun d => o (ix2 x d)) (w (ix2 0 e)) (g (ix2 x e)) e := by
  pointwise [k0_pay1, k0_pay31, k0_pay32, gated, Reals.gate, Reals.zero_sub_eq]

end Cert.Proof.RetFwd

end
-- ==== Proof.RetFwdLoops.lean ====
/- Hand-written, untrusted: THE RETENTION KERNEL'S THREE LOOPS AT ONE HEAD. The first fills the buffer of states with what every chunk
   adds; the second turns that into what reaches every chunk; the third fills the head's output. -/
module

public import proofs.«01_k».proof.Proof.RetFwdRun
public import proofs.«01_k».proof.Proof.RetFwdPays
public import proofs.«01_k».proof.Proof.RetBwdStore

@[expose] public section

set_option maxRecDepth 16384

noncomputable section

namespace Cert.Proof.RetFwd

open Cert.Proof.RetBwd Cert.Kernel7Ideal Cert.Kernel7Ideal.Gen
open Idealize.ShloMosaic Idealize.ShloMosaic.TcCoe

variable (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
  (a b : Elt Ideal .f32) (x3 x4 x5 : Vec Ideal S4096x128 .f32)

/-- The first loop's stores, the second's run over what the buffer held, the third's stores. -/
def put (k : ℕ) : List (View.Piece (Elt Ideal) S2x32x128x128 .f32) :=
  pb_k0_t1 (F := Ideal) Variants.none c none i arg1 harg1 arg2 harg2 arg3 harg3 arg4 harg4 arg5 harg5 arg6 harg6 arg7 harg7 arg8 harg8 arg9 harg9 states (Memref.isWhole_whole _)
    (k0_pay9 a) (k0_pay11 a) (k0_pay12 a) (k0_pay13 a) (k0_pay14 b) k0_pay16 k0_pay17 (harg4.unread x4) (harg5.unread x5) k
def back (G : Held (F := Ideal) states) (k : ℕ) : Carry :=
  st_k0_t2 (F := Ideal) Variants.none c none i arg1 harg1 arg2 harg2 arg3 harg3 arg4 harg4 arg5 harg5 arg6 harg6 arg7 harg7 arg8 harg8 arg9 harg9 states (Memref.isWhole_whole _)
    (k0_pay9 a) (k0_pay11 a) (k0_pay12 a) (k0_pay13 a) (k0_pay14 b) k0_pay16 k0_pay17 G (k0_pay25, k0_pay25) k
def give (G : Held (F := Ideal) states) (k : ℕ) : List (View.Piece (Elt Ideal) S4096x128 .f32) :=
  pb_k0_t3 (F := Ideal) Variants.none c none i arg1 harg1 arg2 harg2 arg3 harg3 arg4 harg4 arg5 harg5 arg6 harg6 arg7 harg7 arg8 harg8 arg9 harg9 states (Memref.isWhole_whole _)
    (k0_pay9 a) (k0_pay11 a) (k0_pay12 a) (k0_pay13 a) (k0_pay14 b) k0_pay16 k0_pay17 (harg3.unread x3) (harg4.unread x4) (harg5.unread x5) G k

/-- The stores of the first loop's trip. -/
def putKV (k : Fin k0_t1_loop.trips) : List (View.Piece (Elt Ideal) S2x32x128x128 .f32) :=
  [⟨Rect.unit (k0_off4 k) S1x16x128x128.size (k0_off4_inb k), k0_pay24 (k0_pay14 b) (ldRows harg4 x4 _ (k0_off2_inb k)) (ldRows harg5 x5 _ (k0_off2_inb k))⟩,
    ⟨Rect.unit (k0_off3 k) S1x16x128x128.size (k0_off3_inb k), k0_pay23 (k0_pay12 a) (ldRows harg4 x4 _ (k0_off2_inb k)) (ldRows harg5 x5 _ (k0_off2_inb k))⟩]

theorem put_eq (k : Fin k0_t1_loop.trips) :
    put c i arg1 harg1 arg2 harg2 arg3 harg3 arg4 harg4 arg5 harg5 arg6 harg6 arg7 harg7 arg8 harg8 arg9 harg9 a b x4 x5 (k.val + 1) = putKV arg4 harg4 arg5 harg5 a b x4 x5 k ++ put c i arg1 harg1 arg2 harg2 arg3 harg3 arg4 harg4 arg5 harg5 arg6 harg6 arg7 harg7 arg8 harg8 arg9 harg9 a b x4 x5 k.val := by
  refine (pb_k0_t1_succ ..).trans ?_
  unfold tripL_k0_t1 trip_k0_t1
  rfl

/-- One trip of the second loop, from what was carried and stored. -/
def backStep (G : Held (F := Ideal) states) (k : Fin k0_t2_loop.trips) (p : Carry) : Carry :=
  ((k0_pay27 (k0_pay13 a) p.1.1 (ldState (M := states) (states.view.writes (Elt Ideal) G p.2) _ (k0_off5_inb k)),
      k0_pay29 (k0_pay14 b) p.1.2 (ldState (M := states) (states.view.writes (Elt Ideal) G p.2) _ (k0_off6_inb k))),
    [⟨Rect.unit (k0_off6 k) S1x1x128x128.size (k0_off6_inb k), k0_pay28 p.1.2⟩, ⟨Rect.unit (k0_off5 k) S1x1x128x128.size (k0_off5_inb k), k0_pay26 p.1.1⟩] ++ p.2)

theorem back_eq (G : Held (F := Ideal) states) (k : Fin k0_t2_loop.trips) :
    back c i arg1 harg1 arg2 harg2 arg3 harg3 arg4 harg4 arg5 harg5 arg6 harg6 arg7 harg7 arg8 harg8 arg9 harg9 a b G (k.val + 1) = backStep a b G k (back c i arg1 harg1 arg2 harg2 arg3 harg3 arg4 harg4 arg5 harg5 arg6 harg6 arg7 harg7 arg8 harg8 arg9 harg9 a b G k.val) := by
  refine (st_k0_t2_succ ..).trans ?_
  unfold tripR_k0_t2 tripL_k0_t2 trip_k0_t2
  rfl

/-- The store of the third loop's trip. -/
def outO (G : Held (F := Ideal) states) (k : Fin k0_t3_loop.trips) : Vec Ideal S2048x128 .f32 :=
  k0_pay30 (k0_pay5 (k0_pay9 a) (k0_pay11 a) (ldRows harg3 x3 _ (k0_off7_inb k)) (ldRows harg4 x4 _ (k0_off7_inb k)) (ldRows harg5 x5 _ (k0_off7_inb k)) (ldStates (M := states) G _ (k0_off8_inb k)))
    (k0_pay6 (k0_pay18 (k0_pay14 b) k0_pay16 k0_pay17) (ldRows harg3 x3 _ (k0_off7_inb k)) (ldRows harg4 x4 _ (k0_off7_inb k)) (ldRows harg5 x5 _ (k0_off7_inb k)))
    (k0_pay7 (k0_pay20 (k0_pay14 b)) (ldRows harg3 x3 _ (k0_off7_inb k))) (ldStates (M := states) G _ (k0_off9_inb k))

theorem give_eq (G : Held (F := Ideal) states) (k : Fin k0_t3_loop.trips) :
    give c i arg1 harg1 arg2 harg2 arg3 harg3 arg4 harg4 arg5 harg5 arg6 harg6 arg7 harg7 arg8 harg8 arg9 harg9 a b x3 x4 x5 G (k.val + 1)
      = ⟨Rect.unit (k0_off7 k) S2048x128.size (k0_off7_inb k), outO arg3 harg3 arg4 harg4 arg5 harg5 a b x3 x4 x5 G k⟩ :: give c i arg1 harg1 arg2 harg2 arg3 harg3 arg4 harg4 arg5 harg5 arg6 harg6 arg7 harg7 arg8 harg8 arg9 harg9 a b x3 x4 x5 G k.val := by
  refine (pb_k0_t3_succ ..).trans ?_
  unfold tripL_k0_t3 trip_k0_t3
  rfl

end Cert.Proof.RetFwd

end
-- ==== Proof.RetFwdHead.lean ====
/- Hand-written, untrusted: WHAT THE THREE LOOPS LEAVE AT ONE HEAD: the head's output, at every row, whatever the buffers held. -/
module

public import proofs.«01_k».proof.Proof.RetFwdLoops

@[expose] public section

set_option maxRecDepth 16384

noncomputable section

namespace Cert.Proof.RetFwd

open Cert.Proof.RetBwd Cert.Kernel7Ideal Cert.Kernel7Ideal.Gen
open Idealize.ShloMosaic Idealize.ShloMosaic.TcCoe

variable (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
  (a b : Elt Ideal .f32) (x3 x4 x5 : Vec Ideal S4096x128 .f32)

/-- Two stored halves of rows, the second half's last. -/
theorem read_two {κ : Kind} {sp : Space} (v : View sig κ sp S4096x128 .f32) (f : v.ty.Contents (Elt Ideal)) {o : Fin 2 → Fin 2 → ℕ}
    (ho : ∀ k, o k = ![2048 * k.val, 0]) (hb : ∀ k a, o k a + S2048x128.size a ≤ S4096x128.size a) (p : Fin 2 → Vec Ideal S2048x128 .f32)
    (k : Fin 2) (x : Fin 2048) (e : Fin 128) :
    v.read (Elt Ideal) (v.writes (Elt Ideal) f [⟨Rect.unit (o 1) S2048x128.size (hb 1), p 1⟩, ⟨Rect.unit (o 0) S2048x128.size (hb 0), p 0⟩]) (ix2 ⟨2048 * k.val + x.val, by omega⟩ e)
      = p k (ix2 x e) := by
  have hit : ∀ (k : Fin 2) (L), v.read (Elt Ideal) (v.writes (Elt Ideal) f (⟨Rect.unit (o k) S2048x128.size (hb k), p k⟩ :: L)) (ix2 ⟨2048 * k.val + x.val, by omega⟩ e) = p k (ix2 x e) :=
    fun k L => View.read_writes_cons_unit_of_mem v f (hb k) (p k) L _ (ix2 x e) (ho k) fun a => by
      fin_cases a
      · rfl
      · exact (Nat.zero_add _).symm
  rcases (by decide : ∀ k : Fin 2, k = 1 ∨ k = 0) k with rfl | rfl
  · exact hit 1 _
  · refine (View.read_writes_cons_unit_of_not_mem v f (hb 1) (p 1) _ _ (ho 1) 0 (Or.inl ?_)).trans (hit 0 _)
    show 2048 * 0 + x.val < 2048 * 1; omega

/-- What the first loop leaves in the buffer of states, whatever it held. -/
theorem put_states (f : Held (F := Ideal) states) (n : Fin 32) (d e : Fin 128) :
    let R := states.view.read (Elt Ideal) (states.view.writes (Elt Ideal) f (put c i arg1 harg1 arg2 harg2 arg3 harg3 arg4 harg4 arg5 harg5 arg6 harg6 arg7 harg7 arg8 harg8 arg9 harg9 a b x4 x5 2))
    R (ix4 0 n d e) = kv (down (rate a)) (cell x4) (cell x5) n d e ∧ R (ix4 1 n d e) = kv (down' (rate b)) (cell x4) (cell x5) n d e := by
  intro R
  have eL : put c i arg1 harg1 arg2 harg2 arg3 harg3 arg4 harg4 arg5 harg5 arg6 harg6 arg7 harg7 arg8 harg8 arg9 harg9 a b x4 x5 2 = putKV arg4 harg4 arg5 harg5 a b x4 x5 (1 : Fin 2) ++ (putKV arg4 harg4 arg5 harg5 a b x4 x5 (0 : Fin 2) ++ []) :=
    (put_eq c i arg1 harg1 arg2 harg2 arg3 harg3 arg4 harg4 arg5 harg5 arg6 harg6 arg7 harg7 arg8 harg8 arg9 harg9 a b x4 x5 (1 : Fin 2)).trans (congrArg (_ ++ ·) (put_eq c i arg1 harg1 arg2 harg2 arg3 harg3 arg4 harg4 arg5 harg5 arg6 harg6 arg7 harg7 arg8 harg8 arg9 harg9 a b x4 x5 (0 : Fin 2)))
  obtain ⟨k, m, rfl⟩ := half_surj n
  have h := fun w => read_halves states.view f (fun w k => ![k0_off3 k, k0_off4 k] w) (fun w k => by fin_cases w; exacts [k0_off3_eq k, k0_off4_eq k])
    (fun w k => by fin_cases w; exacts [k0_off3_inb k, k0_off4_inb k])
    (fun w k => ![k0_pay23 (k0_pay12 a) (ldRows harg4 x4 _ (k0_off2_inb k)) (ldRows harg5 x5 _ (k0_off2_inb k)),
      k0_pay24 (k0_pay14 b) (ldRows harg4 x4 _ (k0_off2_inb k)) (ldRows harg5 x5 _ (k0_off2_inb k))] w) w k m d e
  have hR : ∀ w : Fin 2, R (ix4 w (half k m) d e) = _ := fun w => (congrArg (fun L => states.view.read (Elt Ideal) (states.view.writes (Elt Ideal) f L) (ix4 w (half k m) d e)) eL).trans (h w)
  constructor
  · refine (hR 0).trans ((pay_kv _ _ _ m d e).trans ?_)
    simp only [ld_rows harg4 x4 k (k0_off2_eq k), ld_rows harg5 x5 k (k0_off2_eq k), pay_down]; rfl
  · refine (hR 1).trans ((pay_kv' _ _ _ m d e).trans ?_)
    simp only [ld_rows harg4 x4 k (k0_off2_eq k), ld_rows harg5 x5 k (k0_off2_eq k)]; rfl

/-- A trip of the second loop, as reads. -/
theorem back_trip (G : Held (F := Ideal) states) (k : Fin 32) :
    Trip states.view G (dec (rate a) 128) (dec (rate b) 128) k k.rev (back c i arg1 harg1 arg2 harg2 arg3 harg3 arg4 harg4 arg5 harg5 arg6 harg6 arg7 harg7 arg8 harg8 arg9 harg9 a b G k.val) (back c i arg1 harg1 arg2 harg2 arg3 harg3 arg4 harg4 arg5 harg5 arg6 harg6 arg7 harg7 arg8 harg8 arg9 harg9 a b G (k.val + 1)) := by
  rw [back_eq c i arg1 harg1 arg2 harg2 arg3 harg3 arg4 harg4 arg5 harg5 arg6 harg6 arg7 harg7 arg8 harg8 arg9 harg9 a b G k]
  generalize back c i arg1 harg1 arg2 harg2 arg3 harg3 arg4 harg4 arg5 harg5 arg6 harg6 arg7 harg7 arg8 harg8 arg9 harg9 a b G k.val = p
  have h6 := (k0_off6_eq k).trans (off_rev 1 k)
  have h := fun d e => read_pair states.view G (k0_off5_eq k) h6 (k0_off5_inb k) (k0_off6_inb k) (k0_pay26 p.1.1) (k0_pay28 p.1.2) p.2 d e
  exact ⟨fun d e => (pay_next _ _ _ d e).trans (by rw [pay_step, ld_state (M := states) _ 0 k (k0_off5_eq k)]),
    fun d e => (pay_next' _ _ _ d e).trans (by rw [ld_state (M := states) _ 1 k.rev h6]),
    fun d e => (h d e).1.trans (pay_put _ d e).1, fun d e => (h d e).2.1.trans (pay_put _ d e).2,
    fun n d e hn => (h d e).2.2.1 n hn, fun n d e hn => (h d e).2.2.2 n hn⟩

/-- The buffer after its run: what reaches every chunk, from either side. -/
theorem back_states (G : Held (F := Ideal) states) (X0 X1 : Fin 32 → Mat) (h0 : ∀ n d e, states.view.read (Elt Ideal) G (ix4 0 n d e) = X0 n d e)
    (h1 : ∀ n d e, states.view.read (Elt Ideal) G (ix4 1 n d e) = X1 n d e) (n : Fin 32) (d e : Fin 128) :
    let R := states.view.read (Elt Ideal) (states.view.writes (Elt Ideal) G (back c i arg1 harg1 arg2 harg2 arg3 harg3 arg4 harg4 arg5 harg5 arg6 harg6 arg7 harg7 arg8 harg8 arg9 harg9 a b G 32).2)
    R (ix4 0 n d e) = past (dec (rate a) 128) X0 n d e ∧ R (ix4 1 n d e) = ahead (dec (rate b) 128) X1 n d e := by
  intro R
  have h := fun n => run_states states.view G (dec (rate a) 128) (dec (rate b) 128) (fun k => k) Fin.rev (fun _ _ h => h) rev_inj (fun k => back c i arg1 harg1 arg2 harg2 arg3 harg3 arg4 harg4 arg5 harg5 arg6 harg6 arg7 harg7 arg8 harg8 arg9 harg9 a b G k)
    pay_zero pay_zero rfl (back_trip c i arg1 harg1 arg2 harg2 arg3 harg3 arg4 harg4 arg5 harg5 arg6 harg6 arg7 harg7 arg8 harg8 arg9 harg9 a b G) n d e
  refine ⟨(h n).1.trans ?_, ?_⟩
  · simp only [h0]; rfl
  · have h' := (h n.rev).2
    rw [Fin.rev_rev] at h'
    refine h'.trans ?_
    simp only [h1]; rfl

/-- The third loop's output, from the states it finds. -/
theorem give_rows (f : Held (F := Ideal) arg9) (G : Held (F := Ideal) states) (S0 S1 : Fin 32 → Mat)
    (hS : ∀ n d e, states.view.read (Elt Ideal) G (ix4 0 n d e) = S0 n d e ∧ states.view.read (Elt Ideal) G (ix4 1 n d e) = S1 n d e) (n : Fin 32) (r e : Fin 128) :
    arg9.view.read (Elt Ideal) (arg9.view.writes (Elt Ideal) f (give c i arg1 harg1 arg2 harg2 arg3 harg3 arg4 harg4 arg5 harg5 arg6 harg6 arg7 harg7 arg8 harg8 arg9 harg9 a b x3 x4 x5 G 2)) (ix2 ⟨n.val * 128 + r.val, by omega⟩ e)
      = wayO (mask0 (rate a)) (up (rate a)) (scaled sc (cell x3)) (cell x4) (cell x5) S0 n r e + wayO (mask1 (rate b)) (up' (rate b)) (scaled sc (cell x3)) (cell x4) (cell x5) S1 n r e := by
  have eL := (give_eq c i arg1 harg1 arg2 harg2 arg3 harg3 arg4 harg4 arg5 harg5 arg6 harg6 arg7 harg7 arg8 harg8 arg9 harg9 a b x3 x4 x5 G (1 : Fin 2)).trans (congrArg (_ :: ·) (give_eq c i arg1 harg1 arg2 harg2 arg3 harg3 arg4 harg4 arg5 harg5 arg6 harg6 arg7 harg7 arg8 harg8 arg9 harg9 a b x3 x4 x5 G (0 : Fin 2)))
  obtain ⟨k, m, rfl⟩ := half_surj n
  have h := read_two arg9.view f (fun k => k0_off7_eq k) (fun k => k0_off7_inb k) (fun k => outO arg3 harg3 arg4 harg4 arg5 harg5 a b x3 x4 x5 G k) k ⟨m.val * 128 + r.val, by omega⟩ e
  refine (congrArg (fun y => arg9.view.read (Elt Ideal) (arg9.view.writes (Elt Ideal) f (give c i arg1 harg1 arg2 harg2 arg3 harg3 arg4 harg4 arg5 harg5 arg6 harg6 arg7 harg7 arg8 harg8 arg9 harg9 a b x3 x4 x5 G 2)) y) (?_ : _ = ix2 ⟨2048 * k.val + (m.val * 128 + r.val), by omega⟩ e)).trans
    ((congrArg (fun L => arg9.view.read (Elt Ideal) (arg9.view.writes (Elt Ideal) f L) (ix2 ⟨2048 * k.val + (m.val * 128 + r.val), by omega⟩ e)) eL).trans (h.trans ?_))
  · exact congrArg (fun t => ix2 t e) (Fin.ext (by show (16 * k.val + m.val) * 128 + r.val = 2048 * k.val + (m.val * 128 + r.val); omega))
  have q := ld_rows harg3 x3 k (k0_off7_eq k) (k0_off7_inb k)
  have kk := ld_rows harg4 x4 k (k0_off7_eq k) (k0_off7_inb k)
  have v := ld_rows harg5 x5 k (k0_off7_eq k) (k0_off7_inb k)
  have s0 : ∀ m d e, state16 (ldStates (M := states) G _ (k0_off8_inb k)) m d e = S0 (half k m) d e := fun m d e => (ld_states (M := states) G 0 k (k0_off8_eq k) _ m d e).trans (hS _ d e).1
  have s1 : ∀ m d e, state16 (ldStates (M := states) G _ (k0_off9_inb k)) m d e = S1 (half k m) d e := fun m d e => (ld_states (M := states) G 1 k (k0_off9_eq k) _ m d e).trans (hS _ d e).2
  refine (pay_rows _ _ _ _ _ _ _ _ _ m r e).trans ?_
  simp only [q, kk, v, s0, s1, pay_mask0, pay_mask1, pay_up, pay_up']; rfl

/-- The buffer of states as the third loop finds it. -/
def found (f : Held (F := Ideal) states) : Held (F := Ideal) states :=
  states.view.writes (Elt Ideal) f ((back c i arg1 harg1 arg2 harg2 arg3 harg3 arg4 harg4 arg5 harg5 arg6 harg6 arg7 harg7 arg8 harg8 arg9 harg9 a b (states.view.writes (Elt Ideal) f (put c i arg1 harg1 arg2 harg2 arg3 harg3 arg4 harg4 arg5 harg5 arg6 harg6 arg7 harg7 arg8 harg8 arg9 harg9 a b x4 x5 2)) 32).2 ++ put c i arg1 harg1 arg2 harg2 arg3 harg3 arg4 harg4 arg5 harg5 arg6 harg6 arg7 harg7 arg8 harg8 arg9 harg9 a b x4 x5 2)

/-- The head's output, whatever the buffers held. -/
theorem head_rows (f : Held (F := Ideal) states) (f9 : Held (F := Ideal) arg9) (n : Fin 32) (r e : Fin 128) :
    arg9.view.read (Elt Ideal) (arg9.view.writes (Elt Ideal) f9 (give c i arg1 harg1 arg2 harg2 arg3 harg3 arg4 harg4 arg5 harg5 arg6 harg6 arg7 harg7 arg8 harg8 arg9 harg9 a b x3 x4 x5 (found c i arg1 harg1 arg2 harg2 arg3 harg3 arg4 harg4 arg5 harg5 arg6 harg6 arg7 harg7 arg8 harg8 arg9 harg9 a b x4 x5 f) 2)) (ix2 ⟨n.val * 128 + r.val, by omega⟩ e)
      = headO sc (rate a) (rate b) (cell x3) (cell x4) (cell x5) n r e := by
  refine give_rows c i arg1 harg1 arg2 harg2 arg3 harg3 arg4 harg4 arg5 harg5 arg6 harg6 arg7 harg7 arg8 harg8 arg9 harg9 a b x3 x4 x5 f9 _ _ _ (fun n d e => ?_) n r e
  unfold found
  rw [View.writes_append]
  exact back_states c i arg1 harg1 arg2 harg2 arg3 harg3 arg4 harg4 arg5 harg5 arg6 harg6 arg7 harg7 arg8 harg8 arg9 harg9 a b _ _ _ (fun n d e => (put_states c i arg1 harg1 arg2 harg2 arg3 harg3 arg4 harg4 arg5 harg5 arg6 harg6 arg7 harg7 arg8 harg8 arg9 harg9 a b x4 x5 f n d e).1) (fun n d e => (put_states c i arg1 harg1 arg2 harg2 arg3 harg3 arg4 harg4 arg5 harg5 arg6 harg6 arg7 harg7 arg8 harg8 arg9 harg9 a b x4 x5 f n d e).2) n d e

end Cert.Proof.RetFwd

end
-- ==== Proof.RetFwdLeft.lean ====
/- Hand-written, untrusted: WHAT THE RETENTION KERNEL LEAVES IN ITS TWO BLOCKS: the head's output, and that output normalised, weighted
   and gated, whatever the blocks and the buffer of states held before. -/
module

public import proofs.«01_k».proof.Proof.RetFwdHead

@[expose] public section

set_option maxRecDepth 16384

noncomputable section

namespace Cert.Proof.RetFwd

open Cert.Proof.RetBwd Cert.Kernel7Ideal Cert.Kernel7Ideal.Gen
open Idealize.ShloMosaic Idealize.ShloMosaic.TcCoe

/-- A decay, loaded. -/
theorem word_apply (c : Dev nD) (i : grid0.Coords) (arg : Memref sig .tc .smem S1x8 .f32) (harg : arg.IsWhole) (x : Vec Ideal S1x8 .f32) :
    run.sl.r (F := Ideal) c i arg harg x = x (ix2 0 (i 0)) ∧ run.sl.r_1 (F := Ideal) c i arg harg x = x (ix2 0 (i 0)) := by
  have h : View.readAt (Elt Ideal) arg.view (Rect.unit (s := S1x8) (k0_off1 i) S1x1.size (k0_off1_inb i)).toLoadRect (harg.unread x) (ix2 0 0) = x (ix2 0 (i 0)) := by
    refine (harg.readAt_unread _ _ _).trans (congrArg x (funext fun a => Fin.ext ?_))
    have e := k0_off1_eq i
    fin_cases a
    · show k0_off1 i 0 + 1 * 0 = 0; rw [e]; rfl
    · show k0_off1 i 1 + 1 * 0 = (i 0).val; rw [e]; rfl
  have e : (Shape.Idx.first (s := S1x1) (by decide)) = ix2 0 0 := by decide
  exact ⟨(congrArg _ e).trans h, (congrArg _ e).trans h⟩

/-- A whole block, loaded, and a whole block, stored. -/
theorem load_all {R C : ℕ} {κ : Kind} {sp : Space} (v : View sig κ sp ⟨2, ![R, C]⟩ .f32) (f : v.ty.Contents (Elt Ideal)) (hb) (x : Fin R) (e : Fin C) :
    View.readAt (Elt Ideal) v (Rect.unit (s := ⟨2, ![R, C]⟩) ![0, 0] ![R, C] hb).toLoadRect f (ix2 x e) = v.read (Elt Ideal) f (ix2 x e) :=
  congrArg (v.read (Elt Ideal) f) (funext fun a => Fin.ext (by
    fin_cases a
    · show 0 + 1 * x.val = x.val; omega
    · show 0 + 1 * e.val = e.val; omega))
theorem store_all {R C : ℕ} {κ : Kind} {sp : Space} (v : View sig κ sp ⟨2, ![R, C]⟩ .f32) (f : v.ty.Contents (Elt Ideal)) (hb) (p : Vec Ideal ⟨2, ![R, C]⟩ .f32) (x : Fin R) (e : Fin C) :
    v.read (Elt Ideal) (v.writes (Elt Ideal) f [⟨Rect.unit (s := ⟨2, ![R, C]⟩) ![0, 0] ![R, C] hb, p⟩]) (ix2 x e) = p (ix2 x e) :=
  View.read_writes_cons_unit_of_mem v f hb p [] _ (ix2 x e) rfl fun a => by
    fin_cases a
    · exact (Nat.zero_add _).symm
    · exact (Nat.zero_add _).symm

theorem trips_eq : Scf.trips k0_t1_loop.lb k0_t1_loop.ub k0_t1_loop.st = 2 ∧ Scf.trips k0_t2_loop.lb k0_t2_loop.ub k0_t2_loop.st = 32 := by decide +kernel

variable (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole)
  (x1 x2 : Vec Ideal S1x8 .f32) (x3 x4 x5 x6 : Vec Ideal S4096x128 .f32) (x7 : Vec Ideal S1x128 .f32)

/-- The second block, filled. -/
def filled (a b : Elt Ideal .f32) (f : Held (F := Ideal) states) (f9 : Held (F := Ideal) arg9) : Held (F := Ideal) arg9 :=
  arg9.view.writes (Elt Ideal) f9 (give c i arg1 harg1 arg2 harg2 arg3 harg3 arg4 harg4 arg5 harg5 arg6 harg6 arg7 harg7 arg8 harg8 arg9 harg9 a b x3 x4 x5 (found c i arg1 harg1 arg2 harg2 arg3 harg3 arg4 harg4 arg5 harg5 arg6 harg6 arg7 harg7 arg8 harg8 arg9 harg9 a b x4 x5 f) 2)

/-- The head's output. -/
abbrev headOut : Arr := headO sc (rate (x1 (ix2 0 (i 0)))) (rate (x2 (ix2 0 (i 0)))) (cell x3) (cell x4) (cell x5)

theorem filled_apply (f : Held (F := Ideal) states) (f9 : Held (F := Ideal) arg9) (n : Fin 32) (r e : Fin 128) :
    arg9.view.read (Elt Ideal) (filled c i arg1 harg1 arg2 harg2 arg3 harg3 arg4 harg4 arg5 harg5 arg6 harg6 arg7 harg7 arg8 harg8 arg9 harg9 x3 x4 x5 (run.sl.r c i arg1 harg1 x1) (run.sl.r_1 c i arg2 harg2 x2) f f9) (ix2 (rowOf n r) e) = headOut i x1 x2 x3 x4 x5 n r e := by
  rw [(word_apply c i arg1 harg1 x1).1, (word_apply c i arg2 harg2 x2).2]
  exact head_rows c i arg1 harg1 arg2 harg2 arg3 harg3 arg4 harg4 arg5 harg5 arg6 harg6 arg7 harg7 arg8 harg8 arg9 harg9 _ _ x3 x4 x5 f f9 n r e

theorem run_right (f : Held (F := Ideal) states) (f8 : Held (F := Ideal) arg8) (f9 : Held (F := Ideal) arg9) :
    (run (F := Ideal) c i arg1 harg1 arg2 harg2 arg3 harg3 arg4 harg4 arg5 harg5 arg6 harg6 arg7 harg7 arg8 harg8 arg9 harg9 x1 x2 x3 x4 x5 x6 x7).2.1 f f8 f9 = filled c i arg1 harg1 arg2 harg2 arg3 harg3 arg4 harg4 arg5 harg5 arg6 harg6 arg7 harg7 arg8 harg8 arg9 harg9 x3 x4 x5 (run.sl.r c i arg1 harg1 x1) (run.sl.r_1 c i arg2 harg2 x2) f f9 := by
  unfold run; dsimp only
  unfold run.sl.r_2 run.sl.r_3 run.sl.r_4 run.sl.r_5 run.sl.r_6
  rw [trips_eq.1, trips_eq.2]
  rfl

theorem again (f : Held (F := Ideal) states) (f9 : Held (F := Ideal) arg9) :
    run.sl.v71 (F := Ideal) c i arg1 harg1 arg2 harg2 arg3 harg3 arg4 harg4 arg5 harg5 arg6 harg6 arg7 harg7 arg8 harg8 arg9 harg9 x1 x2 x3 x4 x5 f9 f = View.readAt (Elt Ideal) arg9.view (Rect.unit (s := S4096x128) ![0, 0] S4096x128.size inb_S4096x128_S4096x128_0_0).toLoadRect (filled c i arg1 harg1 arg2 harg2 arg3 harg3 arg4 harg4 arg5 harg5 arg6 harg6 arg7 harg7 arg8 harg8 arg9 harg9 x3 x4 x5 (run.sl.r c i arg1 harg1 x1) (run.sl.r_1 c i arg2 harg2 x2) f f9) := by
  unfold run.sl.v71 run.sl.r_2 run.sl.r_3 run.sl.r_4 run.sl.r_5 run.sl.r_6
  rw [trips_eq.1, trips_eq.2]
  rfl

/-- What the two blocks hold after the head. -/
theorem run_apply (f : Held (F := Ideal) states) (f8 : Held (F := Ideal) arg8) (f9 : Held (F := Ideal) arg9) (n : Fin 32) (r e : Fin 128) :
    arg8.view.read (Elt Ideal) ((run (F := Ideal) c i arg1 harg1 arg2 harg2 arg3 harg3 arg4 harg4 arg5 harg5 arg6 harg6 arg7 harg7 arg8 harg8 arg9 harg9 x1 x2 x3 x4 x5 x6 x7).1 f f8 f9) (ix2 (rowOf n r) e)
        = gated (headOut i x1 x2 x3 x4 x5 n r) (x7 (ix2 0 e)) (x6 (ix2 (rowOf n r) e)) e
      ∧ arg9.view.read (Elt Ideal) ((run (F := Ideal) c i arg1 harg1 arg2 harg2 arg3 harg3 arg4 harg4 arg5 harg5 arg6 harg6 arg7 harg7 arg8 harg8 arg9 harg9 x1 x2 x3 x4 x5 x6 x7).2.1 f f8 f9) (ix2 (rowOf n r) e) = headOut i x1 x2 x3 x4 x5 n r e := by
  constructor
  · unfold run; dsimp only
    refine (store_all arg8.view f8 _ _ _ _).trans ?_
    unfold run.sl.r_7 run.sl.r_8 run.sl.r_9
    rw [again]
    refine (pay_gated _ _ _ _ _).trans ?_
    have h : ∀ d, View.readAt (Elt Ideal) arg9.view (Rect.unit (s := S4096x128) ![0, 0] S4096x128.size inb_S4096x128_S4096x128_0_0).toLoadRect (filled c i arg1 harg1 arg2 harg2 arg3 harg3 arg4 harg4 arg5 harg5 arg6 harg6 arg7 harg7 arg8 harg8 arg9 harg9 x3 x4 x5 (run.sl.r c i arg1 harg1 x1) (run.sl.r_1 c i arg2 harg2 x2) f f9) (ix2 (rowOf n r) d) = headOut i x1 x2 x3 x4 x5 n r d :=
      fun d => (load_all arg9.view _ _ _ _).trans (filled_apply c i arg1 harg1 arg2 harg2 arg3 harg3 arg4 harg4 arg5 harg5 arg6 harg6 arg7 harg7 arg8 harg8 arg9 harg9 x1 x2 x3 x4 x5 f f9 n r d)
    have h6 := (load_all arg6.view (harg6.unread x6) inb_S4096x128_S4096x128_0_0 (rowOf n r) e).trans (congrFun (harg6.read_unread x6) _)
    have h7 := (load_all arg7.view (harg7.unread x7) inb_S1x128_S1x128_0_0 0 e).trans (congrFun (harg7.read_unread x7) _)
    rw [funext h, h6, h7]
  · rw [run_right]; exact filled_apply c i arg1 harg1 arg2 harg2 arg3 harg3 arg4 harg4 arg5 harg5 arg6 harg6 arg7 harg7 arg8 harg8 arg9 harg9 x1 x2 x3 x4 x5 f f9 n r e

end Cert.Proof.RetFwd

end
-- ==== Proof.RetFwdFrame.lean ====
/- Hand-written, untrusted: THE RETENTION KERNEL'S FRAME, from one run of a head: every argument array ends as launched, and, where what
   a head leaves in its two blocks does not depend on what they held, the two results end as the heads wrote them. -/
module

public import proofs.«01_k».proof.Proof.RetFwdRun
public import Idealize.ShloMosaic.Lib.Pipeline.FrameValue

@[expose] public section

set_option maxRecDepth 16384

noncomputable section

namespace Cert.Proof.RetFwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at head `t`. -/
def step (c : Dev nD) (t : Fin cfg0.N) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) (iblk m c 6 t)

/-- The two results' blocks, per head. -/
abbrev Blocks : Type := Dev nD → Fin cfg0.N → Vec F S4096x128 .f32

variable (o7 o8 : Blocks (F := F))

/-- The proof data: every input's buffer at its block, each output's at the given. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7 c t
    | ⟨8, _⟩ => o8 c t
  Φ _ := Pipeline.ΦA spec0 c
  q w := Pipeline.shareOf spec0 w
  owed _ := 0

theorem A_eq (c : Dev nD) (w : Fin cfg0.W) : (dats m o7 o8 0 c).A w = V m c (Pipeline.arrRef spec0 w) := by
  dsimp only [dats]
/-- What the data say of the buffers after the body. -/
theorem after_eq (c : Dev nD) (t : Fin cfg0.N) :
    (dats m o7 o8 0 c).after 0 t = iblk m c 0 t ∧ (dats m o7 o8 0 c).after 1 t = iblk m c 1 t ∧ (dats m o7 o8 0 c).after 2 t = iblk m c 2 t ∧ (dats m o7 o8 0 c).after 3 t = iblk m c 3 t ∧ (dats m o7 o8 0 c).after 4 t = iblk m c 4 t ∧ (dats m o7 o8 0 c).after 5 t = iblk m c 5 t ∧ (dats m o7 o8 0 c).after 6 t = iblk m c 6 t
      ∧ (dats m o7 o8 0 c).after 7 t = o7 c t ∧ (dats m o7 o8 0 c).after 8 t = o8 c t := by
  dsimp only [dats]; exact ⟨rfl, rfl, rfl, rfl, rfl, rfl, rfl, rfl, rfl⟩

/-- Every input's staging buffer holds its block at every point. -/
theorem before_in (c : Dev nD) (t : Fin cfg0.N) :
    (∀ d, (dats m o7 o8 0 c).before 0 t d = iblk m c 0 t) ∧ (∀ d, (dats m o7 o8 0 c).before 1 t d = iblk m c 1 t) ∧ (∀ d, (dats m o7 o8 0 c).before 2 t d = iblk m c 2 t) ∧ (∀ d, (dats m o7 o8 0 c).before 3 t d = iblk m c 3 t) ∧ (∀ d, (dats m o7 o8 0 c).before 4 t d = iblk m c 4 t) ∧ (∀ d, (dats m o7 o8 0 c).before 5 t d = iblk m c 5 t) ∧ (∀ d, (dats m o7 o8 0 c).before 6 t d = iblk m c 6 t) := by
  refine ⟨fun d => ?_, fun d => ?_, fun d => ?_, fun d => ?_, fun d => ?_, fun d => ?_, fun d => ?_⟩
  all_goals
    refine ((dats m o7 o8 0 c).before_in_eq_fetched _ rfl (fun _ => rfl) (fun _ _ _ => rfl) (fun t => ?_) t d).trans ?_
    · unfold Dat.blockOf; rw [A_eq]; rfl
    · unfold Dat.fetched Dat.blockOf; rw [A_eq]; rfl

/-- The invariant: the buffer of states at anything, the generator's register. -/
theorem inv_eq (c : Dev nD) : (Pipeline.ΦA spec0 c : sProp 𝕄)
    = iprop((∃ f : Buf (Elt F) ((c : Thread nD τ).loc cc0_scratch0), ((c : Thread nD τ).loc cc0_scratch0) ↦{fullShare} f) ∗ (∃ r, prngReg c r)) := by
  unfold Pipeline.ΦA; rw [scopedRest0_eq]

set_option maxHeartbeats 1600000 in
/-- The body at any point: its run, the two outputs' buffers at what it leaves from something. -/
theorem sound_body (c : Dev nD) (t : Fin cfg0.N) :
    iprop(Pipeline.ΦA spec0 c ∗ (dats m o7 o8 0 c).owesAt () t.castSucc
      ∗ (∃ d, owns (c : Thread nD τ) (win0_0.stage (cfg0.slots t 0)) fullShare ((dats m o7 o8 0 c).before 0 t d))
      ∗ (∃ d, owns (c : Thread nD τ) (win0_1.stage (cfg0.slots t 1)) fullShare ((dats m o7 o8 0 c).before 1 t d))
      ∗ (∃ d, owns (c : Thread nD τ) (win0_2.stage (cfg0.slots t 2)) fullShare ((dats m o7 o8 0 c).before 2 t d))
      ∗ (∃ d, owns (c : Thread nD τ) (win0_3.stage (cfg0.slots t 3)) fullShare ((dats m o7 o8 0 c).before 3 t d))
      ∗ (∃ d, owns (c : Thread nD τ) (win0_4.stage (cfg0.slots t 4)) fullShare ((dats m o7 o8 0 c).before 4 t d))
      ∗ (∃ d, owns (c : Thread nD τ) (win0_5.stage (cfg0.slots t 5)) fullShare ((dats m o7 o8 0 c).before 5 t d))
      ∗ (∃ d, owns (c : Thread nD τ) (win0_6.stage (cfg0.slots t 6)) fullShare ((dats m o7 o8 0 c).before 6 t d))
      ∗ (∃ d, owns (c : Thread nD τ) (win0_7.stage (cfg0.slots t 7)) fullShare d)
      ∗ (∃ d, owns (c : Thread nD τ) (win0_8.stage (cfg0.slots t 8)) fullShare d))
    ⊢ wp frame (wpE (defs₀ (F := F)) Variants.none c none) Set.univ (bodyAt0 t) (fun _ =>
      iprop(Pipeline.ΦA spec0 c ∗ (dats m o7 o8 0 c).owesAt () t.succ
      ∗ owns (c : Thread nD τ) (win0_0.stage (cfg0.slots t 0)) fullShare ((dats m o7 o8 0 c).after 0 t)
      ∗ owns (c : Thread nD τ) (win0_1.stage (cfg0.slots t 1)) fullShare ((dats m o7 o8 0 c).after 1 t)
      ∗ owns (c : Thread nD τ) (win0_2.stage (cfg0.slots t 2)) fullShare ((dats m o7 o8 0 c).after 2 t)
      ∗ owns (c : Thread nD τ) (win0_3.stage (cfg0.slots t 3)) fullShare ((dats m o7 o8 0 c).after 3 t)
      ∗ owns (c : Thread nD τ) (win0_4.stage (cfg0.slots t 4)) fullShare ((dats m o7 o8 0 c).after 4 t)
      ∗ owns (c : Thread nD τ) (win0_5.stage (cfg0.slots t 5)) fullShare ((dats m o7 o8 0 c).after 5 t)
      ∗ owns (c : Thread nD τ) (win0_6.stage (cfg0.slots t 6)) fullShare ((dats m o7 o8 0 c).after 6 t)
      ∗ (∃ f f8 f9, ((win0_7.stage (cfg0.slots t 7)).view.loc (c : Thread nD τ) ↦[(win0_7.stage (cfg0.slots t 7)).view.set]{fullShare} (step m c t).1 f f8 f9)
        ∗ ((win0_8.stage (cfg0.slots t 8)).view.loc (c : Thread nD τ) ↦[(win0_8.stage (cfg0.slots t 8)).view.set]{fullShare} (step m c t).2.1 f f8 f9)))) := by
  obtain ⟨h0, h1, h2, h3, h4, h5, h6⟩ := before_in m o7 o8 c t
  obtain ⟨a0, a1, a2, a3, a4, a5, a6, -, -⟩ := after_eq m o7 o8 c t
  simp only [h0, h1, h2, h3, h4, h5, h6]
  rw [a0, a1, a2, a3, a4, a5, a6, show (dats m o7 o8 0 c).owesAt () t.succ = (dats m o7 o8 0 c).owesAt () t.castSucc from rfl, inv_eq]
  unfold bodyAt0
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((step m c t).2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · icases HS with ⟨%f, HS⟩; iexists _; rw [owns_whole]; iexact HS
  iintro ⟨H0, H1, H2, H3, H4, H5, H6, HO, ⟨%e, HS⟩⟩
  isplitl [HS Hg]
  · isplitl [HS]; · iexists e; rw [← owns_whole]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HO

/-- The body table's row at point `t`'s slots. -/
theorem row (t : Fin cfg0.N) : defs₀ (F := F) .tc cfg0.body (cfg0.bodyArgs t (cfg0.slots t)) = bodyAt0 t := by
  unfold defs₀; rw [Defs.onTc_tc]

/-- The outputs left unsaid, or none. -/
def unsaid : Fin cfg0.W → Bool := fun w => w.val == 7 || w.val == 8
def said : Fin cfg0.W → Bool := fun _ => false

/-- What the body is called with, and what it returns, the outputs' buffers at the given. -/
def pre (c : Dev nD) (t : Fin cfg0.N) (P7 P8 : sProp 𝕄) : sProp 𝕄 :=
  iprop(Pipeline.ΦA spec0 c ∗ (dats m o7 o8 0 c).owesAt () t.castSucc
      ∗ (∃ d, owns (c : Thread nD τ) (win0_0.stage (cfg0.slots t 0)) fullShare ((dats m o7 o8 0 c).before 0 t d))
      ∗ (∃ d, owns (c : Thread nD τ) (win0_1.stage (cfg0.slots t 1)) fullShare ((dats m o7 o8 0 c).before 1 t d))
      ∗ (∃ d, owns (c : Thread nD τ) (win0_2.stage (cfg0.slots t 2)) fullShare ((dats m o7 o8 0 c).before 2 t d))
      ∗ (∃ d, owns (c : Thread nD τ) (win0_3.stage (cfg0.slots t 3)) fullShare ((dats m o7 o8 0 c).before 3 t d))
      ∗ (∃ d, owns (c : Thread nD τ) (win0_4.stage (cfg0.slots t 4)) fullShare ((dats m o7 o8 0 c).before 4 t d))
      ∗ (∃ d, owns (c : Thread nD τ) (win0_5.stage (cfg0.slots t 5)) fullShare ((dats m o7 o8 0 c).before 5 t d))
      ∗ (∃ d, owns (c : Thread nD τ) (win0_6.stage (cfg0.slots t 6)) fullShare ((dats m o7 o8 0 c).before 6 t d))
      ∗ P7 ∗ P8)
def post (c : Dev nD) (t : Fin cfg0.N) (P78 : sProp 𝕄) : sProp 𝕄 :=
  iprop(Pipeline.ΦA spec0 c ∗ (dats m o7 o8 0 c).owesAt () t.succ
      ∗ owns (c : Thread nD τ) (win0_0.stage (cfg0.slots t 0)) fullShare ((dats m o7 o8 0 c).after 0 t)
      ∗ owns (c : Thread nD τ) (win0_1.stage (cfg0.slots t 1)) fullShare ((dats m o7 o8 0 c).after 1 t)
      ∗ owns (c : Thread nD τ) (win0_2.stage (cfg0.slots t 2)) fullShare ((dats m o7 o8 0 c).after 2 t)
      ∗ owns (c : Thread nD τ) (win0_3.stage (cfg0.slots t 3)) fullShare ((dats m o7 o8 0 c).after 3 t)
      ∗ owns (c : Thread nD τ) (win0_4.stage (cfg0.slots t 4)) fullShare ((dats m o7 o8 0 c).after 4 t)
      ∗ owns (c : Thread nD τ) (win0_5.stage (cfg0.slots t 5)) fullShare ((dats m o7 o8 0 c).after 5 t)
      ∗ owns (c : Thread nD τ) (win0_6.stage (cfg0.slots t 6)) fullShare ((dats m o7 o8 0 c).after 6 t)
      ∗ P78)

/-- The two buffers as the run leaves them. -/
def ran (c : Dev nD) (t : Fin cfg0.N) : sProp 𝕄 :=
  iprop(∃ f f8 f9, ((win0_7.stage (cfg0.slots t 7)).view.loc (c : Thread nD τ) ↦[(win0_7.stage (cfg0.slots t 7)).view.set]{fullShare} (step m c t).1 f f8 f9)
        ∗ ((win0_8.stage (cfg0.slots t 8)).view.loc (c : Thread nD τ) ↦[(win0_8.stage (cfg0.slots t 8)).view.set]{fullShare} (step m c t).2.1 f f8 f9))

theorem pre_mono (c : Dev nD) (t : Fin cfg0.N) {P7 P8 Q7 Q8 : sProp 𝕄} (h7 : P7 ⊢ Q7) (h8 : P8 ⊢ Q8) : pre m o7 o8 c t P7 P8 ⊢ pre m o7 o8 c t Q7 Q8 :=
  BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono h7 h8)))))))))
theorem post_mono (c : Dev nD) (t : Fin cfg0.N) {P Q : sProp 𝕄} (h : P ⊢ Q) : post m o7 o8 c t P ⊢ post m o7 o8 c t Q :=
  BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl h))))))))

/-- Whatever is said of what the run leaves may be said of the body. -/
theorem sound (c : Dev nD) (t : Fin cfg0.N) (P7 P8 Q : sProp 𝕄) (h7 : P7 ⊢ ∃ d, owns (c : Thread nD τ) (win0_7.stage (cfg0.slots t 7)) fullShare d) (h8 : P8 ⊢ ∃ d, owns (c : Thread nD τ) (win0_8.stage (cfg0.slots t 8)) fullShare d) (h : ran m c t ⊢ Q) :
    pre m o7 o8 c t P7 P8 ⊢ wp frame (wpE (defs₀ (F := F)) Variants.none c none) Set.univ (bodyAt0 t) (fun _ => post m o7 o8 c t Q) :=
  triple_restated (sound_body m o7 o8 c t) rfl (pre_mono m o7 o8 c t h7 h8) fun _ => post_mono m o7 o8 c t h

theorem ran_unsaid (c : Dev nD) (t : Fin cfg0.N) : ran m c t ⊢ iprop((∃ d, owns (c : Thread nD τ) (win0_7.stage (cfg0.slots t 7)) fullShare d) ∗ (∃ d, owns (c : Thread nD τ) (win0_8.stage (cfg0.slots t 8)) fullShare d)) := by
  unfold ran owns
  iintro ⟨%f, %f8, %f9, H7, H8⟩
  isplitl [H7]
  · iexists _, _; isplitr
    swap; · iexact H7
    ipureintro; rfl
  iexists _, _; isplitr
  swap; · iexact H8
  ipureintro; rfl

theorem obligation_unsaid (c : Dev nD) : Pipeline.BodyObligationLoose (dats m o7 o8 0 c) (defs₀ (F := F)) Variants.none () Set.univ unsaid := fun t => by
  rw [bigSep_W0, bigSep_W0, row]
  exact triple_restated (sound m o7 o8 c t _ _ _ .rfl .rfl (ran_unsaid m c t)) rfl .rfl fun _ => .rfl

/-- What a head leaves in its two blocks does not depend on what they held. -/
def Leaves : Prop := ∀ c t f f8 f9, (win0_7.stage (cfg0.slots t 7)).view.read (Elt F) ((step m c t).1 f f8 f9) = o7 c t
  ∧ (win0_8.stage (cfg0.slots t 8)).view.read (Elt F) ((step m c t).2.1 f f8 f9) = o8 c t

theorem ran_said (h : Leaves m o7 o8) (c : Dev nD) (t : Fin cfg0.N) : ran m c t ⊢ iprop(owns (c : Thread nD τ) (win0_7.stage (cfg0.slots t 7)) fullShare ((dats m o7 o8 0 c).after 7 t) ∗ owns (c : Thread nD τ) (win0_8.stage (cfg0.slots t 8)) fullShare ((dats m o7 o8 0 c).after 8 t)) := by
  have e7 := (after_eq m o7 o8 c t).2.2.2.2.2.2.2.1
  have e8 := (after_eq m o7 o8 c t).2.2.2.2.2.2.2.2
  unfold ran owns
  iintro ⟨%f, %f8, %f9, H7, H8⟩
  isplitl [H7]
  · iexists _; isplitr
    swap; · iexact H7
    ipureintro; exact (h c t f f8 f9).1.trans e7.symm
  iexists _; isplitr
  swap; · iexact H8
  ipureintro; exact (h c t f f8 f9).2.trans e8.symm

theorem obligation_said (h : Leaves m o7 o8) (c : Dev nD) : Pipeline.BodyObligationLoose (dats m o7 o8 0 c) (defs₀ (F := F)) Variants.none () Set.univ said := fun t => by
  rw [bigSep_W0, bigSep_W0, row]
  exact triple_restated (sound m o7 o8 c t (iprop(∃ d, owns (c : Thread nD τ) (win0_7.stage (cfg0.slots t 7)) fullShare ((dats m o7 o8 0 c).before 7 t d))) (iprop(∃ d, owns (c : Thread nD τ) (win0_8.stage (cfg0.slots t 8)) fullShare ((dats m o7 o8 0 c).before 8 t d))) _
    (by iintro ⟨%d, H⟩; iexists _; iexact H) (by iintro ⟨%d, H⟩; iexists _; iexact H) (ran_said m o7 o8 h c t)) rfl .rfl fun _ => .rfl

/-- What holds after the run. -/
abbrev Post (fgt : Fin cfg0.W → Bool) (r : PUnit × MemSt nD τ sig (Elt F)) : Prop :=
  RDat.FramePost cfg0 (fun c => (dats m o7 o8 0 c).toRForget fgt) (V m) r

set_option backward.isDefEq.respectTransparency.types false in
theorem launched (fgt : Fin cfg0.W → Bool) (h : ∀ c, Pipeline.BodyObligationLoose (dats m o7 o8 0 c) (defs₀ (F := F)) Variants.none () Set.univ fgt) :
    θ_run defs (onTc (τ := τ) (main (F := F))) (⟨m, fun _ => 0, ρ⟩) (fun r => Post m o7 o8 fgt r ∧ r.2.sem = fun _ => 0) :=
  Pipeline.θ_run_frame_forget_shared (Q' := _) cfgs (dats m o7 o8) (0 : Fin 1) launch₀0 defs₀ Variants.none fgt m ρ main
    (hbody := h) (hq := fun _ _ _ => rfl) (howed := fun _ _ => rfl) (V := V m) (hmain := hmain m Variants.none) (hA := A_eq m o7 o8) (hΦ := fun _ _ => rfl)

/-- Every argument array ends as launched. -/
theorem kept {fgt : Fin cfg0.W → Bool} {r : PUnit × MemSt nD τ sig (Elt F)} (h : Post m o7 o8 fgt r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have k : ∀ w : Fin cfg0.W, (cfg0.win w).isOut = false → r.2.mem ((cfg0.spec w).arr.view.loc (c.tc : Thread nD τ)) = V m c (Pipeline.arrRef spec0 w) := fun w hw => by
    have e := (h c).1 w
    rw [RDat.ArrAt_in _ w hw] at e
    exact e
  exact ⟨(k 5 rfl).trans (V_main_arg0 m c), (k 0 rfl).trans (V_main_arg1 m c), (k 1 rfl).trans (V_main_arg2 m c), (k 6 rfl).trans (V_main_arg3 m c)⟩

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m _ _ h.1, h.2⟩)
    (launched m ρ (fun c t => iblk m c 2 t) (fun c t => iblk m c 2 t) unsaid (obligation_unsaid m _ _))

/-- The two results at the end; the arguments beside them. -/
theorem result (h : Leaves m o7 o8) : θ_run defs (onTc (τ := τ) (main (F := F))) ⟨m, fun _ => 0, ρ⟩ (fun r => ∀ c : Dev nD,
      r.2.mem ((c.tc : Thread nD τ).loc main_v0_0) = (dats m o7 o8 0 c).arrAt 7 cfg0.N
      ∧ r.2.mem ((c.tc : Thread nD τ).loc main_v0_1) = (dats m o7 o8 0 c).arrAt 8 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((dats m o7 o8 0 c).toRForget_arrAt_iff (fgt := said) rfl cfg0.N _).mp ((h.1 c).1 7),
      ((dats m o7 o8 0 c).toRForget_arrAt_iff (fgt := said) rfl cfg0.N _).mp ((h.1 c).1 8), kept m o7 o8 h.1 c⟩)
    (launched m ρ o7 o8 said (obligation_said m o7 o8 h))

end Cert.Proof.RetFwd

end
-- ==== Proof.RetFwdReach.lean ====
/- Hand-written, untrusted: THE RETENTION KERNEL'S RESULTS AT THE END: every head leaves its own columns of the two. -/
module

public import proofs.«01_k».proof.Proof.RetFwdLeft
public import proofs.«01_k».proof.Proof.RetFwdFrame
public import Idealize.ShloMosaic.Lib.Pipeline.ValueKit

@[expose] public section

set_option maxRecDepth 16384

noncomputable section

namespace Cert.Proof.RetFwd

open Cert.Proof.RetBwd Cert.Kernel7Ideal Cert.Kernel7Ideal.Gen
open Idealize.ShloMosaic Idealize.ShloMosaic.TcCoe

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 24 + t.val] := (by decide +kernel : ∀ t : Fin grid0.N, _)
theorem idx3 : ∀ t : Fin cfg0.N, win0_3.index t = ![0, 32 + t.val] := (by decide +kernel : ∀ t : Fin grid0.N, _)
theorem idx4 : ∀ t : Fin cfg0.N, win0_4.index t = ![0, 40 + t.val] := (by decide +kernel : ∀ t : Fin grid0.N, _)
theorem idx5 : ∀ t : Fin cfg0.N, win0_5.index t = ![0, 48 + t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)
theorem point : ∀ t : Fin cfg0.N, ((grid0.coords t) 0).val = t.val := (by decide +kernel : ∀ t : Fin grid0.N, _)

/-- A point's head. -/
def head (t : Fin cfg0.N) : Fin 8 := ⟨t.val, t.isLt⟩

theorem head_eq (t : Fin cfg0.N) : (grid0.coords t) 0 = head t := Fin.ext (point t)

abbrev inX (c : Dev nD) : FVec Ideal ⟨2, ![4096, 7168]⟩ .f32 := m ((c : Thread nD τ).loc main_arg0)
abbrev inL0 (c : Dev nD) : FVec Ideal ⟨2, ![1, 8]⟩ .f32 := m ((c : Thread nD τ).loc main_arg1)
abbrev inL1 (c : Dev nD) : FVec Ideal ⟨2, ![1, 8]⟩ .f32 := m ((c : Thread nD τ).loc main_arg2)
abbrev inW (c : Dev nD) : FVec Ideal ⟨2, ![1, 1024]⟩ .f32 := m ((c : Thread nD τ).loc main_arg3)

section
variable (c : Dev nD)

theorem rate0_block (t : Fin cfg0.N) (h : Fin 8) : iblk m c 0 t (ix2 0 h) = inL0 m c (ix2 0 h) := by
  blk_point [iblk, V, idx0 t]
theorem rate1_block (t : Fin cfg0.N) (h : Fin 8) : iblk m c 1 t (ix2 0 h) = inL1 m c (ix2 0 h) := by
  blk_point [iblk, V, idx1 t]
theorem q_block (t : Fin cfg0.N) : cell (iblk m c 2 t) = part (inX m c) 0 (head t) := by
  funext n i d
  unfold cell part rowOf colOf head
  blk_point [iblk, V, idx2 t]
theorem k_block (t : Fin cfg0.N) : cell (iblk m c 3 t) = part (inX m c) 1 (head t) := by
  funext n i d
  unfold cell part rowOf colOf head
  blk_point [iblk, V, idx3 t]
theorem v_block (t : Fin cfg0.N) : cell (iblk m c 4 t) = part (inX m c) 2 (head t) := by
  funext n i d
  unfold cell part rowOf colOf head
  blk_point [iblk, V, idx4 t]
theorem g_block (t : Fin cfg0.N) (x : Fin 4096) (e : Fin 128) : iblk m c 5 t (ix2 x e) = inX m c (ix2 x (colGate (head t) e)) := by
  unfold colGate head
  blk_point [iblk, V, idx5 t]
theorem w_block (t : Fin cfg0.N) (e : Fin 128) : iblk m c 6 t (ix2 0 e) = inW m c (ix2 0 (colOut (head t) e)) := by
  unfold colOut head
  blk_point [iblk, V, idx6 t]

theorem out_block (t : Fin cfg0.N) : headOut (grid0.coords t) (iblk m c 0 t) (iblk m c 1 t) (iblk m c 2 t) (iblk m c 3 t) (iblk m c 4 t) = out (inX m c) (inL0 m c) (inL1 m c) (head t) := by
  unfold headOut out
  rw [head_eq, rate0_block, rate1_block, q_block, k_block, v_block]
end

/-- A row's chunk and place, a column's head and place. -/
def chunk (x : Fin 4096) : Fin 32 := ⟨x.val / 128, by omega⟩
def place (x : Fin 4096) : Fin 128 := ⟨x.val % 128, by omega⟩
theorem chunk_row (n : Fin 32) (i : Fin 128) : chunk (rowOf n i) = n := Fin.ext (by show (n.val * 128 + i.val) / 128 = n.val; omega)
theorem place_row (n : Fin 32) (i : Fin 128) : place (rowOf n i) = i := Fin.ext (by show (n.val * 128 + i.val) % 128 = i.val; omega)

/-- What a head leaves in its two blocks. -/
def leftY : Blocks (F := Ideal) := fun c t y =>
  gated (out (inX m c) (inL0 m c) (inL1 m c) (head t) (chunk (y 0)) (place (y 0))) (inW m c (ix2 0 (colOut (head t) (y 1)))) (inX m c (ix2 (y 0) (colGate (head t) (y 1)))) (y 1)
def leftO : Blocks (F := Ideal) := fun c t y => out (inX m c) (inL0 m c) (inL1 m c) (head t) (chunk (y 0)) (place (y 0)) (y 1)

theorem leaves : Leaves m (leftY m) (leftO m) := fun c t f f8 f9 => by
  have h := run_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) (iblk m c 6 t) f f8 f9
  have at_row : ∀ y : S4096x128.Idx, ∃ n r e, y = ix2 (rowOf n r) e := fun y => by
    obtain ⟨n, r, hx⟩ := row_surj (y 0)
    exact ⟨n, r, y 1, by rw [← hx]; exact eq_ix2 (n0 := 4096) (n1 := 128) y⟩
  rw [out_block] at h
  constructor
  · funext y
    obtain ⟨n, r, e, rfl⟩ := at_row y
    refine (h n r e).1.trans ?_
    show _ = gated (out _ _ _ (head t) (chunk (rowOf n r)) (place (rowOf n r))) (inW m c (ix2 0 (colOut (head t) e))) (inX m c (ix2 (rowOf n r) (colGate (head t) e))) e
    rw [chunk_row, place_row, g_block, w_block]
  · funext y
    obtain ⟨n, r, e, rfl⟩ := at_row y
    refine (h n r e).2.trans ?_
    show _ = out _ _ _ (head t) (chunk (rowOf n r)) (place (rowOf n r)) e
    rw [chunk_row, place_row]

variable (c : Dev nD)

/-- The two results, entry by entry. -/
def hd (y : Fin 1024) : Fin 8 := ⟨y.val / 128, by omega⟩
def pl (y : Fin 1024) : Fin 128 := ⟨y.val % 128, by omega⟩
theorem hd_col (h : Fin 8) (d : Fin 128) : hd (colOut h d) = h := Fin.ext (by show (128 * h.val + d.val) / 128 = h.val; omega)
theorem pl_col (h : Fin 8) (d : Fin 128) : pl (colOut h d) = d := Fin.ext (by show (128 * h.val + d.val) % 128 = d.val; omega)

/-- The results that agree with the heads' blocks. -/
def whole (o : Blocks (F := Ideal)) : FVec Ideal ⟨2, ![4096, 1024]⟩ .f32 := fun i => o c ⟨(hd (i 1)).val, (hd (i 1)).isLt⟩ (ix2 (i 0) (pl (i 1)))

theorem whole_at (o : Blocks (F := Ideal)) (t : Fin cfg0.N) (x : Fin 4096) (e : Fin 128) : whole c o (ix2 x (colOut (head t) e)) = o c t (ix2 x e) := by
  show o c ⟨(hd (colOut (head t) e)).val, _⟩ (ix2 x (pl (colOut (head t) e))) = _
  rw [pl_col]
  exact congrArg (fun t => o c t (ix2 x e)) (Fin.ext (congrArg Fin.val (hd_col (head t) e)))

variable (o7 o8 : Blocks (F := Ideal))

theorem final7 : (dats m o7 o8 0 c).arrAt 7 cfg0.N = whole c o7 := by
  refine (dats m o7 o8 0 c).arrAt_eq_of_covers 7 _ (by decide +kernel) fun t hf y => ?_
  blk_simp
  rw [(after_eq m o7 o8 c t).2.2.2.2.2.2.2.1]
  have e : ix2 (n0 := 4096) (n1 := 1024) (y 0) (colOut (head t) (y 1)) = (win0_7.blk t).view.emb y := by
    unfold colOut head
    blk_ext [idx7 t]
  rw [← e]
  exact (congrArg _ (eq_ix2 (n0 := 4096) (n1 := 128) y)).trans (whole_at c o7 t (y 0) (y 1)).symm
theorem final8 : (dats m o7 o8 0 c).arrAt 8 cfg0.N = whole c o8 := by
  refine (dats m o7 o8 0 c).arrAt_eq_of_covers 8 _ (by decide +kernel) fun t hf y => ?_
  blk_simp
  rw [(after_eq m o7 o8 c t).2.2.2.2.2.2.2.2]
  have e : ix2 (n0 := 4096) (n1 := 1024) (y 0) (colOut (head t) (y 1)) = (win0_8.blk t).view.emb y := by
    unfold colOut head
    blk_ext [idx8 t]
  rw [← e]
  exact (congrArg _ (eq_ix2 (n0 := 4096) (n1 := 128) y)).trans (whole_at c o8 t (y 0) (y 1)).symm

theorem kernel_spec : Spec (inX m c) (inL0 m c) (inL1 m c) (inW m c) (whole c (leftY m)) (whole c (leftO m)) where
  left h n i e := by
    refine (whole_at c (leftY m) (h : Fin 8) (rowOf n i) e).trans ?_
    show gated (out _ _ _ h (chunk (rowOf n i)) (place (rowOf n i))) _ _ _ = _
    rw [chunk_row, place_row]; rfl
  right h n i e := by
    refine (whole_at c (leftO m) (h : Fin 8) (rowOf n i) e).trans ?_
    show out _ _ _ h (chunk (rowOf n i)) (place (rowOf n i)) e = _
    rw [chunk_row, place_row]

end Cert.Proof.RetFwd

end
-- ==== Proof.RetFwdRefIn.lean ====
/- Hand-written, untrusted: THE RETENTION, WHAT ITS REFERENCE STARTS FROM: heads, masks and decays. -/
module

public import proofs.«01_k».proof.Proof.Gen.Reference7Ideal.Read
public import proofs.«01_k».proof.Proof.RetFwdMath
public import Idealize.ShloMosaic.Lib.Pointwise

@[expose] public section

set_option maxRecDepth 16384

noncomputable section

namespace Cert.Proof.RetFwd

open Cert.Proof.RetBwd Cert.Reference7Ideal Cert.Reference7Ideal.Read Idealize.ShloMosaic Idealize.ShloMosaic.TcCoe Idealize.SL.Sem Idealize.ShloMosaic.StableHlo

variable (X : FVec Ideal ⟨2, ![4096, 7168]⟩ .f32) (L0 L1 : FVec Ideal ⟨2, ![1, 8]⟩ .f32) (W : FVec Ideal ⟨2, ![1, 1024]⟩ .f32)

/-- Queries with their scale, keys and values, by head and chunk. -/
theorem v80_at (n : Fin 32) (h : Fin 8) (i d : Fin 128) : val_main_v80 (F := Ideal) X (ix5 n 0 h i d) = scaled sc (part X 0 h) n i d := by
  pointwise [val_main_v80, val_main_v79, val_main_v16, val_main_v6, val_main_v15, val_main_v5, val_main_cst, val_main_v4, val_main_v0, scaled, part,
    sc]
  rw [col0]; rfl
theorem v82_at (n : Fin 32) (h : Fin 8) (i d : Fin 128) : val_main_v82 (F := Ideal) X (ix5 n 0 h i d) = part X 1 h n i d := by
  pointwise [val_main_v82, val_main_v81, val_main_v9, val_main_v8, val_main_v7, val_main_v1, part]
  rw [col1]; rfl
theorem v84_at (n : Fin 32) (h : Fin 8) (i d : Fin 128) : val_main_v84 (F := Ideal) X (ix5 n 0 h i d) = part X 2 h n i d := by
  pointwise [val_main_v84, val_main_v83, val_main_v12, val_main_v11, val_main_v10, val_main_v2, part]
  rw [col2]; rfl
/-- The same in reversed order. -/
theorem v165_at (n : Fin 32) (h : Fin 8) (i d : Fin 128) : val_main_v165 (F := Ideal) X (ix5 n 0 h i d) = RetBwd.flip (scaled sc (part X 0 h)) n i d := by
  pointwise [val_main_v165, val_main_v164, val_main_v103, val_main_v16, val_main_v6, val_main_v15, val_main_v5, val_main_cst, val_main_v4,
    val_main_v0, RetBwd.flip, scaled, part, sc]
  simp only [List.mem_singleton, Fin.reduceEq, ↓reduceIte]
  rw [rev_at, col0]
theorem v167_at (n : Fin 32) (h : Fin 8) (i d : Fin 128) : val_main_v167 (F := Ideal) X (ix5 n 0 h i d) = RetBwd.flip (part X 1 h) n i d := by
  pointwise [val_main_v167, val_main_v166, val_main_v104, val_main_v9, val_main_v8, val_main_v7, val_main_v1, RetBwd.flip, part]
  simp only [List.mem_singleton, Fin.reduceEq, ↓reduceIte]
  rw [rev_at, col1]
theorem v169_at (n : Fin 32) (h : Fin 8) (i d : Fin 128) : val_main_v169 (F := Ideal) X (ix5 n 0 h i d) = RetBwd.flip (part X 2 h) n i d := by
  pointwise [val_main_v169, val_main_v168, val_main_v105, val_main_v12, val_main_v11, val_main_v10, val_main_v2, RetBwd.flip, part]
  simp only [List.mem_singleton, Fin.reduceEq, ↓reduceIte]
  rw [rev_at, col2]
/-- The masks and decays of a way. -/
theorem v37_at (h : Fin 8) (i j : Fin 128) : val_main_v37 (F := Ideal) L0 (ix3 h i j) = mask0 (rate (L0 (ix2 0 h))) i j := by
  pointwise [val_main_v37, val_main_call0_v1, val_main_v36, val_main_call0_v2, val_main_v28, val_main_v35, val_main_call0_v0, val_main_v26,
    val_main_v27, val_main_v33, val_main_v34, val_main_cst_2, val_main_v24, val_main_v25, val_main_cst_0, val_main_v29, val_main_v32, val_main_v22,
    val_main_v23, val_main_v18, val_main_v31, val_main_v21, val_main_v17, val_main_v30, val_main_v13, val_main_cst_1]
  rw [sub_rows, zero_at]; exact mask_ge _ i j
theorem v46_at (h : Fin 8) (i : Fin 128) : val_main_v46 (F := Ideal) L0 (ix3 h i 0) = up (rate (L0 (ix2 0 h))) i := by
  pointwise [val_main_v46, val_main_v45, val_main_v44, val_main_v42, val_main_v43, val_main_v38, val_main_v41, val_main_v18, val_main_v40,
    val_main_v17, val_main_v21, val_main_v39, val_main_v13, val_main_cst_3]
  exact up_word _ i
theorem v55_at (h : Fin 8) (i : Fin 128) : val_main_v55 (F := Ideal) L0 (ix3 h i 0) = down (rate (L0 (ix2 0 h))) i := by
  pointwise [val_main_v55, val_main_v54, val_main_v53, val_main_v51, val_main_v52, val_main_v47, val_main_v50, val_main_v18, val_main_v49,
    val_main_v17, val_main_v48, val_main_v21, val_main_v13, val_main_cst_4]
  rw [bits_127]; exact down_word _ i
theorem v78_at (h : Fin 8) (n m : Fin 32) : val_main_v78 (F := Ideal) L0 (ix3 h n m) = carry (rate (L0 (ix2 0 h))) n m := by
  pointwise [val_main_v78, val_main_call1_v1, val_main_v77, val_main_call1_v2, val_main_v66, val_main_v76, val_main_call1_v0, val_main_v64,
    val_main_v65, val_main_v74, val_main_v75, val_main_cst_8, val_main_v62, val_main_v63, val_main_c_5, val_main_v69, val_main_v73, val_main_v60,
    val_main_v61, val_main_c, val_main_v67, val_main_v68, val_main_v72, val_main_v57, val_main_v59, val_main_v18, val_main_cst_6, val_main_v71,
    val_main_v56, val_main_v58, val_main_v17, val_main_v70, val_main_v13, val_main_c_7]
  rw [zero_at]; exact carry_word _ n m
/-- The masks and decays of a way. -/
theorem v122_at (h : Fin 8) (i j : Fin 128) : val_main_v122 (F := Ideal) L1 (ix3 h i j) = maskS (rate (L1 (ix2 0 h))) i j := by
  pointwise [val_main_v122, val_main_call5_v1, val_main_v121, val_main_call5_v2, val_main_v113, val_main_v120, val_main_call5_v0, val_main_v111,
    val_main_v112, val_main_v118, val_main_v119, val_main_cst_11, val_main_v109, val_main_v110, val_main_cst_9, val_main_v114, val_main_v117,
    val_main_v107, val_main_v108, val_main_v20, val_main_v116, val_main_v106, val_main_v19, val_main_v115, val_main_v14, val_main_cst_10]
  rw [sub_rows, zero_at]; exact mask_gt _ i j
theorem v131_at (h : Fin 8) (i : Fin 128) : val_main_v131 (F := Ideal) L1 (ix3 h i 0) = up (rate (L1 (ix2 0 h))) i := by
  pointwise [val_main_v131, val_main_v130, val_main_v129, val_main_v127, val_main_v128, val_main_v123, val_main_v126, val_main_v20, val_main_v125,
    val_main_v19, val_main_v106, val_main_v124, val_main_v14, val_main_cst_12]
  exact up_word _ i
theorem v140_at (h : Fin 8) (i : Fin 128) : val_main_v140 (F := Ideal) L1 (ix3 h i 0) = down (rate (L1 (ix2 0 h))) i := by
  pointwise [val_main_v140, val_main_v139, val_main_v138, val_main_v136, val_main_v137, val_main_v132, val_main_v135, val_main_v20, val_main_v134,
    val_main_v19, val_main_v133, val_main_v106, val_main_v14, val_main_cst_13]
  rw [bits_127]; exact down_word _ i
theorem v163_at (h : Fin 8) (n m : Fin 32) : val_main_v163 (F := Ideal) L1 (ix3 h n m) = carry (rate (L1 (ix2 0 h))) n m := by
  pointwise [val_main_v163, val_main_call6_v1, val_main_v162, val_main_call6_v2, val_main_v151, val_main_v161, val_main_call6_v0, val_main_v149,
    val_main_v150, val_main_v159, val_main_v160, val_main_cst_18, val_main_v147, val_main_v148, val_main_c_15, val_main_v154, val_main_v158,
    val_main_v145, val_main_v146, val_main_c_14, val_main_v152, val_main_v153, val_main_v157, val_main_v142, val_main_v144, val_main_v20,
    val_main_cst_16, val_main_v156, val_main_v141, val_main_v143, val_main_v19, val_main_v155, val_main_v14, val_main_c_17]
  rw [zero_at]; exact carry_word _ n m

end Cert.Proof.RetFwd

end
-- ==== Proof.RetFwdRef.lean ====
/- Hand-written, untrusted: THE RETENTION, THE REFERENCE. -/
module

public import proofs.«01_k».proof.Proof.Gen.Reference7Ideal.Read
public import proofs.«01_k».proof.Proof.RetFwdRefIn
public import Idealize.ShloMosaic.Lib.Pointwise

@[expose] public section

set_option maxRecDepth 16384

noncomputable section

namespace Cert.Proof.RetFwd

open Cert.Proof.RetBwd Cert.Reference7Ideal Cert.Reference7Ideal.Read Idealize.ShloMosaic Idealize.ShloMosaic.TcCoe Idealize.SL.Sem Idealize.ShloMosaic.StableHlo

variable (X : FVec Ideal ⟨2, ![4096, 7168]⟩ .f32) (L0 L1 : FVec Ideal ⟨2, ![1, 8]⟩ .f32) (W : FVec Ideal ⟨2, ![1, 1024]⟩ .f32)

/-- A way's output. -/
theorem v100_at (n : Fin 32) (h : Fin 8) (i e : Fin 128) : val_main_v100 (F := Ideal) X L0 (ix5 n 0 h i e)
    = derO (mask0 (rate (L0 (ix2 0 h)))) (up (rate (L0 (ix2 0 h)))) (down (rate (L0 (ix2 0 h)))) (carry (rate (L0 (ix2 0 h)))) ((scaled sc (part X 0 h))) (part X 1 h) (part X 2 h) n i e := by
  pointwise [val_main_v100, val_main_v95, val_main_v99, val_main_v88, val_main_v98, val_main_v94, val_main_v85, val_main_v87, val_main_v97,
    val_main_v93, val_main_v86, val_main_v96, val_main_v92, val_main_v91, val_main_v90, val_main_v89, derO]
  simp only [v80_at, v82_at, v84_at, v37_at, v46_at, v55_at, v78_at]
theorem v185_at (n : Fin 32) (h : Fin 8) (i e : Fin 128) : val_main_v185 (F := Ideal) X L1 (ix5 n 0 h i e)
    = derO (maskS (rate (L1 (ix2 0 h)))) (up (rate (L1 (ix2 0 h)))) (down (rate (L1 (ix2 0 h)))) (carry (rate (L1 (ix2 0 h)))) (RetBwd.flip (scaled sc (part X 0 h))) (RetBwd.flip (part X 1 h)) (RetBwd.flip (part X 2 h)) n i e := by
  pointwise [val_main_v185, val_main_v180, val_main_v184, val_main_v173, val_main_v183, val_main_v179, val_main_v170, val_main_v172, val_main_v182,
    val_main_v178, val_main_v171, val_main_v181, val_main_v177, val_main_v176, val_main_v175, val_main_v174, derO]
  simp only [v165_at, v167_at, v169_at, v122_at, v131_at, v140_at, v163_at]
/-- The two ways together. -/
theorem v189_at (h : Fin 8) (n : Fin 32) (i e : Fin 128) : val_main_v189 (F := Ideal) X L0 L1 (ix4 0 h (rowOf n i) e) = out X L0 L1 h n i e := by
  pointwise [val_main_v189, val_main_v102, val_main_v188, val_main_v101, val_main_v187, val_main_v186, rowOf]
  simp only [Finset.univ_unique, Finset.sum_singleton, List.mem_singleton, Fin.reduceEq, ↓reduceIte, rev_at, row_div, row_mod]
  rw [v100_at, v185_at, derO_eq, derO_flip]; rfl
/-- The second result. -/
theorem v209_at (h : Fin 8) (n : Fin 32) (i e : Fin 128) : val_main_v209 (F := Ideal) X L0 L1 (ix2 (rowOf n i) (colOut h e)) = out X L0 L1 h n i e := by
  pointwise [val_main_v209, val_main_v208, colOut]
  rw [← v189_at]
/-- The first result. -/
theorem v207_at (h : Fin 8) (n : Fin 32) (i e : Fin 128) : val_main_v207 (F := Ideal) X L0 L1 W (ix2 (rowOf n i) (colOut h e))
    = gated (out X L0 L1 h n i) (W (ix2 0 (colOut h e))) (X (ix2 (rowOf n i) (colGate h e))) e := by
  pointwise [val_main_v207, val_main_v205, val_main_v206, val_main_v201, val_main_v204, val_main_v3, val_main_call8_v5, val_main_v200, val_main_v203,
    val_main_call8_v4, val_main_call8_v3, val_main_v199, val_main_v202, val_main_call8_cst_0, val_main_call8_v2, val_main_call8_v1, val_main_v198,
    val_main_call8_cst, val_main_call8_v0, val_main_v197, val_main_v196, val_main_v194, val_main_v195, val_main_v192, val_main_v193, val_main_cst_21,
    val_main_v191, val_main_cst_20, val_main_v190, val_main_cst_19, colOut, colGate, gated, Reals.gate]
  simp only [← v189_at]
theorem ref_spec : Spec X L0 L1 W (val_main_v207 (F := Ideal) X L0 L1 W) (val_main_v209 (F := Ideal) X L0 L1) :=
  ⟨v207_at X L0 L1 W, v209_at X L0 L1⟩

end Cert.Proof.RetFwd

end
-- ==== Proof.RetFwdClaim.lean ====
/- Hand-written, untrusted: THE RETENTION, THE CLAIMS. -/
module

public import proofs.«01_k».proof.Defs
public import proofs.«01_k».proof.Proof.Gen.Kernel7.Skeleton
public import proofs.«01_k».proof.Proof.Gen.Reference7Ideal.Run
public import proofs.«01_k».proof.Proof.RetFwdReach
public import proofs.«01_k».proof.Proof.RetFwdRef
public import Idealize.ShloMosaic.Adequacy
public import Idealize.ShloMosaic.Init

@[expose] public section

set_option maxRecDepth 16384

noncomputable section

namespace Cert.Proof.RetFwd

open Idealize.ShloMosaic Idealize.ShloMosaic.TcCoe Idealize.SL.Sem

/-- The kernel's two programs are one program: the frame is proved once. -/
theorem same_frame : ((m : (ℓ : Loc Cert.Kernel7Ideal.nD Cert.Kernel7Ideal.τ Cert.Kernel7Ideal.sig) → Buf (Elt Bits) ℓ) → (ρ : Dev Cert.Kernel7Ideal.nD → PrngReg) → True →
    θ_run Cert.Kernel7Ideal.defs (onTc (τ := Cert.Kernel7Ideal.τ) (Cert.Kernel7Ideal.main (F := Bits))) ⟨m, fun _ => 0, ρ⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)) = Cert.quiescent_Kernel7 := by
  sl_kernel_rfl
theorem frame_kernel : Cert.quiescent_Kernel7 := same_frame.mp fun m ρ _ => frame (F := Bits) m ρ
theorem frame_kernelIdeal : Cert.quiescent_Kernel7Ideal := fun m ρ _ => frame m ρ
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Equal arguments, equal values. -/
theorem same_value {X X' : FVec Ideal ⟨2, ![4096, 7168]⟩ .f32} {L0 L0' L1 L1' : FVec Ideal ⟨2, ![1, 8]⟩ .f32} {W W' : FVec Ideal ⟨2, ![1, 1024]⟩ .f32}
    (e0 : X = X') (e1 : L0 = L0') (e2 : L1 = L1') (e3 : W = W') :
    Cert.Reference7Ideal.Read.val_main_v207 (F := Ideal) X L0 L1 W = Cert.Reference7Ideal.Read.val_main_v207 (F := Ideal) X' L0' L1' W'
      ∧ Cert.Reference7Ideal.Read.val_main_v209 (F := Ideal) X L0 L1 = Cert.Reference7Ideal.Read.val_main_v209 (F := Ideal) X' L0' L1' := by
  subst e0 e1 e2 e3; exact ⟨rfl, rfl⟩

/-- Kernel and reference leave the same two results. -/
theorem algebraic : Cert.algebraic_Kernel7Ideal_Reference7Ideal := by
  intro m ρ m' ρ' _ hagree
  refine ⟨fun c => Cert.Reference7Ideal.Read.val_main_v207 (F := Ideal) (inX m c) (inL0 m c) (inL1 m c) (inW m c),
    fun c => Cert.Reference7Ideal.Read.val_main_v209 (F := Ideal) (inX m c) (inL0 m c) (inL1 m c), ?_, ?_⟩
  · exact (θ_run Cert.Kernel7Ideal.defs _ _).mono (fun r h c => by
      obtain ⟨e7, e8⟩ := Spec.unique _ _ _ _ (kernel_spec m c) (ref_spec _ _ _ _)
      exact ⟨(h c).1.trans ((final7 m c _ _).trans e7), (h c).2.1.trans ((final8 m c _ _).trans e8), (h c).2.2⟩) (result m ρ _ _ (leaves m))
  · refine (θ_run Cert.Reference7Ideal.defs _ _).mono (fun r h c => ⟨?_, ?_, (h c).2.2⟩) (Cert.Reference7Ideal.Value.run (F := Ideal) m' ρ')
    · obtain ⟨e0, e1, e2, e3⟩ := hagree c
      rw [(h c).1, Cert.Reference7Ideal.Read.val_main_v207_eq]
      exact (same_value e0 e1 e2 e3).1
    · obtain ⟨e0, e1, e2, e3⟩ := hagree c
      rw [(h c).2.1, Cert.Reference7Ideal.Read.val_main_v209_eq]
      exact (same_value e0 e1 e2 e3).2

end Cert.Proof.RetFwd

end
-- ==== Proof.SmallStep.lean ====
/- Hand-written, untrusted: THE OPTIMISER OF THE SMALL WEIGHTS, packed into 64 rows. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Adequacy
public import Idealize.ShloMosaic.Init

@[expose] public section

set_option maxRecDepth 16384

noncomputable section

namespace Cert.Proof.SmallStep

open Cert.Kernel14Ideal Cert.Kernel14Ideal.Gen Cert.Kernel14Ideal.Value Cert.Reference14Ideal.Read
open Idealize.ShloMosaic Idealize.ShloMosaic.TcCoe Idealize.SL.Sem Idealize.ShloMosaic.StableHlo

variable (m : (ℓ : Loc nD τ sig) → Buf (Elt Ideal) ℓ)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The packed parts, weights and moments as the host leaves them. -/
def parts (c : Dev nD) : FVec Ideal S8x64x128 .f32 := V m c (Pipeline.arrRef spec0 0)
def weights (c : Dev nD) : FVec Ideal S64x128 .f32 := V m c (Pipeline.arrRef spec0 1)
def firsts (c : Dev nD) : FVec Ideal S64x128 .f32 := V m c (Pipeline.arrRef spec0 2)
def seconds (c : Dev nD) : FVec Ideal S64x128 .f32 := V m c (Pipeline.arrRef spec0 3)

section spec
variable (g w m1 m2 : FVec Ideal S64x128 .f32)
/-- The sum of the devices' parts. -/
def gradVal (p : FVec Ideal S8x64x128 .f32) : FVec Ideal S64x128 .f32 := fun i => ∑ d : Fin 8, p (ix3 d (i 0) (i 1))
/-- The new first moment. -/
def firstVal : FVec Ideal S64x128 .f32 := fun i => Ideal.ofBits .f32 0x3F666666#32 * m1 i + Ideal.ofBits .f32 0x3DCCCCCD#32 * g i
/-- The new second moment. -/
def secondVal : FVec Ideal S64x128 .f32 := fun i => Ideal.ofBits .f32 0x3F7FBE77#32 * m2 i + Ideal.ofBits .f32 0x3A83126F#32 * (g i * g i)
/-- The update. -/
def stepVal : FVec Ideal S64x128 .f32 := fun i =>
  Ideal.ofBits .f32 0xBA83126F#32 * (Ideal.div (Ideal.div (firstVal g m1 i) (Ideal.ofBits .f32 0x3F26BD02#32))
    (Ideal.sqrt (Ideal.div (secondVal g m2 i) (Ideal.ofBits .f32 0x3C231ACC#32)) + Ideal.ofBits .f32 0x322BCC77#32)
    + Ideal.ofBits .f32 0x3C23D70A#32 * w i)
end spec

theorem final4 (c : Dev nD) : (dats m 0 c).arrAt 4 cfg0.N = gradVal (parts m c) := by
  refine (dats m 0 c).arrAt_eq_of_covers 4 _ (by decide +kernel) fun t hf y => ?_
  blk_simp
  rw [after0_4]; frame_out
  pointwise [k0_pay4, gradVal, Fin.sum_univ_eight]
  blk_point [iblk, parts, idx0 t, idx4 t]

theorem final5 (c : Dev nD) : (dats m 0 c).arrAt 5 cfg0.N = stepVal (gradVal (parts m c)) (weights m c) (firsts m c) (seconds m c) := by
  refine (dats m 0 c).arrAt_eq_of_covers 5 _ (by decide +kernel) fun t hf y => ?_
  blk_simp
  rw [after0_5]; frame_out
  pointwise [k0_pay3, k0_pay2, k0_pay1, k0_pay5, k0_pay6, k0_pay7, k0_pay8, k0_pay4, stepVal, firstVal, secondVal, gradVal, Fin.sum_univ_eight]
  blk_point [iblk, parts, weights, firsts, seconds, idx0 t, idx1 t, idx2 t, idx3 t, idx5 t]

theorem final6 (c : Dev nD) : (dats m 0 c).arrAt 6 cfg0.N = firstVal (gradVal (parts m c)) (firsts m c) := by
  refine (dats m 0 c).arrAt_eq_of_covers 6 _ (by decide +kernel) fun t hf y => ?_
  blk_simp
  rw [after0_6]; frame_out
  pointwise [k0_pay1, k0_pay6, k0_pay7, k0_pay8, k0_pay4, firstVal, gradVal, Fin.sum_univ_eight]
  blk_point [iblk, parts, firsts, idx0 t, idx2 t, idx6 t]

theorem final7 (c : Dev nD) : (dats m 0 c).arrAt 7 cfg0.N = secondVal (gradVal (parts m c)) (seconds m c) := by
  refine (dats m 0 c).arrAt_eq_of_covers 7 _ (by decide +kernel) fun t hf y => ?_
  blk_simp
  rw [after0_7]; frame_out
  pointwise [k0_pay2, k0_pay7, k0_pay4, secondVal, gradVal, Fin.sum_univ_eight]
  blk_point [iblk, parts, seconds, idx0 t, idx3 t, idx7 t]

variable (g0 g1 : FVec Ideal S8x1x2048 .f32) (g2 : FVec Ideal S8x2048 .f32) (g3 : FVec Ideal S8x1x1024 .f32) (g4 g5 : FVec Ideal S8x1x8 .f32) (g6 : FVec Ideal S8 .f32)

/-- The devices' parts, packed as the host packs them. -/
def packed : FVec Ideal S8x64x128 .f32 :=
  shapeCast _ (pad S8x8192 ![0, 0] ![0, 1007] ![0, 0] (concatenate S8x7185 1 [⟨S8x2048, shapeCast S8x2048 g0 shapeCasts_S8x1x2048_S8x2048⟩,
    ⟨S8x2048, shapeCast S8x2048 g1 shapeCasts_S8x1x2048_S8x2048⟩, ⟨S8x2048, g2⟩, ⟨S8x1024, shapeCast S8x1024 g3 shapeCasts_S8x1x1024_S8x1024⟩,
    ⟨S8x8, shapeCast S8x8 g4 shapeCasts_S8x1x8_S8x8⟩, ⟨S8x8, shapeCast S8x8 g5 shapeCasts_S8x1x8_S8x8⟩, ⟨S8x1, shapeCast S8x1 g6 shapeCasts_S8_S8x1⟩]
    concatenates_S8x2048_S8x2048_S8x2048_S8x1024_S8x8_S8x8_S8x1_S8x7185_d1 : FVec Ideal S8x7185 .f32) (sitofp .f32 (constantI S_ 32 0#32) : FVec Ideal S_ .f32)
    pads_S8x7185_S8x8192_000_010070 h_S_) shapeCasts_S8x8192_S8x64x128

theorem parts_eq (c : Dev nD) : parts m c = packed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := rfl
theorem weights_eq (c : Dev nD) : weights m c = val_main_v8 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl
theorem firsts_eq (c : Dev nD) : firsts m c = val_main_v16 (F := Ideal) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := rfl
theorem seconds_eq (c : Dev nD) : seconds m c = val_main_v24 (F := Ideal) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := rfl

/-- The filler read as a number. -/
theorem filler : FloatOps.sitofp (F := Ideal) .f32 (0#32) = (0 : EReal) := by
  show (((0#32).toInt : ℝ) : EReal) = 0
  simp

/-- Packing commutes with the sum over the devices. -/
theorem ref_v40 : val_main_v40 (F := Ideal) g0 g1 g2 g3 g4 g5 g6 = gradVal (packed g0 g1 g2 g3 g4 g5 g6) := by
  funext i
  pointwise [val_main_v40, val_main_v39, val_main_v38, val_main_v37, val_main_v36, val_main_v35, val_main_v34, val_main_v33, val_main_v32, val_main_v31, val_main_v30,
    val_main_v29, val_main_v28, val_main_v27, val_main_v26, val_main_v25, val_main_call3_v0, val_main_c_9, val_main_cst_2, val_main_cst_3, val_main_cst_4,
    val_main_cst_5, val_main_cst_6, val_main_cst_7, val_main_cst_8, gradVal, packed]
  split_ifs <;> simp [filler]

variable (w0 w1 : FVec Ideal S1x2048 .f32) (w2 : FVec Ideal S2048 .f32) (w3 : FVec Ideal S1x1024 .f32) (w4 w5 : FVec Ideal S1x8 .f32)
  (a0 a1 : FVec Ideal S1x2048 .f32) (a2 : FVec Ideal S2048 .f32) (a3 : FVec Ideal S1x1024 .f32) (a4 a5 : FVec Ideal S1x8 .f32)
  (b0 b1 : FVec Ideal S1x2048 .f32) (b2 : FVec Ideal S2048 .f32) (b3 : FVec Ideal S1x1024 .f32) (b4 b5 : FVec Ideal S1x8 .f32)

theorem ref_v45 : val_main_v45 (F := Ideal) g0 g1 g2 g3 g4 g5 g6 a0 a1 a2 a3 a4 a5 = firstVal (gradVal (packed g0 g1 g2 g3 g4 g5 g6)) (val_main_v16 (F := Ideal) a0 a1 a2 a3 a4 a5) := by
  rw [← ref_v40]
  funext i
  pointwise [val_main_v45, val_main_v44, val_main_v43, val_main_cst_11, val_main_v42, val_main_v41, val_main_cst_10, firstVal]
theorem ref_v51 : val_main_v51 (F := Ideal) g0 g1 g2 g3 g4 g5 g6 b0 b1 b2 b3 b4 b5 = secondVal (gradVal (packed g0 g1 g2 g3 g4 g5 g6)) (val_main_v24 (F := Ideal) b0 b1 b2 b3 b4 b5) := by
  rw [← ref_v40]
  funext i
  pointwise [val_main_v51, val_main_v50, val_main_v49, val_main_cst_13, val_main_v48, val_main_v47, val_main_v46, val_main_cst_12, secondVal]
theorem ref_v64 : val_main_v64 (F := Ideal) g0 g1 g2 g3 g4 g5 g6 w0 w1 w2 w3 w4 w5 a0 a1 a2 a3 a4 a5 b0 b1 b2 b3 b4 b5 = stepVal (gradVal (packed g0 g1 g2 g3 g4 g5 g6)) (val_main_v8 (F := Ideal) w0 w1 w2 w3 w4 w5) (val_main_v16 (F := Ideal) a0 a1 a2 a3 a4 a5) (val_main_v24 (F := Ideal) b0 b1 b2 b3 b4 b5) := by
  funext i
  unfold stepVal
  rw [← ref_v45, ← ref_v51]
  pointwise [val_main_v64, val_main_v63, val_main_cst_18, val_main_v62, val_main_v61, val_main_v60, val_main_cst_17, val_main_v59, val_main_v58, val_main_v57,
    val_main_cst_16, val_main_v56, val_main_v55, val_main_v54, val_main_cst_15, val_main_v53, val_main_v52, val_main_cst_14]

theorem frame_kernel : Cert.quiescent_Kernel14 := fun m ρ _ => Cert.Kernel14.Gen.frame m ρ
theorem frame_kernelIdeal : Cert.quiescent_Kernel14Ideal := fun m ρ _ => Cert.Kernel14Ideal.Gen.frame m ρ
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

set_option maxHeartbeats 4000000 in
theorem algebraic : Cert.algebraic_Kernel14Ideal_Reference14Ideal := by
  intro m ρ m' ρ' _ hagree
  refine ⟨_, _, _, _, (θ_run Cert.Kernel14Ideal.defs _ _).mono (fun r h c => ⟨(h c).1.trans (final4 m c), (h c).2.1.trans (final5 m c), (h c).2.2.1.trans (final6 m c), (h c).2.2.2.1.trans (final7 m c), (h c).2.2.2.2⟩)
    (Cert.Kernel14Ideal.Value.run_blocks m ρ), ?_⟩
  refine (θ_run Cert.Reference14Ideal.defs _ _).mono (fun r h c => ⟨?_, ?_, ?_, ?_, (h c).2.2.2.2⟩) (Cert.Reference14Ideal.Value.run (F := Ideal) m' ρ')
  all_goals
    obtain ⟨e0, e1, e2, e3, e4, e5, e6, e7, e8, e9, e10, e11, e12, e13, e14, e15, e16, e17, e18, e19, e20, e21, e22, e23, e24⟩ := hagree c
    rw [parts_eq]
  · rw [(h c).1, Cert.Reference14Ideal.Read.val_main_v40_eq, e0, e1, e2, e3, e4, e5, e6]
    exact ref_v40 _ _ _ _ _ _ _
  · rw [(h c).2.1, Cert.Reference14Ideal.Read.val_main_v64_eq, e0, e1, e2, e3, e4, e5, e6, e7, e8, e9, e10, e11, e12, e13, e14, e15, e16, e17, e18, e19, e20, e21, e22, e23, e24, weights_eq, firsts_eq, seconds_eq]
    exact ref_v64 _ _ _ _ _ _ _ _ _ _ _ _ _ _ _ _ _ _ _ _ _ _ _ _ _
  · rw [(h c).2.2.1, Cert.Reference14Ideal.Read.val_main_v45_eq, e0, e1, e2, e3, e4, e5, e6, e13, e14, e15, e16, e17, e18, firsts_eq]
    exact ref_v45 _ _ _ _ _ _ _ _ _ _ _ _ _
  · rw [(h c).2.2.2.1, Cert.Reference14Ideal.Read.val_main_v51_eq, e0, e1, e2, e3, e4, e5, e6, e19, e20, e21, e22, e23, e24, seconds_eq]
    exact ref_v51 _ _ _ _ _ _ _ _ _ _ _ _ _

end Cert.Proof.SmallStep

end
-- ==== Proof.FfnGate.lean ====
/- Hand-written, untrusted: THE GATE HALF OF THE FEED-FORWARD INPUT'S GRADIENT: a plain product, in eight blocks of hidden columns. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.RmsGrad
public import Idealize.ShloMosaic.Lib.Pipeline.ValueKit
public import Idealize.ShloMosaic.Adequacy
public import Idealize.ShloMosaic.Init

@[expose] public section

set_option maxRecDepth 16384

noncomputable section

namespace Cert.Proof.FfnGate

open Cert.Kernel15Ideal Cert.Kernel15Ideal.Gen Cert.Kernel15Ideal.Value Cert.Reference15Ideal.Read
open Idealize.ShloMosaic Idealize.ShloMosaic.TcCoe Idealize.SL.Sem Idealize.ShloMosaic.StableHlo

/-- A row of the gate's gradient times a row of its weights, over the 5632 hidden columns. -/
def gateVal (d : FVec Ideal S4096x5632 .bf16) (w : FVec Ideal S2048x5632 .bf16) : FVec Ideal S4096x2048 .f32 := fun i =>
  ∑ l : Fin 5632, d (ix2 (i 0) l) * w (ix2 (i 1) l)

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem final2 (c : Dev nD) : (dats m 0 c).arrAt 2 cfg0.N = gateVal (m ((c : Thread nD τ).loc main_arg0)) (m ((c : Thread nD τ).loc main_arg1)) := by
  refine (dats m 0 c).arrAt_eq_of_covers 2 _ (by decide +kernel) fun t hf y => ?_
  blk_simp
  rw [after0_2]; frame_out
  unfold gateVal
  rw [RmsGrad.sum_blocks]
  pointwise [k0_pay1, k0_pay2]
  blk_point [iblk, V, idx0 t, idx1 t, idx2 t]

theorem ref_v4 (d : FVec Ideal S4096x5632 .bf16) (w : FVec Ideal S2048x5632 .bf16) : val_main_v4 (F := Ideal) d w = gateVal d w := by
  funext i
  pointwise [val_main_v4, val_main_v3, val_main_v1, gateVal]

theorem frame_kernel : Cert.quiescent_Kernel15 := fun m ρ _ => Cert.Kernel15.Gen.frame m ρ
theorem frame_kernelIdeal : Cert.quiescent_Kernel15Ideal := fun m ρ _ => Cert.Kernel15Ideal.Gen.frame m ρ
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, (θ_run Cert.Kernel15Ideal.defs _ _).mono (fun r h c => ⟨(h c).1.trans (final2 m c), (h c).2⟩)
    (Cert.Kernel15Ideal.Value.run_blocks m ρ), ?_⟩
  refine (θ_run Cert.Reference15Ideal.defs _ _).mono (fun r h c => ⟨?_, (h c).2⟩) (Cert.Reference15Ideal.Value.run (F := Ideal) m' ρ')
  all_goals obtain ⟨e0, e1⟩ := hagree c
  · rw [(h c).1, Cert.Reference15Ideal.Read.val_main_v4_eq, e0, e1]
    exact ref_v4 _ _

end Cert.Proof.FfnGate

end
-- ==== Proof.ProjPart.lean ====
/- Hand-written, untrusted: FOUR COLUMN BLOCKS OF THE PROJECTION, WRITTEN INTO THE BLOCKS THE TABLES NAME: the tables' words are
   constants of the program, so the blocks they name are decided; the columns of the other blocks keep what they held. -/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ValueKit.Partial
public import Idealize.ShloMosaic.Adequacy
public import Idealize.ShloMosaic.Init

@[expose] public section

set_option maxRecDepth 16384

noncomputable section

namespace Cert.Proof.ProjPart

open Idealize.ShloMosaic Idealize.ShloMosaic.TcCoe Idealize.SL.Sem Idealize.ShloMosaic.StableHlo

section Real
open Cert.Kernel16 Cert.Kernel16.Gen

set_option backward.proofsInPublic true in
/-- The two tables: the slots and the blocks. -/
def words : pre0.Contents (Elt Bits) :=
  fun | ⟨0, _⟩ => fun x => lit0 (S4.rowMajor x) | ⟨1, _⟩ => fun x => lit1 (S4.rowMajor x) | ⟨_ + 2, h⟩ => absurd h (by simp)

theorem tbl_words (m : (ℓ : Loc nD τ sig) → Buf (Elt Bits) ℓ) : tbl m = words := by
  funext j x
  match j with
  | ⟨0, _⟩ => rfl
  | ⟨1, _⟩ => rfl

theorem ok_real (m : (ℓ : Loc nD τ sig) → Buf (Elt Bits) ℓ) : Gen.Ok (F := Bits) m := by
  unfold Gen.Ok; rw [tbl_words m]; decide +kernel

theorem frame_kernel : Cert.quiescent_Kernel16 := fun m ρ _ => Cert.Kernel16.Gen.frame m ρ (ok_real m)

end Real

open Cert.Kernel16Ideal Cert.Kernel16Ideal.Gen Cert.Reference16Ideal.Read

set_option backward.proofsInPublic true in
/-- The same two tables in the exact program. -/
def wordsI : pre0.Contents (Elt Ideal) :=
  fun | ⟨0, _⟩ => fun x => lit0 (S4.rowMajor x) | ⟨1, _⟩ => fun x => lit1 (S4.rowMajor x) | ⟨_ + 2, h⟩ => absurd h (by simp)

theorem ok_words : ok0 (F := Ideal) wordsI := by decide +kernel

variable (m : (ℓ : Loc nD τ sig) → Buf (Elt Ideal) ℓ)

theorem tbl_wordsI : tbl m = wordsI := by
  funext j x
  match j with
  | ⟨0, _⟩ => rfl
  | ⟨1, _⟩ => rfl

theorem ok : Gen.Ok (F := Ideal) m := by unfold Gen.Ok; rw [tbl_wordsI m]; exact ok_words

/-- The pipeline at those words. -/
abbrev adm0 : (pcfg0 (F := Ideal)).Adm := ⟨wordsI, ok_words⟩

theorem adm_eq : adm m (ok m) = adm0 := Subtype.ext (tbl_wordsI m)

/-- The column blocks that are written: the third to the sixth of the eight. -/
abbrev written (β : Fin 2 → Nat) : Prop := 2 ≤ β 1 ∧ β 1 < 6

theorem idx0' : ∀ t : Fin grid0.N, (win0 adm0 0).index t = ![t.val / 4, 0] := by decide +kernel
theorem idx1' : ∀ t : Fin grid0.N, (win0 adm0 1).index t = ![t.val % 4, 0, 0] := by decide +kernel
theorem idx2' : ∀ t : Fin grid0.N, (win0 adm0 2).index t = ![t.val / 4, (t.val % 4 + 2) % 4 + 2] := by decide +kernel
theorem covers' : (win0 adm0 2).CoversWhere written := by decide +kernel

theorem idx0 (t : Fin grid0.N) : (win0 (adm m (ok m)) 0).index t = ![t.val / 4, 0] := by
  have h : ∀ a, a = adm0 → (win0 a 0).index t = ![t.val / 4, 0] := by rintro a rfl; exact idx0' t
  exact h _ (adm_eq m)
theorem idx1 (t : Fin grid0.N) : (win0 (adm m (ok m)) 1).index t = ![t.val % 4, 0, 0] := by
  have h : ∀ a, a = adm0 → (win0 a 1).index t = ![t.val % 4, 0, 0] := by rintro a rfl; exact idx1' t
  exact h _ (adm_eq m)
theorem idx2 (t : Fin grid0.N) : (win0 (adm m (ok m)) 2).index t = ![t.val / 4, (t.val % 4 + 2) % 4 + 2] := by
  have h : ∀ a, a = adm0 → (win0 a 2).index t = ![t.val / 4, (t.val % 4 + 2) % 4 + 2] := by rintro a rfl; exact idx2' t
  exact h _ (adm_eq m)
theorem covers : (win0 (adm m (ok m)) 2).CoversWhere written := by
  have h : ∀ a, a = adm0 → (win0 a 2).CoversWhere written := by rintro a rfl; exact covers'
  exact h _ (adm_eq m)

theorem V_main_v0 (c : Dev nD) : V m c main_v0 = m ((c : Thread nD τ).loc main_arg2) := rfl

/-- The columns of a written block: a row of the state times a column of the slot that holds the block. -/
def prodVal (x : FVec Ideal S4096x2048 .bf16) (w : FVec Ideal S4x2048x896 .bf16) : FVec Ideal S4096x7168 .f32 := fun i =>
  ∑ k : Fin 2048, x (ix2 (i 0) k)
    * w (ix3 (⟨(i 1 : ℕ) / 896 % 4, Nat.mod_lt _ (by decide)⟩ : Fin 4) k (⟨(i 1 : ℕ) % 896, Nat.mod_lt _ (by decide)⟩ : Fin 896))

/-- The projection with those columns written. -/
def projVal (x : FVec Ideal S4096x2048 .bf16) (w : FVec Ideal S4x2048x896 .bf16) (p : FVec Ideal S4096x7168 .f32) :
    FVec Ideal S4096x7168 .f32 := fun i =>
  if 2 ≤ (i 1 : ℕ) / 896 ∧ (i 1 : ℕ) / 896 < 6 then prodVal x w i else p i

theorem emb0 (t : Fin grid0.N) (y : S1024x2048.Idx) (a : Fin 2) :
    ((((cfgM m (ok m)).win 0).blk t).view.emb y a : ℕ) = ![t.val / 4, 0] a * S1024x2048.size a + (y a : ℕ) :=
  (Pipeline.Window.rect_emb_val ((cfgM m (ok m)).win 0) t y a rfl).trans (congrArg (fun n => n * _ + (y a : ℕ)) (congrFun (idx0 m t) a))
theorem emb1 (t : Fin grid0.N) (y : S1x2048x896.Idx) (a : Fin 3) :
    ((((cfgM m (ok m)).win 1).blk t).view.emb y a : ℕ) = ![t.val % 4, 0, 0] a * S1x2048x896.size a + (y a : ℕ) :=
  (Pipeline.Window.rect_emb_val ((cfgM m (ok m)).win 1) t y a rfl).trans (congrArg (fun n => n * _ + (y a : ℕ)) (congrFun (idx1 m t) a))
theorem emb2 (t : Fin grid0.N) (y : S1024x896.Idx) (a : Fin 2) :
    ((((cfgM m (ok m)).win 2).blk t).view.emb y a : ℕ) = ![t.val / 4, (t.val % 4 + 2) % 4 + 2] a * S1024x896.size a + (y a : ℕ) :=
  (Pipeline.Window.rect_emb_val ((cfgM m (ok m)).win 2) t y a rfl).trans (congrArg (fun n => n * _ + (y a : ℕ)) (congrFun (idx2 m t) a))

theorem blk0 (c : Dev nD) (t : Fin grid0.N) (r : Fin 1024) (k : Fin 2048) (q : Fin 4096) (hq : (q : ℕ) = t.val / 4 * 1024 + r) :
    (iblk m (ok m) c 0 t : S1024x2048.Idx → EReal) (ix2 r k) = (m ((c : Thread nD τ).loc main_arg0) : S4096x2048.Idx → EReal) (ix2 q k) := by
  refine congrArg (m ((c : Thread nD τ).loc main_arg0)) (funext fun a => Fin.ext ((emb0 m t (ix2 r k) a).trans ?_))
  match a with
  | ⟨0, _⟩ => exact hq.symm
  | ⟨1, _⟩ => exact (by omega : 0 * 2048 + (k : ℕ) = k)

theorem blk1 (c : Dev nD) (t : Fin grid0.N) (k : Fin 2048) (l : Fin 896) (s : Fin 4) (hs : (s : ℕ) = t.val % 4) :
    (iblk m (ok m) c 1 t : S1x2048x896.Idx → EReal) (ix3 0 k l)
      = (m ((c : Thread nD τ).loc main_arg1) : S4x2048x896.Idx → EReal) (ix3 s k l) := by
  refine congrArg (m ((c : Thread nD τ).loc main_arg1)) (funext fun a => Fin.ext ((emb1 m t (ix3 0 k l) a).trans ?_))
  match a with
  | ⟨0, _⟩ => exact (by omega : t.val % 4 * 1 + 0 = (s : ℕ))
  | ⟨1, _⟩ => exact (by omega : 0 * 2048 + (k : ℕ) = k)
  | ⟨2, _⟩ => exact (by omega : 0 * 896 + (l : ℕ) = l)

/-- A step's product is its element of the whole product. -/
theorem point (c : Dev nD) (t : Fin grid0.N) (y : S1024x896.Idx) (q : S4096x7168.Idx) (h0 : (q 0 : ℕ) = t.val / 4 * 1024 + (y 0 : ℕ))
    (h1 : (q 1 : ℕ) = ((t.val % 4 + 2) % 4 + 2) * 896 + (y 1 : ℕ)) :
    k0_pay1 (F := Ideal) (iblk m (ok m) c 0 t) (iblk m (ok m) c 1 t) y
      = prodVal (m ((c : Thread nD τ).loc main_arg0)) (m ((c : Thread nD τ).loc main_arg1)) q := by
  have hb := blk0 m c t
  have hw := blk1 m c t
  generalize iblk m (ok m) c 0 t = X at hb ⊢
  generalize iblk m (ok m) c 1 t = W at hw ⊢
  have hy : (y 1 : ℕ) < 896 := (y 1).isLt
  pointwise [k0_pay1, prodVal]
  refine Finset.sum_congr rfl fun k _ => congrArg₂ (· * ·) (hb (y 0) k (q 0) h0) ((hw k (y 1) ⟨(q 1 : ℕ) / 896 % 4, Nat.mod_lt _ (by decide)⟩ ?_).trans ?_)
  · show (q 1 : ℕ) / 896 % 4 = _
    omega
  · have e : (⟨(q 1 : ℕ) % 896, Nat.mod_lt _ (by decide)⟩ : Fin 896) = y 1 := Fin.ext (by show (q 1 : ℕ) % 896 = (y 1 : ℕ); omega)
    rw [e]

theorem final2 (c : Dev nD) : (dats m (ok m) 0 c).arrAt 2 (cfgM m (ok m)).N
    = projVal (m ((c : Thread nD τ).loc main_arg0)) (m ((c : Thread nD τ).loc main_arg1)) (m ((c : Thread nD τ).loc main_arg2)) := by
  refine (dats m (ok m) 0 c).arrAt_eq_of_coversWhere 2 (prodVal (m ((c : Thread nD τ).loc main_arg0)) (m ((c : Thread nD τ).loc main_arg1)))
    written (covers m) (fun t hf y => ?_) (fun j => Iff.rfl)
  have h := point m c t y _ (emb2 m t y 0) (emb2 m t y 1)
  refine Eq.trans ?_ h
  have r0 := (hs0_0 m (ok m) t).read_unread (iblk m (ok m) c 0 t)
  have r1 := (hs0_1 m (ok m) t).read_unread (iblk m (ok m) c 1 t)
  refine Eq.trans ?_ (congrArg₂ (fun a b => k0_pay1 (F := Ideal) a b y) r0 r1)
  blk_simp
  rw [after0_2]
  unfold outsAt0 out0_A_2
  frame_out
  rfl

/-- A column of a slot, found from the column's number in the projection. -/
theorem col (w : FVec Ideal S4x2048x896 .bf16) (k : Fin 2048) (n : ℕ) (s : Fin 4) (c : ℕ) (hc : c < 896) (hs : n / 896 % 4 = s.val)
    (hn : n % 896 = c) :
    w (ix3 s k (⟨c, hc⟩ : Fin 896))
      = w (ix3 (⟨n / 896 % 4, Nat.mod_lt _ (by decide)⟩ : Fin 4) k (⟨n % 896, Nat.mod_lt _ (by decide)⟩ : Fin 896)) := by
  subst hn
  rw [show s = ⟨n / 896 % 4, Nat.mod_lt _ (by decide)⟩ from Fin.ext hs.symm]

theorem ref_v14 (x : FVec Ideal S4096x2048 .bf16) (w : FVec Ideal S4x2048x896 .bf16) (p : FVec Ideal S4096x7168 .f32) :
    val_main_v14 (F := Ideal) x w p = projVal x w p := by
  funext i
  pointwise [val_main_v14, val_main_v13, val_main_v12, val_main_v11, val_main_v10, val_main_v9, val_main_v8, val_main_v7,
    val_main_v6, val_main_v5, val_main_v4, val_main_v3, val_main_v2, val_main_v1, val_main_v0, projVal, prodVal]
  have hi : (i 1 : ℕ) < 7168 := (i 1).isLt
  by_cases h1 : (i 1 : ℕ) < 1792
  · exact (dif_pos h1).trans (if_neg (by omega)).symm
  refine (dif_neg h1).trans ?_
  by_cases h2 : (i 1 : ℕ) - 1792 < 3584
  · refine ((dif_pos h2).trans ?_).trans (if_pos (by omega)).symm
    refine Finset.sum_congr rfl fun k _ => congrArg (x (ix2 (i 0) k) * ·) ?_
    by_cases ha : (i 1 : ℕ) - 1792 < 896
    · exact (dif_pos ha).trans (col w k (i 1) 2 _ _ (by show (i 1 : ℕ) / 896 % 4 = 2; omega) (by omega))
    refine (dif_neg ha).trans ?_
    by_cases hb : (i 1 : ℕ) - 1792 - 896 < 896
    · exact (dif_pos hb).trans (col w k (i 1) 3 _ _ (by show (i 1 : ℕ) / 896 % 4 = 3; omega) (by omega))
    refine (dif_neg hb).trans ?_
    by_cases hc : (i 1 : ℕ) - 1792 - 896 - 896 < 896
    · exact (dif_pos hc).trans (col w k (i 1) 0 _ _ (by show (i 1 : ℕ) / 896 % 4 = 0; omega) (by omega))
    · exact (dif_neg hc).trans (col w k (i 1) 1 _ _ (by show (i 1 : ℕ) / 896 % 4 = 1; omega) (by omega))
  · refine ((dif_neg h2).trans ?_).trans (if_neg (by omega)).symm
    refine congrArg p (funext fun a => ?_)
    match a with
    | ⟨0, _⟩ => rfl
    | ⟨1, _⟩ => exact Fin.ext (by show 5376 + ((i 1 : ℕ) - 1792 - 3584) = (i 1 : ℕ); omega)

theorem frame_kernelIdeal : Cert.quiescent_Kernel16Ideal := fun m ρ _ => Cert.Kernel16Ideal.Gen.frame m ρ (ok m)
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem kernel_run (ρ : Dev nD → PrngReg) : θ_run defs (onTc (τ := τ) (main (F := Ideal))) ⟨m, fun _ => 0, ρ⟩ (fun r => ∀ c : Dev nD,
    r.2.mem ((c.tc : Thread nD τ).loc main_v0)
      = projVal (m ((c : Thread nD τ).loc main_arg0)) (m ((c : Thread nD τ).loc main_arg1)) (m ((c : Thread nD τ).loc main_arg2))) :=
  (θ_run defs _ _).mono (fun _ h c => ((h c).1 2).trans (final2 m c)) (run_main m ρ (ok m))

theorem algebraic : Cert.algebraic_Kernel16Ideal_Reference16Ideal := by
  intro m ρ m' ρ' _ hagree
  refine ⟨_, (θ_run Cert.Kernel16Ideal.defs _ _).mono (fun r h c => ⟨h.1 c, h.2 c⟩)
    (θ_run_and (kernel_run m ρ) (unchanged m ρ (ok m))), ?_⟩
  refine (θ_run Cert.Reference16Ideal.defs _ _).mono (fun r h c => ⟨?_, (h c).2⟩) (Cert.Reference16Ideal.Value.run (F := Ideal) m' ρ')
  all_goals obtain ⟨e0, e1, e2⟩ := hagree c
  · rw [(h c).1, Cert.Reference16Ideal.Read.val_main_v14_eq, e0, e1, e2]
    exact ref_v14 _ _ _

end Cert.Proof.ProjPart

end
-- ==== Proof.lean ====
/- The claims about the gradient kernels of the training step, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel6
public import proofs.«01_k».proof.Proof.Gen.Kernel6Ideal
public import proofs.«01_k».proof.Proof.Gen.Reference6Ideal
public import proofs.«01_k».proof.Proof.Gen.Kernel5
public import proofs.«01_k».proof.Proof.Gen.Kernel5Ideal
public import proofs.«01_k».proof.Proof.Gen.Reference5Ideal
public import proofs.«01_k».proof.Proof.Gen.Kernel4
public import proofs.«01_k».proof.Proof.Gen.Kernel4Ideal
public import proofs.«01_k».proof.Proof.Gen.Reference4Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel7
public import proofs.«01_k».proof.Proof.Gen.Kernel7Ideal
public import proofs.«01_k».proof.Proof.Gen.Reference7Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Pre_finite_ffn
public import proofs.«01_k».proof.Proof.Gen.Pre_finite_gate
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel6.Skeleton
public import proofs.«01_k».proof.Proof.Gen.Kernel6Ideal.Loops
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel4.Skeleton
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel7.Skeleton
public import proofs.«01_k».proof.Proof.Gen.Kernel7Ideal.Loops
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.FfnActClaim
public import proofs.«01_k».proof.Proof.InBwdClaim
public import proofs.«01_k».proof.Proof.FfnInClaim
public import proofs.«01_k».proof.Proof.RetBwdClaim
public import proofs.«01_k».proof.Proof.DownLossClaim
public import proofs.«01_k».proof.Proof.RetGateClaim
public import proofs.«01_k».proof.Proof.OutFwd
public import proofs.«01_k».proof.Proof.FfnUp
public import proofs.«01_k».proof.Proof.NormFwd
public import proofs.«01_k».proof.Proof.Wgrad
public import proofs.«01_k».proof.Proof.AdamBlock
public import proofs.«01_k».proof.Proof.Dmix
public import proofs.«01_k».proof.Proof.RetFwdClaim
public import proofs.«01_k».proof.Proof.SmallStep
public import proofs.«01_k».proof.Proof.FfnGate
public import proofs.«01_k».proof.Proof.ProjPart

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel6.Gen.facts, Cert.Kernel6Ideal.Gen.facts, Cert.Reference6Ideal.Gen.facts,
    Cert.Kernel5.Gen.facts, Cert.Kernel5Ideal.Gen.facts, Cert.Reference5Ideal.Gen.facts, Cert.Kernel4.Gen.facts,
    Cert.Kernel4Ideal.Gen.facts, Cert.Reference4Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts,
    Cert.Kernel11Ideal.Gen.facts, Cert.Reference11Ideal.Gen.facts, Cert.Kernel12.Gen.facts, Cert.Kernel12Ideal.Gen.facts,
    Cert.Reference12Ideal.Gen.facts, Cert.Kernel13.Gen.facts, Cert.Kernel13Ideal.Gen.facts, Cert.Reference13Ideal.Gen.facts,
    Cert.Kernel7.Gen.facts, Cert.Kernel7Ideal.Gen.facts, Cert.Reference7Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Pre_finite_ffn.Gen.facts, Cert.Pre_finite_gate.Gen.facts, FfnAct.frame_kernel, FfnAct.frame_kernelIdeal,
    FfnAct.frame_kernelIdeal_pre, FfnAct.frame_reference, FfnAct.frame_reference_pre, InBwd.frame_kernel,
    InBwd.frame_kernelIdeal, InBwd.frame_reference, FfnIn.frame_kernel, FfnIn.frame_kernelIdeal, FfnIn.frame_reference,
    RetBwd.frame_kernel, RetBwd.frame_kernelIdeal, RetBwd.frame_reference, DownLoss.frame_kernel, DownLoss.frame_kernelIdeal,
    DownLoss.frame_reference, RetGate.frame_kernel, RetGate.frame_kernelIdeal, RetGate.frame_kernelIdeal_pre,
    RetGate.frame_reference, RetGate.frame_reference_pre, OutFwd.frame_kernel, OutFwd.frame_kernelIdeal,
    OutFwd.frame_reference, FfnUp.frame_kernel, FfnUp.frame_kernelIdeal, FfnUp.frame_reference, NormFwd.frame_kernel,
    NormFwd.frame_kernelIdeal, NormFwd.frame_reference, Wgrad.frame_kernel, Wgrad.frame_kernelIdeal, Wgrad.frame_reference,
    AdamBlock.frame_kernel, AdamBlock.frame_kernelIdeal, AdamBlock.frame_reference, Dmix.frame_kernel, Dmix.frame_kernelIdeal,
    Dmix.frame_reference, RetFwd.frame_kernel, RetFwd.frame_kernelIdeal, RetFwd.frame_reference, SmallStep.frame_kernel,
    SmallStep.frame_kernelIdeal, SmallStep.frame_reference, FfnGate.frame_kernel, FfnGate.frame_kernelIdeal,
    FfnGate.frame_reference, ProjPart.frame_kernel, ProjPart.frame_kernelIdeal, ProjPart.frame_reference, trivial,
    FfnAct.algebraic, trivial, InBwd.algebraic, trivial, FfnIn.algebraic, trivial, RetBwd.algebraic, trivial,
    DownLoss.algebraic, trivial, RetGate.algebraic, trivial, OutFwd.algebraic, trivial, FfnUp.algebraic, trivial,
    NormFwd.algebraic, trivial, Wgrad.algebraic, trivial, AdamBlock.algebraic, trivial, Dmix.algebraic, trivial,
    RetFwd.algebraic, trivial, SmallStep.algebraic, trivial, FfnGate.algebraic, trivial, ProjPart.algebraic⟩

end Cert.Proof

end
